-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x2048x512 .f32) (main_arg1 : FVec F S512x256 .f32) (main_arg2 : FVec F S2x2048x4x64 .f32) (main_arg3 : FVec F S2x2048x4x64 .f32) (main_arg4 : FVec F S256x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x4x64 .f32 := Host.absf main_arg2
  let main_cst_2 : FVec F S_ .f32 := constant S_ .f32 0x7F800000#32
  let main_v10 : FVec F S2x2048x4x64 .f32 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S5x4x256x256 : Shape := ⟨4, ![5, 4, 256, 256]⟩
abbrev S4x4x256x256 : Shape := ⟨4, ![4, 4, 256, 256]⟩
abbrev S4x4 : Shape := ⟨2, ![4, 4]⟩
abbrev S_ : Shape := ⟨0, ![]⟩
abbrev S1x256x4x64 : Shape := ⟨4, ![1, 256, 4, 64]⟩
abbrev S256x4x64 : Shape := ⟨3, ![256, 4, 64]⟩
abbrev S256x256 : Shape := ⟨2, ![256, 256]⟩
abbrev S1x1x256x256 : Shape := ⟨4, ![1, 1, 256, 256]⟩
abbrev S1x1 : Shape := ⟨2, ![1, 1]⟩
abbrev S1x256x512 : Shape := ⟨3, ![1, 256, 512]⟩
abbrev S256x1 : Shape := ⟨2, ![256, 1]⟩
abbrev S256x64 : Shape := ⟨2, ![256, 64]⟩
abbrev S256 : Shape := ⟨1, ![256]⟩
abbrev S64x512 : Shape := ⟨2, ![64, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S5x4x256x256, .f32⟩
  | .local _ .vmem, ⟨7, _⟩ => ⟨S4x4x256x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v37 : BitVec 1 := Scalar.cmpi .slt v2 c7_i32
  let c0_i32_38 : BitVec 32 := 0#32
  let v38 : BitVec 1 := Scalar.cmpi .sge v2 c0_i32_38
  let v39 : BitVec 1 := Scalar.andi v37 v38
  let v40 : BitVec 32 := Scalar.extui v39
  let c0_i32_47 : BitVec 32 := 0#32
  let v41 : BitVec 1 := Scalar.cmpi .ne v40 c0_i32_47
  v41

def k0_dev3 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_48 : BitVec 32 := 0#32
  let v42 : BitVec 32 := Scalar.addi v2 c0_i32_48
  let c8_i32_49 : BitVec 32 := 8#32
  let v43 : BitVec 32 := Scalar.remsi v42 c8_i32_49
  let c2_i32_50 : BitVec 32 := 2#32
  let v44 : BitVec 1 := Scalar.cmpi .sle v43 c2_i32_50
  let v45 : BitVec 32 := Scalar.extui v44
  let c0_i32_59 : BitVec 32 := 0#32
  let v46 : BitVec 1 := Scalar.cmpi .ne v45 c0_i32_59
  v46

def k0_dev4 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_60 : BitVec 32 := 7#32
  let v47 : BitVec 1 := Scalar.cmpi .slt v2 c7_i32_60
  let c0_i32_61 : BitVec 32 := 0#32
  let v48 : BitVec 1 := Scalar.cmpi .sge v2 c0_i32_61
  let v49 : BitVec 1 := Scalar.andi v47 v48
  let v50 : BitVec 32 := Scalar.extui v49
  let c0_i32_70 : BitVec 32 := 0#32
  let v51 : BitVec 1 := Scalar.cmpi .ne v50 c0_i32_70
  v51

def k0_dev5 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_71 : BitVec 32 := 0#32
  let v52 : BitVec 32 := Scalar.addi v2 c0_i32_71
  let c8_i32_72 : BitVec 32 := 8#32
  let v53 : BitVec 32 := Scalar.remsi v52 c8_i32_72
  let c2_i32_73 : BitVec 32 := 2#32
  let v54 : BitVec 1 := Scalar.cmpi .sle v53 c2_i32_73
  let v55 : BitVec 32 := Scalar.extui v54
  let c0_i32_82 : BitVec 32 := 0#32
  let v56 : BitVec 1 := Scalar.cmpi .ne v55 c0_i32_82
  v56

def k0_dev6 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_83 : BitVec 32 := 7#32
  let v57 : BitVec 1 := Scalar.cmpi .slt v2 c7_i32_83
  let c0_i32_84 : BitVec 32 := 0#32
  let v58 : BitVec 1 := Scalar.cmpi .sge v2 c0_i32_84
  let v59 : BitVec 1 := Scalar.andi v57 v58
  let v60 : BitVec 32 := Scalar.extui v59
  let c0_i32_93 : BitVec 32 := 0#32
  let v61 : BitVec 1 := Scalar.cmpi .ne v60 c0_i32_93
  v61

def k0_dev7 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let v62 : BitVec 32 := Scalar.addi v2 c0_i32_94
  let c8_i32_95 : BitVec 32 := 8#32
  let v63 : BitVec 32 := Scalar.remsi v62 c8_i32_95
  let c3_i32 : BitVec 32 := 3#32
  let v64 : BitVec 1 := Scalar.cmpi .sle v63 c3_i32
  let v65 : BitVec 32 := Scalar.extui v64
  let c0_i32_104 : BitVec 32 := 0#32
  let v66 : BitVec 1 := Scalar.cmpi .ne v65 c0_i32_104
  v66

def k0_dev8 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_105 : BitVec 32 := 7#32
  let v67 : BitVec 1 := Scalar.cmpi .slt v2 c7_i32_105
  let c0_i32_106 : BitVec 32 := 0#32
  let v68 : BitVec 1 := Scalar.cmpi .sge v2 c0_i32_106
  let v69 : BitVec 1 := Scalar.andi v67 v68
  let v70 : BitVec 32 := Scalar.extui v69
  let c0_i32_115 : BitVec 32 := 0#32
  let v71 : BitVec 1 := Scalar.cmpi .ne v70 c0_i32_115
  v71

def k0_dev9 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_116 : BitVec 32 := 0#32
  let v72 : BitVec 32 := Scalar.addi v2 c0_i32_116
  let c8_i32_117 : BitVec 32 := 8#32
  let v73 : BitVec 32 := Scalar.remsi v72 c8_i32_117
  let c3_i32_118 : BitVec 32 := 3#32
  let v74 : BitVec 1 := Scalar.cmpi .sle v73 c3_i32_118
  let v75 : BitVec 32 := Scalar.extui v74
  let c0_i32_127 : BitVec 32 := 0#32
  let v76 : BitVec 1 := Scalar.cmpi .ne v75 c0_i32_127
  v76

def k0_dev10 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_245 : BitVec 32 := 7#32
  let v359 : BitVec 1 := Scalar.cmpi .slt v2 c7_i32_245
  let c1_i32_246 : BitVec 32 := 1#32
  let v360 : BitVec 1 := Scalar.cmpi .sge v2 c1_i32_246
  let v361 : BitVec 1 := Scalar.andi v359 v360
  let v362 : BitVec 32 := Scalar.extui v361
  let c0_i32_255 : BitVec 32 := 0#32
  let v363 : BitVec 1 := Scalar.cmpi .ne v362 c0_i32_255
  v363

def k0_dev11 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_266 : BitVec 32 := 7#32
  let v367 : BitVec 1 := Scalar.cmpi .slt v2 c7_i32_266
  let c1_i32_267 : BitVec 32 := 1#32
  let v368 : BitVec 1 := Scalar.cmpi .sge v2 c1_i32_267
  let v369 : BitVec 1 := Scalar.andi v367 v368
  let v370 : BitVec 32 := Scalar.extui v369
  let c0_i32_276 : BitVec 32 := 0#32
  let v371 : BitVec 1 := Scalar.cmpi .ne v370 c0_i32_276
  v371

def k0_dev12 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_290 : BitVec 32 := 1#32
  let v378 : BitVec 32 := Scalar.addi v2 c1_i32_290
  let c8_i32_291 : BitVec 32 := 8#32
  let v379 : BitVec 32 := Scalar.remsi v378 c8_i32_291
  let c2_i32_292 : BitVec 32 := 2#32
  let v380 : BitVec 1 := Scalar.cmpi .sle v379 c2_i32_292
  let v381 : BitVec 32 := Scalar.extui v380
  let c0_i32_301 : BitVec 32 := 0#32
  let v382 : BitVec 1 := Scalar.cmpi .ne v381 c0_i32_301
  v382

def k0_dev13 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_315 : BitVec 32 := 1#32
  let v389 : BitVec 32 := Scalar.addi v2 c1_i32_315
  let c8_i32_316 : BitVec 32 := 8#32
  let v390 : BitVec 32 := Scalar.remsi v389 c8_i32_316
  let c2_i32_317 : BitVec 32 := 2#32
  let v391 : BitVec 1 := Scalar.cmpi .sle v390 c2_i32_317
  let v392 : BitVec 32 := Scalar.extui v391
  let c0_i32_326 : BitVec 32 := 0#32
  let v393 : BitVec 1 := Scalar.cmpi .ne v392 c0_i32_326
  v393

def k0_dev14 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_337 : BitVec 32 := 7#32
  let v397 : BitVec 1 := Scalar.cmpi .slt v2 c7_i32_337
  let c1_i32_338 : BitVec 32 := 1#32
  let v398 : BitVec 1 := Scalar.cmpi .sge v2 c1_i32_338
  let v399 : BitVec 1 := Scalar.andi v397 v398
  let v400 : BitVec 32 := Scalar.extui v399
  let c0_i32_347 : BitVec 32 := 0#32
  let v401 : BitVec 1 := Scalar.cmpi .ne v400 c0_i32_347
  v401

def k0_dev15 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_358 : BitVec 32 := 7#32
  let v405 : BitVec 1 := Scalar.cmpi .slt v2 c7_i32_358
  let c1_i32_359 : BitVec 32 := 1#32
  let v406 : BitVec 1 := Scalar.cmpi .sge v2 c1_i32_359
  let v407 : BitVec 1 := Scalar.andi v405 v406
  let v408 : BitVec 32 := Scalar.extui v407
  let c0_i32_368 : BitVec 32 := 0#32
  let v409 : BitVec 1 := Scalar.cmpi .ne v408 c0_i32_368
  v409

def k0_dev16 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_382 : BitVec 32 := 1#32
  let v416 : BitVec 32 := Scalar.addi v2 c1_i32_382
  let c8_i32_383 : BitVec 32 := 8#32
  let v417 : BitVec 32 := Scalar.remsi v416 c8_i32_383
  let c3_i32_384 : BitVec 32 := 3#32
  let v418 : BitVec 1 := Scalar.cmpi .sle v417 c3_i32_384
  let v419 : BitVec 32 := Scalar.extui v418
  let c0_i32_393 : BitVec 32 := 0#32
  let v420 : BitVec 1 := Scalar.cmpi .ne v419 c0_i32_393
  v420

def k0_dev17 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_407 : BitVec 32 := 1#32
  let v427 : BitVec 32 := Scalar.addi v2 c1_i32_407
  let c8_i32_408 : BitVec 32 := 8#32
  let v428 : BitVec 32 := Scalar.remsi v427 c8_i32_408
  let c3_i32_409 : BitVec 32 := 3#32
  let v429 : BitVec 1 := Scalar.cmpi .sle v428 c3_i32_409
  let v430 : BitVec 32 := Scalar.extui v429
  let c0_i32_418 : BitVec 32 := 0#32
  let v431 : BitVec 1 := Scalar.cmpi .ne v430 c0_i32_418
  v431

def k0_dev18 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_552 : BitVec 32 := 7#32
  let v824 : BitVec 1 := Scalar.cmpi .slt v2 c7_i32_552
  let c2_i32_553 : BitVec 32 := 2#32
  let v825 : BitVec 1 := Scalar.cmpi .sge v2 c2_i32_553
  let v826 : BitVec 1 := Scalar.andi v824 v825
  let v827 : BitVec 32 := Scalar.extui v826
  let c0_i32_562 : BitVec 32 := 0#32
  let v828 : BitVec 1 := Scalar.cmpi .ne v827 c0_i32_562
  v828

def k0_dev19 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_573 : BitVec 32 := 7#32
  let v832 : BitVec 1 := Scalar.cmpi .slt v2 c7_i32_573
  let c2_i32_574 : BitVec 32 := 2#32
  let v833 : BitVec 1 := Scalar.cmpi .sge v2 c2_i32_574
  let v834 : BitVec 1 := Scalar.andi v832 v833
  let v835 : BitVec 32 := Scalar.extui v834
  let c0_i32_583 : BitVec 32 := 0#32
  let v836 : BitVec 1 := Scalar.cmpi .ne v835 c0_i32_583
  v836

def k0_dev20 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_597 : BitVec 32 := 2#32
  let v843 : BitVec 32 := Scalar.addi v2 c2_i32_597
  let c8_i32_598 : BitVec 32 := 8#32
  let v844 : BitVec 32 := Scalar.remsi v843 c8_i32_598
  let c2_i32_599 : BitVec 32 := 2#32
  let v845 : BitVec 1 := Scalar.cmpi .sle v844 c2_i32_599
  let v846 : BitVec 32 := Scalar.extui v845
  let c0_i32_608 : BitVec 32 := 0#32
  let v847 : BitVec 1 := Scalar.cmpi .ne v846 c0_i32_608
  v847

def k0_dev21 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_622 : BitVec 32 := 2#32
  let v854 : BitVec 32 := Scalar.addi v2 c2_i32_622
  let c8_i32_623 : BitVec 32 := 8#32
  let v855 : BitVec 32 := Scalar.remsi v854 c8_i32_623
  let c2_i32_624 : BitVec 32 := 2#32
  let v856 : BitVec 1 := Scalar.cmpi .sle v855 c2_i32_624
  let v857 : BitVec 32 := Scalar.extui v856
  let c0_i32_633 : BitVec 32 := 0#32
  let v858 : BitVec 1 := Scalar.cmpi .ne v857 c0_i32_633
  v858

def k0_dev22 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_644 : BitVec 32 := 7#32
  let v862 : BitVec 1 := Scalar.cmpi .slt v2 c7_i32_644
  let c2_i32_645 : BitVec 32 := 2#32
  let v863 : BitVec 1 := Scalar.cmpi .sge v2 c2_i32_645
  let v864 : BitVec 1 := Scalar.andi v862 v863
  let v865 : BitVec 32 := Scalar.extui v864
  let c0_i32_654 : BitVec 32 := 0#32
  let v866 : BitVec 1 := Scalar.cmpi .ne v865 c0_i32_654
  v866

def k0_dev23 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_665 : BitVec 32 := 7#32
  let v870 : BitVec 1 := Scalar.cmpi .slt v2 c7_i32_665
  let c2_i32_666 : BitVec 32 := 2#32
  let v871 : BitVec 1 := Scalar.cmpi .sge v2 c2_i32_666
  let v872 : BitVec 1 := Scalar.andi v870 v871
  let v873 : BitVec 32 := Scalar.extui v872
  let c0_i32_675 : BitVec 32 := 0#32
  let v874 : BitVec 1 := Scalar.cmpi .ne v873 c0_i32_675
  v874

def k0_dev24 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_689 : BitVec 32 := 2#32
  let v881 : BitVec 32 := Scalar.addi v2 c2_i32_689
  let c8_i32_690 : BitVec 32 := 8#32
  let v882 : BitVec 32 := Scalar.remsi v881 c8_i32_690
  let c3_i32_691 : BitVec 32 := 3#32
  let v883 : BitVec 1 := Scalar.cmpi .sle v882 c3_i32_691
  let v884 : BitVec 32 := Scalar.extui v883
  let c0_i32_700 : BitVec 32 := 0#32
  let v885 : BitVec 1 := Scalar.cmpi .ne v884 c0_i32_700
  v885

def k0_dev25 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_714 : BitVec 32 := 2#32
  let v892 : BitVec 32 := Scalar.addi v2 c2_i32_714
  let c8_i32_715 : BitVec 32 := 8#32
  let v893 : BitVec 32 := Scalar.remsi v892 c8_i32_715
  let c3_i32_716 : BitVec 32 := 3#32
  let v894 : BitVec 1 := Scalar.cmpi .sle v893 c3_i32_716
  let v895 : BitVec 32 := Scalar.extui v894
  let c0_i32_725 : BitVec 32 := 0#32
  let v896 : BitVec 1 := Scalar.cmpi .ne v895 c0_i32_725
  v896

def k0_dev26 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_859 : BitVec 32 := 7#32
  let v1289 : BitVec 1 := Scalar.cmpi .slt v2 c7_i32_859
  let c3_i32_860 : BitVec 32 := 3#32
  let v1290 : BitVec 1 := Scalar.cmpi .sge v2 c3_i32_860
  let v1291 : BitVec 1 := Scalar.andi v1289 v1290
  let v1292 : BitVec 32 := Scalar.extui v1291
  let c0_i32_869 : BitVec 32 := 0#32
  let v1293 : BitVec 1 := Scalar.cmpi .ne v1292 c0_i32_869
  v1293

def k0_dev27 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_880 : BitVec 32 := 7#32
  let v1297 : BitVec 1 := Scalar.cmpi .slt v2 c7_i32_880
  let c3_i32_881 : BitVec 32 := 3#32
  let v1298 : BitVec 1 := Scalar.cmpi .sge v2 c3_i32_881
  let v1299 : BitVec 1 := Scalar.andi v1297 v1298
  let v1300 : BitVec 32 := Scalar.extui v1299
  let c0_i32_890 : BitVec 32 := 0#32
  let v1301 : BitVec 1 := Scalar.cmpi .ne v1300 c0_i32_890
  v1301

def k0_dev28 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1566 : BitVec 32 := 1#32
  let v2138 : BitVec 32 := Scalar.muli v7 c1_i32_1566
  let v2139 : BitVec 32 := Scalar.addi c0_i32_1567 v2138
  v2139.toNat
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_950 : BitVec 32 := 3#32
  let v1326 : BitVec 32 := Scalar.addi v2 c3_i32_950
  let c8_i32_951 : BitVec 32 := 8#32
  let v1327 : BitVec 32 := Scalar.remsi v1326 c8_i32_951
  let c3_i32_952 : BitVec 32 := 3#32
  let v1328 : BitVec 1 := Scalar.cmpi .sle v1327 c3_i32_952
  let v1329 : BitVec 32 := Scalar.extui v1328
  let c0_i32_961 : BitVec 32 := 0#32
  let v1330 : BitVec 1 := Scalar.cmpi .ne v1329 c0_i32_961
  v1330

def k0_dev29 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_975 : BitVec 32 := 3#32
  let v1337 : BitVec 32 := Scalar.addi v2 c3_i32_975
  let c8_i32_976 : BitVec 32 := 8#32
  let v1338 : BitVec 32 := Scalar.remsi v1337 c8_i32_976
  let c3_i32_977 : BitVec 32 := 3#32
  let v1339 : BitVec 1 := Scalar.cmpi .sle v1338 c3_i32_977
  let v1340 : BitVec 32 := Scalar.extui v1339
  let c0_i32_986 : BitVec 32 := 0#32
  let v1341 : BitVec 1 := Scalar.cmpi .ne v1340 c0_i32_986
  v1341

def k0_dev30 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1566 : BitVec 32 := 1#32
  let v2138 : BitVec 32 := Scalar.muli v5 c1_i32_1566
  let v2139 : BitVec 32 := Scalar.addi c0_i32_1567 v2138
  v2139.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x256, .f32⟩
  | .hbm, ⟨2, _⟩ => ⟨S2x2048x4x64, .f32⟩
  | .hbm, ⟨3, _⟩ => ⟨S2x2048x4x64, .f32⟩
  | .hbm, ⟨4, _⟩ => ⟨S256x512, .f32⟩
  | .hbm, ⟨5, _⟩ => ⟨S2x2048x256, .f32⟩
  | .hbm, ⟨6, _⟩ => ⟨S2x2048x4x64, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S2x4x2048x2048, .f32⟩
  | .hbm, ⟨51, _⟩ => ⟨S_, .f32⟩
  | .hbm, ⟨52, _⟩ => ⟨S2x4x2048x2048, .f32⟩
  | .hbm, ⟨53, _⟩ => ⟨S2x4x2048x2048, .f32⟩
  | .hbm, ⟨54, _⟩ => ⟨S1x1x2048x2048, .i1⟩
  | .hbm, ⟨55, _⟩ => ⟨S_, .f32⟩
  | .hbm, ⟨56, _⟩ => ⟨S_, .f32⟩
  | .hbm, ⟨57, _⟩ => ⟨S2x4x2048x2048, .i1⟩
  | .hbm, ⟨58, _⟩ => ⟨S2x4x2048x2048, .f32⟩
  | .hbm, ⟨59, _⟩ => ⟨S2x4x2048x2048, .f32⟩
  | .hbm, ⟨60, _⟩ => ⟨S_, .f32⟩
  | .hbm, ⟨61, _⟩ => ⟨S2x4x2048, .f32⟩
  | .hbm, ⟨62, _⟩ => ⟨S2x4x2048x1, .f32⟩
  | .hbm, ⟨63, _⟩ => ⟨S2x4x2048x2048, .f32⟩
  | .hbm, ⟨64, _⟩ => ⟨S2x4x2048x2048, .f32⟩
  | .hbm, ⟨65, _⟩ => ⟨S2x4x2048x2048, .f32⟩
  | .hbm, ⟨66, _⟩ => ⟨S_, .i1⟩
  | .hbm, ⟨67, _⟩ => ⟨S2048, .i1⟩
  | .hbm, ⟨68, _⟩ => ⟨S1x1x2048x1, .i1⟩
  | .hbm, ⟨69, _⟩ => ⟨S_, .f32⟩
  | .hbm, ⟨70, _⟩ => ⟨S2x4x2048, .f32⟩
  | .hbm, ⟨71, _⟩ => ⟨S2x4x2048x1, .f32⟩
  | .hbm, ⟨72, _⟩ => ⟨S_, .f32⟩
  | .hbm, ⟨73, _⟩ => ⟨S_, .f32⟩
  | .hbm, ⟨74, _⟩ => ⟨S2x4x2048x1, .i1⟩
  | .hbm, ⟨75, _⟩ => ⟨S2x4x2048x1, .f32⟩
  | .hbm, ⟨76, _⟩ => ⟨S2x4x2048x1, .f32⟩
  | .hbm, ⟨77, _⟩ => ⟨S2x4x2048x2048, .f32⟩
  | .hbm, ⟨78, _⟩ => ⟨S2x4x2048x2048, .f32⟩
  | .hbm, ⟨79, _⟩ => ⟨S1x1x2048x1, .i1⟩
  | .hbm, ⟨80, _⟩ => ⟨S_, .f32⟩
  | .hbm, ⟨81, _⟩ => ⟨S_, .f32⟩
  | .hbm, ⟨82, _⟩ => ⟨S2x4x2048x2048, .i1⟩
  | .hbm, ⟨83, _⟩ => ⟨S2x4x2048x2048, .f32⟩
  | .hbm, ⟨84, _⟩ => ⟨S2x4x2048x2048, .f32⟩
  | .hbm, ⟨85, _⟩ => ⟨S2x4x64x2048, .f32⟩
  | .hbm, ⟨86, _⟩ => ⟨S2x2048x4x64, .f32⟩
  | .hbm, ⟨87, _⟩ => ⟨S2x2048x256, .f32⟩
  | .hbm, ⟨88, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]

def κ : String → Option EReal := fun
  | "mask" => some ⊥
  | _ => none
-- ==== Proof.Ring.lean ====
/-
  The two-way ring: which piece every device sends and receives at every hop, in what order, and the schedule of duties of the
  semaphores that carry it. A piece is the keys or the values of one batch entry of one device's rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Memref
public import Idealize.ShloMosaic.Lib.MemrefSat
public import Idealize.ShloMosaic.Lib.Pipeline.Kit
public import Idealize.ShloMosaic.Lib.Pipeline.DatRel
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Resources -/

/-- The duties of a cell are named by a truth value: one for a transfer cell, two for a barrier cell. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slots and hops

A slot is a direction (`false`: the forward buffer, `true`: the backward buffer), how many hops its piece has travelled, and
which of the four pieces it is. The piece of no hop lies in the forward buffer for both directions. From slot `(d, h, p)` a
device sends to its neighbour of direction `d`, into the neighbour's slot `(d, h + 1, p)`. -/

abbrev Slot : Type := Bool × Fin 5 × Fin 4

/-- The next device of a direction: `false` up, `true` down. -/
def nb (d : Bool) (c : Dev nD) : Dev nD := ⟨(c.val + (if d then 7 else 1)) % 8, Nat.mod_lt _ (by decide)⟩
theorem nb_nb (d : Bool) (c : Dev nD) : nb (!d) (nb d c) = c := by revert d c; decide
theorem nb_nb' (d : Bool) (c : Dev nD) : nb d (nb (!d) c) = c := by revert d c; decide

/-- The neighbour of a direction, as a permutation of the devices. -/
def ring (d : Bool) : Dev nD ≃ Dev nD := ⟨nb d, nb (!d), nb_nb d, nb_nb' d⟩

/-- Device `c` sends the piece of slot `s` on. -/
def act (s : Slot) (c : Dev nD) : Bool :=
  match s.1 with
  | false => decide (c.val < 7) && decide (s.2.1.val ≤ c.val) && decide (s.2.1.val < if s.2.2.val < 2 then 4 else 3)
  | true => decide ((c.val + s.2.1.val) % 8 ≤ if s.2.2.val < 2 then 2 else 3) && decide (s.2.1.val < if s.2.2.val < 2 then 3 else 4)

/-- The slot one hop before, and the slot one hop after. -/
def dn (s : Slot) : Slot := (s.1, ⟨s.2.1.val - 1, by have := s.2.1.isLt; omega⟩, s.2.2)
def up (s : Slot) : Slot := (s.1, ⟨min (s.2.1.val + 1) 4, by omega⟩, s.2.2)

/-- Device `c` receives a piece into slot `s`. -/
def rcv (s : Slot) (c : Dev nD) : Bool := decide (s.2.1.val ≠ 0) && act (dn s) (nb (!s.1) c)

/-- The device whose piece slot `s` of device `c` is for. -/
def org (s : Slot) (c : Dev nD) : Dev nD := ⟨(c.val + (if s.1 then s.2.1.val else 8 - s.2.1.val)) % 8, Nat.mod_lt _ (by decide)⟩

theorem act_lt (s : Slot) (c : Dev nD) : act s c = true → s.2.1.val < 4 := by
  obtain ⟨d, h, p⟩ := s; revert d h p c; decide
theorem act_src (s : Slot) (c : Dev nD) : act s c = true → s.2.1.val = 0 ∨ rcv s c = true := by
  obtain ⟨d, h, p⟩ := s; revert d h p c; decide
theorem rcv_pos (s : Slot) (c : Dev nD) : rcv s c = true → s.2.1.val ≠ 0 := by
  obtain ⟨d, h, p⟩ := s; revert d h p c; decide
theorem rcv_up (s : Slot) (c : Dev nD) : act s c = true → rcv (up s) (nb s.1 c) = true := by
  obtain ⟨d, h, p⟩ := s; revert d h p c; decide
theorem act_dn (s : Slot) (c : Dev nD) : rcv s c = true → act (dn s) (nb (!s.1) c) = true := by
  obtain ⟨d, h, p⟩ := s; revert d h p c; decide
theorem org_up (s : Slot) (c : Dev nD) : act s c = true → org (up s) (nb s.1 c) = org s c := by
  obtain ⟨d, h, p⟩ := s; revert d h p c; decide
theorem up_dn (s : Slot) (hs : s.2.1.val ≠ 0) : up (dn s) = s := by
  obtain ⟨d, h, p⟩ := s; revert d p hs; revert h; decide
theorem dn_up (s : Slot) (hs : s.2.1.val < 4) : dn (up s) = s := by
  obtain ⟨d, h, p⟩ := s; revert d p hs; revert h; decide
theorem org_zero (s : Slot) (c : Dev nD) : s.2.1.val = 0 → org s c = c := by
  obtain ⟨d, h, p⟩ := s; revert d h p c; decide

/-! ## The order of events

An event is the sending on of a slot's piece (`0`), the wait for a slot's piece to arrive (`1`), or the wait for the sending on
of a slot's piece to be done (`2`). -/

abbrev Ev : Type := Fin 3 × Slot

/-- The events of a device's run, in order. -/
def evs : List Ev :=
  [(0, false, 0, 0), (0, true, 0, 0), (0, false, 0, 1), (0, true, 0, 1), (0, false, 0, 2), (0, true, 0, 2), (0, false, 0, 3), (0,
  true, 0, 3), (1, false, 1, 0), (0, false, 1, 0), (1, false, 1, 1), (0, false, 1, 1), (1, true, 1, 0), (0, true, 1, 0), (1, true,
  1, 1), (0, true, 1, 1), (1, false, 1, 2), (0, false, 1, 2), (1, false, 1, 3), (0, false, 1, 3), (1, true, 1, 2), (0, true, 1, 2),
  (1, true, 1, 3), (0, true, 1, 3), (1, false, 2, 0), (0, false, 2, 0), (1, false, 2, 1), (0, false, 2, 1), (1, true, 2, 0), (0,
  true, 2, 0), (1, true, 2, 1), (0, true, 2, 1), (1, false, 2, 2), (0, false, 2, 2), (1, false, 2, 3), (0, false, 2, 3), (1, true,
  2, 2), (0, true, 2, 2), (1, true, 2, 3), (0, true, 2, 3), (1, false, 3, 0), (0, false, 3, 0), (1, false, 3, 1), (0, false, 3, 1),
  (1, true, 3, 0), (1, true, 3, 1), (1, false, 3, 2), (1, false, 3, 3), (1, true, 3, 2), (0, true, 3, 2), (1, true, 3, 3), (0, true,
  3, 3), (1, false, 4, 0), (1, false, 4, 1), (1, true, 4, 2), (1, true, 4, 3), (2, false, 0, 0), (2, false, 0, 1), (2, false, 1, 0),
  (2, false, 1, 1), (2, false, 2, 0), (2, false, 2, 1), (2, false, 3, 0), (2, false, 3, 1), (2, true, 0, 0), (2, true, 0, 1), (2,
  true, 1, 0), (2, true, 1, 1), (2, true, 2, 0), (2, true, 2, 1), (2, false, 0, 2), (2, false, 0, 3), (2, false, 1, 2), (2, false,
  1, 3), (2, false, 2, 2), (2, false, 2, 3), (2, true, 0, 2), (2, true, 0, 3), (2, true, 1, 2), (2, true, 1, 3), (2, true, 2, 2),
  (2, true, 2, 3), (2, true, 3, 2), (2, true, 3, 3)]

/-- When an event happens: its place in the list (the list's length if never). -/
def at' (e : Ev) : ℕ := evs.idxOf e

set_option maxRecDepth 100000 in
theorem evs_nodup : evs.Nodup := by decide
set_option maxRecDepth 100000 in
theorem act_mem (s : Slot) (c : Dev nD) : act s c = true → (0, s) ∈ evs := by
  obtain ⟨d, h, p⟩ := s; revert d h p c; decide
set_option maxRecDepth 100000 in
/-- A send after the wait for a piece sends a piece that has travelled at least as far. -/
theorem evs_up : evs.Pairwise fun a b => a.1 = 1 → b.1 = 0 → a.2.2.1 ≤ b.2.2.1 := by decide
set_option maxRecDepth 100000 in
/-- A piece is sent on after it arrived, and the wait for that comes later. -/
theorem ev_order (s : Slot) (c : Dev nD) : act s c = true → at' (0, s) < at' (2, s) ∧ (rcv s c = true → at' (1, s) < at' (0, s)) := by
  obtain ⟨d, h, p⟩ := s; revert d h p c; decide

theorem at_of {n : ℕ} {e : Ev} (h : evs[n]? = some e) : at' e = n := by
  obtain ⟨hn, he⟩ := List.getElem?_eq_some_iff.mp h
  rw [← he]; exact evs_nodup.idxOf_getElem n hn
theorem at_eq {n : ℕ} {e e' : Ev} (h : evs[n]? = some e) (h' : at' e' = n) : e' = e := by
  obtain ⟨hn, he⟩ := List.getElem?_eq_some_iff.mp h
  have hlt : evs.idxOf e' < evs.length := by
    have : evs.idxOf e' = n := h'
    omega
  have := List.getElem_idxOf hlt
  rw [← this, ← he]; congr 1

/-! ## The buffers and the semaphores -/

abbrev fM : Memref sig .tc .vmem S5x4x256x256 .f32 := Memref.whole cc0_scratch0
abbrev bM : Memref sig .tc .vmem S4x4x256x256 .f32 := Memref.whole cc0_scratch1

theorem inbF (h p : ℕ) (hh : h < 5) (hp : p < 4) : ∀ a, (![h, p, 0, 0] : Fin 4 → ℕ) a + S1x1x256x256.size a ≤ S5x4x256x256.size a := by
  intro a; fin_cases a <;> simp <;> omega
theorem inbB (h p : ℕ) (hh : h < 4) (hp : p < 4) : ∀ a, (![h, p, 0, 0] : Fin 4 → ℕ) a + S1x1x256x256.size a ≤ S4x4x256x256.size a := by
  intro a; fin_cases a <;> simp <;> omega

/-- The part of the forward buffer, and of the backward buffer, that holds one piece. -/
def fSl (h p : ℕ) (hh : h < 5) (hp : p < 4) : Memref sig .tc .vmem S1x1x256x256 .f32 :=
  fM.slice (Rect.unit (s := S5x4x256x256) ![h, p, 0, 0] S1x1x256x256.size (inbF h p hh hp)) (fun _ => rfl)
def bSl (h p : ℕ) (hh : h < 4) (hp : p < 4) : Memref sig .tc .vmem S1x1x256x256 .f32 :=
  bM.slice (Rect.unit (s := S4x4x256x256) ![h, p, 0, 0] S1x1x256x256.size (inbB h p hh hp)) (fun _ => rfl)

/-- The memory of a slot. -/
def slc : Slot → Memref sig .tc .vmem S1x1x256x256 .f32
  | (false, ⟨h, hh⟩, ⟨p, hp⟩) => fSl h p hh hp
  | (true, ⟨0, _⟩, ⟨p, hp⟩) => fSl 0 p (by decide) hp
  | (true, ⟨h + 1, hh⟩, ⟨p, hp⟩) => bSl h p (by omega) hp

/-- A slot's memory as the matrix that a transfer moves. -/
def sq (s : Slot) : Memref sig .tc .vmem S256x256 .f32 := (slc s).squeeze S256x256 squeezes_S1x1x256x256_S256x256

/-- The transfer semaphores: which end (`true`: arrival), direction, hop and piece. -/
abbrev Cid : Type := Bool × Bool × Fin 4 × Fin 4

def cnum (x : Cid) : ℕ := 6 + (if x.2.1 then 32 else 0) + (if x.1 then 16 else 0) + 4 * x.2.2.1.val + x.2.2.2.val
theorem cnum_lt (x : Cid) : cnum x < 70 := by
  obtain ⟨k, d, h, p⟩ := x; revert k d h p; decide
def csem (x : Cid) : DmaSem sig := ⟨cnum x, cnum_lt x⟩

def cdec (n : DmaSem sig) : Cid :=
  (decide (16 ≤ (n.val - 6) % 32), decide (38 ≤ n.val), ⟨(n.val - 6) % 16 / 4, by omega⟩, ⟨(n.val - 6) % 4, by omega⟩)
theorem cdec_csem (x : Cid) : cdec (csem x) = x := by
  obtain ⟨k, d, h, p⟩ := x; revert k d h p; decide
theorem csem_ge (x : Cid) : 6 ≤ (csem x).val := by
  show 6 ≤ cnum x; unfold cnum; omega

/-- The semaphore on which a slot's piece is sent on, and the one on which it arrives. -/
def outC (s : Slot) : Cid := (false, s.1, ⟨s.2.1.val % 4, Nat.mod_lt _ (by decide)⟩, s.2.2)
def inC (s : Slot) : Cid := (true, s.1, ⟨(s.2.1.val - 1) % 4, Nat.mod_lt _ (by decide)⟩, s.2.2)

/-- The slot that a semaphore serves: the one sent from, or the one arriving. -/
def slotOf (x : Cid) : Slot := (x.2.1, if x.1 then ⟨x.2.2.1.val + 1, by omega⟩ else ⟨x.2.2.1.val, by omega⟩, x.2.2.2)
theorem slotOf_outC (s : Slot) (hs : s.2.1.val < 4) : slotOf (outC s) = s := by
  obtain ⟨d, h, p⟩ := s; revert d p hs; revert h; decide
theorem slotOf_inC (s : Slot) (hs : s.2.1.val ≠ 0) : slotOf (inC s) = s := by
  obtain ⟨d, h, p⟩ := s; revert d p hs; revert h; decide

/-- A semaphore is in use on a device. -/
def used (x : Cid) (c : Dev nD) : Bool := if x.1 then rcv (slotOf x) c else act (slotOf x) c
theorem used_outC (s : Slot) (c : Dev nD) (h : act s c = true) : used (outC s) c = true := by
  unfold used; rw [slotOf_outC s (act_lt s c h)]; exact h
theorem used_inC (s : Slot) (c : Dev nD) (h : rcv s c = true) : used (inC s) c = true := by
  unfold used; rw [slotOf_inC s (rcv_pos s c h)]; exact h
theorem used_outC_eq (s : Slot) (c : Dev nD) (h : s.2.1.val < 4) : used (outC s) c = act s c := by
  unfold used; rw [slotOf_outC s h]; rfl
theorem used_inC_eq (s : Slot) (c : Dev nD) (h : s.2.1.val ≠ 0) : used (inC s) c = rcv s c := by
  unfold used; rw [slotOf_inC s h]; rfl

/-- The runtime's barrier semaphore. -/
abbrev barS : Sem sig := (SemArray.scalar (sig.barrier 0 rfl) : Sems sig S_).sem
abbrev barCell (c : Dev nD) : GSem nD τ sig := ((c : Thread nD τ), .reg barS)
abbrev xCell (c : Dev nD) (x : Cid) : GSem nD τ sig := ((c : Thread nD τ), .dma (csem x))
abbrev outCell (c : Dev nD) (s : Slot) : GSem nD τ sig := xCell c (outC s)
abbrev inCell (c : Dev nD) (s : Slot) : GSem nD τ sig := xCell c (inC s)

/-- What one piece counts on a semaphore. -/
abbrev N : ℕ := (sq (false, 0, 0)).view.dmaCredit
theorem N_pos : 0 < N := View.dmaCredit_pos _ (by decide)

/-! ## Contents and the schedule -/

/-- The contents of a slot. -/
abbrev Piece (F : FTy → Type) : Type := S1x1x256x256.Idx → Elt F .f32

/-- The share of a slot from which its piece is sent on: half, and where both directions send it, a half of a half. -/
def qs (s : Slot) : PosShare TreeShare :=
  if s.2.1.val = 0 then (if s.1 then fullShare.right.right else fullShare.right.left) else fullShare.right

section Sched

-- The pieces of every device.
variable (pc : Dev nD → Fin 4 → Piece F)

/-- What slot `s` of device `c` is to hold. -/
def dat (s : Slot) (c : Dev nD) : Piece F := pc (org s c) s.2.2

/-- What device `nb d c` hands device `c` before the transfers: the slots that `c` fills there. -/
def barPay (d : Bool) (c : Dev nD) : sProp 𝕄 :=
  bigSep Finset.univ fun hp : Fin 5 × Fin 4 =>
    if rcv (d, hp) (nb d c) = true then iprop(∃ Y : Piece F, owns (nb d c : Thread nD τ) (slc (d, hp)) fullShare Y) else iprop(emp)

instance barPay_storable (d : Bool) (c : Dev nD) : BI.Storable (upEmb : UEmb _ 𝕄) (barPay (F := F) d c) := by
  unfold barPay
  have (hp : Fin 5 × Fin 4) : BI.Storable (upEmb : UEmb _ 𝕄)
      (if rcv (d, hp) (nb d c) = true then iprop(∃ Y : Piece F, owns (nb d c : Thread nD τ) (slc (d, hp)) fullShare Y) else iprop(emp)) := by
    split <;> infer_instance
  infer_instance

/-- What a transfer's two ends yield: the arrival, the slot full; the departure, the share sent from. -/
def xPay (x : Cid) (c : Dev nD) : sProp 𝕄 :=
  if x.1 then owns (c : Thread nD τ) (slc (slotOf x)) fullShare (dat pc (slotOf x) c)
  else owns (c : Thread nD τ) (slc (slotOf x)) (qs (slotOf x)) (dat pc (slotOf x) c)

instance xPay_storable (x : Cid) (c : Dev nD) : BI.Storable (upEmb : UEmb _ 𝕄) (xPay pc x c) := by
  unfold xPay; split <;> infer_instance

/-- A cell's duties in round 0: both neighbours' on a barrier cell, one on a transfer semaphore in use. -/
def dutiesOf (g : GSem nD τ sig) : Finset Bool :=
  match g.2 with
  | .reg b => if b = barS ∧ g.1.2 = .tc then Finset.univ else ∅
  | .dma n => if 6 ≤ n.val ∧ used (cdec n) g.1.1 = true ∧ g.1.2 = .tc then {false} else ∅

def payOf (g : GSem nD τ sig) (d : Bool) : sProp 𝕄 :=
  match g.2 with
  | .reg _ => barPay d g.1.1
  | .dma n => xPay pc (cdec n) g.1.1

instance payOf_storable (g : GSem nD τ sig) (d : Bool) : BI.Storable (upEmb : UEmb _ 𝕄) (payOf pc g d) := by
  obtain ⟨t, sm⟩ := g
  cases sm
  · exact barPay_storable _ _
  · exact xPay_storable pc _ _

/-- The schedule of duties: one round. -/
def Rd : Rounds.Schedule (GSem nD τ sig) Bool 𝕄 where
  duties g r := if r = 0 then dutiesOf g else ∅
  unitless _ := False
  amount g _ _ := match g.2 with | .reg _ => 1 | .dma _ => N
  payload g _ d := payOf pc g d
  amount_pos g _ _ _ := by
    obtain ⟨t, sm⟩ := g
    cases sm
    · exact Nat.one_pos
    · exact N_pos

instance Rd_storable (g : GSem nD τ sig) (r : ℕ) (d : Bool) : BI.Storable (upEmb : UEmb _ 𝕄) ((Rd pc).payload g r d) :=
  payOf_storable pc g d

theorem duties_later (g : GSem nD τ sig) : ∀ r, 1 ≤ r → (Rd pc).duties g r = ∅ := fun r hr => if_neg (by omega)
theorem duties_bar (c : Dev nD) : (Rd pc).duties (barCell c) 0 = Finset.univ := by
  show (if (0 : ℕ) = 0 then (if barS = barS ∧ (Proc.tc : Proc τ) = .tc then Finset.univ else ∅) else ∅) = _
  rw [if_pos rfl, if_pos ⟨rfl, rfl⟩]
theorem duties_used (c : Dev nD) (x : Cid) (h : used x c = true) : (Rd pc).duties (xCell c x) 0 = {false} :=
by
  show (if (0 : ℕ) = 0 then (if 6 ≤ (csem x).val ∧ used (cdec (csem x)) c = true ∧ (Proc.tc : Proc τ) = .tc then {false} else ∅) else ∅) = _
  rw [if_pos rfl, if_pos ⟨csem_ge x, by rw [cdec_csem]; exact h, rfl⟩]
theorem duties_unused (c : Dev nD) (x : Cid) (h : used x c ≠ true) (r : ℕ) : (Rd pc).duties (xCell c x) r = ∅ := by
  by_cases hr : r = 0
  · exact (if_pos hr).trans (if_neg fun ⟨_, h', _⟩ => h (by rw [cdec_csem] at h'; exact h'))
  · exact if_neg hr

theorem amount_bar (c : Dev nD) (d : Bool) : (Rd pc).amount (barCell c) 0 d = 1 := rfl
theorem amount_x (c : Dev nD) (x : Cid) (d : Bool) : (Rd pc).amount (xCell c x) 0 d = N := rfl
theorem payload_bar (c : Dev nD) (d : Bool) : (Rd pc).payload (barCell c) 0 d = barPay d c := rfl
theorem payload_x (c : Dev nD) (x : Cid) (d : Bool) : (Rd pc).payload (xCell c x) 0 d = xPay pc x c := by
  show xPay pc (cdec (csem x)) c = _; rw [cdec_csem]

theorem expect_bar (c : Dev nD) : (Rd pc).expect (barCell c) 0 = 2 := by
  unfold Schedule.expect Schedule.amountOf
  rw [duties_bar, Finset.sum_congr rfl fun d _ => amount_bar pc c d, Finset.sum_const, Finset.card_univ, Fintype.card_bool, smul_eq_mul]
theorem expect_x (c : Dev nD) (x : Cid) (h : used x c = true) : (Rd pc).expect (xCell c x) 0 = N := by
  unfold Schedule.expect Schedule.amountOf; rw [duties_used pc c x h, Finset.sum_singleton, amount_x]

theorem rest_bar (c : Dev nD) :
    bigSep ((Rd pc).duties (barCell c) 0 \ ∅) (fun d => (Rd pc).payload (barCell c) 0 d) = iprop(barPay false c ∗ barPay true c) := by
  rw [Finset.sdiff_empty, duties_bar, bigSep_univ_eq_bigSepL [false, true] (by decide) (by decide), bigSepL_cons_cons, bigSepL_singleton,
    payload_bar, payload_bar]
  rfl
theorem rest_x (c : Dev nD) (x : Cid) (h : used x c = true) :
    bigSep ((Rd pc).duties (xCell c x) 0 \ ∅) (fun d => (Rd pc).payload (xCell c x) 0 d) = xPay pc x c := by
  rw [Finset.sdiff_empty, duties_used pc c x h, bigSep_singleton, payload_x]

theorem xPay_out (s : Slot) (c : Dev nD) (h : act s c = true) :
    xPay pc (outC s) c = owns (c : Thread nD τ) (slc s) (qs s) (dat pc s c) := by
  unfold xPay; rw [slotOf_outC s (act_lt s c h)]; exact if_neg Bool.false_ne_true
theorem xPay_in (s : Slot) (c : Dev nD) (h : rcv s c = true) :
    xPay pc (inC s) c = owns (c : Thread nD τ) (slc s) fullShare (dat pc s c) := by
  unfold xPay; rw [slotOf_inC s (rcv_pos s c h)]; exact if_pos rfl

end Sched

/-! ## What a device owes, and the levels of the cells -/

/-- The transfers that device `c` still owes when `n` events have happened: for every piece not yet sent on, its arrival. -/
def owed (c : Dev nD) (n : ℕ) : CellTallies nD τ sig Unit :=
  ∑ s : Slot, if act s c = true ∧ n ≤ at' (0, s) then tallyAt (inCell (nb s.1 c) (up s)) () N else 0

def O₁ (c : Dev nD) : CellTallies nD τ sig Unit := owed c 0 + tallyAt (barCell (nb false c)) () 1
/-- What device `c` owes at launch: its transfers, and a unit of each neighbour's barrier cell. -/
def O₀ (c : Dev nD) : CellTallies nD τ sig Unit := O₁ c + tallyAt (barCell (nb true c)) () 1

def L (g : GSem nD τ sig) : Finset Unit := if g.1.2 = .tc then {()} else ∅
/-- Barrier cells lie at level 1, the arrivals of hop `h` at `2 + h`, every other cell at 0. -/
def lv (g : GSem nD τ sig) (_ : Unit) : ℕ :=
  match g.2 with
  | .reg _ => 1
  | .dma n => if (cdec n).1 = true then 2 + (cdec n).2.2.1.val else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _

theorem lv_in (s : Slot) (c : Dev nD) (h : s.2.1.val ≠ 0) : lv (inCell c s) () = 1 + s.2.1.val := by
  show (if (cdec (csem (inC s))).1 = true then 2 + (cdec (csem (inC s))).2.2.1.val else 0) = _
  rw [cdec_csem, if_pos (show (inC s).1 = true from rfl)]
  show 2 + (s.2.1.val - 1) % 4 = _
  have := s.2.1.isLt; omega

theorem owed_pos {c : Dev nD} {n : ℕ} {g : GSem nD τ sig} {u : Unit} (h : 0 < owed c n g u) :
    ∃ s : Slot, act s c = true ∧ n ≤ at' (0, s) ∧ g = inCell (nb s.1 c) (up s) := by
  unfold owed at h
  rw [Finset.sum_apply, Finsupp.finset_sum_apply] at h
  obtain ⟨s, -, hs⟩ := Finset.exists_ne_zero_of_sum_ne_zero (Nat.pos_iff_ne_zero.mp h)
  by_cases hc : act s c = true ∧ n ≤ at' (0, s)
  · rw [if_pos hc, tallyAt_apply] at hs
    by_cases hg : g = inCell (nb s.1 c) (up s) ∧ u = ()
    · exact ⟨s, hc.1, hc.2, hg.1⟩
    · rw [if_neg hg] at hs; exact absurd rfl hs
  · rw [if_neg hc] at hs; exact absurd rfl hs

theorem up_pos (s : Slot) : (up s).2.1.val ≠ 0 := by
  show min (s.2.1.val + 1) 4 ≠ 0; omega
theorem up_val (s : Slot) (h : s.2.1.val < 4) : (up s).2.1.val = s.2.1.val + 1 := by
  show min (s.2.1.val + 1) 4 = _; omega

/-- The wait for a piece's arrival lies below every transfer then owed. -/
theorem mayWait_in (c : Dev nD) (s : Slot) (n : ℕ) (hn : evs[n]? = some (1, s)) (hs : rcv s c = true) :
    (levAts L lv : sProp 𝕄) ⊢ MayWait (c : Thread nD τ) (.dma (csem (inC s))) () (owed c n) :=
  MayOwe.of_cut (L := L) (lev := lv) (1 + s.2.1.val)
    (fun p hp => mem_L _ _ _)
    (fun g u hg => by obtain ⟨s', _, _, rfl⟩ := owed_pos hg; exact mem_L _ _ _)
    (fun p hp => by rw [Finset.mem_singleton.mp hp]; exact (lv_in s c (rcv_pos s c hs)).le)
    (fun g u hg => by
      obtain ⟨s', ha, hle, rfl⟩ := owed_pos hg
      show _ < lv (inCell (nb s'.1 c) (up s')) ()
      rw [lv_in _ _ (up_pos s'), up_val s' (act_lt s' c ha)]
      obtain ⟨hlt, he⟩ := List.getElem?_eq_some_iff.mp hn
      have hm := act_mem s' c ha
      have hlt' : at' (0, s') < evs.length := List.idxOf_lt_length_iff.mpr hm
      have he' : evs[at' (0, s')] = (0, s') := List.getElem_idxOf hlt'
      have hne : n ≠ at' (0, s') := fun h => by
        subst h; rw [he'] at he; exact absurd (congrArg Prod.fst he) (show ¬ (0 : Fin 3) = 1 by decide)
      have := List.pairwise_iff_getElem.mp evs_up n (at' (0, s')) hlt hlt' (by omega) (by rw [he]) (by rw [he'])
      rw [he, he'] at this
      have h2 : s.2.1.val ≤ s'.2.1.val := this
      omega)

/-- The wait at the barrier lies below every transfer. -/
theorem mayWait_bar (c : Dev nD) : (levAts L lv : sProp 𝕄) ⊢ MayWait (c : Thread nD τ) (.reg barS) () (owed c 0) :=
  MayOwe.of_cut (L := L) (lev := lv) 1
    (fun p hp => mem_L _ _ _)
    (fun g u hg => by obtain ⟨s', _, _, rfl⟩ := owed_pos hg; exact mem_L _ _ _)
    (fun p hp => by rw [Finset.mem_singleton.mp hp]; exact le_rfl)
    (fun g u hg => by
      obtain ⟨s', ha, hle, rfl⟩ := owed_pos hg
      show _ < lv (inCell (nb s'.1 c) (up s')) ()
      rw [lv_in _ _ (up_pos s')]; have := up_pos s'; omega)

theorem owed_last (c : Dev nD) (n : ℕ) (h : ∀ s, act s c = true → at' (0, s) < n) : owed c n = 0 :=
  Finset.sum_eq_zero fun s _ => if_neg fun ⟨h1, h2⟩ => by have := h s h1; omega

/-- Sending a piece on pays its arrival. -/
theorem owed_start (c : Dev nD) (s : Slot) (n : ℕ) (hn : evs[n]? = some (0, s)) (hs : act s c = true) :
    owed c n = owed c (n + 1) + tallyAt (inCell (nb s.1 c) (up s)) () N := by
  have hat := at_of hn
  unfold owed
  rw [← Finset.sum_erase_add (a := s) (f := fun x => if act x c = true ∧ n ≤ at' (0, x) then tallyAt (inCell (nb x.1 c) (up x)) () N else 0) (h := Finset.mem_univ s),
    ← Finset.sum_erase_add (a := s) (f := fun x => if act x c = true ∧ n + 1 ≤ at' (0, x) then tallyAt (inCell (nb x.1 c) (up x)) () N else 0) (h := Finset.mem_univ s),
    if_pos ⟨hs, by omega⟩, if_neg (c := act s c = true ∧ n + 1 ≤ at' (0, s)) (by omega), add_zero]
  congr 1
  refine Finset.sum_congr rfl fun s' hs' => ?_
  have hne : at' (0, s') ≠ n := fun h => (Finset.mem_erase.mp hs').1 (congrArg Prod.snd (at_eq hn h))
  by_cases ha : act s' c = true
  · by_cases hle : n ≤ at' (0, s')
    · rw [if_pos ⟨ha, hle⟩, if_pos ⟨ha, by omega⟩]
    · rw [if_neg (by omega), if_neg (by omega)]
  · rw [if_neg (fun h => ha h.1), if_neg (fun h => ha h.1)]

/-- Any other event leaves what is owed. -/
theorem owed_other (c : Dev nD) (e : Ev) (n : ℕ) (hn : evs[n]? = some e) (h : ∀ s, e = (0, s) → act s c ≠ true) :
    owed c (n + 1) = owed c n := by
  unfold owed
  refine Finset.sum_congr rfl fun s' _ => ?_
  by_cases ha : act s' c = true
  · have hne : at' (0, s') ≠ n := fun h' => h s' (at_eq hn h').symm ha
    by_cases hle : n ≤ at' (0, s')
    · rw [if_pos (c := act s' c = true ∧ n + 1 ≤ at' (0, s')) ⟨ha, by omega⟩, if_pos ⟨ha, hle⟩]
    · rw [if_neg (by omega), if_neg (by omega)]
  · rw [if_neg (fun h => ha h.1), if_neg (fun h => ha h.1)]

end Cert.RingProof

end
-- ==== Proof.Events.lean ====
/-
  A device's state between two events of its run, and what each event does to it: the sending on of a piece, the wait for a piece
  to arrive, the wait for a sending to be done, a load, a store.
-/
module

public import proofs.«01_k».proof.Proof.Ring
public import Idealize.ShloMosaic.Lib.Writes
public import Idealize.ShloMosaic.Lib.ViewIndex

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-! ## Running a program from a state -/

section Run

/-- Run from `A` on device `c`, the program ends in `Q`. -/
def Tr (c : Dev nD) {α : Type} (A : sProp 𝕄) (p : Prog (TpuEff nD τ sig (Elt F) Λ₀ .tc) α) (Q : α → sProp 𝕄) : Prop :=
  A ⊢ wp frame (wpE (defs₀ (F := F)) 𝒱₀ (c : Thread nD τ) none) Set.univ p Q

/-- The program returned `v`, in the state `B`. -/
def Ret {α : Type} (v : α) (B : sProp 𝕄) : α → sProp 𝕄 := fun a => iprop(⌜a = v⌝ ∗ B)

variable {α β : Type} {c : Dev nD} {A B : sProp (MT nD τ sig Unit (Elt F) ℕ UU ℕ)} {Q : β → sProp (MT nD τ sig Unit (Elt F) ℕ UU ℕ)}

theorem tr_ret (v : α) : Tr c A (pure v : Prog (TpuEff nD τ sig (Elt F) Λ₀ .tc) α) (Ret v A) := by
  unfold Tr
  rw [Prog.pure_eq_ret, wp_ret]
  iintro H; imodintro; unfold Ret
  isplitr; · ipureintro; rfl
  iexact H

theorem tr_bind {p : Prog (TpuEff nD τ sig (Elt F) Λ₀ .tc) α} {k : α → Prog (TpuEff nD τ sig (Elt F) Λ₀ .tc) β} {v : α}
    (h : Tr c A p (Ret v B)) (hk : Tr c B (k v) Q) : Tr c A (p >>= k) Q := by
  unfold Tr at *
  refine h.trans ?_
  rw [wp_bind]
  refine (wp frame (wpE (defs₀ (F := F)) 𝒱₀ (c : Thread nD τ) none) Set.univ p).mono fun a => ?_
  show iprop(⌜a = v⌝ ∗ B) ⊢ wp frame (wpE (defs₀ (F := F)) 𝒱₀ (c : Thread nD τ) none) Set.univ (k a) Q
  iintro ⟨%ha, H⟩
  subst ha
  iapply hk; iexact H

theorem tr_pre {A' : sProp 𝕄} {p : Prog (TpuEff nD τ sig (Elt F) Λ₀ .tc) β} (h : A ⊢ A') (hp : Tr c A' p Q) : Tr c A p Q :=
  h.trans hp

theorem tr_devId {k : Dev nD → Prog (TpuEff nD τ sig (Elt F) Λ₀ .tc) β} (hk : Tr c A (k c) Q) :
    Tr c A (Prog.lift .deviceId >>= k) Q := by
  unfold Tr at *
  simp only [Prog.lift, Prog.bind_op, Prog.bind_ret, wp_deviceId]
  exact hk

end Run

/-! ## The state between events -/

section State

theorem univ_split {I : Type} [Fintype I] [DecidableEq I] (i : I) (Φ : I → sProp 𝕄) :
    bigSep Finset.univ Φ = iprop(Φ i ∗ bigSep (Finset.univ.erase i) Φ) := BI.bigSep_univ_split i

/-- The cells of a device: its barrier cell (`none`) and its transfer cells. -/
def kcell (ck : Dev nD × Option Cid) : GSem nD τ sig := match ck.2 with
  | none => barCell ck.1
  | some x => xCell ck.1 x

variable (pc : Dev nD → Fin 4 → Piece F) (K : Dev nD × Option Cid → ℕ)

/-- Every cell follows the schedule and has reached round 0, and the levels are as given. -/
def Env : sProp 𝕄 :=
  iprop((bigSep Finset.univ fun ck : Dev nD × Option Cid => cellInv ER (Rd pc) (K ck) (kcell ck))
    ∗ (bigSep Finset.univ fun ck : Dev nD × Option Cid => reached ER (kcell ck) 0) ∗ levAts L lv)

instance Env_persistent : BI.Persistent (Env pc K) := by unfold Env; infer_instance

theorem Env_inv (ck : Dev nD × Option Cid) : Env pc K ⊢ cellInv ER (Rd pc) (K ck) (kcell ck) := by
  unfold Env
  exact sep_elim_left.trans (bigSep_elim (Φ := fun ck : Dev nD × Option Cid => cellInv ER (Rd pc) (K ck) (kcell ck)) (Finset.mem_univ ck))
theorem Env_reached (ck : Dev nD × Option Cid) : Env pc K ⊢ reached ER (kcell ck) 0 := by
  unfold Env
  exact sep_elim_right.trans (sep_elim_left.trans (bigSep_elim (Φ := fun ck : Dev nD × Option Cid => reached ER (kcell ck) 0) (Finset.mem_univ ck)))
theorem Env_lev : Env pc K ⊢ levAts L lv := by
  unfold Env; iintro ⟨-, -, H⟩; iexact H
theorem Env_invX (c : Dev nD) (x : Cid) : Env pc K ⊢ cellInv ER (Rd pc) (K (c, some x)) (xCell c x) := Env_inv pc K (c, some x)
theorem Env_reachedX (c : Dev nD) (x : Cid) : Env pc K ⊢ reached ER (xCell c x) 0 := Env_reached pc K (c, some x)

variable (c : Dev nD) (X : Slot → Piece F)

/-- The half of a slot that stays on the device for the loads. A piece of the device's own has one such half for both directions. -/
def Lf (s : Slot) : sProp 𝕄 :=
  if s.1 = true ∧ s.2.1.val = 0 then iprop(emp) else owns (c : Thread nD τ) (slc s) fullShare.left (X s)
/-- A slot's memory: awaited, or held, or lent to the transfer that sends it on. `a`: sent on; `b`: that is done; `g`: arrived. -/
def Mem (s : Slot) (a b g : Bool) : sProp 𝕄 :=
  if rcv s c = true ∧ g = false then cred (tallyAt (inCell c s) () N)
  else iprop(Lf c X s ∗ (if a = true ∧ b = false then cred (tallyAt (outCell c s) () N) else owns (c : Thread nD τ) (slc s) (qs s) (X s)))
/-- What the device needs to send a slot's piece on: the duties at both ends, and the neighbour's memory. -/
def Tk (s : Slot) (a : Bool) : sProp 𝕄 :=
  if act s c = true ∧ a = false then
    iprop(dutyTok ER (outCell c s) 0 false ∗ dutyTok ER (inCell (nb s.1 c) (up s)) 0 false
      ∗ ∃ Y : Piece F, owns (nb s.1 c : Thread nD τ) (slc (up s)) fullShare Y)
  else iprop(emp)
/-- The rounds that the slot's two cells are at. -/
def Po (s : Slot) (b : Bool) : sProp 𝕄 := if s.2.1.val < 4 then atPos ER (outCell c s) (if b then 1 else 0) ∅ 0 else iprop(emp)
def Pi (s : Slot) (g : Bool) : sProp 𝕄 := if s.2.1.val ≠ 0 then atPos ER (inCell c s) (if g then 1 else 0) ∅ 0 else iprop(emp)

def P' (s : Slot) (a b g : Bool) : sProp 𝕄 := iprop(Mem c X s a b g ∗ Tk c s a ∗ Po c s b ∗ Pi c s g)

/-- What has happened to a slot after `n` events. -/
def sent (s : Slot) (n : ℕ) : Bool := act s c && decide (at' (0, s) < n)
def done (s : Slot) (n : ℕ) : Bool := act s c && decide (at' (2, s) < n)
def got (s : Slot) (n : ℕ) : Bool := rcv s c && decide (at' (1, s) < n)

def P (n : ℕ) (s : Slot) : sProp 𝕄 := P' c X s (sent c s n) (done c s n) (got c s n)

/-- The state after `n` events. -/
def T (n : ℕ) : sProp 𝕄 :=
  iprop(Env pc K ∗ atPos ER (barCell c) 1 ∅ 0 ∗ (∃ W, owes (c : Thread nD τ) (owed c n) W) ∗ bigSep Finset.univ (P c X n))

variable {c X}

theorem flag_other {k : Fin 3} {s : Slot} {n : ℕ} {e : Ev} (hn : evs[n]? = some e) (h : e ≠ (k, s)) :
    decide (at' (k, s) < n + 1) = decide (at' (k, s) < n) := by
  have : at' (k, s) ≠ n := fun h' => h (at_eq hn h').symm
  exact decide_eq_decide.mpr (by omega)
theorem flag_this {k : Fin 3} {s : Slot} {n : ℕ} (hn : evs[n]? = some (k, s)) :
    decide (at' (k, s) < n + 1) = true ∧ decide (at' (k, s) < n) = false := by
  have := at_of hn
  exact ⟨decide_eq_true (by omega), decide_eq_false (by omega)⟩

theorem P_other {n : ℕ} {k : Fin 3} {s₀ s : Slot} (hn : evs[n]? = some (k, s₀)) (h : s ≠ s₀) : P c X (n + 1) s = P c X n s := by
  unfold P sent done got
  rw [flag_other hn (k := 0) (s := s) (fun h' => h (congrArg Prod.snd h').symm), flag_other hn (k := 1) (s := s) (fun h' => h (congrArg Prod.snd h').symm),
    flag_other hn (k := 2) (s := s) (fun h' => h (congrArg Prod.snd h').symm)]

/-- The slots other than an event's are as before. -/
theorem P_rest {n : ℕ} {k : Fin 3} {s : Slot} (hn : evs[n]? = some (k, s)) :
    bigSep (Finset.univ.erase s) (P c X (n + 1)) = bigSep (Finset.univ.erase s) (P c X n) :=
  bigSep_congr fun s' h => P_other hn (Finset.ne_of_mem_erase h)

theorem P_skip {n : ℕ} {k : Fin 3} {s : Slot} (hn : evs[n]? = some (k, s)) (h : (if k = 1 then rcv s c else act s c) = false) :
    P c X (n + 1) s = P c X n s := by
  unfold P sent done got
  by_cases hk : k = 1
  · subst hk
    rw [if_pos rfl] at h
    rw [flag_other hn (k := 0) (s := s) (by simp), flag_other hn (k := 2) (s := s) (by simp), h]
    rfl
  · rw [if_neg hk] at h
    rw [flag_other hn (k := 1) (s := s) (fun h' => hk (congrArg Prod.fst h')), h]
    rfl

/-- An event that does not concern the device changes nothing. -/
theorem T_skip {n : ℕ} {k : Fin 3} {s : Slot} (hn : evs[n]? = some (k, s)) (h : (if k = 1 then rcv s c else act s c) = false) :
    T pc K c X (n + 1) = T pc K c X n := by
  have hP : bigSep Finset.univ (P c X (n + 1)) = bigSep Finset.univ (P c X n) := by
    rw [univ_split s, univ_split s (P c X n), P_rest hn, P_skip hn h]
  unfold T
  rw [hP, owed_other c (k, s) n hn]
  intro s' hs' ha
  cases hs'
  rw [if_neg (by decide)] at h
  rw [h] at ha; exact Bool.false_ne_true ha

/-! ### A slot's memory as a matrix -/

theorem loc_sq (s : Slot) (t : Dev nD) : (sq s).view.loc (t : Thread nD τ) = (slc s).view.loc (t : Thread nD τ) := rfl

theorem credit_sq (s : Slot) : (sq s).view.dmaCredit = N := by
  obtain ⟨d, ⟨h, hh⟩, ⟨p, hp⟩⟩ := s
  cases d
  · rfl
  · cases h <;> rfl

/-! ### The events -/

variable (hX : ∀ s, (s.2.1.val = 0 ∨ rcv s c = true) → X s = dat pc s c)
include hX

set_option maxHeartbeats 1000000 in
/-- A piece is sent on. -/
theorem start_core {R : sProp 𝕄} {β : Type} {Q : β → sProp 𝕄} {n : ℕ} {s : Slot} (hn : evs[n]? = some (0, s)) (ha : act s c = true)
    {t : Dev nD} (ht : t = nb s.1 c) {M₁ M₂ : Memref sig .tc .vmem S256x256 .f32} (h₁ : M₁ = sq s) (h₂ : M₂ = sq (up s))
    {s₁ s₂ : DmaSem sig} (e₁ : s₁ = csem (outC s)) (e₂ : s₂ = csem (inC (up s)))
    {hsc : (M₂ : Memref sig (Dev.tc t : Thread nD τ).2.kind .vmem S256x256 .f32).view.ref.isScScratch = false}
    {hsrc : M₁.view.WordExact} {hdst : M₂.view.WordExact}
    {hsem : DmaTarget.Typed .vmem (.dma s₂) (.remote (Dev.tc t : Thread nD τ) M₂ (.dma s₁) hsc)}
    {k : PUnit → Prog (TpuEff nD τ sig (Elt F) Λ₀ .tc) β} (hk : Tr c iprop(R ∗ T pc K c X (n + 1)) (k ⟨⟩) Q) :
    Tr c iprop(R ∗ T pc K c X n) (.op (.enqueueDma M₁ (.remote (Dev.tc t : Thread nD τ) M₂ (.dma s₁) hsc) (.dma s₂) hsrc hdst hsem) k) Q := by
  subst ht h₁ h₂ e₁ e₂
  obtain ⟨hord, hord'⟩ := ev_order s c ha
  have hat := at_of hn
  have hS : sent c s n = false := by unfold sent; rw [(flag_this hn).2, Bool.and_false]
  have hS' : sent c s (n + 1) = true := by unfold sent; rw [(flag_this hn).1, ha]; rfl
  have hD : done c s n = false := by unfold done; rw [decide_eq_false (by omega), Bool.and_false]
  have hD' : done c s (n + 1) = false := by unfold done; rw [decide_eq_false (by omega), Bool.and_false]
  have hG : ∀ m, n ≤ m → got c s m = rcv s c := fun m hm => by
    unfold got
    by_cases hr : rcv s c = true
    · rw [hr, decide_eq_true (by have := hord' hr; omega)]; rfl
    · rw [Bool.eq_false_iff.mpr hr]; rfl
  have hPn : P c X n s = iprop((Lf c X s ∗ owns (c : Thread nD τ) (slc s) (qs s) (X s))
      ∗ (dutyTok ER (outCell c s) 0 false ∗ dutyTok ER (inCell (nb s.1 c) (up s)) 0 false
      ∗ ∃ Y : Piece F, owns (nb s.1 c : Thread nD τ) (slc (up s)) fullShare Y) ∗ Po c s false ∗ Pi c s (rcv s c)) := by
    unfold P P' Mem Tk
    rw [hS, hD, hG n le_rfl, if_neg (by rintro ⟨h1, h2⟩; rw [h1] at h2; cases h2), if_neg (by simp), if_pos ⟨ha, rfl⟩]
  have hPn' : P c X (n + 1) s = iprop((Lf c X s ∗ cred (tallyAt (outCell c s) () N)) ∗ emp ∗ Po c s false ∗ Pi c s (rcv s c)) := by
    unfold P P' Mem Tk
    rw [hS', hD', hG (n + 1) (by omega), if_neg (by rintro ⟨h1, h2⟩; rw [h1] at h2; cases h2), if_pos ⟨rfl, rfl⟩, if_neg (by simp)]
  have hXs := hX s (act_src s c ha)
  have hset (u : Slot) : (sq u).view.set = (slc u).view.set :=
    View.set_reshape (v := (slc u).view) squeezes_S1x1x256x256_S256x256.numel_eq
  have hpay₁ (fs : Buf (Elt F) ((sq s).view.loc (c : Thread nD τ))) (hf : (slc s).view.read (Elt F) fs = X s) :
      ((sq s).view.loc (c : Thread nD τ) ↦[(sq s).view.set]{qs s} fs) ⊢ (Rd pc).payload (outCell c s) 0 false := by
    rw [payload_x, xPay_out pc s c ha, ← hXs]
    rw [hset]
    unfold owns
    iintro H; iexists fs; isplitr; · ipureintro; exact hf
    iexact H
  have hpay₂ (fs : Buf (Elt F) ((sq s).view.loc (c : Thread nD τ))) (hf : (slc s).view.read (Elt F) fs = X s)
      (fd : Buf (Elt F) ((sq (up s)).view.loc (nb s.1 c : Thread nD τ))) :
      ((sq (up s)).view.loc (nb s.1 c : Thread nD τ) ↦[(sq (up s)).view.set]{fullShare}
          ((sq (up s)).view.write (Elt F) fd ((sq s).view.read (Elt F) fs) Finset.univ))
        ⊢ (Rd pc).payload (inCell (nb s.1 c) (up s)) 0 false := by
    rw [payload_x, xPay_in pc (up s) (nb s.1 c) (rcv_up s c ha)]
    have hd : dat pc (up s) (nb s.1 c) = X s := by
      rw [hXs]; unfold dat; rw [org_up s c ha]; rfl
    rw [hd, hset]
    unfold owns
    iintro H; iexists _; isplitr
    · ipureintro
      exact funext fun x => by
        have h := View.read_write_reshape (slc (up s)).view squeezes_S1x1x256x256_S256x256.numel_eq fd
          (((slc s).view.reshape S256x256 squeezes_S1x1x256x256_S256x256.numel_eq).read (Elt F) fs)
          ((Shape.reshapeEquiv squeezes_S1x1x256x256_S256x256.numel_eq).symm x)
        rw [Equiv.apply_symm_apply] at h
        rw [h, ← hf]
        show (slc s).view.read (Elt F) fs (Shape.reshapeEquiv squeezes_S1x1x256x256_S256x256.numel_eq _) = _
        rw [Equiv.apply_symm_apply]
    iexact H
  unfold Tr at *
  unfold T at hk ⊢
  rw [univ_split s, P_rest hn, hPn'] at hk
  rw [univ_split s, hPn]
  unfold owns
  iintro ⟨HR, #HE, Hb, ⟨%W, Ho⟩, ⟨⟨HL, ⟨%fs, %hf, Hs⟩⟩, ⟨Ht1, Ht2, ⟨%Y, %fd, %hd, Hd⟩⟩, Hpo, Hpi⟩, Hrest⟩
  iapply (Rounds.wp_send_pointsTo 𝒱₀ ER (Rd pc) (c : Thread nD τ) none (c' := (nb s.1 c : Thread nD τ)) (src := sq s) (dst := sq (up s))
    (κ₁ := K (c, some (outC s))) (κ₂ := K (nb s.1 c, some (inC (up s))))
    (r₁ := 0) (r₂ := 0) (d₁ := false) (d₂ := false) (fs := fs) (fd := fd) (q := qs s)
    (by rw [duties_used pc c _ (used_outC s c ha)]; exact Finset.mem_singleton_self _)
    (by rw [duties_used pc _ _ (used_inC (up s) _ (rcv_up s c ha))]; exact Finset.mem_singleton_self _)
    () () N (show (sq (up s)).view.amount (SemLoc.dma (csem (inC (up s)))) = N from credit_sq (up s)) (amount_x pc c _ false) (amount_x pc _ _ false) (owed c (n + 1)) (owed_start c s n hn ha) (W := W)
    (hpay₁ fs hf) (hpay₂ fs hf fd)) $$ [Ho Ht1 Ht2 Hs Hd]
  · isplitr; · iapply (Env_invX pc K c (outC s)); iexact HE
    isplitr; · iapply (Env_invX pc K (nb s.1 c) (inC (up s))); iexact HE
    isplitl [Hs]; · rw [hset]; iexact Hs
    isplitl [Hd]; · rw [hset]; iexact Hd
    isplitl [Ho]; · iexact Ho
    isplitl [Ht1]; · iexact Ht1
    isplitr; · iapply (Env_reachedX pc K c (outC s)); iexact HE
    isplitl [Ht2]; · iexact Ht2
    iapply (Env_reachedX pc K (nb s.1 c) (inC (up s))); iexact HE
  iintro ⟨Hc, Ho⟩
  iapply hk
  isplitl [HR]; · iexact HR
  isplitr; · iexact HE
  isplitl [Hb]; · iexact Hb
  isplitl [Ho]; · iexists W; iexact Ho
  isplitr [Hrest]
  · isplitl [HL Hc]
    · isplitl [HL]; · iexact HL
      iexact Hc
    isplitr; · iempintro
    isplitl [Hpo]; · iexact Hpo
    iexact Hpi
  iexact Hrest

omit hX in
set_option maxHeartbeats 1000000 in
/-- A sending is done: the share sent from is back. -/
theorem done_core (hX : ∀ s, (s.2.1.val = 0 ∨ rcv s c = true) → X s = dat pc s c)
    {R : sProp 𝕄} {β : Type} {Q : β → sProp 𝕄} {n : ℕ} {s : Slot} (hn : evs[n]? = some (2, s)) (ha : act s c = true)
    (h0 : owed c n = 0) {M₁ M₂ : Memref sig .tc .vmem S256x256 .f32} (hM : M₂.view.dmaCredit = N) {s₁ : DmaSem sig} (e₁ : s₁ = csem (outC s))
    {hsrc : M₁.view.WordExact} {hdst : M₂.view.WordExact}
    {k : PUnit → Prog (TpuEff nD τ sig (Elt F) Λ₀ .tc) β} (hk : Tr c iprop(R ∗ T pc K c X (n + 1)) (k ⟨⟩) Q) :
    Tr c iprop(R ∗ T pc K c X n) (.op (.waitDma2 s₁ M₁ M₂ hsrc hdst) k) Q := by
  subst e₁
  obtain ⟨hord, hord'⟩ := ev_order s c ha
  have hat := at_of hn
  have hS : ∀ m, n ≤ m → sent c s m = true := fun m hm => by unfold sent; rw [decide_eq_true (by omega), ha]; rfl
  have hD : done c s n = false := by unfold done; rw [(flag_this hn).2, Bool.and_false]
  have hD' : done c s (n + 1) = true := by unfold done; rw [(flag_this hn).1, ha]; rfl
  have hG : ∀ m, n ≤ m → got c s m = rcv s c := fun m hm => by
    unfold got
    by_cases hr : rcv s c = true
    · rw [hr, decide_eq_true (by have := hord' hr; omega)]; rfl
    · rw [Bool.eq_false_iff.mpr hr]; rfl
  have hPn : P c X n s = iprop((Lf c X s ∗ cred (tallyAt (outCell c s) () N)) ∗ emp ∗ atPos ER (outCell c s) 0 ∅ 0 ∗ Pi c s (rcv s c)) := by
    unfold P P' Mem Tk Po
    rw [hS n le_rfl, hD, hG n le_rfl, if_neg (by rintro ⟨h1, h2⟩; rw [h1] at h2; cases h2), if_pos ⟨rfl, rfl⟩, if_neg (by simp), if_pos (act_lt s c ha)]
    rfl
  have hPn' : P c X (n + 1) s = iprop((Lf c X s ∗ owns (c : Thread nD τ) (slc s) (qs s) (X s)) ∗ emp ∗ atPos ER (outCell c s) (0 + 1) ∅ 0 ∗ Pi c s (rcv s c)) := by
    unfold P P' Mem Tk Po
    rw [hS (n + 1) (by omega), hD', hG (n + 1) (by omega), if_neg (by rintro ⟨h1, h2⟩; rw [h1] at h2; cases h2), if_neg (by simp), if_neg (by simp), if_pos (act_lt s c ha)]
    rfl
  have hXs := hX s (act_src s c ha)
  have ho : owed c (n + 1) = 0 := by
    rw [owed_other c (2, s) n hn (fun s' h => absurd (congrArg Prod.fst h) (show ¬ (2 : Fin 3) = 0 by decide)), h0]
  unfold Tr at *
  unfold T at hk ⊢
  rw [univ_split s, P_rest hn, hPn', ho] at hk
  rw [univ_split s, hPn, h0]
  iintro ⟨HR, #HE, Hb, ⟨%W, Ho⟩, ⟨⟨HL, Hc⟩, -, Hpo, Hpi⟩, Hrest⟩
  iapply (Rounds.wp_wait_rest_token 𝒱₀ ER (Rd pc) (c : Thread nD τ) none (κ := K (c, some (outC s)))
      (wpE_waitDma2_eq 𝒱₀ (c : Thread nD τ) none Set.univ) (Set.mem_univ _) () (O := 0) (W := W) (R := 0) (m := 0) (T := ∅)
      (by rw [Nat.zero_add, expect_x pc c _ (used_outC s c ha), hM])) $$ [Hc Ho Hpo]
  · isplitr; · iapply (Env_invX pc K c (outC s)); iexact HE
    isplitl [Hc]; · rw [hM]; iexact Hc
    isplitl [Ho]; · iexact Ho
    isplitr; · rw [MayWait_zero]; iempintro
    iexact Hpo
  iintro ⟨Ho, Hpo, -, Hpay⟩
  ihave Hp := (Entails.of_eq ((rest_x pc c _ (used_outC s c ha)).trans ((xPay_out pc s c ha).trans (congrArg (owns (c : Thread nD τ) (slc s) (qs s)) hXs.symm)))) $$ Hpay
  iapply hk
  isplitl [HR]; · iexact HR
  isplitr; · iexact HE
  isplitl [Hb]; · iexact Hb
  isplitl [Ho]; · iexists _; iexact Ho
  isplitr [Hrest]
  · isplitl [HL Hp]
    · isplitl [HL]; · iexact HL
      iexact Hp
    isplitr; · iempintro
    isplitl [Hpo]; · iexact Hpo
    iexact Hpi
  iexact Hrest

theorem qs_right (s : Slot) (h : s.2.1.val ≠ 0) : qs s = fullShare.right := if_neg h

omit hX in
set_option maxHeartbeats 1000000 in
/-- A piece has arrived. -/
theorem got_core (hX : ∀ s, (s.2.1.val = 0 ∨ rcv s c = true) → X s = dat pc s c)
    {R : sProp 𝕄} {β : Type} {Q : β → sProp 𝕄} {n : ℕ} {s : Slot} (hn : evs[n]? = some (1, s)) (ha : rcv s c = true)
    {M₁ M₂ : Memref sig .tc .vmem S256x256 .f32} (hM : M₂.view.dmaCredit = N) {s₁ : DmaSem sig} (e₁ : s₁ = csem (inC s))
    {hsrc : M₁.view.WordExact} {hdst : M₂.view.WordExact}
    {k : PUnit → Prog (TpuEff nD τ sig (Elt F) Λ₀ .tc) β} (hk : Tr c iprop(R ∗ T pc K c X (n + 1)) (k ⟨⟩) Q) :
    Tr c iprop(R ∗ T pc K c X n) (.op (.waitDma2 s₁ M₁ M₂ hsrc hdst) k) Q := by
  subst e₁
  have hat := at_of hn
  have hS : ∀ m, m ≤ n + 1 → sent c s m = false := fun m hm => by
    unfold sent
    by_cases h : act s c = true
    · obtain ⟨-, h'⟩ := ev_order s c h
      rw [decide_eq_false (by have := h' ha; omega), Bool.and_false]
    · rw [Bool.eq_false_iff.mpr h]; rfl
  have hD : ∀ m, m ≤ n + 1 → done c s m = false := fun m hm => by
    unfold done
    by_cases h : act s c = true
    · obtain ⟨h'', h'⟩ := ev_order s c h
      rw [decide_eq_false (by have := h' ha; omega), Bool.and_false]
    · rw [Bool.eq_false_iff.mpr h]; rfl
  have hG : got c s n = false := by unfold got; rw [(flag_this hn).2, Bool.and_false]
  have hG' : got c s (n + 1) = true := by unfold got; rw [(flag_this hn).1, ha]; rfl
  have h0 := rcv_pos s c ha
  have hPn : P c X n s = iprop(cred (tallyAt (inCell c s) () N) ∗ Tk c s false ∗ Po c s false ∗ atPos ER (inCell c s) 0 ∅ 0) := by
    unfold P P' Mem Pi
    rw [hS n (by omega), hD n (by omega), hG, if_pos ⟨ha, rfl⟩, if_pos h0]
    rfl
  have hPn' : P c X (n + 1) s = iprop((owns (c : Thread nD τ) (slc s) fullShare.left (X s) ∗ owns (c : Thread nD τ) (slc s) fullShare.right (X s))
      ∗ Tk c s false ∗ Po c s false ∗ atPos ER (inCell c s) (0 + 1) ∅ 0) := by
    unfold P P' Mem Pi Lf
    rw [hS (n + 1) le_rfl, hD (n + 1) le_rfl, hG', if_neg (by simp), if_neg (fun h => h0 h.2), if_neg (by simp), if_pos h0]
    unfold qs
    rw [if_neg h0]
    rfl
  have hXs := hX s (Or.inr ha)
  have ho : owed c (n + 1) = owed c n :=
    owed_other c (1, s) n hn (fun s' h => absurd (congrArg Prod.fst h) (show ¬ (1 : Fin 3) = 0 by decide))
  unfold Tr at *
  unfold T at hk ⊢
  rw [univ_split s, P_rest hn, hPn', ho] at hk
  rw [univ_split s, hPn]
  iintro ⟨HR, #HE, Hb, ⟨%W, Ho⟩, ⟨Hc, Htk, Hpo, Hpi⟩, Hrest⟩
  iapply (Rounds.wp_wait_rest_token 𝒱₀ ER (Rd pc) (c : Thread nD τ) none (κ := K (c, some (inC s)))
      (wpE_waitDma2_eq 𝒱₀ (c : Thread nD τ) none Set.univ) (Set.mem_univ _) () (O := owed c n) (W := W) (R := 0) (m := 0) (T := ∅)
      (by rw [Nat.zero_add, expect_x pc c _ (used_inC s c ha), hM])) $$ [Hc Ho Hpi]
  · isplitr; · iapply (Env_invX pc K c (inC s)); iexact HE
    isplitl [Hc]; · rw [hM]; iexact Hc
    isplitl [Ho]; · iexact Ho
    isplitr; · iapply (mayWait_in c s n hn ha); iapply (Env_lev pc K); iexact HE
    iexact Hpi
  iintro ⟨Ho, Hpi, -, Hpay⟩
  ihave Hp := (Entails.of_eq ((rest_x pc c _ (used_inC s c ha)).trans ((xPay_in pc s c ha).trans (congrArg (owns (c : Thread nD τ) (slc s) fullShare) hXs.symm)))) $$ Hpay
  ihave Hp := (owns_halves (c := (c : Thread nD τ)) (m := slc s) (q := fullShare) (X s)).1 $$ Hp
  iapply hk
  isplitl [HR]; · iexact HR
  isplitr; · iexact HE
  isplitl [Hb]; · iexact Hb
  isplitl [Ho]; · iexists _; iexact Ho
  isplitr [Hrest]
  · isplitl [Hp]; · iexact Hp
    isplitl [Htk]; · iexact Htk
    isplitl [Hpo]; · iexact Hpo
    iexact Hpi
  iexact Hrest

end State
end Cert.RingProof

end
-- ==== Proof.Steps.lean ====
/-
  The steps of a run, in the form in which the program writes them.
-/
module

public import proofs.«01_k».proof.Proof.Events

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
/-- The programs of a device. -/
abbrev Pg (F : FTy → Type) [FloatOps F] (β : Type) : Type 1 := Prog (TpuEff nD τ sig (Elt F) Λ₀ .tc) β

/-! ## Memory -/

abbrev xM : Memref sig .tc .vmem S2x256x512 .f32 := Memref.whole cc0_stg0_0
abbrev qM : Memref sig .tc .vmem S512x256 .f32 := Memref.whole cc0_stg1_0
abbrev kM : Memref sig .tc .vmem S2x256x4x64 .f32 := Memref.whole cc0_stg2_0
abbrev vM : Memref sig .tc .vmem S2x256x4x64 .f32 := Memref.whole cc0_stg3_0
abbrev wM : Memref sig .tc .vmem S256x512 .f32 := Memref.whole cc0_stg4_0
abbrev oM : Memref sig .tc .vmem S2x256x512 .f32 := Memref.whole cc0_stg5_0

section Memory

variable {c : Dev nD} {β : Type}

/-- A load through a rectangle of a memory part that is held. -/
theorem load_part {sh : Shape} {e : EltTy} {M₀ : Memref sig .tc .vmem sh e} {r : Rect sh} {hl : M₀.view.LoadsAt r.toLoadRect}
    (M : Memref sig .tc .vmem r.shape e) (hM : M.view = M₀.view.slice r) {q : PosShare TreeShare} {V : r.shape.Idx → Elt F e} {A : sProp 𝕄}
    (hacc : A ⊢ iprop(owns (c : Thread nD τ) M q V ∗ (owns (c : Thread nD τ) M q V -∗ A)))
    {k : (r.shape.Idx → Elt F e) → Pg F β} {Q : β → sProp 𝕄} (hk : Tr c A (k V) Q) :
    Tr c A (Prog.lift (.load M₀ r.toLoadRect hl) >>= k) Q := by
  obtain ⟨v, hv⟩ := M
  cases hM
  unfold Tr at *
  simp only [Prog.lift, Prog.bind_op, Prog.bind_ret]
  refine hacc.trans ?_
  unfold owns
  iintro ⟨⟨%f, %hf, H⟩, Hback⟩
  iapply (wp_load_rect 𝒱₀ (c : Thread nD τ) none Set.univ (m := M₀) (r := r) (Finset.Subset.refl _)) $$ H
  iintro H
  subst hf
  iapply hk
  iapply Hback
  iexists f; isplitr; · ipureintro; rfl
  iexact H

/-- A load from a whole buffer that is held. -/
theorem load_whole {cs : CoreSpace} {sh : Shape} {e : EltTy} {M : Memref sig .tc cs sh e} {r : LoadRect sh} {hl : M.view.LoadsAt r} {q : PosShare TreeShare}
    {V : sh.Idx → Elt F e} {A : sProp 𝕄} (hu : M.view.set = Finset.univ)
    (hacc : A ⊢ iprop(owns (c : Thread nD τ) M q V ∗ (owns (c : Thread nD τ) M q V -∗ A)))
    {k : (r.shape.Idx → Elt F e) → Pg F β} {Q : β → sProp 𝕄} (hk : Tr c A (k fun x => V (r.idx x)) Q) :
    Tr c A (Prog.lift (.load M r hl) >>= k) Q := by
  unfold Tr at *
  simp only [Prog.lift, Prog.bind_op, Prog.bind_ret]
  refine hacc.trans ?_
  unfold owns
  rw [hu]
  iintro ⟨⟨%f, %hf, H⟩, Hback⟩
  iapply (wp_load 𝒱₀ (c : Thread nD τ) none Set.univ (m := M) (r := r) (Finset.subset_univ _)) $$ H
  iintro H
  subst hf
  iapply hk
  iapply Hback
  iexists f; isplitr; · ipureintro; rfl
  iexact H

/-- A store into a memory part that is held, all of the part written. -/
theorem store_part {sh : Shape} {e : EltTy} {M₀ : Memref sig .tc .vmem sh e} {r : Rect sh} {w : r.shape.Idx → Elt F e}
    {hx : (M₀.access r).Stores Finset.univ} {hm : (Finset.univ : Finset r.shape.Idx) = Finset.univ ∨ ∀ a, r.stride a = 1}
    (M : Memref sig .tc .vmem r.shape e) (hM : M.view = M₀.view.slice r) {A B : sProp 𝕄}
    (hacc : A ⊢ iprop((∃ V : r.shape.Idx → Elt F e, owns (c : Thread nD τ) M fullShare V) ∗ (owns (c : Thread nD τ) M fullShare w -∗ B)))
    {k : PUnit → Pg F β} {Q : β → sProp 𝕄} (hk : Tr c B (k ⟨⟩) Q) :
    Tr c A (Prog.lift (.store M₀ r w Finset.univ hx hm) >>= k) Q := by
  obtain ⟨v, hv⟩ := M
  cases hM
  unfold Tr at *
  simp only [Prog.lift, Prog.bind_op, Prog.bind_ret]
  refine hacc.trans ?_
  unfold owns
  iintro ⟨⟨%V, %f, %hf, H⟩, Hback⟩
  iapply (wp_store 𝒱₀ (c : Thread nD τ) none Set.univ (m := M₀) (r := r) (Mk := Finset.univ) (S := (M₀.view.slice r).set) (f := f) (Finset.Subset.refl _)) $$ H
  iintro H
  iapply hk
  iapply Hback
  iexists _; isplitr
  · ipureintro; exact View.read_write_univ (v := M₀.access r) f w
  iexact H

/-- A store into the output buffer. -/
theorem store_whole {r : Rect S2x256x512} {w : r.shape.Idx → Elt F .f32}
    {hx : ((oM).access r).Stores Finset.univ} {hm : (Finset.univ : Finset r.shape.Idx) = Finset.univ ∨ ∀ a, r.stride a = 1}
    {V : S2x256x512.Idx → Elt F .f32} {A B : sProp 𝕄}
    (hacc : A ⊢ iprop(owns (c : Thread nD τ) (oM) fullShare V
      ∗ (owns (c : Thread nD τ) (oM) fullShare (((oM).access r).write (Elt F) V w Finset.univ) -∗ B)))
    {k : PUnit → Pg F β} {Q : β → sProp 𝕄} (hk : Tr c B (k ⟨⟩) Q) :
    Tr c A (Prog.lift (.store (oM) r w Finset.univ hx hm) >>= k) Q := by
  unfold Tr at *
  simp only [Prog.lift, Prog.bind_op, Prog.bind_ret]
  refine hacc.trans ?_
  unfold owns
  simp only [Memref.view_whole, View.read_whole, View.set_whole]
  iintro ⟨⟨%f, %hf, H⟩, Hback⟩
  subst hf
  iapply (wp_store 𝒱₀ (c : Thread nD τ) none Set.univ (m := oM) (r := r) (Mk := Finset.univ) (S := Finset.univ) (f := f) (Finset.subset_univ _)) $$ H
  iintro H
  iapply hk
  iapply Hback
  iexists _; isplitr; · ipureintro; rfl
  iexact H

end Memory

/-! ## The state, with the operands -/

/-- A device's operands. -/
structure In (F : FTy → Type) where
  x : S2x256x512.Idx → Elt F .f32
  q : S512x256.Idx → Elt F .f32
  k : S2x256x4x64.Idx → Elt F .f32
  v : S2x256x4x64.Idx → Elt F .f32
  w : S256x512.Idx → Elt F .f32

section Ops

variable (c : Dev nD) (e : In F)

def Ins : sProp 𝕄 :=
  iprop(owns (c : Thread nD τ) xM fullShare e.x ∗ owns (c : Thread nD τ) qM fullShare e.q ∗ owns (c : Thread nD τ) kM fullShare e.k
    ∗ owns (c : Thread nD τ) vM fullShare e.v ∗ owns (c : Thread nD τ) wM fullShare e.w)

/-- A state with the operands, and the output buffer at `o`. -/
abbrev St (o : S2x256x512.Idx → Elt F .f32) (R : sProp 𝕄) : sProp 𝕄 :=
  iprop((Ins c e ∗ owns (c : Thread nD τ) oM fullShare o) ∗ R)

variable {c e} {o : S2x256x512.Idx → Elt F .f32} {R : sProp (MT nD τ sig Unit (Elt F) ℕ UU ℕ)} {β : Type}
  {Q : β → sProp (MT nD τ sig Unit (Elt F) ℕ UU ℕ)}

theorem ld_x {r : LoadRect S2x256x512} {hl : xM.view.LoadsAt r} {k : (r.shape.Idx → Elt F .f32) → Pg F β}
    (hk : Tr c (St c e o R) (k fun i => e.x (r.idx i)) Q) : Tr c (St c e o R) (Prog.lift (.load xM r hl) >>= k) Q := by
  refine load_whole (V := e.x) (q := fullShare) (View.set_whole _) ?_ hk
  unfold St Ins
  iintro ⟨⟨⟨H0, H1, H2, H3, H4⟩, Ho⟩, HR⟩
  isplitl [H0]; · iexact H0
  iintro H0
  isplitr [HR]; · iframe
  iexact HR
theorem ld_q {r : LoadRect S512x256} {hl : qM.view.LoadsAt r} {k : (r.shape.Idx → Elt F .f32) → Pg F β}
    (hk : Tr c (St c e o R) (k fun i => e.q (r.idx i)) Q) : Tr c (St c e o R) (Prog.lift (.load qM r hl) >>= k) Q := by
  refine load_whole (V := e.q) (q := fullShare) (View.set_whole _) ?_ hk
  unfold St Ins
  iintro ⟨⟨⟨H0, H1, H2, H3, H4⟩, Ho⟩, HR⟩
  isplitl [H1]; · iexact H1
  iintro H1
  isplitr [HR]; · iframe
  iexact HR
theorem ld_k {r : LoadRect S2x256x4x64} {hl : kM.view.LoadsAt r} {k : (r.shape.Idx → Elt F .f32) → Pg F β}
    (hk : Tr c (St c e o R) (k fun i => e.k (r.idx i)) Q) : Tr c (St c e o R) (Prog.lift (.load kM r hl) >>= k) Q := by
  refine load_whole (V := e.k) (q := fullShare) (View.set_whole _) ?_ hk
  unfold St Ins
  iintro ⟨⟨⟨H0, H1, H2, H3, H4⟩, Ho⟩, HR⟩
  isplitl [H2]; · iexact H2
  iintro H2
  isplitr [HR]; · iframe
  iexact HR
theorem ld_v {r : LoadRect S2x256x4x64} {hl : vM.view.LoadsAt r} {k : (r.shape.Idx → Elt F .f32) → Pg F β}
    (hk : Tr c (St c e o R) (k fun i => e.v (r.idx i)) Q) : Tr c (St c e o R) (Prog.lift (.load vM r hl) >>= k) Q := by
  refine load_whole (V := e.v) (q := fullShare) (View.set_whole _) ?_ hk
  unfold St Ins
  iintro ⟨⟨⟨H0, H1, H2, H3, H4⟩, Ho⟩, HR⟩
  isplitl [H3]; · iexact H3
  iintro H3
  isplitr [HR]; · iframe
  iexact HR
theorem ld_w {r : LoadRect S256x512} {hl : wM.view.LoadsAt r} {k : (r.shape.Idx → Elt F .f32) → Pg F β}
    (hk : Tr c (St c e o R) (k fun i => e.w (r.idx i)) Q) : Tr c (St c e o R) (Prog.lift (.load wM r hl) >>= k) Q := by
  refine load_whole (V := e.w) (q := fullShare) (View.set_whole _) ?_ hk
  unfold St Ins
  iintro ⟨⟨⟨H0, H1, H2, H3, H4⟩, Ho⟩, HR⟩
  isplitl [H4]; · iexact H4
  iintro H4
  isplitr [HR]; · iframe
  iexact HR
/-- A load of the output buffer whose value is not used. -/
theorem ld_o {r : LoadRect S2x256x512} {hl : oM.view.LoadsAt r} {k : Pg F β}
    (hk : Tr c (St c e o R) k Q) : Tr c (St c e o R) (Prog.lift (.load oM r hl) >>= fun _ => k) Q := by
  refine load_whole (V := o) (q := fullShare) (View.set_whole _) ?_ hk
  unfold St
  iintro ⟨⟨HI, Ho⟩, HR⟩
  isplitl [Ho]; · iexact Ho
  iintro Ho
  isplitr [HR]; · iframe
  iexact HR
theorem st_o {r : Rect S2x256x512} {w : r.shape.Idx → Elt F .f32} {hx : (oM.access r).Stores Finset.univ}
    {hm : (Finset.univ : Finset r.shape.Idx) = Finset.univ ∨ ∀ a, r.stride a = 1} {k : Pg F β}
    (hk : Tr c (St c e ((oM.access r).write (Elt F) o w Finset.univ) R) k Q) :
    Tr c (St c e o R) (Prog.lift (.store oM r w Finset.univ hx hm) >>= fun _ => k) Q := by
  refine store_whole (V := o) ?_ hk
  unfold St
  iintro ⟨⟨HI, Ho⟩, HR⟩
  isplitl [Ho]; · iexact Ho
  iintro Ho
  isplitr [HR]; · iframe
  iexact HR

end Ops

/-! ## Events, as the program writes them -/

theorem credit_f (h p : ℕ) {inb : ∀ a, (![h, p, 0, 0] : Fin 4 → ℕ) a + S1x1x256x256.size a ≤ S5x4x256x256.size a} {hs} {hq} :
    ((fM.slice (Rect.unit (s := S5x4x256x256) ![h, p, 0, 0] S1x1x256x256.size inb) hs).squeeze S256x256 hq).view.dmaCredit = N := rfl
theorem credit_b (h p : ℕ) {inb : ∀ a, (![h, p, 0, 0] : Fin 4 → ℕ) a + S1x1x256x256.size a ≤ S4x4x256x256.size a} {hs} {hq} :
    ((bM.slice (Rect.unit (s := S4x4x256x256) ![h, p, 0, 0] S1x1x256x256.size inb) hs).squeeze S256x256 hq).view.dmaCredit = N := rfl

section Evs

variable {c : Dev nD} {R : sProp (MT nD τ sig Unit (Elt F) ℕ UU ℕ)} {β : Type}
  {Q : β → sProp (MT nD τ sig Unit (Elt F) ℕ UU ℕ)}
  (pc : Dev nD → Fin 4 → Piece F) (K : Dev nD × Option Cid → ℕ) {X : Slot → Piece F}
  (hX : ∀ s, (s.2.1.val = 0 ∨ rcv s c = true) → X s = dat pc s c)

/-- An event that the program makes on a condition. -/
theorem ev_if {n : ℕ} {i : Fin 3} {s : Slot} (hn : evs[n]? = some (i, s)) {cnd : Prop} [Decidable cnd]
    (hc : cnd ↔ (if i = 1 then rcv s c else act s c) = true) {k₁ : cnd → Pg F β} {k : Pg F β}
    (h : ∀ hh : cnd, (if i = 1 then rcv s c else act s c) = true → Tr c iprop(R ∗ T pc K c X (n + 1)) k Q → Tr c iprop(R ∗ T pc K c X n) (k₁ hh) Q)
    (hk : Tr c iprop(R ∗ T pc K c X (n + 1)) k Q) :
    Tr c iprop(R ∗ T pc K c X n) (dite cnd k₁ fun _ => k) Q := by
  by_cases hh : cnd
  · rw [dif_pos hh]; exact h hh (hc.mp hh) hk
  · rw [dif_neg hh]
    rw [T_skip pc K hn (Bool.eq_false_iff.mpr fun h' => hh (hc.mpr h'))] at hk
    exact hk

include hX

theorem ev_start {n : ℕ} {s : Slot} (hn : evs[n]? = some (0, s)) (ha : act s c = true)
    {t : Dev nD} (ht : t = nb s.1 c) {M₁ M₂ : Memref sig .tc .vmem S256x256 .f32} (h₁ : M₁ = sq s) (h₂ : M₂ = sq (up s))
    {s₁ s₂ : DmaSem sig} (e₁ : s₁ = csem (outC s)) (e₂ : s₂ = csem (inC (up s)))
    {hsc : (M₂ : Memref sig (Dev.tc t : Thread nD τ).2.kind .vmem S256x256 .f32).view.ref.isScScratch = false}
    {hsrc : M₁.view.WordExact} {hdst : M₂.view.WordExact}
    {hsem : DmaTarget.Typed .vmem (.dma s₂) (.remote (Dev.tc t : Thread nD τ) M₂ (.dma s₁) hsc)}
    {k : Pg F β} (hk : Tr c iprop(R ∗ T pc K c X (n + 1)) k Q) :
    Tr c iprop(R ∗ T pc K c X n)
      (Prog.lift (.enqueueDma M₁ (.remote (Dev.tc t : Thread nD τ) M₂ (.dma s₁) hsc) (.dma s₂) hsrc hdst hsem) >>= fun _ => k) Q := by
  simp only [Prog.lift, Prog.bind_op, Prog.bind_ret]
  exact start_core pc K hX hn ha ht h₁ h₂ e₁ e₂ hk

theorem ev_got {n : ℕ} {s : Slot} (hn : evs[n]? = some (1, s)) (ha : rcv s c = true)
    {M₁ M₂ : Memref sig .tc .vmem S256x256 .f32} (hM : M₂.view.dmaCredit = N) {s₁ : DmaSem sig} (e₁ : s₁ = csem (inC s))
    {hsrc : M₁.view.WordExact} {hdst : M₂.view.WordExact} {k : Pg F β} (hk : Tr c iprop(R ∗ T pc K c X (n + 1)) k Q) :
    Tr c iprop(R ∗ T pc K c X n) (Prog.lift (.waitDma2 s₁ M₁ M₂ hsrc hdst) >>= fun _ => k) Q := by
  simp only [Prog.lift, Prog.bind_op, Prog.bind_ret]
  exact got_core pc K hX hn ha hM e₁ hk

omit hX in
set_option maxRecDepth 100000 in
theorem act_early (s : Slot) (c : Dev nD) : act s c = true → at' (0, s) < 52 := by
  obtain ⟨d, h, p⟩ := s; revert d h p c; decide

theorem ev_done {n : ℕ} {s : Slot} (hn : evs[n]? = some (2, s)) (h52 : 52 ≤ n) (ha : act s c = true)
    {M₁ M₂ : Memref sig .tc .vmem S256x256 .f32} (hM : M₂.view.dmaCredit = N) {s₁ : DmaSem sig} (e₁ : s₁ = csem (outC s))
    {hsrc : M₁.view.WordExact} {hdst : M₂.view.WordExact} {k : Pg F β} (hk : Tr c iprop(R ∗ T pc K c X (n + 1)) k Q) :
    Tr c iprop(R ∗ T pc K c X n) (Prog.lift (.waitDma2 s₁ M₁ M₂ hsrc hdst) >>= fun _ => k) Q := by
  simp only [Prog.lift, Prog.bind_op, Prog.bind_ret]
  exact done_core pc K hX hn ha (owed_last c n fun s' h' => lt_of_lt_of_le (act_early s' c h') h52) hM e₁ hk

omit hX

/-- A slot that needs no more waiting for can be read. -/
theorem slot_acc {n : ℕ} (s : Slot) (h0 : ¬ (s.1 = true ∧ s.2.1.val = 0)) (hg : s.2.1.val = 0 ∨ at' (1, s) < n) :
    iprop(R ∗ T pc K c X n) ⊢ iprop(owns (c : Thread nD τ) (slc s) fullShare.left (X s)
      ∗ (owns (c : Thread nD τ) (slc s) fullShare.left (X s) -∗ iprop(R ∗ T pc K c X n))) := by
  have hP : P c X n s = iprop((owns (c : Thread nD τ) (slc s) fullShare.left (X s) ∗ (if sent c s n = true ∧ done c s n = false
      then cred (tallyAt (outCell c s) () N) else owns (c : Thread nD τ) (slc s) (qs s) (X s)))
      ∗ Tk c s (sent c s n) ∗ Po c s (done c s n) ∗ Pi c s (got c s n)) := by
    unfold P P' Mem Lf
    rw [if_neg, if_neg h0]
    rintro ⟨h1, h2⟩
    have h3 := rcv_pos s c h1
    unfold got at h2
    rw [h1, decide_eq_true (hg.resolve_left h3)] at h2; cases h2
  unfold T
  rw [univ_split s, hP]
  iintro ⟨HR, HE, Hb, Ho, ⟨⟨H, Hm⟩, Ht⟩, Hrest⟩
  isplitl [H]; · iexact H
  iintro H
  isplitl [HR]; · iexact HR
  isplitl [HE]; · iexact HE
  isplitl [Hb]; · iexact Hb
  isplitl [Ho]; · iexact Ho
  isplitr [Hrest]
  · isplitl [H Hm]
    · isplitl [H]; · iexact H
      iexact Hm
    iexact Ht
  iexact Hrest

/-- A load of a forward slot. -/
theorem ld_f {n : ℕ} (h p : ℕ) (hh : h < 5) (hp : p < 4)
    {m : ℕ} (hg : h = 0 ∨ evs[m]? = some (1, (false, ⟨h, hh⟩, ⟨p, hp⟩)) ∧ m < n)
    {inb : ∀ a, (![h, p, 0, 0] : Fin 4 → ℕ) a + S1x1x256x256.size a ≤ S5x4x256x256.size a}
    {hl : fM.view.LoadsAt (Rect.unit (s := S5x4x256x256) ![h, p, 0, 0] S1x1x256x256.size inb).toLoadRect}
    {k : Piece F → Pg F β} (hk : Tr c iprop(R ∗ T pc K c X n) (k (X (false, ⟨h, hh⟩, ⟨p, hp⟩))) Q) :
    Tr c iprop(R ∗ T pc K c X n)
      (Prog.lift (.load fM (Rect.unit (s := S5x4x256x256) ![h, p, 0, 0] S1x1x256x256.size inb).toLoadRect hl) >>= k) Q :=
  load_part (r := Rect.unit (s := S5x4x256x256) ![h, p, 0, 0] S1x1x256x256.size inb) (slc (false, ⟨h, hh⟩, ⟨p, hp⟩)) rfl
    (slot_acc pc K (false, ⟨h, hh⟩, ⟨p, hp⟩) (fun h => Bool.false_ne_true h.1)
      (hg.imp_right fun h => lt_of_eq_of_lt (at_of h.1) h.2)) hk

/-- A load of a backward slot. -/
theorem ld_b {n : ℕ} (h p : ℕ) (hh : h < 4) (hp : p < 4)
    {m : ℕ} (hg : evs[m]? = some (1, (true, ⟨h + 1, Nat.succ_lt_succ hh⟩, ⟨p, hp⟩)) ∧ m < n)
    {inb : ∀ a, (![h, p, 0, 0] : Fin 4 → ℕ) a + S1x1x256x256.size a ≤ S4x4x256x256.size a}
    {hl : bM.view.LoadsAt (Rect.unit (s := S4x4x256x256) ![h, p, 0, 0] S1x1x256x256.size inb).toLoadRect}
    {k : Piece F → Pg F β} (hk : Tr c iprop(R ∗ T pc K c X n) (k (X (true, ⟨h + 1, Nat.succ_lt_succ hh⟩, ⟨p, hp⟩))) Q) :
    Tr c iprop(R ∗ T pc K c X n)
      (Prog.lift (.load bM (Rect.unit (s := S4x4x256x256) ![h, p, 0, 0] S1x1x256x256.size inb).toLoadRect hl) >>= k) Q :=
  load_part (r := Rect.unit (s := S4x4x256x256) ![h, p, 0, 0] S1x1x256x256.size inb) (slc (true, ⟨h + 1, Nat.succ_lt_succ hh⟩, ⟨p, hp⟩)) rfl
    (slot_acc pc K (true, ⟨h + 1, Nat.succ_lt_succ hh⟩, ⟨p, hp⟩) (fun h => absurd h.2 (Nat.succ_ne_zero _))
      (Or.inr (lt_of_eq_of_lt (at_of hg.1) hg.2))) hk

end Evs

end Cert.RingProof

end
-- ==== Proof.Start.lean ====
/-
  The start of a run: the handshake with both neighbours, in which each hands the other the memory that the other fills, and the
  storing of the device's own pieces.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem big_mono {I : Type} [Fintype I] {Φ Ψ : I → sProp 𝕄} (h : ∀ i, Φ i ⊢ Ψ i) : bigSep Finset.univ Φ ⊢ bigSep Finset.univ Ψ :=
  bigSep_mono fun i _ => h i
theorem big_sep {I : Type} [Fintype I] {Φ Ψ : I → sProp 𝕄} :
    bigSep Finset.univ (fun i => iprop(Φ i ∗ Ψ i)) = iprop(bigSep Finset.univ Φ ∗ bigSep Finset.univ Ψ) := bigSep_sep' Finset.univ Φ Ψ
theorem big4 (Φ : Fin 4 → sProp 𝕄) : bigSep Finset.univ Φ = iprop(Φ 0 ∗ Φ 1 ∗ Φ 2 ∗ Φ 3) := bigSep_univ_eq_bigSepL [0, 1, 2, 3] (by decide) (by decide) Φ
theorem big5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem big_prod {I J : Type} [Fintype I] [Fintype J] [DecidableEq I] [DecidableEq J] (Φ : I × J → sProp 𝕄) :
    bigSep Finset.univ Φ = bigSep Finset.univ fun i => bigSep Finset.univ fun j => Φ (i, j) := bigSep_univ_prod Φ
theorem emp_add {A : sProp 𝕄} : A ⊢ iprop(emp ∗ A) := by
  iintro H; isplitr; · iempintro
  iexact H

section Start

variable (pc : Dev nD → Fin 4 → Piece F) (K : Dev nD × Option Cid → ℕ) (c : Dev nD) (X : Slot → Piece F)

/-- A slot's memory at some contents. -/
def anyS (s : Slot) : sProp 𝕄 := iprop(∃ Y : Piece F, owns (c : Thread nD τ) (slc s) fullShare Y)

/-- A slot's memory at launch. A slot that is filled from elsewhere comes with the credit of its arrival. -/
def MemA (s : Slot) : sProp 𝕄 :=
  if s.2.1.val = 0 then (if s.1 = true then iprop(emp) else anyS (F := F) c s)
  else if rcv s c = true then iprop(cred (tallyAt (inCell c s) () N) ∗ anyS (F := F) c s)
  else owns (c : Thread nD τ) (slc s) fullShare (X s)
/-- The same once the slots to be filled have been handed over, and `i` of the device's own pieces stored. -/
def MemB (i : ℕ) (s : Slot) : sProp 𝕄 :=
  if s.2.1.val = 0 then (if s.1 = true then iprop(emp)
    else if s.2.2.val < i then owns (c : Thread nD τ) (slc s) fullShare (X s) else anyS (F := F) c s)
  else if rcv s c = true then cred (tallyAt (inCell c s) () N)
  else owns (c : Thread nD τ) (slc s) fullShare (X s)
/-- The duties a slot's sending on needs. -/
def TkA (s : Slot) : sProp 𝕄 :=
  if act s c = true then iprop(dutyTok ER (outCell c s) 0 false ∗ dutyTok ER (inCell (nb s.1 c) (up s)) 0 false) else iprop(emp)

def ZA (s : Slot) : sProp 𝕄 := iprop(MemA c X s ∗ TkA c s ∗ Po c s false ∗ Pi c s false)
def ZB (i : ℕ) (s : Slot) : sProp 𝕄 := iprop(MemB c X i s ∗ Tk c s false ∗ Po c s false ∗ Pi c s false)

/-- The state at launch. -/
def TA : sProp 𝕄 :=
  iprop(Env pc K ∗ (atPos ER (barCell c) 0 ∅ 0 ∗ cred (tallyAt (barCell c) () 2)
      ∗ dutyTok ER (barCell (nb true c)) 0 false ∗ dutyTok ER (barCell (nb false c)) 0 true)
    ∗ (∃ W, owes (c : Thread nD τ) (O₀ c) W) ∗ bigSep Finset.univ (ZA c X))
/-- The state after the handshake, `i` pieces stored. -/
def TB (i : ℕ) : sProp 𝕄 :=
  iprop(Env pc K ∗ atPos ER (barCell c) 1 ∅ 0 ∗ (∃ W, owes (c : Thread nD τ) (owed c 0) W) ∗ bigSep Finset.univ (ZB c X i))

theorem split_dir (Φ : Slot → sProp 𝕄) :
    bigSep Finset.univ Φ = iprop((bigSep Finset.univ fun hp => Φ (false, hp)) ∗ (bigSep Finset.univ fun hp => Φ (true, hp))) := by
  rw [big_prod]; exact bigSep_univ_eq_bigSepL [false, true] (by decide) (by decide) _

/-- What the device hands over, of one direction. -/
def give (d : Bool) : sProp 𝕄 :=
  bigSep Finset.univ fun hp : Fin 5 × Fin 4 => if rcv (d, hp) c = true then anyS (F := F) c (d, hp) else iprop(emp)
/-- What it is handed. -/
def take (s : Slot) : sProp 𝕄 := if act s c = true then anyS (F := F) (nb s.1 c) (up s) else iprop(emp)
def ZC (s : Slot) : sProp 𝕄 := iprop(MemB c X 0 s ∗ TkA c s ∗ Po c s false ∗ Pi c s false)

theorem give_pay (d : Bool) : give (F := F) c d = barPay d (nb (!d) c) := by
  have h : nb d (nb (!d) c) = c := nb_nb' d c
  unfold give barPay anyS
  rw [h]

theorem ZA_split (s : Slot) : ZA c X s ⊢ iprop((if rcv s c = true then anyS (F := F) c s else iprop(emp)) ∗ ZC c X s) := by
  unfold ZA ZC MemA MemB
  by_cases h0 : s.2.1.val = 0
  · have hr : ¬ rcv s c = true := fun h => rcv_pos s c h h0
    rw [if_pos h0, if_pos h0, if_neg hr, if_neg (Nat.not_lt_zero _)]
    exact emp_add
  · rw [if_neg h0, if_neg h0]
    by_cases hr : rcv s c = true
    · rw [if_pos hr, if_pos hr, if_pos hr]
      iintro ⟨⟨H1, H2⟩, H3⟩
      isplitl [H2]; · iexact H2
      isplitl [H1]; · iexact H1
      iexact H3
    · rw [if_neg hr, if_neg hr, if_neg hr]
      exact emp_add

theorem give_all : bigSep Finset.univ (ZA c X) ⊢ iprop((give (F := F) c false ∗ give (F := F) c true) ∗ bigSep Finset.univ (ZC c X)) := by
  refine (big_mono fun s => ZA_split c X s).trans ?_
  rw [big_sep, split_dir (fun s => if rcv s c = true then anyS (F := F) c s else iprop(emp))]
  exact Entails.refl _

theorem take_dir (d : Bool) : barPay d c ⊢ (bigSep Finset.univ fun hp => take (F := F) c (d, hp) : sProp 𝕄) := by
  unfold barPay
  rw [big_prod, big_prod, big5, big5]
  have h (h₁ h₂ : Fin 5) (hh : h₁.val < 4) (hu : h₂ = ⟨min (h₁.val + 1) 4, by omega⟩) :
      (bigSep Finset.univ fun p : Fin 4 => if rcv (d, h₂, p) (nb d c) = true then iprop(∃ Y : Piece F, owns (nb d c : Thread nD τ) (slc (d, h₂, p)) fullShare Y) else iprop(emp))
        ⊢ (bigSep Finset.univ fun p : Fin 4 => take (F := F) c (d, h₁, p) : sProp 𝕄) := by
    refine big_mono fun p => ?_
    have hup : up (d, h₁, p) = (d, h₂, p) := by rw [hu]; rfl
    unfold take anyS
    by_cases ha : act (d, h₁, p) c = true
    · have hr := rcv_up (d, h₁, p) c ha
      rw [hup] at hr ⊢
      rw [if_pos ha, if_pos (show rcv (d, h₂, p) (nb d c) = true from hr)]
    · rw [if_neg ha]; iintro H; iclear H; iempintro
  have h4 : iprop(emp) ⊢ (bigSep Finset.univ fun p : Fin 4 => take (F := F) c (d, 4, p) : sProp 𝕄) := by
    rw [show (fun p : Fin 4 => take (F := F) c (d, 4, p)) = fun _ => iprop(emp) from funext fun p => by
      unfold take; rw [if_neg fun h => absurd (act_lt _ c h) (Nat.lt_irrefl 4)]]
    rw [big4]
    iintro -
    isplitr; · iempintro
    isplitr; · iempintro
    isplitr <;> iempintro
  iintro ⟨-, H1, H2, H3, H4⟩
  isplitl [H1]; · iapply (h 0 1 (by decide) rfl); iexact H1
  isplitl [H2]; · iapply (h 1 2 (by decide) rfl); iexact H2
  isplitl [H3]; · iapply (h 2 3 (by decide) rfl); iexact H3
  isplitl [H4]; · iapply (h 3 4 (by decide) rfl); iexact H4
  iapply h4; iempintro

theorem ZC_take (s : Slot) : iprop(ZC c X s ∗ take (F := F) c s) ⊢ ZB c X 0 s := by
  unfold ZC ZB TkA Tk take anyS
  by_cases ha : act s c = true
  · rw [if_pos ha, if_pos ha, if_pos ⟨ha, rfl⟩]
    iintro ⟨⟨HM, ⟨H1, H2⟩, HP⟩, HY⟩
    isplitl [HM]; · iexact HM
    isplitr [HP]
    · isplitl [H1]; · iexact H1
      isplitl [H2]; · iexact H2
      iexact HY
    iexact HP
  · rw [if_neg ha, if_neg ha, if_neg fun h => ha h.1]
    iintro ⟨H, -⟩; iexact H

theorem take_all : iprop(bigSep Finset.univ (ZC c X) ∗ barPay false c ∗ barPay true c) ⊢ bigSep Finset.univ (ZB c X 0) := by
  refine BIBase.Entails.trans ?_ (big_mono fun s => ZC_take c X s)
  rw [big_sep, split_dir (take (F := F) c)]
  iintro ⟨H, H1, H2⟩
  isplitl [H]; · iexact H
  isplitl [H1]; · iapply (take_dir (F := F) c false); iexact H1
  iapply (take_dir (F := F) c true); iexact H2

/-! ## The handshake -/

set_option maxHeartbeats 1000000 in
theorem ev_barrier {R : sProp (MT nD τ sig Unit (Elt F) ℕ UU ℕ)} {β : Type} {Q : β → sProp (MT nD τ sig Unit (Elt F) ℕ UU ℕ)}
    {t₁ t₂ : Dev nD} (h₁ : t₁ = nb true c) (h₂ : t₂ = nb false c) {b₁ b₂ b₃ : Sem sig} (e₁ : b₁ = barS) (e₂ : b₂ = barS) (e₃ : b₃ = barS)
    {k : Pg F β} (hk : Tr c iprop(R ∗ TB pc K c X 0) k Q) :
    Tr c iprop(R ∗ TA pc K c X)
      (semSignalWord t₁ b₁ 1#32 >>= fun _ => semSignalWord t₂ b₂ 1#32 >>= fun _ =>
        semWaitWord b₃ 2#32 >>= fun _ => k) Q := by
  subst h₁ h₂ e₁ e₂ e₃
  unfold Tr at *
  simp only [semSignalWord, semWaitWord, Prog.lift, Prog.bind_op, Prog.bind_ret]
  unfold TA
  iintro ⟨HR, #HE, ⟨Hb, Hc, Ht1, Ht2⟩, ⟨%W, Ho⟩, HZ⟩
  ihave HZ := (give_all c X) $$ HZ
  icases HZ with ⟨⟨Hg0, Hg1⟩, HZ⟩
  ihave Hg0 := (Entails.of_eq ((show give (F := F) c false = barPay false (nb true c) from give_pay c false).trans (payload_bar pc (nb true c) false).symm)) $$ Hg0
  ihave Hg1 := (Entails.of_eq ((show give (F := F) c true = barPay true (nb false c) from give_pay c true).trans (payload_bar pc (nb false c) true).symm)) $$ Hg1
  iapply (Rounds.wp_signal 𝒱₀ ER (Rd pc) (c : Thread nD τ) none (dst := (nb true c : Thread nD τ)) (κ := K (nb true c, none))
    (r := 0) (d := false) (by rw [duties_bar]; exact Finset.mem_univ _) (amount_bar pc _ _) () (O₁ c) rfl) $$ [Ho Hg0 Ht1]
  · isplitr; · iapply (Env_inv pc K (nb true c, none)); iexact HE
    isplitl [Ho]; · iexact Ho
    isplitl [Ht1]; · iexact Ht1
    isplitl [Hg0]; · iexact Hg0
    iapply (Env_reached pc K (nb true c, none)); iexact HE
  iintro Ho
  iapply (Rounds.wp_signal 𝒱₀ ER (Rd pc) (c : Thread nD τ) none (dst := (nb false c : Thread nD τ)) (κ := K (nb false c, none))
    (r := 0) (d := true) (by rw [duties_bar]; exact Finset.mem_univ _) (amount_bar pc _ _) () (owed c 0) rfl) $$ [Ho Hg1 Ht2]
  · isplitr; · iapply (Env_inv pc K (nb false c, none)); iexact HE
    isplitl [Ho]; · iexact Ho
    isplitl [Ht2]; · iexact Ht2
    isplitl [Hg1]; · iexact Hg1
    iapply (Env_reached pc K (nb false c, none)); iexact HE
  iintro Ho
  iapply (Rounds.wp_wait_rest_token 𝒱₀ ER (Rd pc) (c : Thread nD τ) none (κ := K (c, none))
      (wpE_semWait_eq 𝒱₀ (c : Thread nD τ) none Set.univ) (Set.mem_univ _) () (O := owed c 0) (W := W) (R := 0) (m := 0) (T := ∅)
      (by rw [expect_bar]; rfl)) $$ [Hc Ho Hb]
  · isplitr; · iapply (Env_inv pc K (c, none)); iexact HE
    isplitl [Hc]; · iexact Hc
    isplitl [Ho]; · iexact Ho
    isplitr; · iapply (mayWait_bar c); iapply (Env_lev pc K); iexact HE
    iexact Hb
  iintro ⟨Ho, Hb, -, Hpay⟩
  ihave Hp := (Entails.of_eq (rest_bar pc c)) $$ Hpay
  iapply hk
  unfold TB
  isplitl [HR]; · iexact HR
  isplitr; · iexact HE
  isplitl [Hb]; · iexact Hb
  isplitl [Ho]; · iexists _; iexact Ho
  iapply (take_all c X)
  isplitl [HZ]; · iexact HZ
  iexact Hp

/-! ## The device's own pieces -/

/-- A load, of a slot not yet filled, whose value is not used. -/
theorem ld_first {R : sProp (MT nD τ sig Unit (Elt F) ℕ UU ℕ)} {β : Type} {Q : β → sProp (MT nD τ sig Unit (Elt F) ℕ UU ℕ)} {i : ℕ}
    (p : ℕ) (hp : p < 4) (hip : i ≤ p)
    {inb : ∀ a, (![0, p, 0, 0] : Fin 4 → ℕ) a + S1x1x256x256.size a ≤ S5x4x256x256.size a}
    {hl : fM.view.LoadsAt (Rect.unit (s := S5x4x256x256) ![0, p, 0, 0] S1x1x256x256.size inb).toLoadRect}
    {k : Pg F β} (hk : Tr c iprop(R ∗ TB pc K c X i) k Q) :
    Tr c iprop(R ∗ TB pc K c X i)
      (Prog.lift (.load fM (Rect.unit (s := S5x4x256x256) ![0, p, 0, 0] S1x1x256x256.size inb).toLoadRect hl) >>= fun _ => k) Q := by
  have hP : ZB c X i (false, 0, ⟨p, hp⟩) = iprop(anyS (F := F) c (false, 0, ⟨p, hp⟩) ∗ Tk c (false, 0, ⟨p, hp⟩) false ∗ Po c (false, 0, ⟨p, hp⟩) false
      ∗ Pi c (false, 0, ⟨p, hp⟩) false) := by
    unfold ZB MemB
    rw [if_pos (by rfl), if_neg (by exact Bool.false_ne_true), if_neg (by exact Nat.not_lt.mpr hip)]
  have hY (Y : Piece F) : Tr c iprop(owns (c : Thread nD τ) (slc (false, 0, ⟨p, hp⟩)) fullShare Y
        ∗ (owns (c : Thread nD τ) (slc (false, 0, ⟨p, hp⟩)) fullShare Y -∗ iprop(R ∗ TB pc K c X i)))
      (Prog.lift (.load fM (Rect.unit (s := S5x4x256x256) ![0, p, 0, 0] S1x1x256x256.size inb).toLoadRect hl) >>= fun _ => k) Q := by
    refine load_part (r := Rect.unit (s := S5x4x256x256) ![0, p, 0, 0] S1x1x256x256.size inb) (slc (false, 0, ⟨p, hp⟩)) rfl (V := Y) (q := fullShare) ?_ ?_
    · iintro ⟨H, Hb⟩
      isplitl [H]; · iexact H
      iintro H
      isplitl [H]; · iexact H
      iexact Hb
    · refine tr_pre ?_ hk
      iintro ⟨H, Hb⟩
      iapply Hb; iexact H
  have hacc : iprop(R ∗ TB pc K c X i) ⊢ iprop(∃ Y : Piece F, owns (c : Thread nD τ) (slc (false, 0, ⟨p, hp⟩)) fullShare Y
        ∗ (owns (c : Thread nD τ) (slc (false, 0, ⟨p, hp⟩)) fullShare Y -∗ iprop(R ∗ TB pc K c X i))) := by
    unfold TB
    rw [univ_split (false, 0, ⟨p, hp⟩), hP]
    unfold anyS
    iintro ⟨HR, HE, Hb, Ho, ⟨⟨%Y, H⟩, Ht⟩, Hrest⟩
    iexists Y
    isplitl [H]; · iexact H
    iintro H
    isplitl [HR]; · iexact HR
    isplitl [HE]; · iexact HE
    isplitl [Hb]; · iexact Hb
    isplitl [Ho]; · iexact Ho
    isplitr [Hrest]
    · isplitl [H]; · iexists Y; iexact H
      iexact Ht
    iexact Hrest
  unfold Tr at *
  refine hacc.trans ?_
  iintro ⟨%Y, H⟩
  iapply (hY Y); iexact H

/-- The storing of a piece. -/
theorem st_first {R : sProp (MT nD τ sig Unit (Elt F) ℕ UU ℕ)} {β : Type} {Q : β → sProp (MT nD τ sig Unit (Elt F) ℕ UU ℕ)}
    (p : ℕ) (hp : p < 4)
    {inb : ∀ a, (![0, p, 0, 0] : Fin 4 → ℕ) a + S1x1x256x256.size a ≤ S5x4x256x256.size a} {w : Piece F} (hw : w = X (false, 0, ⟨p, hp⟩))
    {hx : (fM.access (Rect.unit (s := S5x4x256x256) ![0, p, 0, 0] S1x1x256x256.size inb)).Stores Finset.univ}
    {hm : (Finset.univ : Finset S1x1x256x256.Idx) = Finset.univ
      ∨ ∀ a, (Rect.unit (s := S5x4x256x256) ![0, p, 0, 0] S1x1x256x256.size inb).stride a = 1}
    {k : Pg F β} (hk : Tr c iprop(R ∗ TB pc K c X (p + 1)) k Q) :
    Tr c iprop(R ∗ TB pc K c X p)
      (Prog.lift (.store fM (Rect.unit (s := S5x4x256x256) ![0, p, 0, 0] S1x1x256x256.size inb) w Finset.univ hx hm) >>= fun _ => k) Q := by
  have hP : ZB c X p (false, 0, ⟨p, hp⟩) = iprop(anyS (F := F) c (false, 0, ⟨p, hp⟩) ∗ Tk c (false, 0, ⟨p, hp⟩) false ∗ Po c (false, 0, ⟨p, hp⟩) false
      ∗ Pi c (false, 0, ⟨p, hp⟩) false) := by
    unfold ZB MemB
    rw [if_pos (by rfl), if_neg (by exact Bool.false_ne_true), if_neg (by exact Nat.lt_irrefl p)]
  have hP' : ZB c X (p + 1) (false, 0, ⟨p, hp⟩) = iprop(owns (c : Thread nD τ) (slc (false, 0, ⟨p, hp⟩)) fullShare (X (false, 0, ⟨p, hp⟩))
      ∗ Tk c (false, 0, ⟨p, hp⟩) false ∗ Po c (false, 0, ⟨p, hp⟩) false ∗ Pi c (false, 0, ⟨p, hp⟩) false) := by
    unfold ZB MemB
    rw [if_pos (by rfl), if_neg (by exact Bool.false_ne_true), if_pos (by exact Nat.lt_succ_self p)]
  have hrest : bigSep (Finset.univ.erase (false, 0, ⟨p, hp⟩)) (ZB c X (p + 1)) = bigSep (Finset.univ.erase (false, 0, ⟨p, hp⟩)) (ZB c X p) := by
    refine bigSep_congr fun s hs => ?_
    unfold ZB MemB
    by_cases h0 : s.2.1.val = 0
    · by_cases hd : s.1 = true
      · rw [if_pos h0, if_pos hd, if_pos h0, if_pos hd]
      · have hne : s.2.2.val ≠ p := fun h => Finset.ne_of_mem_erase hs
          (Prod.ext (by simpa using hd) (Prod.ext (Fin.ext h0) (Fin.ext h)))
        rw [if_pos h0, if_neg hd, if_pos h0, if_neg hd]
        by_cases hlt : s.2.2.val < p
        · rw [if_pos hlt, if_pos (by omega)]
        · rw [if_neg hlt, if_neg (by omega)]
    · rw [if_neg h0, if_neg h0]
  refine store_part (r := Rect.unit (s := S5x4x256x256) ![0, p, 0, 0] S1x1x256x256.size inb) (slc (false, 0, ⟨p, hp⟩)) rfl ?_ hk
  unfold TB
  rw [univ_split (false, 0, ⟨p, hp⟩), hP, univ_split (false, 0, ⟨p, hp⟩), hP', hrest, hw]
  unfold anyS
  iintro ⟨HR, HE, Hb, Ho, ⟨HY, Ht⟩, Hrest⟩
  isplitl [HY]; · iexact HY
  iintro H
  isplitl [HR]; · iexact HR
  isplitl [HE]; · iexact HE
  isplitl [Hb]; · iexact Hb
  isplitl [Ho]; · iexact Ho
  isplitr [Hrest]
  · isplitl [H]; · iexact H
    iexact Ht
  iexact Hrest

variable {c X}

theorem first_pair (hX : ∀ s, (s.2.1.val = 0 ∨ rcv s c = true) → X s = dat pc s c) (p : Fin 4) :
    iprop(ZB c X 4 (false, 0, p) ∗ ZB c X 4 (true, 0, p)) ⊢ iprop(P c X 0 (false, 0, p) ∗ P c X 0 (true, 0, p)) := by
  have hXe : X (true, 0, p) = X (false, 0, p) := by
    rw [hX _ (Or.inl rfl), hX _ (Or.inl rfl)]
    unfold dat
    rw [org_zero (true, 0, p) c rfl, org_zero (false, 0, p) c rfl]
  have hs : slc (true, 0, p) = slc (false, 0, p) := rfl
  have hr : ∀ d, ¬ (rcv (d, 0, p) c = true ∧ false = false) := fun d h => rcv_pos (d, 0, p) c h.1 rfl
  have hP (d : Bool) : P c X 0 (d, 0, p) = P' c X (d, 0, p) false false false := by
    unfold P sent done got
    rw [decide_eq_false (Nat.not_lt_zero _), decide_eq_false (Nat.not_lt_zero _), decide_eq_false (Nat.not_lt_zero _), Bool.and_false, Bool.and_false]
  rw [hP, hP]
  have hA0 : MemB c X 4 (false, 0, p) = owns (c : Thread nD τ) (slc (false, 0, p)) fullShare (X (false, 0, p)) :=
    (if_pos (show (0 : Fin 5).val = 0 from rfl)).trans ((if_neg Bool.false_ne_true).trans (if_pos p.isLt))
  have hA1 : MemB c X 4 (true, 0, p) = (iprop(emp) : sProp 𝕄) := (if_pos (show (0 : Fin 5).val = 0 from rfl)).trans (if_pos rfl)
  have hM0 : Mem c X (false, 0, p) false false false = iprop(owns (c : Thread nD τ) (slc (false, 0, p)) fullShare.left (X (false, 0, p))
      ∗ owns (c : Thread nD τ) (slc (false, 0, p)) (qs (false, 0, p)) (X (false, 0, p))) := by
    unfold Mem Lf
    rw [if_neg (hr false), if_neg (fun h => Bool.false_ne_true h.1), if_neg (fun h => Bool.false_ne_true h.1)]
  have hM1 : Mem c X (true, 0, p) false false false = iprop(emp ∗ owns (c : Thread nD τ) (slc (true, 0, p)) (qs (true, 0, p)) (X (true, 0, p))) := by
    unfold Mem Lf
    rw [if_neg (hr true), if_pos (show (true, (0 : Fin 5), p).1 = true ∧ (true, (0 : Fin 5), p).2.1.val = 0 from ⟨rfl, rfl⟩), if_neg (fun h => Bool.false_ne_true h.1)]
  unfold P' ZB
  rw [hA0, hA1, hM0, hM1]
  have hq0 : qs (false, 0, p) = fullShare.right.left := rfl
  have hq1 : qs (true, 0, p) = fullShare.right.right := rfl
  rw [hXe, hs, hq0, hq1]
  iintro ⟨⟨H, HA⟩, ⟨-, HB⟩⟩
  ihave H := (owns_halves (c := (c : Thread nD τ)) (m := slc (false, 0, p)) (q := fullShare) (X (false, 0, p))).1 $$ H
  icases H with ⟨H1, H⟩
  ihave H := (owns_halves (c := (c : Thread nD τ)) (m := slc (false, 0, p)) (q := fullShare.right) (X (false, 0, p))).1 $$ H
  icases H with ⟨H2, H3⟩
  isplitl [H1 H2 HA]
  · isplitl [H1 H2]
    · isplitl [H1]; · iexact H1
      iexact H2
    iexact HA
  isplitl [H3]
  · isplitr; · iempintro
    iexact H3
  iexact HB

theorem later_one (s : Slot) (h0 : s.2.1.val ≠ 0) : ZB c X 4 s ⊢ P c X 0 s := by
  have hP : P c X 0 s = P' c X s false false false := by
    unfold P sent done got
    rw [decide_eq_false (Nat.not_lt_zero _), decide_eq_false (Nat.not_lt_zero _), decide_eq_false (Nat.not_lt_zero _), Bool.and_false, Bool.and_false]
  rw [hP]
  unfold P' Mem ZB MemB Lf
  rw [if_neg h0]
  by_cases hr : rcv s c = true
  · rw [if_pos hr, if_pos ⟨hr, rfl⟩]
  · rw [if_neg hr, if_neg (fun h => hr h.1), if_neg (fun h => h0 h.2), if_neg (by simp), show qs s = fullShare.right from if_neg h0]
    iintro ⟨H, HA⟩
    ihave H := (owns_halves (c := (c : Thread nD τ)) (m := slc s) (q := fullShare) (X s)).1 $$ H
    isplitl [H]; · iexact H
    iexact HA

/-- All pieces stored, the events begin. -/
theorem TB_T (hX : ∀ s, (s.2.1.val = 0 ∨ rcv s c = true) → X s = dat pc s c) : TB pc K c X 4 ⊢ T pc K c X 0 := by
  have h : bigSep Finset.univ (ZB c X 4) ⊢ bigSep Finset.univ (P c X 0) := by
    rw [split_dir, split_dir, ← big_sep, ← big_sep]
    refine big_mono fun hp => ?_
    obtain ⟨h, p⟩ := hp
    by_cases h0 : h = 0
    · subst h0; exact first_pair pc hX p
    · have h1 : h.val ≠ 0 := fun h' => h0 (Fin.ext h')
      iintro ⟨H1, H2⟩
      isplitl [H1]
      · iapply (later_one (false, h, p) h1); iexact H1
      · iapply (later_one (true, h, p) h1); iexact H2
  unfold T TB
  iintro ⟨HE, Hb, Ho, H⟩
  isplitl [HE]; · iexact HE
  isplitl [Hb]; · iexact Hb
  isplitl [Ho]; · iexact Ho
  iapply h; iexact H

end Start

end Cert.RingProof

end
-- ==== Proof.Values.lean ====
/-
  The values that a run computes, from the device `c`, its operands `e` and the contents `X` of its slots. Each has the name that
  the program gives it: a word is a function of the device alone.
-/
module

public import proofs.«01_k».proof.Proof.Start

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

def v13 (c : Dev nD) (e : In F) (X : Slot → Piece F) : Vec F S1x256x4x64 .f32 := fun i => e.k ((Rect.unit (s := S2x256x4x64) ![0, 0, 0, 0] S1x256x4x64.size inb_S2x256x4x64_S1x256x4x64_0_0_0_0).toLoadRect.idx i)
def v19 (c : Dev nD) (e : In F) (X : Slot → Piece F) : Vec F S1x256x4x64 .f32 := fun i => e.v ((Rect.unit (s := S2x256x4x64) ![0, 0, 0, 0] S1x256x4x64.size inb_S2x256x4x64_S1x256x4x64_0_0_0_0).toLoadRect.idx i)
def v0 (c : Dev nD) : BitVec 32 := Dev.word c
def v1 (c : Dev nD) : BitVec 32 := Scalar.divsi (v0 c) 1#32
def v2 (c : Dev nD) : BitVec 32 := Scalar.remsi (v1 c) 8#32
def v3 (c : Dev nD) : BitVec 32 := Scalar.addi (v2 c) 8#32
def v4 (c : Dev nD) : BitVec 32 := Scalar.subi (v3 c) 1#32
def v5 (c : Dev nD) : BitVec 32 := Scalar.remsi (v4 c) 8#32
def v6 (c : Dev nD) : BitVec 32 := Scalar.addi (v2 c) 1#32
def v7 (c : Dev nD) : BitVec 32 := Scalar.remsi (v6 c) 8#32
def v21 (c : Dev nD) (e : In F) (X : Slot → Piece F) : FVec F S256x256 .f32 := k0_pay3 (v19 c e X)
def v25 (c : Dev nD) (e : In F) (X : Slot → Piece F) : Vec F S1x256x4x64 .f32 := fun i => e.k ((Rect.unit (s := S2x256x4x64) ![1, 0, 0, 0] S1x256x4x64.size inb_S2x256x4x64_S1x256x4x64_1_0_0_0).toLoadRect.idx i)
def v31 (c : Dev nD) (e : In F) (X : Slot → Piece F) : Vec F S1x256x4x64 .f32 := fun i => e.v ((Rect.unit (s := S2x256x4x64) ![1, 0, 0, 0] S1x256x4x64.size inb_S2x256x4x64_S1x256x4x64_1_0_0_0).toLoadRect.idx i)
def v42 (c : Dev nD) : BitVec 32 := Scalar.addi (v2 c) 0#32
def v43 (c : Dev nD) : BitVec 32 := Scalar.remsi (v42 c) 8#32
def v44 (c : Dev nD) : BitVec 1 := Scalar.cmpi .sle (v43 c) 2#32
def v45 (c : Dev nD) : BitVec 32 := Scalar.extui (v44 c)
def c0_i32_94 (c : Dev nD) : BitVec 32 := 0#32
def v77 (c : Dev nD) (e : In F) (X : Slot → Piece F) : Vec F S1x256x512 .f32 := fun i => e.x ((Rect.unit (s := S2x256x512) ![0, 0, 0] S1x256x512.size inb_S2x256x512_S1x256x512_0_0_0).toLoadRect.idx i)
def v79 (c : Dev nD) (e : In F) (X : Slot → Piece F) : Vec F S512x256 .f32 := fun i => e.q ((Rect.unit (s := S512x256) ![0, 0] S512x256.size inb_S512x256_S512x256_0_0).toLoadRect.idx i)
def v78 (c : Dev nD) (e : In F) (X : Slot → Piece F) : FVec F S256x512 .f32 := k0_pay7 (v77 c e X)
def v84 (c : Dev nD) (e : In F) (X : Slot → Piece F) : Vec F S1x256x512 .f32 := fun i => e.x ((Rect.unit (s := S2x256x512) ![1, 0, 0] S1x256x512.size inb_S2x256x512_S1x256x512_1_0_0).toLoadRect.idx i)
def v86 (c : Dev nD) (e : In F) (X : Slot → Piece F) : Vec F S512x256 .f32 := fun i => e.q ((Rect.unit (s := S512x256) ![0, 0] S512x256.size inb_S512x256_S512x256_0_0).toLoadRect.idx i)
def v116 (c : Dev nD) (e : In F) (X : Slot → Piece F) : IVec S256x256 32 := iota .tc S256x256 32 [1] iota_S256x256_d1_w32
def v83 (c : Dev nD) (e : In F) (X : Slot → Piece F) : FVec F S256x256 .f32 := k0_pay8 (v78 c e X) (v79 c e X)
def v90 (c : Dev nD) (e : In F) (X : Slot → Piece F) : FVec F S256x256 .f32 := k0_pay9 (v84 c e X) (v86 c e X)
def v115 (c : Dev nD) (e : In F) (X : Slot → Piece F) : IVec S256x256 32 := k0_pay10
def c64_i32_147 (c : Dev nD) : BitVec 32 := 64#32
def v118 (c : Dev nD) (e : In F) (X : Slot → Piece F) : IVec S256x256 32 := k0_pay11
def v121 (c : Dev nD) (e : In F) (X : Slot → Piece F) : IVec S256x256 32 := k0_pay12
def v140 (c : Dev nD) (e : In F) (X : Slot → Piece F) : IVec S256x256 32 := k0_pay13 (v116 c e X) (c64_i32_147 c) (v118 c e X) (v121 c e X)
def v141 (c : Dev nD) (e : In F) (X : Slot → Piece F) : FVec F S256x1 .f32 := k0_pay14 (F := F)
def v142 (c : Dev nD) (e : In F) (X : Slot → Piece F) : FVec F S256x1 .f32 := k0_pay15 (F := F)
def v143 (c : Dev nD) (e : In F) (X : Slot → Piece F) : FVec F S256x1 .f32 := k0_pay16 (F := F)
def v144 (c : Dev nD) (e : In F) (X : Slot → Piece F) : FVec F S256x1 .f32 := k0_pay17 (F := F)
def v145 (c : Dev nD) (e : In F) (X : Slot → Piece F) : FVec F S256x1 .f32 := k0_pay18 (F := F)
def v146 (c : Dev nD) (e : In F) (X : Slot → Piece F) : FVec F S256x1 .f32 := k0_pay19 (F := F)
def v147 (c : Dev nD) (e : In F) (X : Slot → Piece F) : FVec F S256x1 .f32 := k0_pay20 (F := F)
def v148 (c : Dev nD) (e : In F) (X : Slot → Piece F) : FVec F S256x1 .f32 := k0_pay21 (F := F)
def v149 (c : Dev nD) (e : In F) (X : Slot → Piece F) : FVec F S256x1 .f32 := k0_pay22 (F := F)
def v150 (c : Dev nD) (e : In F) (X : Slot → Piece F) : FVec F S256x1 .f32 := k0_pay23 (F := F)
def v151 (c : Dev nD) (e : In F) (X : Slot → Piece F) : FVec F S256x1 .f32 := k0_pay24 (F := F)
def v152 (c : Dev nD) (e : In F) (X : Slot → Piece F) : FVec F S256x1 .f32 := k0_pay25 (F := F)
def v153 (c : Dev nD) (e : In F) (X : Slot → Piece F) : FVec F S256x1 .f32 := k0_pay26 (F := F)
def v154 (c : Dev nD) (e : In F) (X : Slot → Piece F) : FVec F S256x1 .f32 := k0_pay27 (F := F)
def v155 (c : Dev nD) (e : In F) (X : Slot → Piece F) : FVec F S256x1 .f32 := k0_pay28 (F := F)
def v156 (c : Dev nD) (e : In F) (X : Slot → Piece F) : FVec F S256x1 .f32 := k0_pay29 (F := F)
def v157 (c : Dev nD) (e : In F) (X : Slot → Piece F) : FVec F S256x64 .f32 := k0_pay30 (F := F)
def v158 (c : Dev nD) (e : In F) (X : Slot → Piece F) : FVec F S256x64 .f32 := k0_pay31 (F := F)
def v172 (c : Dev nD) (e : In F) (X : Slot → Piece F) : Vec F S1x1x256x256 .f32 := X (false, 0, 0)
def v174 (c : Dev nD) (e : In F) (X : Slot → Piece F) : Vec F S1x1x256x256 .f32 := X (false, 0, 1)
def v159 (c : Dev nD) (e : In F) (X : Slot → Piece F) : FVec F S256x64 .f32 := k0_pay32 (F := F)
def v160 (c : Dev nD) (e : In F) (X : Slot → Piece F) : FVec F S256x64 .f32 := k0_pay33 (F := F)
def v161 (c : Dev nD) (e : In F) (X : Slot → Piece F) : FVec F S256x64 .f32 := k0_pay34 (F := F)
def v162 (c : Dev nD) (e : In F) (X : Slot → Piece F) : FVec F S256x64 .f32 := k0_pay35 (F := F)
def v163 (c : Dev nD) (e : In F) (X : Slot → Piece F) : FVec F S256x64 .f32 := k0_pay36 (F := F)
def v164 (c : Dev nD) (e : In F) (X : Slot → Piece F) : FVec F S256x64 .f32 := k0_pay37 (F := F)
def v171 (c : Dev nD) (e : In F) (X : Slot → Piece F) : IVec S256x256 1 := k0_pay38 (v2 c) (v115 c e X) (v140 c e X)
def v173 (c : Dev nD) (e : In F) (X : Slot → Piece F) : FVec F S256x256 .f32 := k0_pay39 (v172 c e X)
def v175 (c : Dev nD) (e : In F) (X : Slot → Piece F) : FVec F S256x256 .f32 := k0_pay40 (v174 c e X)
def v184 (c : Dev nD) (e : In F) (X : Slot → Piece F) : FVec F S256x1 .f32 := k0_pay42 (v2 c) (v83 c e X) (v115 c e X) (v140 c e X) (v141 c e X) (v172 c e X)
def v193 (c : Dev nD) (e : In F) (X : Slot → Piece F) : FVec F S256x1 .f32 := k0_pay45 (v2 c) (v83 c e X) (v115 c e X) (v140 c e X) (v141 c e X) (v149 c e X) (v172 c e X)
def v197 (c : Dev nD) (e : In F) (X : Slot → Piece F) : FVec F S256x64 .f32 := k0_pay46 (v2 c) (v83 c e X) (v115 c e X) (v140 c e X) (v141 c e X) (v157 c e X) (v172 c e X) (v174 c e X)
def cst_203 (c : Dev nD) (e : In F) (X : Slot → Piece F) : F .f32 := Named.named κ "mask" 0xCE6E6B28#32
def v206 (c : Dev nD) (e : In F) (X : Slot → Piece F) : FVec F S256x1 .f32 := k0_pay48 (v83 c e X) (v142 c e X) (v171 c e X) (v173 c e X)
def v215 (c : Dev nD) (e : In F) (X : Slot → Piece F) : FVec F S256x1 .f32 := k0_pay51 (v83 c e X) (v142 c e X) (v150 c e X) (v171 c e X) (v173 c e X)
def v219 (c : Dev nD) (e : In F) (X : Slot → Piece F) : FVec F S256x64 .f32 := k0_pay52 (v83 c e X) (v142 c e X) (v158 c e X) (v171 c e X) (v173 c e X) (v175 c e X)
def v228 (c : Dev nD) (e : In F) (X : Slot → Piece F) : FVec F S256x1 .f32 := k0_pay54 (v83 c e X) (v143 c e X) (v171 c e X) (v173 c e X)
def v237 (c : Dev nD) (e : In F) (X : Slot → Piece F) : FVec F S256x1 .f32 := k0_pay57 (v83 c e X) (v143 c e X) (v151 c e X) (v171 c e X) (v173 c e X)
def v241 (c : Dev nD) (e : In F) (X : Slot → Piece F) : FVec F S256x64 .f32 := k0_pay58 (v83 c e X) (v143 c e X) (v159 c e X) (v171 c e X) (v173 c e X) (v175 c e X)
def v243 (c : Dev nD) (e : In F) (X : Slot → Piece F) : FVec F S256x64 .f32 := k0_pay59 (v175 c e X)
def v245 (c : Dev nD) (e : In F) (X : Slot → Piece F) : FVec F S256x256 .f32 := k0_pay60 (v83 c e X) (v173 c e X)
def v264 (c : Dev nD) (e : In F) (X : Slot → Piece F) : Vec F S1x1x256x256 .f32 := X (false, 0, 2)
def v266 (c : Dev nD) (e : In F) (X : Slot → Piece F) : Vec F S1x1x256x256 .f32 := X (false, 0, 3)
def v250 (c : Dev nD) (e : In F) (X : Slot → Piece F) : FVec F S256x1 .f32 := k0_pay62 (v144 c e X) (v171 c e X) (v245 c e X) (cst_203 c e X)
def v259 (c : Dev nD) (e : In F) (X : Slot → Piece F) : FVec F S256x1 .f32 := k0_pay65 (v144 c e X) (v152 c e X) (v171 c e X) (v245 c e X) (cst_203 c e X)
def v263 (c : Dev nD) (e : In F) (X : Slot → Piece F) : FVec F S256x64 .f32 := k0_pay66 (v144 c e X) (v160 c e X) (v171 c e X) (v243 c e X) (v245 c e X) (cst_203 c e X)
def v265 (c : Dev nD) (e : In F) (X : Slot → Piece F) : FVec F S256x256 .f32 := k0_pay67 (v264 c e X)
def v267 (c : Dev nD) (e : In F) (X : Slot → Piece F) : FVec F S256x256 .f32 := k0_pay68 (v266 c e X)
def v276 (c : Dev nD) (e : In F) (X : Slot → Piece F) : FVec F S256x1 .f32 := k0_pay70 (v90 c e X) (v145 c e X) (v171 c e X) (v264 c e X)
def v285 (c : Dev nD) (e : In F) (X : Slot → Piece F) : FVec F S256x1 .f32 := k0_pay73 (v90 c e X) (v145 c e X) (v153 c e X) (v171 c e X) (v264 c e X)
def v289 (c : Dev nD) (e : In F) (X : Slot → Piece F) : FVec F S256x64 .f32 := k0_pay74 (v90 c e X) (v145 c e X) (v161 c e X) (v171 c e X) (v264 c e X) (v266 c e X)
def cst_231 (c : Dev nD) (e : In F) (X : Slot → Piece F) : F .f32 := Named.named κ "mask" 0xCE6E6B28#32
def v298 (c : Dev nD) (e : In F) (X : Slot → Piece F) : FVec F S256x1 .f32 := k0_pay76 (v90 c e X) (v146 c e X) (v171 c e X) (v265 c e X)
def v307 (c : Dev nD) (e : In F) (X : Slot → Piece F) : FVec F S256x1 .f32 := k0_pay79 (v90 c e X) (v146 c e X) (v154 c e X) (v171 c e X) (v265 c e X)
def v311 (c : Dev nD) (e : In F) (X : Slot → Piece F) : FVec F S256x64 .f32 := k0_pay80 (v90 c e X) (v146 c e X) (v162 c e X) (v171 c e X) (v265 c e X) (v267 c e X)
def v320 (c : Dev nD) (e : In F) (X : Slot → Piece F) : FVec F S256x1 .f32 := k0_pay82 (v90 c e X) (v147 c e X) (v171 c e X) (v265 c e X)
def v329 (c : Dev nD) (e : In F) (X : Slot → Piece F) : FVec F S256x1 .f32 := k0_pay85 (v90 c e X) (v147 c e X) (v155 c e X) (v171 c e X) (v265 c e X)
def v333 (c : Dev nD) (e : In F) (X : Slot → Piece F) : FVec F S256x64 .f32 := k0_pay86 (v90 c e X) (v147 c e X) (v163 c e X) (v171 c e X) (v265 c e X) (v267 c e X)
def v335 (c : Dev nD) (e : In F) (X : Slot → Piece F) : FVec F S256x64 .f32 := k0_pay87 (v267 c e X)
def v337 (c : Dev nD) (e : In F) (X : Slot → Piece F) : FVec F S256x256 .f32 := k0_pay88 (v90 c e X) (v265 c e X)
def v356 (c : Dev nD) : BitVec 1 := Scalar.cmpi .sgt (v2 c) 0#32
def v357 (c : Dev nD) : BitVec 32 := Scalar.extui (v356 c)
def v358 (c : Dev nD) : BitVec 1 := Scalar.cmpi .ne (v357 c) 0#32
def v364 (c : Dev nD) : BitVec 1 := Scalar.cmpi .sgt (v2 c) 0#32
def v365 (c : Dev nD) : BitVec 32 := Scalar.extui (v364 c)
def v342 (c : Dev nD) (e : In F) (X : Slot → Piece F) : FVec F S256x1 .f32 := k0_pay90 (v148 c e X) (v171 c e X) (v337 c e X) (cst_231 c e X)
def v351 (c : Dev nD) (e : In F) (X : Slot → Piece F) : FVec F S256x1 .f32 := k0_pay93 (v148 c e X) (v156 c e X) (v171 c e X) (v337 c e X) (cst_231 c e X)
def v355 (c : Dev nD) (e : In F) (X : Slot → Piece F) : FVec F S256x64 .f32 := k0_pay94 (v148 c e X) (v164 c e X) (v171 c e X) (v335 c e X) (v337 c e X) (cst_231 c e X)
def v366 (c : Dev nD) : BitVec 1 := Scalar.cmpi .ne (v365 c) 0#32
def v372 (c : Dev nD) : BitVec 32 := Scalar.addi (v2 c) 0#32
def v373 (c : Dev nD) : BitVec 32 := Scalar.addi (v372 c) 1#32
def v374 (c : Dev nD) : BitVec 32 := Scalar.remsi (v373 c) 8#32
def v375 (c : Dev nD) : BitVec 1 := Scalar.cmpi .sle (v374 c) 2#32
def v376 (c : Dev nD) : BitVec 32 := Scalar.extui (v375 c)
def v377 (c : Dev nD) : BitVec 1 := Scalar.cmpi .ne (v376 c) 0#32
def v383 (c : Dev nD) : BitVec 32 := Scalar.addi (v2 c) 0#32
def v384 (c : Dev nD) : BitVec 32 := Scalar.addi (v383 c) 1#32
def v385 (c : Dev nD) : BitVec 32 := Scalar.remsi (v384 c) 8#32
def v386 (c : Dev nD) : BitVec 1 := Scalar.cmpi .sle (v385 c) 2#32
def v387 (c : Dev nD) : BitVec 32 := Scalar.extui (v386 c)
def v388 (c : Dev nD) : BitVec 1 := Scalar.cmpi .ne (v387 c) 0#32
def v394 (c : Dev nD) : BitVec 1 := Scalar.cmpi .sgt (v2 c) 0#32
def v395 (c : Dev nD) : BitVec 32 := Scalar.extui (v394 c)
def v396 (c : Dev nD) : BitVec 1 := Scalar.cmpi .ne (v395 c) 0#32
def v397 (c : Dev nD) : BitVec 1 := Scalar.cmpi .slt (v2 c) 7#32
def v398 (c : Dev nD) : BitVec 1 := Scalar.cmpi .sge (v2 c) 1#32
def v399 (c : Dev nD) : BitVec 1 := Scalar.andi (v397 c) (v398 c)
def v400 (c : Dev nD) : BitVec 32 := Scalar.extui (v399 c)
def v402 (c : Dev nD) : BitVec 1 := Scalar.cmpi .sgt (v2 c) 0#32
def v403 (c : Dev nD) : BitVec 32 := Scalar.extui (v402 c)
def v404 (c : Dev nD) : BitVec 1 := Scalar.cmpi .ne (v403 c) 0#32
def v410 (c : Dev nD) : BitVec 32 := Scalar.addi (v2 c) 0#32
def v411 (c : Dev nD) : BitVec 32 := Scalar.addi (v410 c) 1#32
def v412 (c : Dev nD) : BitVec 32 := Scalar.remsi (v411 c) 8#32
def v413 (c : Dev nD) : BitVec 1 := Scalar.cmpi .sle (v412 c) 3#32
def v414 (c : Dev nD) : BitVec 32 := Scalar.extui (v413 c)
def v415 (c : Dev nD) : BitVec 1 := Scalar.cmpi .ne (v414 c) 0#32
def v421 (c : Dev nD) : BitVec 32 := Scalar.addi (v2 c) 0#32
def v422 (c : Dev nD) : BitVec 32 := Scalar.addi (v421 c) 1#32
def v423 (c : Dev nD) : BitVec 32 := Scalar.remsi (v422 c) 8#32
def v424 (c : Dev nD) : BitVec 1 := Scalar.cmpi .sle (v423 c) 3#32
def v425 (c : Dev nD) : BitVec 32 := Scalar.extui (v424 c)
def v426 (c : Dev nD) : BitVec 1 := Scalar.cmpi .ne (v425 c) 0#32
def v432 (c : Dev nD) : BitVec 32 := Scalar.subi (v2 c) 0#32
def c1_i32_420 (c : Dev nD) : BitVec 32 := 1#32
def v443 (c : Dev nD) (e : In F) (X : Slot → Piece F) : Vec F S1x1x256x256 .f32 := X (false, 1, 0)
def v445 (c : Dev nD) (e : In F) (X : Slot → Piece F) : Vec F S1x1x256x256 .f32 := X (false, 1, 1)
def v442 (c : Dev nD) (e : In F) (X : Slot → Piece F) : IVec S256x256 1 := k0_pay95 (v2 c) (v115 c e X) (v140 c e X) (v432 c) (c1_i32_420 c)
def v444 (c : Dev nD) (e : In F) (X : Slot → Piece F) : FVec F S256x256 .f32 := k0_pay96 (v443 c e X)
def v446 (c : Dev nD) (e : In F) (X : Slot → Piece F) : FVec F S256x256 .f32 := k0_pay97 (v445 c e X)
def v455 (c : Dev nD) (e : In F) (X : Slot → Piece F) : FVec F S256x1 .f32 := k0_pay99 (v2 c) (v83 c e X) (v115 c e X) (v140 c e X) (v184 c e X) (v432 c) (c1_i32_420 c) (v443 c e X)
def v464 (c : Dev nD) (e : In F) (X : Slot → Piece F) : FVec F S256x1 .f32 := k0_pay102 (v2 c) (v83 c e X) (v115 c e X) (v140 c e X) (v184 c e X) (v193 c e X) (v432 c) (c1_i32_420 c) (v443 c e X)
def v468 (c : Dev nD) (e : In F) (X : Slot → Piece F) : FVec F S256x64 .f32 := k0_pay103 (v2 c) (v83 c e X) (v115 c e X) (v140 c e X) (v184 c e X) (v197 c e X) (v432 c) (c1_i32_420 c) (v443 c e X) (v445 c e X)
def v470 (c : Dev nD) (e : In F) (X : Slot → Piece F) : FVec F S256x64 .f32 := k0_pay104 (v445 c e X)
def v472 (c : Dev nD) (e : In F) (X : Slot → Piece F) : FVec F S256x256 .f32 := k0_pay105 (v83 c e X) (v443 c e X)
def v473 (c : Dev nD) (e : In F) (X : Slot → Piece F) : FVec F S256x256 .f32 := k0_pay106 (F := F)
def v477 (c : Dev nD) (e : In F) (X : Slot → Piece F) : FVec F S256x1 .f32 := k0_pay108 (v206 c e X) (v442 c e X) (v472 c e X) (v473 c e X)
def v486 (c : Dev nD) (e : In F) (X : Slot → Piece F) : FVec F S256x1 .f32 := k0_pay111 (v206 c e X) (v215 c e X) (v442 c e X) (v472 c e X) (v473 c e X)
def v490 (c : Dev nD) (e : In F) (X : Slot → Piece F) : FVec F S256x64 .f32 := k0_pay112 (v206 c e X) (v219 c e X) (v442 c e X) (v470 c e X) (v472 c e X) (v473 c e X)
def v499 (c : Dev nD) (e : In F) (X : Slot → Piece F) : FVec F S256x1 .f32 := k0_pay114 (v83 c e X) (v228 c e X) (v442 c e X) (v444 c e X)
def v508 (c : Dev nD) (e : In F) (X : Slot → Piece F) : FVec F S256x1 .f32 := k0_pay117 (v83 c e X) (v228 c e X) (v237 c e X) (v442 c e X) (v444 c e X)
def v512 (c : Dev nD) (e : In F) (X : Slot → Piece F) : FVec F S256x64 .f32 := k0_pay118 (v83 c e X) (v228 c e X) (v241 c e X) (v442 c e X) (v444 c e X) (v446 c e X)
def v514 (c : Dev nD) (e : In F) (X : Slot → Piece F) : FVec F S256x64 .f32 := k0_pay119 (v446 c e X)
def v518 (c : Dev nD) (e : In F) (X : Slot → Piece F) : FVec F S256x256 .f32 := k0_pay120 (v83 c e X) (v442 c e X) (v444 c e X)
def v521 (c : Dev nD) (e : In F) (X : Slot → Piece F) : FVec F S256x1 .f32 := k0_pay121 (v83 c e X) (v250 c e X) (v442 c e X) (v444 c e X)
def v522 (c : Dev nD) (e : In F) (X : Slot → Piece F) : FVec F S256x256 .f32 := k0_pay122 (v83 c e X) (v250 c e X) (v442 c e X) (v444 c e X)
def v535 (c : Dev nD) (e : In F) (X : Slot → Piece F) : Vec F S1x1x256x256 .f32 := X (false, 1, 2)
def v537 (c : Dev nD) (e : In F) (X : Slot → Piece F) : Vec F S1x1x256x256 .f32 := X (false, 1, 3)
def v530 (c : Dev nD) (e : In F) (X : Slot → Piece F) : FVec F S256x1 .f32 := k0_pay125 (v250 c e X) (v259 c e X) (v518 c e X) (v521 c e X) (v522 c e X)
def v534 (c : Dev nD) (e : In F) (X : Slot → Piece F) : FVec F S256x64 .f32 := k0_pay126 (v250 c e X) (v263 c e X) (v514 c e X) (v518 c e X) (v521 c e X) (v522 c e X)
def v536 (c : Dev nD) (e : In F) (X : Slot → Piece F) : FVec F S256x256 .f32 := k0_pay127 (v535 c e X)
def v538 (c : Dev nD) (e : In F) (X : Slot → Piece F) : FVec F S256x256 .f32 := k0_pay128 (v537 c e X)
def v547 (c : Dev nD) (e : In F) (X : Slot → Piece F) : FVec F S256x1 .f32 := k0_pay130 (v90 c e X) (v276 c e X) (v442 c e X) (v535 c e X)
def v556 (c : Dev nD) (e : In F) (X : Slot → Piece F) : FVec F S256x1 .f32 := k0_pay133 (v90 c e X) (v276 c e X) (v285 c e X) (v442 c e X) (v535 c e X)
def v560 (c : Dev nD) (e : In F) (X : Slot → Piece F) : FVec F S256x64 .f32 := k0_pay134 (v90 c e X) (v276 c e X) (v289 c e X) (v442 c e X) (v535 c e X) (v537 c e X)
def v562 (c : Dev nD) (e : In F) (X : Slot → Piece F) : FVec F S256x64 .f32 := k0_pay135 (v537 c e X)
def v564 (c : Dev nD) (e : In F) (X : Slot → Piece F) : FVec F S256x256 .f32 := k0_pay136 (v90 c e X) (v535 c e X)
def v565 (c : Dev nD) (e : In F) (X : Slot → Piece F) : FVec F S256x256 .f32 := k0_pay137 (F := F)
def v569 (c : Dev nD) (e : In F) (X : Slot → Piece F) : FVec F S256x1 .f32 := k0_pay139 (v298 c e X) (v442 c e X) (v564 c e X) (v565 c e X)
def v578 (c : Dev nD) (e : In F) (X : Slot → Piece F) : FVec F S256x1 .f32 := k0_pay142 (v298 c e X) (v307 c e X) (v442 c e X) (v564 c e X) (v565 c e X)
def v582 (c : Dev nD) (e : In F) (X : Slot → Piece F) : FVec F S256x64 .f32 := k0_pay143 (v298 c e X) (v311 c e X) (v442 c e X) (v562 c e X) (v564 c e X) (v565 c e X)
def v591 (c : Dev nD) (e : In F) (X : Slot → Piece F) : FVec F S256x1 .f32 := k0_pay145 (v90 c e X) (v320 c e X) (v442 c e X) (v536 c e X)
def v600 (c : Dev nD) (e : In F) (X : Slot → Piece F) : FVec F S256x1 .f32 := k0_pay148 (v90 c e X) (v320 c e X) (v329 c e X) (v442 c e X) (v536 c e X)
def v604 (c : Dev nD) (e : In F) (X : Slot → Piece F) : FVec F S256x64 .f32 := k0_pay149 (v90 c e X) (v320 c e X) (v333 c e X) (v442 c e X) (v536 c e X) (v538 c e X)
def v606 (c : Dev nD) (e : In F) (X : Slot → Piece F) : FVec F S256x64 .f32 := k0_pay150 (v538 c e X)
def v610 (c : Dev nD) (e : In F) (X : Slot → Piece F) : FVec F S256x256 .f32 := k0_pay151 (v90 c e X) (v442 c e X) (v536 c e X)
def v613 (c : Dev nD) (e : In F) (X : Slot → Piece F) : FVec F S256x1 .f32 := k0_pay152 (v90 c e X) (v342 c e X) (v442 c e X) (v536 c e X)
def v614 (c : Dev nD) (e : In F) (X : Slot → Piece F) : FVec F S256x256 .f32 := k0_pay153 (v90 c e X) (v342 c e X) (v442 c e X) (v536 c e X)
def v637 (c : Dev nD) (e : In F) (X : Slot → Piece F) : Vec F S1x1x256x256 .f32 := X (true, 1, 0)
def v639 (c : Dev nD) (e : In F) (X : Slot → Piece F) : Vec F S1x1x256x256 .f32 := X (true, 1, 1)
def v622 (c : Dev nD) (e : In F) (X : Slot → Piece F) : FVec F S256x1 .f32 := k0_pay156 (v342 c e X) (v351 c e X) (v610 c e X) (v613 c e X) (v614 c e X)
def v626 (c : Dev nD) (e : In F) (X : Slot → Piece F) : FVec F S256x64 .f32 := k0_pay157 (v342 c e X) (v355 c e X) (v606 c e X) (v610 c e X) (v613 c e X) (v614 c e X)
def v636 (c : Dev nD) (e : In F) (X : Slot → Piece F) : IVec S256x256 1 := k0_pay158 (v2 c) (v115 c e X) (v140 c e X)
def v638 (c : Dev nD) (e : In F) (X : Slot → Piece F) : FVec F S256x256 .f32 := k0_pay159 (v637 c e X)
def v640 (c : Dev nD) (e : In F) (X : Slot → Piece F) : FVec F S256x256 .f32 := k0_pay160 (v639 c e X)
def v642 (c : Dev nD) (e : In F) (X : Slot → Piece F) : FVec F S256x64 .f32 := k0_pay161 (v639 c e X)
def v649 (c : Dev nD) (e : In F) (X : Slot → Piece F) : FVec F S256x1 .f32 := k0_pay163 (v2 c) (v83 c e X) (v115 c e X) (v140 c e X) (v455 c e X) (v637 c e X)
def v652 (c : Dev nD) (e : In F) (X : Slot → Piece F) : FVec F S256x256 .f32 := k0_pay164 (v2 c) (v83 c e X) (v115 c e X) (v140 c e X) (v455 c e X) (v637 c e X)
def v654 (c : Dev nD) (e : In F) (X : Slot → Piece F) : FVec F S256x1 .f32 := k0_pay165 (v2 c) (v83 c e X) (v115 c e X) (v140 c e X) (v455 c e X) (v637 c e X)
def v655 (c : Dev nD) (e : In F) (X : Slot → Piece F) : FVec F S256x1 .f32 := k0_pay166 (v2 c) (v83 c e X) (v115 c e X) (v140 c e X) (v455 c e X) (v464 c e X) (v637 c e X)
def cst_508 (c : Dev nD) (e : In F) (X : Slot → Piece F) : FVec F S256x64 .f32 := constant S256x64 .f32 0x00000000#32
def v658 (c : Dev nD) (e : In F) (X : Slot → Piece F) : FVec F S256x1 .f32 := k0_pay167 (v652 c e X) (v655 c e X)
def v662 (c : Dev nD) (e : In F) (X : Slot → Piece F) : FVec F S256x64 .f32 := k0_pay168 (v468 c e X) (v642 c e X) (v652 c e X) (v654 c e X)
def v671 (c : Dev nD) (e : In F) (X : Slot → Piece F) : FVec F S256x1 .f32 := k0_pay170 (v83 c e X) (v477 c e X) (v636 c e X) (v638 c e X)
def v680 (c : Dev nD) (e : In F) (X : Slot → Piece F) : FVec F S256x1 .f32 := k0_pay173 (v83 c e X) (v477 c e X) (v486 c e X) (v636 c e X) (v638 c e X)
def v684 (c : Dev nD) (e : In F) (X : Slot → Piece F) : FVec F S256x64 .f32 := k0_pay174 (v83 c e X) (v477 c e X) (v490 c e X) (v636 c e X) (v638 c e X) (v640 c e X)
def v686 (c : Dev nD) (e : In F) (X : Slot → Piece F) : FVec F S256x64 .f32 := k0_pay175 (v640 c e X)
def v693 (c : Dev nD) (e : In F) (X : Slot → Piece F) : FVec F S256x1 .f32 := k0_pay177 (v83 c e X) (v499 c e X) (v636 c e X) (v638 c e X)
def v696 (c : Dev nD) (e : In F) (X : Slot → Piece F) : FVec F S256x256 .f32 := k0_pay178 (v83 c e X) (v499 c e X) (v636 c e X) (v638 c e X)
def v702 (c : Dev nD) (e : In F) (X : Slot → Piece F) : FVec F S256x1 .f32 := k0_pay180 (v83 c e X) (v499 c e X) (v508 c e X) (v636 c e X) (v638 c e X)
def v704 (c : Dev nD) (e : In F) (X : Slot → Piece F) : FVec F S256x64 .f32 := k0_pay181 (v83 c e X) (v499 c e X) (v512 c e X) (v636 c e X) (v638 c e X)
def v729 (c : Dev nD) (e : In F) (X : Slot → Piece F) : Vec F S1x1x256x256 .f32 := X (true, 1, 2)
def v731 (c : Dev nD) (e : In F) (X : Slot → Piece F) : Vec F S1x1x256x256 .f32 := X (true, 1, 3)
def v706 (c : Dev nD) (e : In F) (X : Slot → Piece F) : FVec F S256x64 .f32 := k0_pay182 (v686 c e X) (v696 c e X) (v704 c e X) (cst_508 c e X)
def v715 (c : Dev nD) (e : In F) (X : Slot → Piece F) : FVec F S256x1 .f32 := k0_pay184 (v83 c e X) (v521 c e X) (v636 c e X) (v638 c e X)
def v724 (c : Dev nD) (e : In F) (X : Slot → Piece F) : FVec F S256x1 .f32 := k0_pay187 (v83 c e X) (v521 c e X) (v530 c e X) (v636 c e X) (v638 c e X)
def v728 (c : Dev nD) (e : In F) (X : Slot → Piece F) : FVec F S256x64 .f32 := k0_pay188 (v83 c e X) (v521 c e X) (v534 c e X) (v636 c e X) (v638 c e X) (v640 c e X)
def v730 (c : Dev nD) (e : In F) (X : Slot → Piece F) : FVec F S256x256 .f32 := k0_pay189 (v729 c e X)
def v732 (c : Dev nD) (e : In F) (X : Slot → Piece F) : FVec F S256x256 .f32 := k0_pay190 (v731 c e X)
def v734 (c : Dev nD) (e : In F) (X : Slot → Piece F) : FVec F S256x64 .f32 := k0_pay191 (v731 c e X)
def v741 (c : Dev nD) (e : In F) (X : Slot → Piece F) : FVec F S256x1 .f32 := k0_pay193 (v90 c e X) (v547 c e X) (v636 c e X) (v729 c e X)
def v744 (c : Dev nD) (e : In F) (X : Slot → Piece F) : FVec F S256x256 .f32 := k0_pay194 (v90 c e X) (v547 c e X) (v636 c e X) (v729 c e X)
def v746 (c : Dev nD) (e : In F) (X : Slot → Piece F) : FVec F S256x1 .f32 := k0_pay195 (v90 c e X) (v547 c e X) (v636 c e X) (v729 c e X)
def v747 (c : Dev nD) (e : In F) (X : Slot → Piece F) : FVec F S256x1 .f32 := k0_pay196 (v90 c e X) (v547 c e X) (v556 c e X) (v636 c e X) (v729 c e X)
def cst_536 (c : Dev nD) (e : In F) (X : Slot → Piece F) : FVec F S256x64 .f32 := constant S256x64 .f32 0x00000000#32
def v750 (c : Dev nD) (e : In F) (X : Slot → Piece F) : FVec F S256x1 .f32 := k0_pay197 (v744 c e X) (v747 c e X)
def v754 (c : Dev nD) (e : In F) (X : Slot → Piece F) : FVec F S256x64 .f32 := k0_pay198 (v560 c e X) (v734 c e X) (v744 c e X) (v746 c e X)
def v763 (c : Dev nD) (e : In F) (X : Slot → Piece F) : FVec F S256x1 .f32 := k0_pay200 (v90 c e X) (v569 c e X) (v636 c e X) (v730 c e X)
def v772 (c : Dev nD) (e : In F) (X : Slot → Piece F) : FVec F S256x1 .f32 := k0_pay203 (v90 c e X) (v569 c e X) (v578 c e X) (v636 c e X) (v730 c e X)
def v776 (c : Dev nD) (e : In F) (X : Slot → Piece F) : FVec F S256x64 .f32 := k0_pay204 (v90 c e X) (v569 c e X) (v582 c e X) (v636 c e X) (v730 c e X) (v732 c e X)
def v778 (c : Dev nD) (e : In F) (X : Slot → Piece F) : FVec F S256x64 .f32 := k0_pay205 (v732 c e X)
def v785 (c : Dev nD) (e : In F) (X : Slot → Piece F) : FVec F S256x1 .f32 := k0_pay207 (v90 c e X) (v591 c e X) (v636 c e X) (v730 c e X)
def v788 (c : Dev nD) (e : In F) (X : Slot → Piece F) : FVec F S256x256 .f32 := k0_pay208 (v90 c e X) (v591 c e X) (v636 c e X) (v730 c e X)
def v794 (c : Dev nD) (e : In F) (X : Slot → Piece F) : FVec F S256x1 .f32 := k0_pay210 (v90 c e X) (v591 c e X) (v600 c e X) (v636 c e X) (v730 c e X)
def v796 (c : Dev nD) (e : In F) (X : Slot → Piece F) : FVec F S256x64 .f32 := k0_pay211 (v90 c e X) (v591 c e X) (v604 c e X) (v636 c e X) (v730 c e X)
def v821 (c : Dev nD) : BitVec 1 := Scalar.cmpi .sgt (v2 c) 1#32
def v822 (c : Dev nD) : BitVec 32 := Scalar.extui (v821 c)
def v823 (c : Dev nD) : BitVec 1 := Scalar.cmpi .ne (v822 c) 0#32
def v798 (c : Dev nD) (e : In F) (X : Slot → Piece F) : FVec F S256x64 .f32 := k0_pay212 (v778 c e X) (v788 c e X) (v796 c e X) (cst_536 c e X)
def v807 (c : Dev nD) (e : In F) (X : Slot → Piece F) : FVec F S256x1 .f32 := k0_pay214 (v90 c e X) (v613 c e X) (v636 c e X) (v730 c e X)
def v816 (c : Dev nD) (e : In F) (X : Slot → Piece F) : FVec F S256x1 .f32 := k0_pay217 (v90 c e X) (v613 c e X) (v622 c e X) (v636 c e X) (v730 c e X)
def v820 (c : Dev nD) (e : In F) (X : Slot → Piece F) : FVec F S256x64 .f32 := k0_pay218 (v90 c e X) (v613 c e X) (v626 c e X) (v636 c e X) (v730 c e X) (v732 c e X)
def v829 (c : Dev nD) : BitVec 1 := Scalar.cmpi .sgt (v2 c) 1#32
def v830 (c : Dev nD) : BitVec 32 := Scalar.extui (v829 c)
def v831 (c : Dev nD) : BitVec 1 := Scalar.cmpi .ne (v830 c) 0#32
def v837 (c : Dev nD) : BitVec 32 := Scalar.addi (v2 c) 1#32
def v838 (c : Dev nD) : BitVec 32 := Scalar.addi (v837 c) 1#32
def v839 (c : Dev nD) : BitVec 32 := Scalar.remsi (v838 c) 8#32
def v840 (c : Dev nD) : BitVec 1 := Scalar.cmpi .sle (v839 c) 2#32
def v841 (c : Dev nD) : BitVec 32 := Scalar.extui (v840 c)
def v842 (c : Dev nD) : BitVec 1 := Scalar.cmpi .ne (v841 c) 0#32
def v843 (c : Dev nD) : BitVec 32 := Scalar.addi (v2 c) 2#32
def v844 (c : Dev nD) : BitVec 32 := Scalar.remsi (v843 c) 8#32
def v845 (c : Dev nD) : BitVec 1 := Scalar.cmpi .sle (v844 c) 2#32
def v846 (c : Dev nD) : BitVec 32 := Scalar.extui (v845 c)
def v848 (c : Dev nD) : BitVec 32 := Scalar.addi (v2 c) 1#32
def v849 (c : Dev nD) : BitVec 32 := Scalar.addi (v848 c) 1#32
def v850 (c : Dev nD) : BitVec 32 := Scalar.remsi (v849 c) 8#32
def v851 (c : Dev nD) : BitVec 1 := Scalar.cmpi .sle (v850 c) 2#32
def v852 (c : Dev nD) : BitVec 32 := Scalar.extui (v851 c)
def v853 (c : Dev nD) : BitVec 1 := Scalar.cmpi .ne (v852 c) 0#32
def v859 (c : Dev nD) : BitVec 1 := Scalar.cmpi .sgt (v2 c) 1#32
def v860 (c : Dev nD) : BitVec 32 := Scalar.extui (v859 c)
def v861 (c : Dev nD) : BitVec 1 := Scalar.cmpi .ne (v860 c) 0#32
def v867 (c : Dev nD) : BitVec 1 := Scalar.cmpi .sgt (v2 c) 1#32
def v868 (c : Dev nD) : BitVec 32 := Scalar.extui (v867 c)
def v869 (c : Dev nD) : BitVec 1 := Scalar.cmpi .ne (v868 c) 0#32
def v875 (c : Dev nD) : BitVec 32 := Scalar.addi (v2 c) 1#32
def v876 (c : Dev nD) : BitVec 32 := Scalar.addi (v875 c) 1#32
def v877 (c : Dev nD) : BitVec 32 := Scalar.remsi (v876 c) 8#32
def v878 (c : Dev nD) : BitVec 1 := Scalar.cmpi .sle (v877 c) 3#32
def v879 (c : Dev nD) : BitVec 32 := Scalar.extui (v878 c)
def v880 (c : Dev nD) : BitVec 1 := Scalar.cmpi .ne (v879 c) 0#32
def v886 (c : Dev nD) : BitVec 32 := Scalar.addi (v2 c) 1#32
def v887 (c : Dev nD) : BitVec 32 := Scalar.addi (v886 c) 1#32
def v888 (c : Dev nD) : BitVec 32 := Scalar.remsi (v887 c) 8#32
def v889 (c : Dev nD) : BitVec 1 := Scalar.cmpi .sle (v888 c) 3#32
def v890 (c : Dev nD) : BitVec 32 := Scalar.extui (v889 c)
def v891 (c : Dev nD) : BitVec 1 := Scalar.cmpi .ne (v890 c) 0#32
def v892 (c : Dev nD) : BitVec 32 := Scalar.addi (v2 c) 2#32
def v893 (c : Dev nD) : BitVec 32 := Scalar.remsi (v892 c) 8#32
def v894 (c : Dev nD) : BitVec 1 := Scalar.cmpi .sle (v893 c) 3#32
def v895 (c : Dev nD) : BitVec 32 := Scalar.extui (v894 c)
def v908 (c : Dev nD) (e : In F) (X : Slot → Piece F) : Vec F S1x1x256x256 .f32 := X (false, 2, 0)
def v910 (c : Dev nD) (e : In F) (X : Slot → Piece F) : Vec F S1x1x256x256 .f32 := X (false, 2, 1)
def v907 (c : Dev nD) (e : In F) (X : Slot → Piece F) : IVec S256x256 1 := k0_pay219 (v2 c) (v115 c e X) (v140 c e X)
def v909 (c : Dev nD) (e : In F) (X : Slot → Piece F) : FVec F S256x256 .f32 := k0_pay220 (v908 c e X)
def v911 (c : Dev nD) (e : In F) (X : Slot → Piece F) : FVec F S256x256 .f32 := k0_pay221 (v910 c e X)
def v920 (c : Dev nD) (e : In F) (X : Slot → Piece F) : FVec F S256x1 .f32 := k0_pay223 (v2 c) (v83 c e X) (v115 c e X) (v140 c e X) (v649 c e X) (v908 c e X)
def v929 (c : Dev nD) (e : In F) (X : Slot → Piece F) : FVec F S256x1 .f32 := k0_pay226 (v2 c) (v83 c e X) (v115 c e X) (v140 c e X) (v649 c e X) (v658 c e X) (v908 c e X)
def v931 (c : Dev nD) (e : In F) (X : Slot → Piece F) : FVec F S256x64 .f32 := k0_pay227 (v2 c) (v83 c e X) (v115 c e X) (v140 c e X) (v649 c e X) (v662 c e X) (v908 c e X)
def v932 (c : Dev nD) (e : In F) (X : Slot → Piece F) : FVec F S256x64 .f32 := k0_pay228 (v2 c) (v83 c e X) (v115 c e X) (v140 c e X) (v649 c e X) (v908 c e X) (v910 c e X)
def v933 (c : Dev nD) (e : In F) (X : Slot → Piece F) : FVec F S256x64 .f32 := k0_pay229 (v931 c e X) (v932 c e X)
def v942 (c : Dev nD) (e : In F) (X : Slot → Piece F) : FVec F S256x1 .f32 := k0_pay231 (v83 c e X) (v671 c e X) (v907 c e X) (v909 c e X)
def v951 (c : Dev nD) (e : In F) (X : Slot → Piece F) : FVec F S256x1 .f32 := k0_pay234 (v83 c e X) (v671 c e X) (v680 c e X) (v907 c e X) (v909 c e X)
def v955 (c : Dev nD) (e : In F) (X : Slot → Piece F) : FVec F S256x64 .f32 := k0_pay235 (v83 c e X) (v671 c e X) (v684 c e X) (v907 c e X) (v909 c e X) (v911 c e X)
def v964 (c : Dev nD) (e : In F) (X : Slot → Piece F) : FVec F S256x1 .f32 := k0_pay237 (v83 c e X) (v693 c e X) (v907 c e X) (v909 c e X)
def v973 (c : Dev nD) (e : In F) (X : Slot → Piece F) : FVec F S256x1 .f32 := k0_pay240 (v83 c e X) (v693 c e X) (v702 c e X) (v907 c e X) (v909 c e X)
def v977 (c : Dev nD) (e : In F) (X : Slot → Piece F) : FVec F S256x64 .f32 := k0_pay241 (v83 c e X) (v693 c e X) (v706 c e X) (v907 c e X) (v909 c e X) (v911 c e X)
def v979 (c : Dev nD) (e : In F) (X : Slot → Piece F) : FVec F S256x64 .f32 := k0_pay242 (v911 c e X)
def v981 (c : Dev nD) (e : In F) (X : Slot → Piece F) : FVec F S256x256 .f32 := k0_pay243 (v83 c e X) (v909 c e X)
def v1000 (c : Dev nD) (e : In F) (X : Slot → Piece F) : Vec F S1x1x256x256 .f32 := X (false, 2, 2)
def v1002 (c : Dev nD) (e : In F) (X : Slot → Piece F) : Vec F S1x1x256x256 .f32 := X (false, 2, 3)
def v986 (c : Dev nD) (e : In F) (X : Slot → Piece F) : FVec F S256x1 .f32 := k0_pay245 (v715 c e X) (v907 c e X) (v981 c e X)
def v995 (c : Dev nD) (e : In F) (X : Slot → Piece F) : FVec F S256x1 .f32 := k0_pay248 (v715 c e X) (v724 c e X) (v907 c e X) (v981 c e X)
def v999 (c : Dev nD) (e : In F) (X : Slot → Piece F) : FVec F S256x64 .f32 := k0_pay249 (v715 c e X) (v728 c e X) (v907 c e X) (v979 c e X) (v981 c e X)
def v1001 (c : Dev nD) (e : In F) (X : Slot → Piece F) : FVec F S256x256 .f32 := k0_pay250 (v1000 c e X)
def v1003 (c : Dev nD) (e : In F) (X : Slot → Piece F) : FVec F S256x256 .f32 := k0_pay251 (v1002 c e X)
def v1012 (c : Dev nD) (e : In F) (X : Slot → Piece F) : FVec F S256x1 .f32 := k0_pay253 (v90 c e X) (v741 c e X) (v907 c e X) (v1000 c e X)
def v1021 (c : Dev nD) (e : In F) (X : Slot → Piece F) : FVec F S256x1 .f32 := k0_pay256 (v90 c e X) (v741 c e X) (v750 c e X) (v907 c e X) (v1000 c e X)
def v1023 (c : Dev nD) (e : In F) (X : Slot → Piece F) : FVec F S256x64 .f32 := k0_pay257 (v90 c e X) (v741 c e X) (v754 c e X) (v907 c e X) (v1000 c e X)
def v1024 (c : Dev nD) (e : In F) (X : Slot → Piece F) : FVec F S256x64 .f32 := k0_pay258 (v90 c e X) (v741 c e X) (v907 c e X) (v1000 c e X) (v1002 c e X)
def v1025 (c : Dev nD) (e : In F) (X : Slot → Piece F) : FVec F S256x64 .f32 := k0_pay259 (v1023 c e X) (v1024 c e X)
def v1034 (c : Dev nD) (e : In F) (X : Slot → Piece F) : FVec F S256x1 .f32 := k0_pay261 (v90 c e X) (v763 c e X) (v907 c e X) (v1001 c e X)
def v1043 (c : Dev nD) (e : In F) (X : Slot → Piece F) : FVec F S256x1 .f32 := k0_pay264 (v90 c e X) (v763 c e X) (v772 c e X) (v907 c e X) (v1001 c e X)
def v1047 (c : Dev nD) (e : In F) (X : Slot → Piece F) : FVec F S256x64 .f32 := k0_pay265 (v90 c e X) (v763 c e X) (v776 c e X) (v907 c e X) (v1001 c e X) (v1003 c e X)
def v1056 (c : Dev nD) (e : In F) (X : Slot → Piece F) : FVec F S256x1 .f32 := k0_pay267 (v90 c e X) (v785 c e X) (v907 c e X) (v1001 c e X)
def v1065 (c : Dev nD) (e : In F) (X : Slot → Piece F) : FVec F S256x1 .f32 := k0_pay270 (v90 c e X) (v785 c e X) (v794 c e X) (v907 c e X) (v1001 c e X)
def v1069 (c : Dev nD) (e : In F) (X : Slot → Piece F) : FVec F S256x64 .f32 := k0_pay271 (v90 c e X) (v785 c e X) (v798 c e X) (v907 c e X) (v1001 c e X) (v1003 c e X)
def v1071 (c : Dev nD) (e : In F) (X : Slot → Piece F) : FVec F S256x64 .f32 := k0_pay272 (v1003 c e X)
def v1073 (c : Dev nD) (e : In F) (X : Slot → Piece F) : FVec F S256x256 .f32 := k0_pay273 (v90 c e X) (v1001 c e X)
def v1102 (c : Dev nD) (e : In F) (X : Slot → Piece F) : Vec F S1x1x256x256 .f32 := X (true, 2, 0)
def v1104 (c : Dev nD) (e : In F) (X : Slot → Piece F) : Vec F S1x1x256x256 .f32 := X (true, 2, 1)
def v1078 (c : Dev nD) (e : In F) (X : Slot → Piece F) : FVec F S256x1 .f32 := k0_pay275 (v807 c e X) (v907 c e X) (v1073 c e X)
def v1087 (c : Dev nD) (e : In F) (X : Slot → Piece F) : FVec F S256x1 .f32 := k0_pay278 (v807 c e X) (v816 c e X) (v907 c e X) (v1073 c e X)
def v1091 (c : Dev nD) (e : In F) (X : Slot → Piece F) : FVec F S256x64 .f32 := k0_pay279 (v807 c e X) (v820 c e X) (v907 c e X) (v1071 c e X) (v1073 c e X)
def v1101 (c : Dev nD) (e : In F) (X : Slot → Piece F) : IVec S256x256 1 := k0_pay280 (v2 c) (v115 c e X) (v140 c e X)
def v1103 (c : Dev nD) (e : In F) (X : Slot → Piece F) : FVec F S256x256 .f32 := k0_pay281 (v1102 c e X)
def v1105 (c : Dev nD) (e : In F) (X : Slot → Piece F) : FVec F S256x256 .f32 := k0_pay282 (v1104 c e X)
def v1107 (c : Dev nD) (e : In F) (X : Slot → Piece F) : FVec F S256x64 .f32 := k0_pay283 (v1104 c e X)
def v1111 (c : Dev nD) (e : In F) (X : Slot → Piece F) : FVec F S256x256 .f32 := k0_pay284 (v2 c) (v83 c e X) (v115 c e X) (v140 c e X) (v1102 c e X)
def v1113 (c : Dev nD) (e : In F) (X : Slot → Piece F) : FVec F S256x1 .f32 := k0_pay285 (v2 c) (v83 c e X) (v115 c e X) (v140 c e X) (v1102 c e X)
def v1114 (c : Dev nD) (e : In F) (X : Slot → Piece F) : FVec F S256x1 .f32 := k0_pay286 (v920 c e X) (v1113 c e X)
def v1123 (c : Dev nD) (e : In F) (X : Slot → Piece F) : FVec F S256x1 .f32 := k0_pay289 (v920 c e X) (v929 c e X) (v1111 c e X) (v1113 c e X)
def v1127 (c : Dev nD) (e : In F) (X : Slot → Piece F) : FVec F S256x64 .f32 := k0_pay290 (v920 c e X) (v933 c e X) (v1107 c e X) (v1111 c e X) (v1113 c e X)
def v1136 (c : Dev nD) (e : In F) (X : Slot → Piece F) : FVec F S256x1 .f32 := k0_pay292 (v83 c e X) (v942 c e X) (v1101 c e X) (v1103 c e X)
def v1145 (c : Dev nD) (e : In F) (X : Slot → Piece F) : FVec F S256x1 .f32 := k0_pay295 (v83 c e X) (v942 c e X) (v951 c e X) (v1101 c e X) (v1103 c e X)
def v1149 (c : Dev nD) (e : In F) (X : Slot → Piece F) : FVec F S256x64 .f32 := k0_pay296 (v83 c e X) (v942 c e X) (v955 c e X) (v1101 c e X) (v1103 c e X) (v1105 c e X)
def v1151 (c : Dev nD) (e : In F) (X : Slot → Piece F) : FVec F S256x64 .f32 := k0_pay297 (v1105 c e X)
def v1158 (c : Dev nD) (e : In F) (X : Slot → Piece F) : FVec F S256x1 .f32 := k0_pay299 (v83 c e X) (v964 c e X) (v1101 c e X) (v1103 c e X)
def v1161 (c : Dev nD) (e : In F) (X : Slot → Piece F) : FVec F S256x256 .f32 := k0_pay300 (v83 c e X) (v964 c e X) (v1101 c e X) (v1103 c e X)
def v1163 (c : Dev nD) (e : In F) (X : Slot → Piece F) : FVec F S256x1 .f32 := k0_pay301 (v83 c e X) (v964 c e X) (v1101 c e X) (v1103 c e X)
def v1194 (c : Dev nD) (e : In F) (X : Slot → Piece F) : Vec F S1x1x256x256 .f32 := X (true, 2, 2)
def v1196 (c : Dev nD) (e : In F) (X : Slot → Piece F) : Vec F S1x1x256x256 .f32 := X (true, 2, 3)
def v1167 (c : Dev nD) (e : In F) (X : Slot → Piece F) : FVec F S256x1 .f32 := k0_pay302 (v973 c e X) (v1161 c e X) (v1163 c e X)
def v1171 (c : Dev nD) (e : In F) (X : Slot → Piece F) : FVec F S256x64 .f32 := k0_pay303 (v977 c e X) (v1151 c e X) (v1161 c e X) (v1163 c e X)
def v1180 (c : Dev nD) (e : In F) (X : Slot → Piece F) : FVec F S256x1 .f32 := k0_pay305 (v83 c e X) (v986 c e X) (v1101 c e X) (v1103 c e X)
def v1189 (c : Dev nD) (e : In F) (X : Slot → Piece F) : FVec F S256x1 .f32 := k0_pay308 (v83 c e X) (v986 c e X) (v995 c e X) (v1101 c e X) (v1103 c e X)
def v1193 (c : Dev nD) (e : In F) (X : Slot → Piece F) : FVec F S256x64 .f32 := k0_pay309 (v83 c e X) (v986 c e X) (v999 c e X) (v1101 c e X) (v1103 c e X) (v1105 c e X)
def v1195 (c : Dev nD) (e : In F) (X : Slot → Piece F) : FVec F S256x256 .f32 := k0_pay310 (v1194 c e X)
def v1197 (c : Dev nD) (e : In F) (X : Slot → Piece F) : FVec F S256x256 .f32 := k0_pay311 (v1196 c e X)
def v1199 (c : Dev nD) (e : In F) (X : Slot → Piece F) : FVec F S256x64 .f32 := k0_pay312 (v1196 c e X)
def v1203 (c : Dev nD) (e : In F) (X : Slot → Piece F) : FVec F S256x256 .f32 := k0_pay313 (v90 c e X) (v1101 c e X) (v1194 c e X)
def v1205 (c : Dev nD) (e : In F) (X : Slot → Piece F) : FVec F S256x1 .f32 := k0_pay314 (v90 c e X) (v1101 c e X) (v1194 c e X)
def v1206 (c : Dev nD) (e : In F) (X : Slot → Piece F) : FVec F S256x1 .f32 := k0_pay315 (v1012 c e X) (v1205 c e X)
def v1215 (c : Dev nD) (e : In F) (X : Slot → Piece F) : FVec F S256x1 .f32 := k0_pay318 (v1012 c e X) (v1021 c e X) (v1203 c e X) (v1205 c e X)
def v1219 (c : Dev nD) (e : In F) (X : Slot → Piece F) : FVec F S256x64 .f32 := k0_pay319 (v1012 c e X) (v1025 c e X) (v1199 c e X) (v1203 c e X) (v1205 c e X)
def v1228 (c : Dev nD) (e : In F) (X : Slot → Piece F) : FVec F S256x1 .f32 := k0_pay321 (v90 c e X) (v1034 c e X) (v1101 c e X) (v1195 c e X)
def v1237 (c : Dev nD) (e : In F) (X : Slot → Piece F) : FVec F S256x1 .f32 := k0_pay324 (v90 c e X) (v1034 c e X) (v1043 c e X) (v1101 c e X) (v1195 c e X)
def v1241 (c : Dev nD) (e : In F) (X : Slot → Piece F) : FVec F S256x64 .f32 := k0_pay325 (v90 c e X) (v1034 c e X) (v1047 c e X) (v1101 c e X) (v1195 c e X) (v1197 c e X)
def v1243 (c : Dev nD) (e : In F) (X : Slot → Piece F) : FVec F S256x64 .f32 := k0_pay326 (v1197 c e X)
def v1250 (c : Dev nD) (e : In F) (X : Slot → Piece F) : FVec F S256x1 .f32 := k0_pay328 (v90 c e X) (v1056 c e X) (v1101 c e X) (v1195 c e X)
def v1253 (c : Dev nD) (e : In F) (X : Slot → Piece F) : FVec F S256x256 .f32 := k0_pay329 (v90 c e X) (v1056 c e X) (v1101 c e X) (v1195 c e X)
def v1255 (c : Dev nD) (e : In F) (X : Slot → Piece F) : FVec F S256x1 .f32 := k0_pay330 (v90 c e X) (v1056 c e X) (v1101 c e X) (v1195 c e X)
def v1286 (c : Dev nD) : BitVec 1 := Scalar.cmpi .sgt (v2 c) 2#32
def v1287 (c : Dev nD) : BitVec 32 := Scalar.extui (v1286 c)
def v1288 (c : Dev nD) : BitVec 1 := Scalar.cmpi .ne (v1287 c) 0#32
def v1289 (c : Dev nD) : BitVec 1 := Scalar.cmpi .slt (v2 c) 7#32
def v1290 (c : Dev nD) : BitVec 1 := Scalar.cmpi .sge (v2 c) 3#32
def v1291 (c : Dev nD) : BitVec 1 := Scalar.andi (v1289 c) (v1290 c)
def v1292 (c : Dev nD) : BitVec 32 := Scalar.extui (v1291 c)
def v1259 (c : Dev nD) (e : In F) (X : Slot → Piece F) : FVec F S256x1 .f32 := k0_pay331 (v1065 c e X) (v1253 c e X) (v1255 c e X)
def v1263 (c : Dev nD) (e : In F) (X : Slot → Piece F) : FVec F S256x64 .f32 := k0_pay332 (v1069 c e X) (v1243 c e X) (v1253 c e X) (v1255 c e X)
def v1272 (c : Dev nD) (e : In F) (X : Slot → Piece F) : FVec F S256x1 .f32 := k0_pay334 (v90 c e X) (v1078 c e X) (v1101 c e X) (v1195 c e X)
def v1281 (c : Dev nD) (e : In F) (X : Slot → Piece F) : FVec F S256x1 .f32 := k0_pay337 (v90 c e X) (v1078 c e X) (v1087 c e X) (v1101 c e X) (v1195 c e X)
def v1285 (c : Dev nD) (e : In F) (X : Slot → Piece F) : FVec F S256x64 .f32 := k0_pay338 (v90 c e X) (v1078 c e X) (v1091 c e X) (v1101 c e X) (v1195 c e X) (v1197 c e X)
def v1294 (c : Dev nD) : BitVec 1 := Scalar.cmpi .sgt (v2 c) 2#32
def v1295 (c : Dev nD) : BitVec 32 := Scalar.extui (v1294 c)
def v1296 (c : Dev nD) : BitVec 1 := Scalar.cmpi .ne (v1295 c) 0#32
def v1302 (c : Dev nD) : BitVec 32 := Scalar.addi (v2 c) 2#32
def v1303 (c : Dev nD) : BitVec 32 := Scalar.addi (v1302 c) 1#32
def v1304 (c : Dev nD) : BitVec 32 := Scalar.remsi (v1303 c) 8#32
def v1305 (c : Dev nD) : BitVec 1 := Scalar.cmpi .sle (v1304 c) 2#32
def v1306 (c : Dev nD) : BitVec 32 := Scalar.extui (v1305 c)
def v1307 (c : Dev nD) : BitVec 1 := Scalar.cmpi .ne (v1306 c) 0#32
def c2_i32_904 (c : Dev nD) : BitVec 32 := 2#32
def v1308 (c : Dev nD) : BitVec 32 := Scalar.addi (v2 c) (c2_i32_904 c)
def v1309 (c : Dev nD) : BitVec 32 := Scalar.addi (v1308 c) 1#32
def v1310 (c : Dev nD) : BitVec 32 := Scalar.remsi (v1309 c) 8#32
def v1311 (c : Dev nD) : BitVec 1 := Scalar.cmpi .sle (v1310 c) 2#32
def v1312 (c : Dev nD) : BitVec 32 := Scalar.extui (v1311 c)
def v1313 (c : Dev nD) : BitVec 1 := Scalar.cmpi .ne (v1312 c) 0#32
def v1314 (c : Dev nD) : BitVec 1 := Scalar.cmpi .sgt (v2 c) 2#32
def v1315 (c : Dev nD) : BitVec 32 := Scalar.extui (v1314 c)
def v1316 (c : Dev nD) : BitVec 1 := Scalar.cmpi .ne (v1315 c) 0#32
def v1317 (c : Dev nD) : BitVec 1 := Scalar.cmpi .sgt (v2 c) 2#32
def v1318 (c : Dev nD) : BitVec 32 := Scalar.extui (v1317 c)
def v1319 (c : Dev nD) : BitVec 1 := Scalar.cmpi .ne (v1318 c) 0#32
def v1320 (c : Dev nD) : BitVec 32 := Scalar.addi (v2 c) 2#32
def v1321 (c : Dev nD) : BitVec 32 := Scalar.addi (v1320 c) 1#32
def v1322 (c : Dev nD) : BitVec 32 := Scalar.remsi (v1321 c) 8#32
def v1323 (c : Dev nD) : BitVec 1 := Scalar.cmpi .sle (v1322 c) 3#32
def v1324 (c : Dev nD) : BitVec 32 := Scalar.extui (v1323 c)
def v1325 (c : Dev nD) : BitVec 1 := Scalar.cmpi .ne (v1324 c) 0#32
def v1331 (c : Dev nD) : BitVec 32 := Scalar.addi (v2 c) 2#32
def v1332 (c : Dev nD) : BitVec 32 := Scalar.addi (v1331 c) 1#32
def v1333 (c : Dev nD) : BitVec 32 := Scalar.remsi (v1332 c) 8#32
def v1334 (c : Dev nD) : BitVec 1 := Scalar.cmpi .sle (v1333 c) 3#32
def v1335 (c : Dev nD) : BitVec 32 := Scalar.extui (v1334 c)
def v1336 (c : Dev nD) : BitVec 1 := Scalar.cmpi .ne (v1335 c) 0#32
def v1337 (c : Dev nD) : BitVec 32 := Scalar.addi (v2 c) 3#32
def v1338 (c : Dev nD) : BitVec 32 := Scalar.remsi (v1337 c) 8#32
def v1339 (c : Dev nD) : BitVec 1 := Scalar.cmpi .sle (v1338 c) 3#32
def v1340 (c : Dev nD) : BitVec 32 := Scalar.extui (v1339 c)
def v1353 (c : Dev nD) (e : In F) (X : Slot → Piece F) : Vec F S1x1x256x256 .f32 := X (false, 3, 0)
def v1355 (c : Dev nD) (e : In F) (X : Slot → Piece F) : Vec F S1x1x256x256 .f32 := X (false, 3, 1)
def v1352 (c : Dev nD) (e : In F) (X : Slot → Piece F) : IVec S256x256 1 := k0_pay339 (v2 c) (v115 c e X) (v140 c e X)
def v1354 (c : Dev nD) (e : In F) (X : Slot → Piece F) : FVec F S256x256 .f32 := k0_pay340 (v1353 c e X)
def v1356 (c : Dev nD) (e : In F) (X : Slot → Piece F) : FVec F S256x256 .f32 := k0_pay341 (v1355 c e X)
def v1365 (c : Dev nD) (e : In F) (X : Slot → Piece F) : FVec F S256x1 .f32 := k0_pay343 (v2 c) (v83 c e X) (v115 c e X) (v140 c e X) (v1114 c e X) (v1353 c e X)
def v1374 (c : Dev nD) (e : In F) (X : Slot → Piece F) : FVec F S256x1 .f32 := k0_pay346 (v2 c) (v83 c e X) (v115 c e X) (v140 c e X) (v1114 c e X) (v1123 c e X) (v1353 c e X)
def v1378 (c : Dev nD) (e : In F) (X : Slot → Piece F) : FVec F S256x64 .f32 := k0_pay347 (v2 c) (v83 c e X) (v115 c e X) (v140 c e X) (v1114 c e X) (v1127 c e X) (v1353 c e X) (v1355 c e X)
def v1379 (c : Dev nD) (e : In F) (X : Slot → Piece F) : FVec F S256x64 .f32 := k0_pay348 (v1353 c e X)
def v1387 (c : Dev nD) (e : In F) (X : Slot → Piece F) : FVec F S256x1 .f32 := k0_pay350 (v83 c e X) (v1136 c e X) (v1352 c e X) (v1379 c e X)
def v1396 (c : Dev nD) (e : In F) (X : Slot → Piece F) : FVec F S256x1 .f32 := k0_pay353 (v83 c e X) (v1136 c e X) (v1145 c e X) (v1352 c e X) (v1379 c e X)
def v1400 (c : Dev nD) (e : In F) (X : Slot → Piece F) : FVec F S256x64 .f32 := k0_pay354 (v83 c e X) (v1136 c e X) (v1149 c e X) (v1352 c e X) (v1356 c e X) (v1379 c e X)
def v1409 (c : Dev nD) (e : In F) (X : Slot → Piece F) : FVec F S256x1 .f32 := k0_pay356 (v83 c e X) (v1158 c e X) (v1352 c e X) (v1354 c e X)
def v1418 (c : Dev nD) (e : In F) (X : Slot → Piece F) : FVec F S256x1 .f32 := k0_pay359 (v83 c e X) (v1158 c e X) (v1167 c e X) (v1352 c e X) (v1354 c e X)
def v1422 (c : Dev nD) (e : In F) (X : Slot → Piece F) : FVec F S256x64 .f32 := k0_pay360 (v83 c e X) (v1158 c e X) (v1171 c e X) (v1352 c e X) (v1354 c e X) (v1356 c e X)
def v1424 (c : Dev nD) (e : In F) (X : Slot → Piece F) : FVec F S256x64 .f32 := k0_pay361 (v1356 c e X)
def v1426 (c : Dev nD) (e : In F) (X : Slot → Piece F) : FVec F S256x256 .f32 := k0_pay362 (v83 c e X) (v1354 c e X)
def v1427 (c : Dev nD) (e : In F) (X : Slot → Piece F) : FVec F S256x256 .f32 := k0_pay363 (F := F)
def v1445 (c : Dev nD) (e : In F) (X : Slot → Piece F) : Vec F S1x1x256x256 .f32 := X (false, 3, 2)
def v1447 (c : Dev nD) (e : In F) (X : Slot → Piece F) : Vec F S1x1x256x256 .f32 := X (false, 3, 3)
def v1431 (c : Dev nD) (e : In F) (X : Slot → Piece F) : FVec F S256x1 .f32 := k0_pay365 (v1180 c e X) (v1352 c e X) (v1426 c e X) (v1427 c e X)
def v1440 (c : Dev nD) (e : In F) (X : Slot → Piece F) : FVec F S256x1 .f32 := k0_pay368 (v1180 c e X) (v1189 c e X) (v1352 c e X) (v1426 c e X) (v1427 c e X)
def v1444 (c : Dev nD) (e : In F) (X : Slot → Piece F) : FVec F S256x64 .f32 := k0_pay369 (v1180 c e X) (v1193 c e X) (v1352 c e X) (v1424 c e X) (v1426 c e X) (v1427 c e X)
def v1446 (c : Dev nD) (e : In F) (X : Slot → Piece F) : FVec F S256x256 .f32 := k0_pay370 (v1445 c e X)
def v1448 (c : Dev nD) (e : In F) (X : Slot → Piece F) : FVec F S256x256 .f32 := k0_pay371 (v1447 c e X)
def v1457 (c : Dev nD) (e : In F) (X : Slot → Piece F) : FVec F S256x1 .f32 := k0_pay373 (v90 c e X) (v1206 c e X) (v1352 c e X) (v1445 c e X)
def v1466 (c : Dev nD) (e : In F) (X : Slot → Piece F) : FVec F S256x1 .f32 := k0_pay376 (v90 c e X) (v1206 c e X) (v1215 c e X) (v1352 c e X) (v1445 c e X)
def v1470 (c : Dev nD) (e : In F) (X : Slot → Piece F) : FVec F S256x64 .f32 := k0_pay377 (v90 c e X) (v1206 c e X) (v1219 c e X) (v1352 c e X) (v1445 c e X) (v1447 c e X)
def v1471 (c : Dev nD) (e : In F) (X : Slot → Piece F) : FVec F S256x64 .f32 := k0_pay378 (v1445 c e X)
def v1479 (c : Dev nD) (e : In F) (X : Slot → Piece F) : FVec F S256x1 .f32 := k0_pay380 (v90 c e X) (v1228 c e X) (v1352 c e X) (v1471 c e X)
def v1488 (c : Dev nD) (e : In F) (X : Slot → Piece F) : FVec F S256x1 .f32 := k0_pay383 (v90 c e X) (v1228 c e X) (v1237 c e X) (v1352 c e X) (v1471 c e X)
def v1492 (c : Dev nD) (e : In F) (X : Slot → Piece F) : FVec F S256x64 .f32 := k0_pay384 (v90 c e X) (v1228 c e X) (v1241 c e X) (v1352 c e X) (v1448 c e X) (v1471 c e X)
def v1501 (c : Dev nD) (e : In F) (X : Slot → Piece F) : FVec F S256x1 .f32 := k0_pay386 (v90 c e X) (v1250 c e X) (v1352 c e X) (v1446 c e X)
def v1510 (c : Dev nD) (e : In F) (X : Slot → Piece F) : FVec F S256x1 .f32 := k0_pay389 (v90 c e X) (v1250 c e X) (v1259 c e X) (v1352 c e X) (v1446 c e X)
def v1514 (c : Dev nD) (e : In F) (X : Slot → Piece F) : FVec F S256x64 .f32 := k0_pay390 (v90 c e X) (v1250 c e X) (v1263 c e X) (v1352 c e X) (v1446 c e X) (v1448 c e X)
def v1516 (c : Dev nD) (e : In F) (X : Slot → Piece F) : FVec F S256x64 .f32 := k0_pay391 (v1448 c e X)
def v1518 (c : Dev nD) (e : In F) (X : Slot → Piece F) : FVec F S256x256 .f32 := k0_pay392 (v90 c e X) (v1446 c e X)
def v1519 (c : Dev nD) (e : In F) (X : Slot → Piece F) : FVec F S256x256 .f32 := k0_pay393 (F := F)
def v1547 (c : Dev nD) (e : In F) (X : Slot → Piece F) : Vec F S1x1x256x256 .f32 := X (true, 3, 0)
def v1549 (c : Dev nD) (e : In F) (X : Slot → Piece F) : Vec F S1x1x256x256 .f32 := X (true, 3, 1)
def v1523 (c : Dev nD) (e : In F) (X : Slot → Piece F) : FVec F S256x1 .f32 := k0_pay395 (v1272 c e X) (v1352 c e X) (v1518 c e X) (v1519 c e X)
def v1532 (c : Dev nD) (e : In F) (X : Slot → Piece F) : FVec F S256x1 .f32 := k0_pay398 (v1272 c e X) (v1281 c e X) (v1352 c e X) (v1518 c e X) (v1519 c e X)
def v1536 (c : Dev nD) (e : In F) (X : Slot → Piece F) : FVec F S256x64 .f32 := k0_pay399 (v1272 c e X) (v1285 c e X) (v1352 c e X) (v1516 c e X) (v1518 c e X) (v1519 c e X)
def v1546 (c : Dev nD) (e : In F) (X : Slot → Piece F) : IVec S256x256 1 := k0_pay400 (v2 c) (v115 c e X) (v140 c e X)
def v1548 (c : Dev nD) (e : In F) (X : Slot → Piece F) : FVec F S256x256 .f32 := k0_pay401 (v1547 c e X)
def v1550 (c : Dev nD) (e : In F) (X : Slot → Piece F) : FVec F S256x256 .f32 := k0_pay402 (v1549 c e X)
def v1552 (c : Dev nD) (e : In F) (X : Slot → Piece F) : FVec F S256x64 .f32 := k0_pay403 (v1549 c e X)
def v1556 (c : Dev nD) (e : In F) (X : Slot → Piece F) : FVec F S256x256 .f32 := k0_pay404 (v2 c) (v83 c e X) (v115 c e X) (v140 c e X) (v1547 c e X)
def v1559 (c : Dev nD) (e : In F) (X : Slot → Piece F) : FVec F S256x1 .f32 := k0_pay405 (v2 c) (v83 c e X) (v115 c e X) (v140 c e X) (v1365 c e X) (v1547 c e X)
def v1560 (c : Dev nD) (e : In F) (X : Slot → Piece F) : FVec F S256x256 .f32 := k0_pay406 (v2 c) (v83 c e X) (v115 c e X) (v140 c e X) (v1365 c e X) (v1547 c e X)
def v1568 (c : Dev nD) (e : In F) (X : Slot → Piece F) : FVec F S256x1 .f32 := k0_pay409 (v1365 c e X) (v1374 c e X) (v1556 c e X) (v1559 c e X) (v1560 c e X)
def v1572 (c : Dev nD) (e : In F) (X : Slot → Piece F) : FVec F S256x64 .f32 := k0_pay410 (v1365 c e X) (v1378 c e X) (v1552 c e X) (v1556 c e X) (v1559 c e X) (v1560 c e X)
def v1581 (c : Dev nD) (e : In F) (X : Slot → Piece F) : FVec F S256x1 .f32 := k0_pay412 (v83 c e X) (v1387 c e X) (v1546 c e X) (v1548 c e X)
def v1590 (c : Dev nD) (e : In F) (X : Slot → Piece F) : FVec F S256x1 .f32 := k0_pay415 (v83 c e X) (v1387 c e X) (v1396 c e X) (v1546 c e X) (v1548 c e X)
def v1594 (c : Dev nD) (e : In F) (X : Slot → Piece F) : FVec F S256x64 .f32 := k0_pay416 (v83 c e X) (v1387 c e X) (v1400 c e X) (v1546 c e X) (v1548 c e X) (v1550 c e X)
def v1596 (c : Dev nD) (e : In F) (X : Slot → Piece F) : FVec F S256x64 .f32 := k0_pay417 (v1550 c e X)
def v1603 (c : Dev nD) (e : In F) (X : Slot → Piece F) : FVec F S256x1 .f32 := k0_pay419 (v83 c e X) (v1409 c e X) (v1546 c e X) (v1548 c e X)
def v1606 (c : Dev nD) (e : In F) (X : Slot → Piece F) : FVec F S256x256 .f32 := k0_pay420 (v83 c e X) (v1409 c e X) (v1546 c e X) (v1548 c e X)
def v1608 (c : Dev nD) (e : In F) (X : Slot → Piece F) : FVec F S256x1 .f32 := k0_pay421 (v83 c e X) (v1409 c e X) (v1546 c e X) (v1548 c e X)
def v1609 (c : Dev nD) (e : In F) (X : Slot → Piece F) : FVec F S256x1 .f32 := k0_pay422 (v83 c e X) (v1409 c e X) (v1418 c e X) (v1546 c e X) (v1548 c e X)
def v1639 (c : Dev nD) (e : In F) (X : Slot → Piece F) : Vec F S1x1x256x256 .f32 := X (true, 3, 2)
def v1641 (c : Dev nD) (e : In F) (X : Slot → Piece F) : Vec F S1x1x256x256 .f32 := X (true, 3, 3)
def v1612 (c : Dev nD) (e : In F) (X : Slot → Piece F) : FVec F S256x1 .f32 := k0_pay423 (v1606 c e X) (v1609 c e X)
def v1616 (c : Dev nD) (e : In F) (X : Slot → Piece F) : FVec F S256x64 .f32 := k0_pay424 (v1422 c e X) (v1596 c e X) (v1606 c e X) (v1608 c e X)
def v1625 (c : Dev nD) (e : In F) (X : Slot → Piece F) : FVec F S256x1 .f32 := k0_pay426 (v83 c e X) (v1431 c e X) (v1546 c e X) (v1548 c e X)
def v1634 (c : Dev nD) (e : In F) (X : Slot → Piece F) : FVec F S256x1 .f32 := k0_pay429 (v83 c e X) (v1431 c e X) (v1440 c e X) (v1546 c e X) (v1548 c e X)
def v1638 (c : Dev nD) (e : In F) (X : Slot → Piece F) : FVec F S256x64 .f32 := k0_pay430 (v83 c e X) (v1431 c e X) (v1444 c e X) (v1546 c e X) (v1548 c e X) (v1550 c e X)
def v1640 (c : Dev nD) (e : In F) (X : Slot → Piece F) : FVec F S256x256 .f32 := k0_pay431 (v1639 c e X)
def v1642 (c : Dev nD) (e : In F) (X : Slot → Piece F) : FVec F S256x256 .f32 := k0_pay432 (v1641 c e X)
def v1644 (c : Dev nD) (e : In F) (X : Slot → Piece F) : FVec F S256x64 .f32 := k0_pay433 (v1641 c e X)
def v1648 (c : Dev nD) (e : In F) (X : Slot → Piece F) : FVec F S256x256 .f32 := k0_pay434 (v90 c e X) (v1546 c e X) (v1639 c e X)
def v1651 (c : Dev nD) (e : In F) (X : Slot → Piece F) : FVec F S256x1 .f32 := k0_pay435 (v90 c e X) (v1457 c e X) (v1546 c e X) (v1639 c e X)
def v1652 (c : Dev nD) (e : In F) (X : Slot → Piece F) : FVec F S256x256 .f32 := k0_pay436 (v90 c e X) (v1457 c e X) (v1546 c e X) (v1639 c e X)
def v1660 (c : Dev nD) (e : In F) (X : Slot → Piece F) : FVec F S256x1 .f32 := k0_pay439 (v1457 c e X) (v1466 c e X) (v1648 c e X) (v1651 c e X) (v1652 c e X)
def v1664 (c : Dev nD) (e : In F) (X : Slot → Piece F) : FVec F S256x64 .f32 := k0_pay440 (v1457 c e X) (v1470 c e X) (v1644 c e X) (v1648 c e X) (v1651 c e X) (v1652 c e X)
def v1673 (c : Dev nD) (e : In F) (X : Slot → Piece F) : FVec F S256x1 .f32 := k0_pay442 (v90 c e X) (v1479 c e X) (v1546 c e X) (v1640 c e X)
def v1682 (c : Dev nD) (e : In F) (X : Slot → Piece F) : FVec F S256x1 .f32 := k0_pay445 (v90 c e X) (v1479 c e X) (v1488 c e X) (v1546 c e X) (v1640 c e X)
def v1686 (c : Dev nD) (e : In F) (X : Slot → Piece F) : FVec F S256x64 .f32 := k0_pay446 (v90 c e X) (v1479 c e X) (v1492 c e X) (v1546 c e X) (v1640 c e X) (v1642 c e X)
def v1688 (c : Dev nD) (e : In F) (X : Slot → Piece F) : FVec F S256x64 .f32 := k0_pay447 (v1642 c e X)
def v1695 (c : Dev nD) (e : In F) (X : Slot → Piece F) : FVec F S256x1 .f32 := k0_pay449 (v90 c e X) (v1501 c e X) (v1546 c e X) (v1640 c e X)
def v1698 (c : Dev nD) (e : In F) (X : Slot → Piece F) : FVec F S256x256 .f32 := k0_pay450 (v90 c e X) (v1501 c e X) (v1546 c e X) (v1640 c e X)
def v1700 (c : Dev nD) (e : In F) (X : Slot → Piece F) : FVec F S256x1 .f32 := k0_pay451 (v90 c e X) (v1501 c e X) (v1546 c e X) (v1640 c e X)
def v1701 (c : Dev nD) (e : In F) (X : Slot → Piece F) : FVec F S256x1 .f32 := k0_pay452 (v90 c e X) (v1501 c e X) (v1510 c e X) (v1546 c e X) (v1640 c e X)
def v1731 (c : Dev nD) : BitVec 1 := Scalar.cmpi .sgt (v2 c) 3#32
def v1732 (c : Dev nD) : BitVec 32 := Scalar.extui (v1731 c)
def v1733 (c : Dev nD) : BitVec 1 := Scalar.cmpi .ne (v1732 c) 0#32
def v1734 (c : Dev nD) : BitVec 1 := Scalar.cmpi .sgt (v2 c) 3#32
def v1735 (c : Dev nD) : BitVec 32 := Scalar.extui (v1734 c)
def v1704 (c : Dev nD) (e : In F) (X : Slot → Piece F) : FVec F S256x1 .f32 := k0_pay453 (v1698 c e X) (v1701 c e X)
def v1708 (c : Dev nD) (e : In F) (X : Slot → Piece F) : FVec F S256x64 .f32 := k0_pay454 (v1514 c e X) (v1688 c e X) (v1698 c e X) (v1700 c e X)
def v1717 (c : Dev nD) (e : In F) (X : Slot → Piece F) : FVec F S256x1 .f32 := k0_pay456 (v90 c e X) (v1523 c e X) (v1546 c e X) (v1640 c e X)
def v1726 (c : Dev nD) (e : In F) (X : Slot → Piece F) : FVec F S256x1 .f32 := k0_pay459 (v90 c e X) (v1523 c e X) (v1532 c e X) (v1546 c e X) (v1640 c e X)
def v1730 (c : Dev nD) (e : In F) (X : Slot → Piece F) : FVec F S256x64 .f32 := k0_pay460 (v90 c e X) (v1523 c e X) (v1536 c e X) (v1546 c e X) (v1640 c e X) (v1642 c e X)
def v1736 (c : Dev nD) : BitVec 1 := Scalar.cmpi .ne (v1735 c) 0#32
def v1737 (c : Dev nD) : BitVec 32 := Scalar.addi (v2 c) 3#32
def v1738 (c : Dev nD) : BitVec 32 := Scalar.addi (v1737 c) 1#32
def v1739 (c : Dev nD) : BitVec 32 := Scalar.remsi (v1738 c) 8#32
def v1740 (c : Dev nD) : BitVec 1 := Scalar.cmpi .sle (v1739 c) 3#32
def v1741 (c : Dev nD) : BitVec 32 := Scalar.extui (v1740 c)
def v1742 (c : Dev nD) : BitVec 1 := Scalar.cmpi .ne (v1741 c) 0#32
def v1743 (c : Dev nD) : BitVec 32 := Scalar.addi (v2 c) 3#32
def v1744 (c : Dev nD) : BitVec 32 := Scalar.addi (v1743 c) 1#32
def v1745 (c : Dev nD) : BitVec 32 := Scalar.remsi (v1744 c) 8#32
def v1746 (c : Dev nD) : BitVec 1 := Scalar.cmpi .sle (v1745 c) 3#32
def v1747 (c : Dev nD) : BitVec 32 := Scalar.extui (v1746 c)
def v1748 (c : Dev nD) : BitVec 1 := Scalar.cmpi .ne (v1747 c) 0#32
def v1757 (c : Dev nD) (e : In F) (X : Slot → Piece F) : IVec S256x256 1 := (k0_pay461 (v2 c) (v115 c e X) (v140 c e X))
def v1758 (c : Dev nD) (e : In F) (X : Slot → Piece F) : Vec F S1x1x256x256 .f32 := X (false, 4, 0)
def v1760 (c : Dev nD) (e : In F) (X : Slot → Piece F) : Vec F S1x1x256x256 .f32 := X (false, 4, 1)
def cst_1176 (c : Dev nD) (e : In F) (X : Slot → Piece F) : FVec F S256x64 .f32 := constant S256x64 .f32 0x00000000#32
def v1759 (c : Dev nD) (e : In F) (X : Slot → Piece F) : FVec F S256x256 .f32 := k0_pay462 (v1758 c e X)
def v1761 (c : Dev nD) (e : In F) (X : Slot → Piece F) : FVec F S256x256 .f32 := k0_pay463 (v1760 c e X)
def v1779 (c : Dev nD) (e : In F) (X : Slot → Piece F) : FVec F S256x1 .f32 := k0_pay468 (v83 c e X) (v1559 c e X) (v1568 c e X) (v1757 c e X) (v1758 c e X)
def v1783 (c : Dev nD) (e : In F) (X : Slot → Piece F) : FVec F S256x64 .f32 := k0_pay469 (v83 c e X) (v1559 c e X) (v1572 c e X) (v1757 c e X) (v1758 c e X) (v1760 c e X)
def v1785 (c : Dev nD) (e : In F) (X : Slot → Piece F) : FVec F S256x64 .f32 := k0_pay470 (v1760 c e X)
def v1795 (c : Dev nD) (e : In F) (X : Slot → Piece F) : FVec F S256x256 .f32 := k0_pay473 (v83 c e X) (v1581 c e X) (v1757 c e X) (v1758 c e X)
def v1801 (c : Dev nD) (e : In F) (X : Slot → Piece F) : FVec F S256x1 .f32 := k0_pay475 (v83 c e X) (v1581 c e X) (v1590 c e X) (v1757 c e X) (v1758 c e X)
def v1803 (c : Dev nD) (e : In F) (X : Slot → Piece F) : FVec F S256x64 .f32 := k0_pay476 (v83 c e X) (v1581 c e X) (v1594 c e X) (v1757 c e X) (v1758 c e X)
def v1805 (c : Dev nD) (e : In F) (X : Slot → Piece F) : FVec F S256x64 .f32 := k0_pay477 (v1785 c e X) (v1795 c e X) (v1803 c e X) (cst_1176 c e X)
def v1823 (c : Dev nD) (e : In F) (X : Slot → Piece F) : FVec F S256x1 .f32 := k0_pay482 (v83 c e X) (v1603 c e X) (v1612 c e X) (v1757 c e X) (v1759 c e X)
def v1827 (c : Dev nD) (e : In F) (X : Slot → Piece F) : FVec F S256x64 .f32 := k0_pay483 (v83 c e X) (v1603 c e X) (v1616 c e X) (v1757 c e X) (v1759 c e X) (v1761 c e X)
def v1845 (c : Dev nD) (e : In F) (X : Slot → Piece F) : FVec F S256x1 .f32 := k0_pay488 (v83 c e X) (v1625 c e X) (v1634 c e X) (v1757 c e X) (v1759 c e X)
def v1849 (c : Dev nD) (e : In F) (X : Slot → Piece F) : FVec F S256x64 .f32 := k0_pay489 (v83 c e X) (v1625 c e X) (v1638 c e X) (v1757 c e X) (v1759 c e X) (v1761 c e X)
def v1850 (c : Dev nD) (e : In F) (X : Slot → Piece F) : Vec F S1x1x256x256 .f32 := X (true, 4, 2)
def v1852 (c : Dev nD) (e : In F) (X : Slot → Piece F) : Vec F S1x1x256x256 .f32 := X (true, 4, 3)
def cst_1204 (c : Dev nD) (e : In F) (X : Slot → Piece F) : FVec F S256x64 .f32 := constant S256x64 .f32 0x00000000#32
def v1851 (c : Dev nD) (e : In F) (X : Slot → Piece F) : FVec F S256x256 .f32 := k0_pay490 (v1850 c e X)
def v1853 (c : Dev nD) (e : In F) (X : Slot → Piece F) : FVec F S256x256 .f32 := k0_pay491 (v1852 c e X)
def v1871 (c : Dev nD) (e : In F) (X : Slot → Piece F) : FVec F S256x1 .f32 := k0_pay496 (v90 c e X) (v1651 c e X) (v1660 c e X) (v1757 c e X) (v1850 c e X)
def v1875 (c : Dev nD) (e : In F) (X : Slot → Piece F) : FVec F S256x64 .f32 := k0_pay497 (v90 c e X) (v1651 c e X) (v1664 c e X) (v1757 c e X) (v1850 c e X) (v1852 c e X)
def v1877 (c : Dev nD) (e : In F) (X : Slot → Piece F) : FVec F S256x64 .f32 := k0_pay498 (v1852 c e X)
def v1887 (c : Dev nD) (e : In F) (X : Slot → Piece F) : FVec F S256x256 .f32 := k0_pay501 (v90 c e X) (v1673 c e X) (v1757 c e X) (v1850 c e X)
def v1893 (c : Dev nD) (e : In F) (X : Slot → Piece F) : FVec F S256x1 .f32 := k0_pay503 (v90 c e X) (v1673 c e X) (v1682 c e X) (v1757 c e X) (v1850 c e X)
def v1895 (c : Dev nD) (e : In F) (X : Slot → Piece F) : FVec F S256x64 .f32 := k0_pay504 (v90 c e X) (v1673 c e X) (v1686 c e X) (v1757 c e X) (v1850 c e X)
def v1942 (c : Dev nD) : BitVec 1 := Scalar.cmpi .slt (v2 c) 7#32
def v1943 (c : Dev nD) : BitVec 1 := Scalar.cmpi .sge (v2 c) 0#32
def v1897 (c : Dev nD) (e : In F) (X : Slot → Piece F) : FVec F S256x64 .f32 := k0_pay505 (v1877 c e X) (v1887 c e X) (v1895 c e X) (cst_1204 c e X)
def v1915 (c : Dev nD) (e : In F) (X : Slot → Piece F) : FVec F S256x1 .f32 := k0_pay510 (v90 c e X) (v1695 c e X) (v1704 c e X) (v1757 c e X) (v1851 c e X)
def v1919 (c : Dev nD) (e : In F) (X : Slot → Piece F) : FVec F S256x64 .f32 := k0_pay511 (v90 c e X) (v1695 c e X) (v1708 c e X) (v1757 c e X) (v1851 c e X) (v1853 c e X)
def v1937 (c : Dev nD) (e : In F) (X : Slot → Piece F) : FVec F S256x1 .f32 := k0_pay516 (v90 c e X) (v1717 c e X) (v1726 c e X) (v1757 c e X) (v1851 c e X)
def v1941 (c : Dev nD) (e : In F) (X : Slot → Piece F) : FVec F S256x64 .f32 := k0_pay517 (v90 c e X) (v1717 c e X) (v1730 c e X) (v1757 c e X) (v1851 c e X) (v1853 c e X)
def v1944 (c : Dev nD) : BitVec 1 := Scalar.andi (v1942 c) (v1943 c)
def v1945 (c : Dev nD) : BitVec 32 := Scalar.extui (v1944 c)
def v1946 (c : Dev nD) : BitVec 1 := Scalar.cmpi .ne (v1945 c) 0#32
def v1947 (c : Dev nD) : BitVec 1 := Scalar.cmpi .slt (v2 c) 7#32
def v1948 (c : Dev nD) : BitVec 1 := Scalar.cmpi .sge (v2 c) 0#32
def v1949 (c : Dev nD) : BitVec 1 := Scalar.andi (v1947 c) (v1948 c)
def v1950 (c : Dev nD) : BitVec 32 := Scalar.extui (v1949 c)
def v1951 (c : Dev nD) : BitVec 1 := Scalar.cmpi .ne (v1950 c) 0#32
def v1952 (c : Dev nD) : BitVec 1 := Scalar.cmpi .slt (v2 c) 7#32
def v1953 (c : Dev nD) : BitVec 1 := Scalar.cmpi .sge (v2 c) 1#32
def v1954 (c : Dev nD) : BitVec 1 := Scalar.andi (v1952 c) (v1953 c)
def v1955 (c : Dev nD) : BitVec 32 := Scalar.extui (v1954 c)
def v1956 (c : Dev nD) : BitVec 1 := Scalar.cmpi .ne (v1955 c) 0#32
def v1957 (c : Dev nD) : BitVec 1 := Scalar.cmpi .slt (v2 c) 7#32
def v1958 (c : Dev nD) : BitVec 1 := Scalar.cmpi .sge (v2 c) 1#32
def v1959 (c : Dev nD) : BitVec 1 := Scalar.andi (v1957 c) (v1958 c)
def v1960 (c : Dev nD) : BitVec 32 := Scalar.extui (v1959 c)
def v1961 (c : Dev nD) : BitVec 1 := Scalar.cmpi .ne (v1960 c) 0#32
def v1962 (c : Dev nD) : BitVec 1 := Scalar.cmpi .slt (v2 c) 7#32
def v1963 (c : Dev nD) : BitVec 1 := Scalar.cmpi .sge (v2 c) 2#32
def v1964 (c : Dev nD) : BitVec 1 := Scalar.andi (v1962 c) (v1963 c)
def v1965 (c : Dev nD) : BitVec 32 := Scalar.extui (v1964 c)
def v1966 (c : Dev nD) : BitVec 1 := Scalar.cmpi .ne (v1965 c) 0#32
def v1967 (c : Dev nD) : BitVec 1 := Scalar.cmpi .slt (v2 c) 7#32
def v1968 (c : Dev nD) : BitVec 1 := Scalar.cmpi .sge (v2 c) 2#32
def v1969 (c : Dev nD) : BitVec 1 := Scalar.andi (v1967 c) (v1968 c)
def v1970 (c : Dev nD) : BitVec 32 := Scalar.extui (v1969 c)
def v1971 (c : Dev nD) : BitVec 1 := Scalar.cmpi .ne (v1970 c) 0#32
def v1972 (c : Dev nD) : BitVec 1 := Scalar.cmpi .slt (v2 c) 7#32
def v1973 (c : Dev nD) : BitVec 1 := Scalar.cmpi .sge (v2 c) 3#32
def v1974 (c : Dev nD) : BitVec 1 := Scalar.andi (v1972 c) (v1973 c)
def v1975 (c : Dev nD) : BitVec 32 := Scalar.extui (v1974 c)
def v1976 (c : Dev nD) : BitVec 1 := Scalar.cmpi .ne (v1975 c) 0#32
def v1977 (c : Dev nD) : BitVec 1 := Scalar.cmpi .slt (v2 c) 7#32
def v1978 (c : Dev nD) : BitVec 1 := Scalar.cmpi .sge (v2 c) 3#32
def v1979 (c : Dev nD) : BitVec 1 := Scalar.andi (v1977 c) (v1978 c)
def v1980 (c : Dev nD) : BitVec 32 := Scalar.extui (v1979 c)
def v1981 (c : Dev nD) : BitVec 1 := Scalar.cmpi .ne (v1980 c) 0#32
def v1982 (c : Dev nD) : BitVec 32 := Scalar.addi (v2 c) 0#32
def v1983 (c : Dev nD) : BitVec 32 := Scalar.remsi (v1982 c) 8#32
def v1984 (c : Dev nD) : BitVec 1 := Scalar.cmpi .sle (v1983 c) 2#32
def v1985 (c : Dev nD) : BitVec 32 := Scalar.extui (v1984 c)
def v1986 (c : Dev nD) : BitVec 1 := Scalar.cmpi .ne (v1985 c) 0#32
def v1987 (c : Dev nD) : BitVec 32 := Scalar.addi (v2 c) 0#32
def v1988 (c : Dev nD) : BitVec 32 := Scalar.remsi (v1987 c) 8#32
def v1989 (c : Dev nD) : BitVec 1 := Scalar.cmpi .sle (v1988 c) 2#32
def v1990 (c : Dev nD) : BitVec 32 := Scalar.extui (v1989 c)
def v1991 (c : Dev nD) : BitVec 1 := Scalar.cmpi .ne (v1990 c) 0#32
def v1992 (c : Dev nD) : BitVec 32 := Scalar.addi (v2 c) 1#32
def v1993 (c : Dev nD) : BitVec 32 := Scalar.remsi (v1992 c) 8#32
def v1994 (c : Dev nD) : BitVec 1 := Scalar.cmpi .sle (v1993 c) 2#32
def v1995 (c : Dev nD) : BitVec 32 := Scalar.extui (v1994 c)
def v1996 (c : Dev nD) : BitVec 1 := Scalar.cmpi .ne (v1995 c) 0#32
def v1997 (c : Dev nD) : BitVec 32 := Scalar.addi (v2 c) 1#32
def v1998 (c : Dev nD) : BitVec 32 := Scalar.remsi (v1997 c) 8#32
def v1999 (c : Dev nD) : BitVec 1 := Scalar.cmpi .sle (v1998 c) 2#32
def v2000 (c : Dev nD) : BitVec 32 := Scalar.extui (v1999 c)
def v2001 (c : Dev nD) : BitVec 1 := Scalar.cmpi .ne (v2000 c) 0#32
def v2002 (c : Dev nD) : BitVec 32 := Scalar.addi (v2 c) 2#32
def v2003 (c : Dev nD) : BitVec 32 := Scalar.remsi (v2002 c) 8#32
def v2004 (c : Dev nD) : BitVec 1 := Scalar.cmpi .sle (v2003 c) 2#32
def v2005 (c : Dev nD) : BitVec 32 := Scalar.extui (v2004 c)
def v2006 (c : Dev nD) : BitVec 1 := Scalar.cmpi .ne (v2005 c) 0#32
def v2007 (c : Dev nD) : BitVec 32 := Scalar.addi (v2 c) 2#32
def v2008 (c : Dev nD) : BitVec 32 := Scalar.remsi (v2007 c) 8#32
def v2009 (c : Dev nD) : BitVec 1 := Scalar.cmpi .sle (v2008 c) 2#32
def v2010 (c : Dev nD) : BitVec 32 := Scalar.extui (v2009 c)
def v2011 (c : Dev nD) : BitVec 1 := Scalar.cmpi .ne (v2010 c) 0#32
def v2012 (c : Dev nD) : BitVec 1 := Scalar.cmpi .slt (v2 c) 7#32
def v2013 (c : Dev nD) : BitVec 1 := Scalar.cmpi .sge (v2 c) 0#32
def v2014 (c : Dev nD) : BitVec 1 := Scalar.andi (v2012 c) (v2013 c)
def v2015 (c : Dev nD) : BitVec 32 := Scalar.extui (v2014 c)
def v2016 (c : Dev nD) : BitVec 1 := Scalar.cmpi .ne (v2015 c) 0#32
def v2017 (c : Dev nD) : BitVec 1 := Scalar.cmpi .slt (v2 c) 7#32
def v2018 (c : Dev nD) : BitVec 1 := Scalar.cmpi .sge (v2 c) 0#32
def v2019 (c : Dev nD) : BitVec 1 := Scalar.andi (v2017 c) (v2018 c)
def v2020 (c : Dev nD) : BitVec 32 := Scalar.extui (v2019 c)
def v2021 (c : Dev nD) : BitVec 1 := Scalar.cmpi .ne (v2020 c) 0#32
def v2022 (c : Dev nD) : BitVec 1 := Scalar.cmpi .slt (v2 c) 7#32
def v2023 (c : Dev nD) : BitVec 1 := Scalar.cmpi .sge (v2 c) 1#32
def v2024 (c : Dev nD) : BitVec 1 := Scalar.andi (v2022 c) (v2023 c)
def v2025 (c : Dev nD) : BitVec 32 := Scalar.extui (v2024 c)
def v2026 (c : Dev nD) : BitVec 1 := Scalar.cmpi .ne (v2025 c) 0#32
def v2027 (c : Dev nD) : BitVec 1 := Scalar.cmpi .slt (v2 c) 7#32
def v2028 (c : Dev nD) : BitVec 1 := Scalar.cmpi .sge (v2 c) 1#32
def v2029 (c : Dev nD) : BitVec 1 := Scalar.andi (v2027 c) (v2028 c)
def v2030 (c : Dev nD) : BitVec 32 := Scalar.extui (v2029 c)
def v2031 (c : Dev nD) : BitVec 1 := Scalar.cmpi .ne (v2030 c) 0#32
def v2032 (c : Dev nD) : BitVec 1 := Scalar.cmpi .slt (v2 c) 7#32
def v2033 (c : Dev nD) : BitVec 1 := Scalar.cmpi .sge (v2 c) 2#32
def v2034 (c : Dev nD) : BitVec 1 := Scalar.andi (v2032 c) (v2033 c)
def v2035 (c : Dev nD) : BitVec 32 := Scalar.extui (v2034 c)
def v2036 (c : Dev nD) : BitVec 1 := Scalar.cmpi .ne (v2035 c) 0#32
def v2037 (c : Dev nD) : BitVec 1 := Scalar.cmpi .slt (v2 c) 7#32
def v2038 (c : Dev nD) : BitVec 1 := Scalar.cmpi .sge (v2 c) 2#32
def v2039 (c : Dev nD) : BitVec 1 := Scalar.andi (v2037 c) (v2038 c)
def v2040 (c : Dev nD) : BitVec 32 := Scalar.extui (v2039 c)
def v2041 (c : Dev nD) : BitVec 1 := Scalar.cmpi .ne (v2040 c) 0#32
def v2042 (c : Dev nD) : BitVec 32 := Scalar.addi (v2 c) 0#32
def v2043 (c : Dev nD) : BitVec 32 := Scalar.remsi (v2042 c) 8#32
def v2044 (c : Dev nD) : BitVec 1 := Scalar.cmpi .sle (v2043 c) 3#32
def v2045 (c : Dev nD) : BitVec 32 := Scalar.extui (v2044 c)
def v2046 (c : Dev nD) : BitVec 1 := Scalar.cmpi .ne (v2045 c) 0#32
def v2047 (c : Dev nD) : BitVec 32 := Scalar.addi (v2 c) 0#32
def v2048 (c : Dev nD) : BitVec 32 := Scalar.remsi (v2047 c) 8#32
def v2049 (c : Dev nD) : BitVec 1 := Scalar.cmpi .sle (v2048 c) 3#32
def v2050 (c : Dev nD) : BitVec 32 := Scalar.extui (v2049 c)
def v2051 (c : Dev nD) : BitVec 1 := Scalar.cmpi .ne (v2050 c) 0#32
def v2052 (c : Dev nD) : BitVec 32 := Scalar.addi (v2 c) 1#32
def v2053 (c : Dev nD) : BitVec 32 := Scalar.remsi (v2052 c) 8#32
def v2054 (c : Dev nD) : BitVec 1 := Scalar.cmpi .sle (v2053 c) 3#32
def v2055 (c : Dev nD) : BitVec 32 := Scalar.extui (v2054 c)
def v2056 (c : Dev nD) : BitVec 1 := Scalar.cmpi .ne (v2055 c) 0#32
def v2057 (c : Dev nD) : BitVec 32 := Scalar.addi (v2 c) 1#32
def v2058 (c : Dev nD) : BitVec 32 := Scalar.remsi (v2057 c) 8#32
def v2059 (c : Dev nD) : BitVec 1 := Scalar.cmpi .sle (v2058 c) 3#32
def v2060 (c : Dev nD) : BitVec 32 := Scalar.extui (v2059 c)
def v2061 (c : Dev nD) : BitVec 1 := Scalar.cmpi .ne (v2060 c) 0#32
def v2062 (c : Dev nD) : BitVec 32 := Scalar.addi (v2 c) 2#32
def v2063 (c : Dev nD) : BitVec 32 := Scalar.remsi (v2062 c) 8#32
def v2064 (c : Dev nD) : BitVec 1 := Scalar.cmpi .sle (v2063 c) 3#32
def v2065 (c : Dev nD) : BitVec 32 := Scalar.extui (v2064 c)
def v2066 (c : Dev nD) : BitVec 1 := Scalar.cmpi .ne (v2065 c) 0#32
def v2067 (c : Dev nD) : BitVec 32 := Scalar.addi (v2 c) 2#32
def v2068 (c : Dev nD) : BitVec 32 := Scalar.remsi (v2067 c) 8#32
def v2069 (c : Dev nD) : BitVec 1 := Scalar.cmpi .sle (v2068 c) 3#32
def v2070 (c : Dev nD) : BitVec 32 := Scalar.extui (v2069 c)
def v2071 (c : Dev nD) : BitVec 1 := Scalar.cmpi .ne (v2070 c) 0#32
def v2072 (c : Dev nD) : BitVec 32 := Scalar.addi (v2 c) 3#32
def v2073 (c : Dev nD) : BitVec 32 := Scalar.remsi (v2072 c) 8#32
def v2074 (c : Dev nD) : BitVec 1 := Scalar.cmpi .sle (v2073 c) 3#32
def v2075 (c : Dev nD) : BitVec 32 := Scalar.extui (v2074 c)
def v2076 (c : Dev nD) : BitVec 1 := Scalar.cmpi .ne (v2075 c) 0#32
def v2077 (c : Dev nD) : BitVec 32 := Scalar.addi (v2 c) 3#32
def v2078 (c : Dev nD) : BitVec 32 := Scalar.remsi (v2077 c) 8#32
def v2079 (c : Dev nD) : BitVec 1 := Scalar.cmpi .sle (v2078 c) 3#32
def v2080 (c : Dev nD) : BitVec 32 := Scalar.extui (v2079 c)
def v2085 (c : Dev nD) (e : In F) (X : Slot → Piece F) : Vec F S64x512 .f32 := fun i => e.w ((Rect.unit (s := S256x512) ![0, 0] S64x512.size inb_S256x512_S64x512_0_0).toLoadRect.idx i)
def v2091 (c : Dev nD) (e : In F) (X : Slot → Piece F) : Vec F S64x512 .f32 := fun i => e.w ((Rect.unit (s := S256x512) ![64, 0] S64x512.size inb_S256x512_S64x512_64_0).toLoadRect.idx i)
def v2097 (c : Dev nD) (e : In F) (X : Slot → Piece F) : Vec F S64x512 .f32 := fun i => e.w ((Rect.unit (s := S256x512) ![128, 0] S64x512.size inb_S256x512_S64x512_128_0).toLoadRect.idx i)
def v2103 (c : Dev nD) (e : In F) (X : Slot → Piece F) : Vec F S64x512 .f32 := fun i => e.w ((Rect.unit (s := S256x512) ![192, 0] S64x512.size inb_S256x512_S64x512_192_0).toLoadRect.idx i)
def v2113 (c : Dev nD) (e : In F) (X : Slot → Piece F) : Vec F S64x512 .f32 := fun i => e.w ((Rect.unit (s := S256x512) ![0, 0] S64x512.size inb_S256x512_S64x512_0_0).toLoadRect.idx i)
def v2081 (c : Dev nD) : BitVec 1 := Scalar.cmpi .ne (v2080 c) 0#32
def cst_1553 (c : Dev nD) (e : In F) (X : Slot → Piece F) : FVec F S256x512 .f32 := constant S256x512 .f32 0x00000000#32
def v2110 (c : Dev nD) (e : In F) (X : Slot → Piece F) : FVec F S256x512 .f32 := k0_pay519 (F := F)
def v2112 (c : Dev nD) (e : In F) (X : Slot → Piece F) : FVec F S256x64 .f32 := k0_pay520 (v1871 c e X) (v1875 c e X)
def v2114 (c : Dev nD) (e : In F) (X : Slot → Piece F) : FVec F S64x512 .f32 := k0_pay521 (v2113 c e X)
def v2119 (c : Dev nD) (e : In F) (X : Slot → Piece F) : Vec F S64x512 .f32 := fun i => e.w ((Rect.unit (s := S256x512) ![64, 0] S64x512.size inb_S256x512_S64x512_64_0).toLoadRect.idx i)
def v2125 (c : Dev nD) (e : In F) (X : Slot → Piece F) : Vec F S64x512 .f32 := fun i => e.w ((Rect.unit (s := S256x512) ![128, 0] S64x512.size inb_S256x512_S64x512_128_0).toLoadRect.idx i)
def v2131 (c : Dev nD) (e : In F) (X : Slot → Piece F) : Vec F S64x512 .f32 := fun i => e.w ((Rect.unit (s := S256x512) ![192, 0] S64x512.size inb_S256x512_S64x512_192_0).toLoadRect.idx i)

/-- A device's own pieces: the keys and the values of its rows of the two batch entries. -/
def own (c : Dev nD) (e : In F) (X : Slot → Piece F) : Fin 4 → Piece F :=
  ![k0_pay2 (v13 c e X), k0_pay4 (v21 c e X), k0_pay5 (v25 c e X), k0_pay6 (v31 c e X)]

/-- What is stored of the two batch entries of the result. -/
def res₀ (c : Dev nD) (e : In F) (X : Slot → Piece F) : S1x256x512.Idx → Elt F .f32 :=
  k0_pay518 (v1779 c e X) (v1783 c e X) (v1801 c e X) (v1805 c e X) (v1823 c e X) (v1827 c e X) (v1845 c e X) (v1849 c e X) (v2085 c e X) (v2091 c e X) (v2097 c e X) (v2103 c e X)
def res₁ (c : Dev nD) (e : In F) (X : Slot → Piece F) : S1x256x512.Idx → Elt F .f32 :=
  k0_pay1 (v1893 c e X) (v1897 c e X) (v1915 c e X) (v1919 c e X) (v1937 c e X) (v1941 c e X) (v2110 c e X) (v2112 c e X) (v2114 c e X) (cst_1553 c e X) (v2119 c e X) (v2125 c e X) (v2131 c e X)

/-- The output buffer, from contents `o`, when the first batch entry is stored, and when both are. -/
def out₀ (c : Dev nD) (e : In F) (X : Slot → Piece F) (o : S2x256x512.Idx → Elt F .f32) : S2x256x512.Idx → Elt F .f32 :=
  (oM.access (Rect.unit (s := S2x256x512) ![0, 0, 0] S1x256x512.size inb_S2x256x512_S1x256x512_0_0_0)).write (Elt F) o (res₀ c e X) Finset.univ
def out₁ (c : Dev nD) (e : In F) (X : Slot → Piece F) (o : S2x256x512.Idx → Elt F .f32) : S2x256x512.Idx → Elt F .f32 :=
  (oM.access (Rect.unit (s := S2x256x512) ![1, 0, 0] S1x256x512.size inb_S2x256x512_S1x256x512_1_0_0)).write (Elt F) (out₀ c e X o) (res₁ c e X) Finset.univ

end Cert.RingProof

end
-- ==== Proof.Part1.lean ====
/-
  The run, piece by piece, in the order of the program.
-/
module

public import proofs.«01_k».proof.Proof.Values

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

theorem St_mono {c : Dev nD} {e : In F} {o : S2x256x512.Idx → Elt F .f32} {R R' : sProp (MT nD τ sig Unit (Elt F) ℕ UU ℕ)} (h : R ⊢ R') : St c e o R ⊢ St c e o R' := by
  unfold St
  iintro ⟨H, HR⟩
  isplitl [H]; · iexact H
  iapply h; iexact HR

section
variable (pc : Dev nD → Fin 4 → Piece F) (K : Dev nD × Option Cid → ℕ) {c : Dev nD} {e : In F} {X : Slot → Piece F}
  (hX : ∀ s, (s.2.1.val = 0 ∨ rcv s c = true) → X s = dat pc s c) (hO : ∀ p, X (false, 0, p) = own c e X p) (o : S2x256x512.Idx → Elt F .f32)
include hX hO

theorem run_part1 : Tr c (St c e o (TA pc K c X))
    (k0_part1 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 )
    (Ret ⟨c, (v2 c), (v5 c), (v7 c), (v21 c e X)⟩ (St c e o (TB pc K c X 1))) := by
  rw [k0_part1_eq_skeleton]; unfold k0_part1_skel
  refine tr_devId ?_
  refine ev_barrier pc K c X ?_ ?_ rfl rfl rfl ?_
  · clear hX hO; apply Fin.ext; revert c; decide
  · clear hX hO; apply Fin.ext; revert c; decide
  refine ld_k ?_
  refine ld_first pc K c X 0 (by decide) (by decide) ?_
  refine st_first pc K c X 0 (by decide) (hO 0).symm ?_
  refine ld_v ?_
  refine ld_first pc K c X 1 (by decide) (by decide) ?_
  exact tr_ret _

theorem run_part2 : Tr c (St c e o (TB pc K c X 1))
    (k0_part2 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v7 c) (v21 c e X))
    (Ret (v45 c) (St c e o (T pc K c X 1))) := by
  rw [k0_part2_eq_skeleton]; unfold k0_part2_skel
  dsimp only
  refine st_first pc K c X 1 (by decide) (hO 1).symm ?_
  refine ld_k ?_
  refine ld_first pc K c X 2 (by decide) (by decide) ?_
  refine st_first pc K c X 2 (by decide) (hO 2).symm ?_
  refine ld_v ?_
  refine ld_first pc K c X 3 (by decide) (by decide) ?_
  refine st_first pc K c X 3 (by decide) (hO 3).symm ?_
  refine tr_pre (St_mono (TB_T pc K hX)) ?_
  refine ev_if pc K (n := 0) (i := 0) (s := (false, 0, 0)) (by rfl) ?_ ?_ ?_
  · clear hX hO; revert c; decide +kernel
  · intro h ha hk; refine ev_start pc K hX (n := 0) (s := (false, 0, 0)) (by rfl) (by exact ha) (by clear hk ha hX hO; apply Fin.ext; exact k0_dev3_eq c) (by rfl) (by rfl) (by decide +kernel) (by decide +kernel) ?_; with_reducible exact hk
  exact tr_ret _

theorem run_part3 : Tr c (St c e o (T pc K c X 1))
    (k0_part3 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v7 c) (v45 c))
    (Ret (c0_i32_94 c) (St c e o (T pc K c X 5))) := by
  rw [k0_part3_eq_skeleton]; unfold k0_part3_skel
  dsimp only
  refine ev_if pc K (n := 1) (i := 0) (s := (true, 0, 0)) (by rfl) ?_ ?_ ?_
  · clear hX hO; revert c; decide +kernel
  · intro h ha hk; refine ev_start pc K hX (n := 1) (s := (true, 0, 0)) (by rfl) (by exact ha) (by clear hk ha hX hO; apply Fin.ext; exact k0_dev4_eq c) (by rfl) (by rfl) (by decide +kernel) (by decide +kernel) ?_; with_reducible exact hk
  refine ev_if pc K (n := 2) (i := 0) (s := (false, 0, 1)) (by rfl) ?_ ?_ ?_
  · clear hX hO; revert c; decide +kernel
  · intro h ha hk; refine ev_start pc K hX (n := 2) (s := (false, 0, 1)) (by rfl) (by exact ha) (by clear hk ha hX hO; apply Fin.ext; exact k0_dev5_eq c) (by rfl) (by rfl) (by decide +kernel) (by decide +kernel) ?_; with_reducible exact hk
  refine ev_if pc K (n := 3) (i := 0) (s := (true, 0, 1)) (by rfl) ?_ ?_ ?_
  · clear hX hO; revert c; decide +kernel
  · intro h ha hk; refine ev_start pc K hX (n := 3) (s := (true, 0, 1)) (by rfl) (by exact ha) (by clear hk ha hX hO; apply Fin.ext; exact k0_dev6_eq c) (by rfl) (by rfl) (by decide +kernel) (by decide +kernel) ?_; with_reducible exact hk
  refine ev_if pc K (n := 4) (i := 0) (s := (false, 0, 2)) (by rfl) ?_ ?_ ?_
  · clear hX hO; revert c; decide +kernel
  · intro h ha hk; refine ev_start pc K hX (n := 4) (s := (false, 0, 2)) (by rfl) (by exact ha) (by clear hk ha hX hO; apply Fin.ext; exact k0_dev7_eq c) (by rfl) (by rfl) (by decide +kernel) (by decide +kernel) ?_; with_reducible exact hk
  exact tr_ret _

theorem run_part4 : Tr c (St c e o (T pc K c X 5))
    (k0_part4 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v7 c) (c0_i32_94 c))
    (Ret ⟨(v78 c e X), (v79 c e X)⟩ (St c e o (T pc K c X 8))) := by
  rw [k0_part4_eq_skeleton]; unfold k0_part4_skel
  dsimp only
  refine ev_if pc K (n := 5) (i := 0) (s := (true, 0, 2)) (by rfl) ?_ ?_ ?_
  · clear hX hO; revert c; decide +kernel
  · intro h ha hk; refine ev_start pc K hX (n := 5) (s := (true, 0, 2)) (by rfl) (by exact ha) (by clear hk ha hX hO; apply Fin.ext; exact k0_dev8_eq c) (by rfl) (by rfl) (by decide +kernel) (by decide +kernel) ?_; with_reducible exact hk
  refine ev_if pc K (n := 6) (i := 0) (s := (false, 0, 3)) (by rfl) ?_ ?_ ?_
  · clear hX hO; revert c; decide +kernel
  · intro h ha hk; refine ev_start pc K hX (n := 6) (s := (false, 0, 3)) (by rfl) (by exact ha) (by clear hk ha hX hO; apply Fin.ext; exact k0_dev9_eq c) (by rfl) (by rfl) (by decide +kernel) (by decide +kernel) ?_; with_reducible exact hk
  refine ev_if pc K (n := 7) (i := 0) (s := (true, 0, 3)) (by rfl) ?_ ?_ ?_
  · clear hX hO; revert c; decide +kernel
  · intro h ha hk; refine ev_start pc K hX (n := 7) (s := (true, 0, 3)) (by rfl) (by exact ha) (by clear hk ha hX hO; apply Fin.ext; exact k0_dev10_eq c) (by rfl) (by rfl) (by decide +kernel) (by decide +kernel) ?_; with_reducible exact hk
  refine ld_x ?_
  refine ld_q ?_
  exact tr_ret _

end

end Cert.RingProof

end
-- ==== Proof.Part2.lean ====
/-
  The run, piece by piece, in the order of the program.
-/
module

public import proofs.«01_k».proof.Proof.Values

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section
variable (pc : Dev nD → Fin 4 → Piece F) (K : Dev nD × Option Cid → ℕ) {c : Dev nD} {e : In F} {X : Slot → Piece F}
  (hX : ∀ s, (s.2.1.val = 0 ∨ rcv s c = true) → X s = dat pc s c) (hO : ∀ p, X (false, 0, p) = own c e X p) (o : S2x256x512.Idx → Elt F .f32)
include hX hO

theorem run_part5 : Tr c (St c e o (T pc K c X 8))
    (k0_part5 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v78 c e X) (v79 c e X))
    (Ret ⟨(v83 c e X), (v90 c e X), (v115 c e X), (v116 c e X), (c64_i32_147 c), (v118 c e X), (v121 c e X)⟩ (St c e o (T pc K c X 8))) := by
  rw [k0_part5_eq_skeleton]; unfold k0_part5_skel
  refine ld_x ?_
  refine ld_q ?_
  exact tr_ret _

theorem run_part6 : Tr c (St c e o (T pc K c X 8))
    (k0_part6 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v116 c e X) (c64_i32_147 c) (v118 c e X) (v121 c e X))
    (Ret ⟨(v140 c e X), (v141 c e X), (v142 c e X), (v143 c e X), (v144 c e X), (v145 c e X), (v146 c e X), (v147 c e X), (v148 c e X), (v149 c e X), (v150 c e X), (v151 c e X), (v152 c e X), (v153 c e X), (v154 c e X), (v155 c e X), (v156 c e X), (v157 c e X), (v158 c e X)⟩ (St c e o (T pc K c X 8))) := by
  rw [k0_part6_eq_skeleton]; unfold k0_part6_skel
  exact tr_ret _

theorem run_part7 : Tr c (St c e o (T pc K c X 8))
    (k0_part7 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v83 c e X) (v115 c e X) (v140 c e X) (v141 c e X) (v149 c e X) (v157 c e X))
    (Ret ⟨(v159 c e X), (v160 c e X), (v161 c e X), (v162 c e X), (v163 c e X), (v164 c e X), (v171 c e X), (v173 c e X), (v175 c e X), (v184 c e X), (v193 c e X), (v197 c e X)⟩ (St c e o (T pc K c X 8))) := by
  rw [k0_part7_eq_skeleton]; unfold k0_part7_skel
  refine ld_f pc K 0 0 (by decide) (by decide) (m := 0) (Or.inl rfl) ?_
  refine ld_f pc K 0 1 (by decide) (by decide) (m := 0) (Or.inl rfl) ?_
  exact tr_ret _

theorem run_part8 : Tr c (St c e o (T pc K c X 8))
    (k0_part8 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v142 c e X) (v143 c e X) (v150 c e X) (v151 c e X) (v158 c e X) (v159 c e X) (v171 c e X) (v173 c e X) (v175 c e X))
    (Ret ⟨(v206 c e X), (v215 c e X), (v219 c e X), (v228 c e X), (v237 c e X), (v241 c e X), (v243 c e X), (v245 c e X), (cst_203 c e X)⟩ (St c e o (T pc K c X 8))) := by
  rw [k0_part8_eq_skeleton]; unfold k0_part8_skel
  exact tr_ret _

theorem run_part9 : Tr c (St c e o (T pc K c X 8))
    (k0_part9 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v144 c e X) (v145 c e X) (v152 c e X) (v153 c e X) (v160 c e X) (v161 c e X) (v171 c e X) (v243 c e X) (v245 c e X) (cst_203 c e X))
    (Ret ⟨(v250 c e X), (v259 c e X), (v263 c e X), (v265 c e X), (v267 c e X), (v276 c e X), (v285 c e X), (v289 c e X)⟩ (St c e o (T pc K c X 8))) := by
  rw [k0_part9_eq_skeleton]; unfold k0_part9_skel
  refine ld_f pc K 0 2 (by decide) (by decide) (m := 0) (Or.inl rfl) ?_
  refine ld_f pc K 0 3 (by decide) (by decide) (m := 0) (Or.inl rfl) ?_
  exact tr_ret _

theorem run_part10 : Tr c (St c e o (T pc K c X 8))
    (k0_part10 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v146 c e X) (v147 c e X) (v154 c e X) (v155 c e X) (v162 c e X) (v163 c e X) (v171 c e X) (v265 c e X) (v267 c e X))
    (Ret ⟨(v298 c e X), (v307 c e X), (v311 c e X), (v320 c e X), (v329 c e X), (v333 c e X), (v335 c e X), (v337 c e X), (cst_231 c e X)⟩ (St c e o (T pc K c X 8))) := by
  rw [k0_part10_eq_skeleton]; unfold k0_part10_skel
  exact tr_ret _

theorem run_part11 : Tr c (St c e o (T pc K c X 8))
    (k0_part11 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v7 c) (v148 c e X) (v156 c e X) (v164 c e X) (v171 c e X) (v335 c e X) (v337 c e X) (cst_231 c e X))
    (Ret ⟨(v342 c e X), (v351 c e X), (v355 c e X), (v365 c)⟩ (St c e o (T pc K c X 10))) := by
  rw [k0_part11_eq_skeleton]; unfold k0_part11_skel
  dsimp only
  refine ev_if pc K (n := 8) (i := 1) (s := (false, 1, 0)) (by rfl) ?_ ?_ ?_
  · clear hX hO; revert c; decide +kernel
  · intro h ha hk; refine ev_got pc K hX (n := 8) (s := (false, 1, 0)) (by rfl) (by exact ha) (by first | exact credit_f _ _ | exact credit_b _ _) (by decide +kernel) ?_; with_reducible exact hk
  refine ev_if pc K (n := 9) (i := 0) (s := (false, 1, 0)) (by rfl) ?_ ?_ ?_
  · clear hX hO; revert c; decide +kernel
  · intro h ha hk; refine ev_start pc K hX (n := 9) (s := (false, 1, 0)) (by rfl) (by exact ha) (by clear hk ha hX hO; apply Fin.ext; exact k0_dev11_eq c) (by rfl) (by rfl) (by decide +kernel) (by decide +kernel) ?_; with_reducible exact hk
  exact tr_ret _

theorem run_part12 : Tr c (St c e o (T pc K c X 10))
    (k0_part12 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v7 c) (v365 c))
    (Ret ⟨⟩ (St c e o (T pc K c X 13))) := by
  rw [k0_part12_eq_skeleton]; unfold k0_part12_skel
  dsimp only
  refine ev_if pc K (n := 10) (i := 1) (s := (false, 1, 1)) (by rfl) ?_ ?_ ?_
  · clear hX hO; revert c; decide +kernel
  · intro h ha hk; refine ev_got pc K hX (n := 10) (s := (false, 1, 1)) (by rfl) (by exact ha) (by first | exact credit_f _ _ | exact credit_b _ _) (by decide +kernel) ?_; with_reducible exact hk
  refine ev_if pc K (n := 11) (i := 0) (s := (false, 1, 1)) (by rfl) ?_ ?_ ?_
  · clear hX hO; revert c; decide +kernel
  · intro h ha hk; refine ev_start pc K hX (n := 11) (s := (false, 1, 1)) (by rfl) (by exact ha) (by clear hk ha hX hO; apply Fin.ext; exact k0_dev12_eq c) (by rfl) (by rfl) (by decide +kernel) (by decide +kernel) ?_; with_reducible exact hk
  refine ev_if pc K (n := 12) (i := 1) (s := (true, 1, 0)) (by rfl) ?_ ?_ ?_
  · clear hX hO; revert c; decide +kernel
  · intro h ha hk; refine ev_got pc K hX (n := 12) (s := (true, 1, 0)) (by rfl) (by exact ha) (by first | exact credit_f _ _ | exact credit_b _ _) (by decide +kernel) ?_; with_reducible exact hk
  exact tr_ret _

theorem run_part13 : Tr c (St c e o (T pc K c X 13))
    (k0_part13 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v7 c))
    (Ret (v400 c) (St c e o (T pc K c X 17))) := by
  rw [k0_part13_eq_skeleton]; unfold k0_part13_skel
  dsimp only
  refine ev_if pc K (n := 13) (i := 0) (s := (true, 1, 0)) (by rfl) ?_ ?_ ?_
  · clear hX hO; revert c; decide +kernel
  · intro h ha hk; refine ev_start pc K hX (n := 13) (s := (true, 1, 0)) (by rfl) (by exact ha) (by clear hk ha hX hO; apply Fin.ext; exact k0_dev13_eq c) (by rfl) (by rfl) (by decide +kernel) (by decide +kernel) ?_; with_reducible exact hk
  refine ev_if pc K (n := 14) (i := 1) (s := (true, 1, 1)) (by rfl) ?_ ?_ ?_
  · clear hX hO; revert c; decide +kernel
  · intro h ha hk; refine ev_got pc K hX (n := 14) (s := (true, 1, 1)) (by rfl) (by exact ha) (by first | exact credit_f _ _ | exact credit_b _ _) (by decide +kernel) ?_; with_reducible exact hk
  refine ev_if pc K (n := 15) (i := 0) (s := (true, 1, 1)) (by rfl) ?_ ?_ ?_
  · clear hX hO; revert c; decide +kernel
  · intro h ha hk; refine ev_start pc K hX (n := 15) (s := (true, 1, 1)) (by rfl) (by exact ha) (by clear hk ha hX hO; apply Fin.ext; exact k0_dev14_eq c) (by rfl) (by rfl) (by decide +kernel) (by decide +kernel) ?_; with_reducible exact hk
  refine ev_if pc K (n := 16) (i := 1) (s := (false, 1, 2)) (by rfl) ?_ ?_ ?_
  · clear hX hO; revert c; decide +kernel
  · intro h ha hk; refine ev_got pc K hX (n := 16) (s := (false, 1, 2)) (by rfl) (by exact ha) (by first | exact credit_f _ _ | exact credit_b _ _) (by decide +kernel) ?_; with_reducible exact hk
  exact tr_ret _

theorem run_part14 : Tr c (St c e o (T pc K c X 17))
    (k0_part14 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v7 c) (v400 c))
    (Ret (v415 c) (St c e o (T pc K c X 20))) := by
  rw [k0_part14_eq_skeleton]; unfold k0_part14_skel
  dsimp only
  refine ev_if pc K (n := 17) (i := 0) (s := (false, 1, 2)) (by rfl) ?_ ?_ ?_
  · clear hX hO; revert c; decide +kernel
  · intro h ha hk; refine ev_start pc K hX (n := 17) (s := (false, 1, 2)) (by rfl) (by exact ha) (by clear hk ha hX hO; apply Fin.ext; exact k0_dev15_eq c) (by rfl) (by rfl) (by decide +kernel) (by decide +kernel) ?_; with_reducible exact hk
  refine ev_if pc K (n := 18) (i := 1) (s := (false, 1, 3)) (by rfl) ?_ ?_ ?_
  · clear hX hO; revert c; decide +kernel
  · intro h ha hk; refine ev_got pc K hX (n := 18) (s := (false, 1, 3)) (by rfl) (by exact ha) (by first | exact credit_f _ _ | exact credit_b _ _) (by decide +kernel) ?_; with_reducible exact hk
  refine ev_if pc K (n := 19) (i := 0) (s := (false, 1, 3)) (by rfl) ?_ ?_ ?_
  · clear hX hO; revert c; decide +kernel
  · intro h ha hk; refine ev_start pc K hX (n := 19) (s := (false, 1, 3)) (by rfl) (by exact ha) (by clear hk ha hX hO; apply Fin.ext; exact k0_dev16_eq c) (by rfl) (by rfl) (by decide +kernel) (by decide +kernel) ?_; with_reducible exact hk
  exact tr_ret _

theorem run_part15 : Tr c (St c e o (T pc K c X 20))
    (k0_part15 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v415 c))
    (Ret ⟨(v432 c), (c1_i32_420 c)⟩ (St c e o (T pc K c X 24))) := by
  rw [k0_part15_eq_skeleton]; unfold k0_part15_skel
  dsimp only
  refine ev_if pc K (n := 20) (i := 1) (s := (true, 1, 2)) (by rfl) ?_ ?_ ?_
  · clear hX hO; revert c; decide +kernel
  · intro h ha hk; refine ev_got pc K hX (n := 20) (s := (true, 1, 2)) (by rfl) (by exact ha) (by first | exact credit_f _ _ | exact credit_b _ _) (by decide +kernel) ?_; with_reducible exact hk
  refine ev_if pc K (n := 21) (i := 0) (s := (true, 1, 2)) (by rfl) ?_ ?_ ?_
  · clear hX hO; revert c; decide +kernel
  · intro h ha hk; refine ev_start pc K hX (n := 21) (s := (true, 1, 2)) (by rfl) (by exact ha) (by clear hk ha hX hO; apply Fin.ext; exact k0_dev17_eq c) (by rfl) (by rfl) (by decide +kernel) (by decide +kernel) ?_; with_reducible exact hk
  refine ev_if pc K (n := 22) (i := 1) (s := (true, 1, 3)) (by rfl) ?_ ?_ ?_
  · clear hX hO; revert c; decide +kernel
  · intro h ha hk; refine ev_got pc K hX (n := 22) (s := (true, 1, 3)) (by rfl) (by exact ha) (by first | exact credit_f _ _ | exact credit_b _ _) (by decide +kernel) ?_; with_reducible exact hk
  refine ev_if pc K (n := 23) (i := 0) (s := (true, 1, 3)) (by rfl) ?_ ?_ ?_
  · clear hX hO; revert c; decide +kernel
  · intro h ha hk; refine ev_start pc K hX (n := 23) (s := (true, 1, 3)) (by rfl) (by exact ha) (by clear hk ha hX hO; apply Fin.ext; exact k0_dev18_eq c) (by rfl) (by rfl) (by decide +kernel) (by decide +kernel) ?_; with_reducible exact hk
  exact tr_ret _

theorem run_part16 : Tr c (St c e o (T pc K c X 24))
    (k0_part16 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v83 c e X) (v115 c e X) (v140 c e X) (v184 c e X) (v193 c e X) (v197 c e X) (v432 c) (c1_i32_420 c))
    (Ret ⟨(v442 c e X), (v444 c e X), (v446 c e X), (v455 c e X), (v464 c e X), (v468 c e X), (v470 c e X), (v472 c e X), (v473 c e X)⟩ (St c e o (T pc K c X 24))) := by
  rw [k0_part16_eq_skeleton]; unfold k0_part16_skel
  refine ld_f pc K 1 0 (by decide) (by decide) (m := 8) (Or.inr ⟨by rfl, by decide⟩) ?_
  refine ld_f pc K 1 1 (by decide) (by decide) (m := 10) (Or.inr ⟨by rfl, by decide⟩) ?_
  exact tr_ret _

end

end Cert.RingProof

end
-- ==== Proof.Part3.lean ====
/-
  The run, piece by piece, in the order of the program.
-/
module

public import proofs.«01_k».proof.Proof.Values

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section
variable (pc : Dev nD → Fin 4 → Piece F) (K : Dev nD × Option Cid → ℕ) {c : Dev nD} {e : In F} {X : Slot → Piece F}
  (hX : ∀ s, (s.2.1.val = 0 ∨ rcv s c = true) → X s = dat pc s c) (hO : ∀ p, X (false, 0, p) = own c e X p) (o : S2x256x512.Idx → Elt F .f32)
include hX hO

theorem run_part17 : Tr c (St c e o (T pc K c X 24))
    (k0_part17 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v206 c e X) (v215 c e X) (v219 c e X) (v228 c e X) (v237 c e X) (v241 c e X) (v250 c e X) (v442 c e X) (v444 c e X) (v446 c e X) (v470 c e X) (v472 c e X) (v473 c e X))
    (Ret ⟨(v477 c e X), (v486 c e X), (v490 c e X), (v499 c e X), (v508 c e X), (v512 c e X), (v514 c e X), (v518 c e X), (v521 c e X), (v522 c e X)⟩ (St c e o (T pc K c X 24))) := by
  rw [k0_part17_eq_skeleton]; unfold k0_part17_skel
  exact tr_ret _

theorem run_part18 : Tr c (St c e o (T pc K c X 24))
    (k0_part18 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v250 c e X) (v259 c e X) (v263 c e X) (v276 c e X) (v285 c e X) (v289 c e X) (v442 c e X) (v514 c e X) (v518 c e X) (v521 c e X) (v522 c e X))
    (Ret ⟨(v530 c e X), (v534 c e X), (v536 c e X), (v538 c e X), (v547 c e X), (v556 c e X), (v560 c e X), (v562 c e X), (v564 c e X), (v565 c e X)⟩ (St c e o (T pc K c X 24))) := by
  rw [k0_part18_eq_skeleton]; unfold k0_part18_skel
  refine ld_f pc K 1 2 (by decide) (by decide) (m := 16) (Or.inr ⟨by rfl, by decide⟩) ?_
  refine ld_f pc K 1 3 (by decide) (by decide) (m := 18) (Or.inr ⟨by rfl, by decide⟩) ?_
  exact tr_ret _

theorem run_part19 : Tr c (St c e o (T pc K c X 24))
    (k0_part19 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v298 c e X) (v307 c e X) (v311 c e X) (v320 c e X) (v329 c e X) (v333 c e X) (v342 c e X) (v442 c e X) (v536 c e X) (v538 c e X) (v562 c e X) (v564 c e X) (v565 c e X))
    (Ret ⟨(v569 c e X), (v578 c e X), (v582 c e X), (v591 c e X), (v600 c e X), (v604 c e X), (v606 c e X), (v610 c e X), (v613 c e X), (v614 c e X)⟩ (St c e o (T pc K c X 24))) := by
  rw [k0_part19_eq_skeleton]; unfold k0_part19_skel
  exact tr_ret _

theorem run_part20 : Tr c (St c e o (T pc K c X 24))
    (k0_part20 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v83 c e X) (v115 c e X) (v140 c e X) (v342 c e X) (v351 c e X) (v355 c e X) (v455 c e X) (v464 c e X) (v606 c e X) (v610 c e X) (v613 c e X) (v614 c e X))
    (Ret ⟨(v622 c e X), (v626 c e X), (v636 c e X), (v638 c e X), (v640 c e X), (v642 c e X), (v649 c e X), (v652 c e X), (v654 c e X), (v655 c e X)⟩ (St c e o (T pc K c X 24))) := by
  rw [k0_part20_eq_skeleton]; unfold k0_part20_skel
  refine ld_b pc K 0 0 (by decide) (by decide) (m := 12) ⟨by rfl, by decide⟩ ?_
  refine ld_b pc K 0 1 (by decide) (by decide) (m := 14) ⟨by rfl, by decide⟩ ?_
  exact tr_ret _

theorem run_part21 : Tr c (St c e o (T pc K c X 24))
    (k0_part21 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v468 c e X) (v477 c e X) (v486 c e X) (v490 c e X) (v499 c e X) (v508 c e X) (v512 c e X) (v636 c e X) (v638 c e X) (v640 c e X) (v642 c e X) (v652 c e X) (v654 c e X) (v655 c e X))
    (Ret ⟨(v658 c e X), (v662 c e X), (v671 c e X), (v680 c e X), (v684 c e X), (v686 c e X), (v693 c e X), (v696 c e X), (v702 c e X), (v704 c e X), (cst_508 c e X)⟩ (St c e o (T pc K c X 24))) := by
  rw [k0_part21_eq_skeleton]; unfold k0_part21_skel
  exact tr_ret _

theorem run_part22 : Tr c (St c e o (T pc K c X 24))
    (k0_part22 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v90 c e X) (v521 c e X) (v530 c e X) (v534 c e X) (v547 c e X) (v556 c e X) (v636 c e X) (v638 c e X) (v640 c e X) (v686 c e X) (v696 c e X) (v704 c e X) (cst_508 c e X))
    (Ret ⟨(v706 c e X), (v715 c e X), (v724 c e X), (v728 c e X), (v730 c e X), (v732 c e X), (v734 c e X), (v741 c e X), (v744 c e X), (v746 c e X), (v747 c e X)⟩ (St c e o (T pc K c X 24))) := by
  rw [k0_part22_eq_skeleton]; unfold k0_part22_skel
  refine ld_b pc K 0 2 (by decide) (by decide) (m := 20) ⟨by rfl, by decide⟩ ?_
  refine ld_b pc K 0 3 (by decide) (by decide) (m := 22) ⟨by rfl, by decide⟩ ?_
  exact tr_ret _

theorem run_part23 : Tr c (St c e o (T pc K c X 24))
    (k0_part23 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v560 c e X) (v569 c e X) (v578 c e X) (v582 c e X) (v591 c e X) (v600 c e X) (v604 c e X) (v636 c e X) (v730 c e X) (v732 c e X) (v734 c e X) (v744 c e X) (v746 c e X) (v747 c e X))
    (Ret ⟨(v750 c e X), (v754 c e X), (v763 c e X), (v772 c e X), (v776 c e X), (v778 c e X), (v785 c e X), (v788 c e X), (v794 c e X), (v796 c e X), (cst_536 c e X)⟩ (St c e o (T pc K c X 24))) := by
  rw [k0_part23_eq_skeleton]; unfold k0_part23_skel
  exact tr_ret _

theorem run_part24 : Tr c (St c e o (T pc K c X 24))
    (k0_part24 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v7 c) (v90 c e X) (v613 c e X) (v622 c e X) (v626 c e X) (v636 c e X) (v730 c e X) (v732 c e X) (v778 c e X) (v788 c e X) (v796 c e X) (cst_536 c e X))
    (Ret ⟨(v798 c e X), (v807 c e X), (v816 c e X), (v820 c e X)⟩ (St c e o (T pc K c X 26))) := by
  rw [k0_part24_eq_skeleton]; unfold k0_part24_skel
  dsimp only
  refine ev_if pc K (n := 24) (i := 1) (s := (false, 2, 0)) (by rfl) ?_ ?_ ?_
  · clear hX hO; revert c; decide +kernel
  · intro h ha hk; refine ev_got pc K hX (n := 24) (s := (false, 2, 0)) (by rfl) (by exact ha) (by first | exact credit_f _ _ | exact credit_b _ _) (by decide +kernel) ?_; with_reducible exact hk
  refine ev_if pc K (n := 25) (i := 0) (s := (false, 2, 0)) (by rfl) ?_ ?_ ?_
  · clear hX hO; revert c; decide +kernel
  · intro h ha hk; refine ev_start pc K hX (n := 25) (s := (false, 2, 0)) (by rfl) (by exact ha) (by clear hk ha hX hO; apply Fin.ext; exact k0_dev19_eq c) (by rfl) (by rfl) (by decide +kernel) (by decide +kernel) ?_; with_reducible exact hk
  exact tr_ret _

theorem run_part25 : Tr c (St c e o (T pc K c X 26))
    (k0_part25 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v7 c))
    (Ret (v846 c) (St c e o (T pc K c X 29))) := by
  rw [k0_part25_eq_skeleton]; unfold k0_part25_skel
  dsimp only
  refine ev_if pc K (n := 26) (i := 1) (s := (false, 2, 1)) (by rfl) ?_ ?_ ?_
  · clear hX hO; revert c; decide +kernel
  · intro h ha hk; refine ev_got pc K hX (n := 26) (s := (false, 2, 1)) (by rfl) (by exact ha) (by first | exact credit_f _ _ | exact credit_b _ _) (by decide +kernel) ?_; with_reducible exact hk
  refine ev_if pc K (n := 27) (i := 0) (s := (false, 2, 1)) (by rfl) ?_ ?_ ?_
  · clear hX hO; revert c; decide +kernel
  · intro h ha hk; refine ev_start pc K hX (n := 27) (s := (false, 2, 1)) (by rfl) (by exact ha) (by clear hk ha hX hO; apply Fin.ext; exact k0_dev20_eq c) (by rfl) (by rfl) (by decide +kernel) (by decide +kernel) ?_; with_reducible exact hk
  refine ev_if pc K (n := 28) (i := 1) (s := (true, 2, 0)) (by rfl) ?_ ?_ ?_
  · clear hX hO; revert c; decide +kernel
  · intro h ha hk; refine ev_got pc K hX (n := 28) (s := (true, 2, 0)) (by rfl) (by exact ha) (by first | exact credit_f _ _ | exact credit_b _ _) (by decide +kernel) ?_; with_reducible exact hk
  exact tr_ret _

theorem run_part26 : Tr c (St c e o (T pc K c X 29))
    (k0_part26 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v846 c))
    (Ret (v861 c) (St c e o (T pc K c X 32))) := by
  rw [k0_part26_eq_skeleton]; unfold k0_part26_skel
  dsimp only
  refine ev_if pc K (n := 29) (i := 0) (s := (true, 2, 0)) (by rfl) ?_ ?_ ?_
  · clear hX hO; revert c; decide +kernel
  · intro h ha hk; refine ev_start pc K hX (n := 29) (s := (true, 2, 0)) (by rfl) (by exact ha) (by clear hk ha hX hO; apply Fin.ext; exact k0_dev21_eq c) (by rfl) (by rfl) (by decide +kernel) (by decide +kernel) ?_; with_reducible exact hk
  refine ev_if pc K (n := 30) (i := 1) (s := (true, 2, 1)) (by rfl) ?_ ?_ ?_
  · clear hX hO; revert c; decide +kernel
  · intro h ha hk; refine ev_got pc K hX (n := 30) (s := (true, 2, 1)) (by rfl) (by exact ha) (by first | exact credit_f _ _ | exact credit_b _ _) (by decide +kernel) ?_; with_reducible exact hk
  refine ev_if pc K (n := 31) (i := 0) (s := (true, 2, 1)) (by rfl) ?_ ?_ ?_
  · clear hX hO; revert c; decide +kernel
  · intro h ha hk; refine ev_start pc K hX (n := 31) (s := (true, 2, 1)) (by rfl) (by exact ha) (by clear hk ha hX hO; apply Fin.ext; exact k0_dev22_eq c) (by rfl) (by rfl) (by decide +kernel) (by decide +kernel) ?_; with_reducible exact hk
  exact tr_ret _

theorem run_part27 : Tr c (St c e o (T pc K c X 32))
    (k0_part27 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v7 c) (v861 c))
    (Ret (v879 c) (St c e o (T pc K c X 36))) := by
  rw [k0_part27_eq_skeleton]; unfold k0_part27_skel
  dsimp only
  refine ev_if pc K (n := 32) (i := 1) (s := (false, 2, 2)) (by rfl) ?_ ?_ ?_
  · clear hX hO; revert c; decide +kernel
  · intro h ha hk; refine ev_got pc K hX (n := 32) (s := (false, 2, 2)) (by rfl) (by exact ha) (by first | exact credit_f _ _ | exact credit_b _ _) (by decide +kernel) ?_; with_reducible exact hk
  refine ev_if pc K (n := 33) (i := 0) (s := (false, 2, 2)) (by rfl) ?_ ?_ ?_
  · clear hX hO; revert c; decide +kernel
  · intro h ha hk; refine ev_start pc K hX (n := 33) (s := (false, 2, 2)) (by rfl) (by exact ha) (by clear hk ha hX hO; apply Fin.ext; exact k0_dev23_eq c) (by rfl) (by rfl) (by decide +kernel) (by decide +kernel) ?_; with_reducible exact hk
  refine ev_if pc K (n := 34) (i := 1) (s := (false, 2, 3)) (by rfl) ?_ ?_ ?_
  · clear hX hO; revert c; decide +kernel
  · intro h ha hk; refine ev_got pc K hX (n := 34) (s := (false, 2, 3)) (by rfl) (by exact ha) (by first | exact credit_f _ _ | exact credit_b _ _) (by decide +kernel) ?_; with_reducible exact hk
  refine ev_if pc K (n := 35) (i := 0) (s := (false, 2, 3)) (by rfl) ?_ ?_ ?_
  · clear hX hO; revert c; decide +kernel
  · intro h ha hk; refine ev_start pc K hX (n := 35) (s := (false, 2, 3)) (by rfl) (by exact ha) (by clear hk ha hX hO; apply Fin.ext; exact k0_dev24_eq c) (by rfl) (by rfl) (by decide +kernel) (by decide +kernel) ?_; with_reducible exact hk
  exact tr_ret _

theorem run_part28 : Tr c (St c e o (T pc K c X 36))
    (k0_part28 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v879 c))
    (Ret (v895 c) (St c e o (T pc K c X 39))) := by
  rw [k0_part28_eq_skeleton]; unfold k0_part28_skel
  dsimp only
  refine ev_if pc K (n := 36) (i := 1) (s := (true, 2, 2)) (by rfl) ?_ ?_ ?_
  · clear hX hO; revert c; decide +kernel
  · intro h ha hk; refine ev_got pc K hX (n := 36) (s := (true, 2, 2)) (by rfl) (by exact ha) (by first | exact credit_f _ _ | exact credit_b _ _) (by decide +kernel) ?_; with_reducible exact hk
  refine ev_if pc K (n := 37) (i := 0) (s := (true, 2, 2)) (by rfl) ?_ ?_ ?_
  · clear hX hO; revert c; decide +kernel
  · intro h ha hk; refine ev_start pc K hX (n := 37) (s := (true, 2, 2)) (by rfl) (by exact ha) (by clear hk ha hX hO; apply Fin.ext; exact k0_dev25_eq c) (by rfl) (by rfl) (by decide +kernel) (by decide +kernel) ?_; with_reducible exact hk
  refine ev_if pc K (n := 38) (i := 1) (s := (true, 2, 3)) (by rfl) ?_ ?_ ?_
  · clear hX hO; revert c; decide +kernel
  · intro h ha hk; refine ev_got pc K hX (n := 38) (s := (true, 2, 3)) (by rfl) (by exact ha) (by first | exact credit_f _ _ | exact credit_b _ _) (by decide +kernel) ?_; with_reducible exact hk
  exact tr_ret _

end

end Cert.RingProof

end
-- ==== Proof.Part4.lean ====
/-
  The run, piece by piece, in the order of the program.
-/
module

public import proofs.«01_k».proof.Proof.Values

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section
variable (pc : Dev nD → Fin 4 → Piece F) (K : Dev nD × Option Cid → ℕ) {c : Dev nD} {e : In F} {X : Slot → Piece F}
  (hX : ∀ s, (s.2.1.val = 0 ∨ rcv s c = true) → X s = dat pc s c) (hO : ∀ p, X (false, 0, p) = own c e X p) (o : S2x256x512.Idx → Elt F .f32)
include hX hO

theorem run_part29 : Tr c (St c e o (T pc K c X 39))
    (k0_part29 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v83 c e X) (v115 c e X) (v140 c e X) (v649 c e X) (v658 c e X) (v662 c e X) (v895 c))
    (Ret ⟨(v907 c e X), (v909 c e X), (v911 c e X), (v920 c e X), (v929 c e X), (v931 c e X), (v932 c e X)⟩ (St c e o (T pc K c X 40))) := by
  rw [k0_part29_eq_skeleton]; unfold k0_part29_skel
  dsimp only
  refine ev_if pc K (n := 39) (i := 0) (s := (true, 2, 3)) (by rfl) ?_ ?_ ?_
  · clear hX hO; revert c; decide +kernel
  · intro h ha hk; refine ev_start pc K hX (n := 39) (s := (true, 2, 3)) (by rfl) (by exact ha) (by clear hk ha hX hO; apply Fin.ext; exact k0_dev26_eq c) (by rfl) (by rfl) (by decide +kernel) (by decide +kernel) ?_; with_reducible exact hk
  refine ld_f pc K 2 0 (by decide) (by decide) (m := 24) (Or.inr ⟨by rfl, by decide⟩) ?_
  refine ld_f pc K 2 1 (by decide) (by decide) (m := 26) (Or.inr ⟨by rfl, by decide⟩) ?_
  exact tr_ret _

theorem run_part30 : Tr c (St c e o (T pc K c X 40))
    (k0_part30 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v671 c e X) (v680 c e X) (v684 c e X) (v693 c e X) (v702 c e X) (v706 c e X) (v907 c e X) (v909 c e X) (v911 c e X) (v931 c e X) (v932 c e X))
    (Ret ⟨(v933 c e X), (v942 c e X), (v951 c e X), (v955 c e X), (v964 c e X), (v973 c e X), (v977 c e X), (v979 c e X), (v981 c e X)⟩ (St c e o (T pc K c X 40))) := by
  rw [k0_part30_eq_skeleton]; unfold k0_part30_skel
  exact tr_ret _

theorem run_part31 : Tr c (St c e o (T pc K c X 40))
    (k0_part31 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v715 c e X) (v724 c e X) (v728 c e X) (v741 c e X) (v750 c e X) (v754 c e X) (v907 c e X) (v979 c e X) (v981 c e X))
    (Ret ⟨(v986 c e X), (v995 c e X), (v999 c e X), (v1001 c e X), (v1003 c e X), (v1012 c e X), (v1021 c e X), (v1023 c e X), (v1024 c e X)⟩ (St c e o (T pc K c X 40))) := by
  rw [k0_part31_eq_skeleton]; unfold k0_part31_skel
  refine ld_f pc K 2 2 (by decide) (by decide) (m := 32) (Or.inr ⟨by rfl, by decide⟩) ?_
  refine ld_f pc K 2 3 (by decide) (by decide) (m := 34) (Or.inr ⟨by rfl, by decide⟩) ?_
  exact tr_ret _

theorem run_part32 : Tr c (St c e o (T pc K c X 40))
    (k0_part32 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v763 c e X) (v772 c e X) (v776 c e X) (v785 c e X) (v794 c e X) (v798 c e X) (v907 c e X) (v1001 c e X) (v1003 c e X) (v1023 c e X) (v1024 c e X))
    (Ret ⟨(v1025 c e X), (v1034 c e X), (v1043 c e X), (v1047 c e X), (v1056 c e X), (v1065 c e X), (v1069 c e X), (v1071 c e X), (v1073 c e X)⟩ (St c e o (T pc K c X 40))) := by
  rw [k0_part32_eq_skeleton]; unfold k0_part32_skel
  exact tr_ret _

theorem run_part33 : Tr c (St c e o (T pc K c X 40))
    (k0_part33 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v83 c e X) (v115 c e X) (v140 c e X) (v807 c e X) (v816 c e X) (v820 c e X) (v907 c e X) (v1071 c e X) (v1073 c e X))
    (Ret ⟨(v1078 c e X), (v1087 c e X), (v1091 c e X), (v1101 c e X), (v1103 c e X), (v1105 c e X), (v1107 c e X), (v1111 c e X), (v1113 c e X)⟩ (St c e o (T pc K c X 40))) := by
  rw [k0_part33_eq_skeleton]; unfold k0_part33_skel
  refine ld_b pc K 1 0 (by decide) (by decide) (m := 28) ⟨by rfl, by decide⟩ ?_
  refine ld_b pc K 1 1 (by decide) (by decide) (m := 30) ⟨by rfl, by decide⟩ ?_
  exact tr_ret _

theorem run_part34 : Tr c (St c e o (T pc K c X 40))
    (k0_part34 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v920 c e X) (v929 c e X) (v933 c e X) (v942 c e X) (v951 c e X) (v955 c e X) (v964 c e X) (v1101 c e X) (v1103 c e X) (v1105 c e X) (v1107 c e X) (v1111 c e X) (v1113 c e X))
    (Ret ⟨(v1114 c e X), (v1123 c e X), (v1127 c e X), (v1136 c e X), (v1145 c e X), (v1149 c e X), (v1151 c e X), (v1158 c e X), (v1161 c e X), (v1163 c e X)⟩ (St c e o (T pc K c X 40))) := by
  rw [k0_part34_eq_skeleton]; unfold k0_part34_skel
  exact tr_ret _

theorem run_part35 : Tr c (St c e o (T pc K c X 40))
    (k0_part35 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v90 c e X) (v973 c e X) (v977 c e X) (v986 c e X) (v995 c e X) (v999 c e X) (v1101 c e X) (v1103 c e X) (v1105 c e X) (v1151 c e X) (v1161 c e X) (v1163 c e X))
    (Ret ⟨(v1167 c e X), (v1171 c e X), (v1180 c e X), (v1189 c e X), (v1193 c e X), (v1195 c e X), (v1197 c e X), (v1199 c e X), (v1203 c e X), (v1205 c e X)⟩ (St c e o (T pc K c X 40))) := by
  rw [k0_part35_eq_skeleton]; unfold k0_part35_skel
  refine ld_b pc K 1 2 (by decide) (by decide) (m := 36) ⟨by rfl, by decide⟩ ?_
  refine ld_b pc K 1 3 (by decide) (by decide) (m := 38) ⟨by rfl, by decide⟩ ?_
  exact tr_ret _

theorem run_part36 : Tr c (St c e o (T pc K c X 40))
    (k0_part36 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v1012 c e X) (v1021 c e X) (v1025 c e X) (v1034 c e X) (v1043 c e X) (v1047 c e X) (v1056 c e X) (v1101 c e X) (v1195 c e X) (v1197 c e X) (v1199 c e X) (v1203 c e X) (v1205 c e X))
    (Ret ⟨(v1206 c e X), (v1215 c e X), (v1219 c e X), (v1228 c e X), (v1237 c e X), (v1241 c e X), (v1243 c e X), (v1250 c e X), (v1253 c e X), (v1255 c e X)⟩ (St c e o (T pc K c X 40))) := by
  rw [k0_part36_eq_skeleton]; unfold k0_part36_skel
  exact tr_ret _

theorem run_part37 : Tr c (St c e o (T pc K c X 40))
    (k0_part37 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v7 c) (v90 c e X) (v1065 c e X) (v1069 c e X) (v1078 c e X) (v1087 c e X) (v1091 c e X) (v1101 c e X) (v1195 c e X) (v1197 c e X) (v1243 c e X) (v1253 c e X) (v1255 c e X))
    (Ret ⟨(v1259 c e X), (v1263 c e X), (v1272 c e X), (v1281 c e X), (v1285 c e X), (v1292 c)⟩ (St c e o (T pc K c X 41))) := by
  rw [k0_part37_eq_skeleton]; unfold k0_part37_skel
  dsimp only
  refine ev_if pc K (n := 40) (i := 1) (s := (false, 3, 0)) (by rfl) ?_ ?_ ?_
  · clear hX hO; revert c; decide +kernel
  · intro h ha hk; refine ev_got pc K hX (n := 40) (s := (false, 3, 0)) (by rfl) (by exact ha) (by first | exact credit_f _ _ | exact credit_b _ _) (by decide +kernel) ?_; with_reducible exact hk
  exact tr_ret _

theorem run_part38 : Tr c (St c e o (T pc K c X 41))
    (k0_part38 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v7 c) (v1292 c))
    (Ret (c2_i32_904 c) (St c e o (T pc K c X 45))) := by
  rw [k0_part38_eq_skeleton]; unfold k0_part38_skel
  dsimp only
  refine ev_if pc K (n := 41) (i := 0) (s := (false, 3, 0)) (by rfl) ?_ ?_ ?_
  · clear hX hO; revert c; decide +kernel
  · intro h ha hk; refine ev_start pc K hX (n := 41) (s := (false, 3, 0)) (by rfl) (by exact ha) (by clear hk ha hX hO; apply Fin.ext; exact k0_dev27_eq c) (by rfl) (by rfl) (by decide +kernel) (by decide +kernel) ?_; with_reducible exact hk
  refine ev_if pc K (n := 42) (i := 1) (s := (false, 3, 1)) (by rfl) ?_ ?_ ?_
  · clear hX hO; revert c; decide +kernel
  · intro h ha hk; refine ev_got pc K hX (n := 42) (s := (false, 3, 1)) (by rfl) (by exact ha) (by first | exact credit_f _ _ | exact credit_b _ _) (by decide +kernel) ?_; with_reducible exact hk
  refine ev_if pc K (n := 43) (i := 0) (s := (false, 3, 1)) (by rfl) ?_ ?_ ?_
  · clear hX hO; revert c; decide +kernel
  · intro h ha hk; refine ev_start pc K hX (n := 43) (s := (false, 3, 1)) (by rfl) (by exact ha) (by clear hk ha hX hO; apply Fin.ext; exact k0_dev28_eq c) (by rfl) (by rfl) (by decide +kernel) (by decide +kernel) ?_; with_reducible exact hk
  refine ev_if pc K (n := 44) (i := 1) (s := (true, 3, 0)) (by rfl) ?_ ?_ ?_
  · clear hX hO; revert c; decide +kernel
  · intro h ha hk; refine ev_got pc K hX (n := 44) (s := (true, 3, 0)) (by rfl) (by exact ha) (by first | exact credit_f _ _ | exact credit_b _ _) (by decide +kernel) ?_; with_reducible exact hk
  exact tr_ret _

theorem run_part39 : Tr c (St c e o (T pc K c X 45))
    (k0_part39 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v5 c) (v7 c) (c2_i32_904 c))
    (Ret (v1324 c) (St c e o (T pc K c X 48))) := by
  rw [k0_part39_eq_skeleton]; unfold k0_part39_skel
  dsimp only
  refine ev_if pc K (n := 45) (i := 1) (s := (true, 3, 1)) (by rfl) ?_ ?_ ?_
  · clear hX hO; revert c; decide +kernel
  · intro h ha hk; refine ev_got pc K hX (n := 45) (s := (true, 3, 1)) (by rfl) (by exact ha) (by first | exact credit_f _ _ | exact credit_b _ _) (by decide +kernel) ?_; with_reducible exact hk
  refine ev_if pc K (n := 46) (i := 1) (s := (false, 3, 2)) (by rfl) ?_ ?_ ?_
  · clear hX hO; revert c; decide +kernel
  · intro h ha hk; refine ev_got pc K hX (n := 46) (s := (false, 3, 2)) (by rfl) (by exact ha) (by first | exact credit_f _ _ | exact credit_b _ _) (by decide +kernel) ?_; with_reducible exact hk
  refine ev_if pc K (n := 47) (i := 1) (s := (false, 3, 3)) (by rfl) ?_ ?_ ?_
  · clear hX hO; revert c; decide +kernel
  · intro h ha hk; refine ev_got pc K hX (n := 47) (s := (false, 3, 3)) (by rfl) (by exact ha) (by first | exact credit_f _ _ | exact credit_b _ _) (by decide +kernel) ?_; with_reducible exact hk
  exact tr_ret _

theorem run_part40 : Tr c (St c e o (T pc K c X 48))
    (k0_part40 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v1324 c))
    (Ret (v1340 c) (St c e o (T pc K c X 51))) := by
  rw [k0_part40_eq_skeleton]; unfold k0_part40_skel
  dsimp only
  refine ev_if pc K (n := 48) (i := 1) (s := (true, 3, 2)) (by rfl) ?_ ?_ ?_
  · clear hX hO; revert c; decide +kernel
  · intro h ha hk; refine ev_got pc K hX (n := 48) (s := (true, 3, 2)) (by rfl) (by exact ha) (by first | exact credit_f _ _ | exact credit_b _ _) (by decide +kernel) ?_; with_reducible exact hk
  refine ev_if pc K (n := 49) (i := 0) (s := (true, 3, 2)) (by rfl) ?_ ?_ ?_
  · clear hX hO; revert c; decide +kernel
  · intro h ha hk; refine ev_start pc K hX (n := 49) (s := (true, 3, 2)) (by rfl) (by exact ha) (by clear hk ha hX hO; apply Fin.ext; exact k0_dev29_eq c) (by rfl) (by rfl) (by decide +kernel) (by decide +kernel) ?_; with_reducible exact hk
  refine ev_if pc K (n := 50) (i := 1) (s := (true, 3, 3)) (by rfl) ?_ ?_ ?_
  · clear hX hO; revert c; decide +kernel
  · intro h ha hk; refine ev_got pc K hX (n := 50) (s := (true, 3, 3)) (by rfl) (by exact ha) (by first | exact credit_f _ _ | exact credit_b _ _) (by decide +kernel) ?_; with_reducible exact hk
  exact tr_ret _

end

end Cert.RingProof

end
-- ==== Proof.Part5.lean ====
/-
  The run, piece by piece, in the order of the program.
-/
module

public import proofs.«01_k».proof.Proof.Values

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section
variable (pc : Dev nD → Fin 4 → Piece F) (K : Dev nD × Option Cid → ℕ) {c : Dev nD} {e : In F} {X : Slot → Piece F}
  (hX : ∀ s, (s.2.1.val = 0 ∨ rcv s c = true) → X s = dat pc s c) (hO : ∀ p, X (false, 0, p) = own c e X p) (o : S2x256x512.Idx → Elt F .f32)
include hX hO

theorem run_part41 : Tr c (St c e o (T pc K c X 51))
    (k0_part41 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 c (v2 c) (v5 c) (v83 c e X) (v115 c e X) (v140 c e X) (v1114 c e X) (v1123 c e X) (v1127 c e X) (v1340 c))
    (Ret ⟨(v1352 c e X), (v1354 c e X), (v1356 c e X), (v1365 c e X), (v1374 c e X), (v1378 c e X), (v1379 c e X)⟩ (St c e o (T pc K c X 52))) := by
  rw [k0_part41_eq_skeleton]; unfold k0_part41_skel
  dsimp only
  refine ev_if pc K (n := 51) (i := 0) (s := (true, 3, 3)) (by rfl) ?_ ?_ ?_
  · clear hX hO; revert c; decide +kernel
  · intro h ha hk; refine ev_start pc K hX (n := 51) (s := (true, 3, 3)) (by rfl) (by exact ha) (by clear hk ha hX hO; apply Fin.ext; exact k0_dev30_eq c) (by rfl) (by rfl) (by decide +kernel) (by decide +kernel) ?_; with_reducible exact hk
  refine ld_f pc K 3 0 (by decide) (by decide) (m := 40) (Or.inr ⟨by rfl, by decide⟩) ?_
  refine ld_f pc K 3 1 (by decide) (by decide) (m := 42) (Or.inr ⟨by rfl, by decide⟩) ?_
  exact tr_ret _

theorem run_part42 : Tr c (St c e o (T pc K c X 52))
    (k0_part42 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v1136 c e X) (v1145 c e X) (v1149 c e X) (v1158 c e X) (v1167 c e X) (v1171 c e X) (v1352 c e X) (v1354 c e X) (v1356 c e X) (v1379 c e X))
    (Ret ⟨(v1387 c e X), (v1396 c e X), (v1400 c e X), (v1409 c e X), (v1418 c e X), (v1422 c e X), (v1424 c e X), (v1426 c e X), (v1427 c e X)⟩ (St c e o (T pc K c X 52))) := by
  rw [k0_part42_eq_skeleton]; unfold k0_part42_skel
  exact tr_ret _

theorem run_part43 : Tr c (St c e o (T pc K c X 52))
    (k0_part43 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v1180 c e X) (v1189 c e X) (v1193 c e X) (v1206 c e X) (v1215 c e X) (v1219 c e X) (v1352 c e X) (v1424 c e X) (v1426 c e X) (v1427 c e X))
    (Ret ⟨(v1431 c e X), (v1440 c e X), (v1444 c e X), (v1446 c e X), (v1448 c e X), (v1457 c e X), (v1466 c e X), (v1470 c e X), (v1471 c e X)⟩ (St c e o (T pc K c X 52))) := by
  rw [k0_part43_eq_skeleton]; unfold k0_part43_skel
  refine ld_f pc K 3 2 (by decide) (by decide) (m := 46) (Or.inr ⟨by rfl, by decide⟩) ?_
  refine ld_f pc K 3 3 (by decide) (by decide) (m := 47) (Or.inr ⟨by rfl, by decide⟩) ?_
  exact tr_ret _

theorem run_part44 : Tr c (St c e o (T pc K c X 52))
    (k0_part44 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v1228 c e X) (v1237 c e X) (v1241 c e X) (v1250 c e X) (v1259 c e X) (v1263 c e X) (v1352 c e X) (v1446 c e X) (v1448 c e X) (v1471 c e X))
    (Ret ⟨(v1479 c e X), (v1488 c e X), (v1492 c e X), (v1501 c e X), (v1510 c e X), (v1514 c e X), (v1516 c e X), (v1518 c e X), (v1519 c e X)⟩ (St c e o (T pc K c X 52))) := by
  rw [k0_part44_eq_skeleton]; unfold k0_part44_skel
  exact tr_ret _

theorem run_part45 : Tr c (St c e o (T pc K c X 52))
    (k0_part45 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v83 c e X) (v115 c e X) (v140 c e X) (v1272 c e X) (v1281 c e X) (v1285 c e X) (v1352 c e X) (v1365 c e X) (v1516 c e X) (v1518 c e X) (v1519 c e X))
    (Ret ⟨(v1523 c e X), (v1532 c e X), (v1536 c e X), (v1546 c e X), (v1548 c e X), (v1550 c e X), (v1552 c e X), (v1556 c e X), (v1559 c e X), (v1560 c e X)⟩ (St c e o (T pc K c X 52))) := by
  rw [k0_part45_eq_skeleton]; unfold k0_part45_skel
  refine ld_b pc K 2 0 (by decide) (by decide) (m := 44) ⟨by rfl, by decide⟩ ?_
  refine ld_b pc K 2 1 (by decide) (by decide) (m := 45) ⟨by rfl, by decide⟩ ?_
  exact tr_ret _

theorem run_part46 : Tr c (St c e o (T pc K c X 52))
    (k0_part46 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v1365 c e X) (v1374 c e X) (v1378 c e X) (v1387 c e X) (v1396 c e X) (v1400 c e X) (v1409 c e X) (v1418 c e X) (v1546 c e X) (v1548 c e X) (v1550 c e X) (v1552 c e X) (v1556 c e X) (v1559 c e X) (v1560 c e X))
    (Ret ⟨(v1568 c e X), (v1572 c e X), (v1581 c e X), (v1590 c e X), (v1594 c e X), (v1596 c e X), (v1603 c e X), (v1606 c e X), (v1608 c e X), (v1609 c e X)⟩ (St c e o (T pc K c X 52))) := by
  rw [k0_part46_eq_skeleton]; unfold k0_part46_skel
  exact tr_ret _

theorem run_part47 : Tr c (St c e o (T pc K c X 52))
    (k0_part47 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v90 c e X) (v1422 c e X) (v1431 c e X) (v1440 c e X) (v1444 c e X) (v1457 c e X) (v1546 c e X) (v1548 c e X) (v1550 c e X) (v1596 c e X) (v1606 c e X) (v1608 c e X) (v1609 c e X))
    (Ret ⟨(v1612 c e X), (v1616 c e X), (v1625 c e X), (v1634 c e X), (v1638 c e X), (v1640 c e X), (v1642 c e X), (v1644 c e X), (v1648 c e X), (v1651 c e X), (v1652 c e X)⟩ (St c e o (T pc K c X 52))) := by
  rw [k0_part47_eq_skeleton]; unfold k0_part47_skel
  refine ld_b pc K 2 2 (by decide) (by decide) (m := 48) ⟨by rfl, by decide⟩ ?_
  refine ld_b pc K 2 3 (by decide) (by decide) (m := 50) ⟨by rfl, by decide⟩ ?_
  exact tr_ret _

theorem run_part48 : Tr c (St c e o (T pc K c X 52))
    (k0_part48 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v1457 c e X) (v1466 c e X) (v1470 c e X) (v1479 c e X) (v1488 c e X) (v1492 c e X) (v1501 c e X) (v1510 c e X) (v1546 c e X) (v1640 c e X) (v1642 c e X) (v1644 c e X) (v1648 c e X) (v1651 c e X) (v1652 c e X))
    (Ret ⟨(v1660 c e X), (v1664 c e X), (v1673 c e X), (v1682 c e X), (v1686 c e X), (v1688 c e X), (v1695 c e X), (v1698 c e X), (v1700 c e X), (v1701 c e X)⟩ (St c e o (T pc K c X 52))) := by
  rw [k0_part48_eq_skeleton]; unfold k0_part48_skel
  exact tr_ret _

theorem run_part49 : Tr c (St c e o (T pc K c X 52))
    (k0_part49 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v7 c) (v90 c e X) (v1514 c e X) (v1523 c e X) (v1532 c e X) (v1536 c e X) (v1546 c e X) (v1640 c e X) (v1642 c e X) (v1688 c e X) (v1698 c e X) (v1700 c e X) (v1701 c e X))
    (Ret ⟨(v1704 c e X), (v1708 c e X), (v1717 c e X), (v1726 c e X), (v1730 c e X), (v1735 c)⟩ (St c e o (T pc K c X 53))) := by
  rw [k0_part49_eq_skeleton]; unfold k0_part49_skel
  dsimp only
  refine ev_if pc K (n := 52) (i := 1) (s := (false, 4, 0)) (by rfl) ?_ ?_ ?_
  · clear hX hO; revert c; decide +kernel
  · intro h ha hk; refine ev_got pc K hX (n := 52) (s := (false, 4, 0)) (by rfl) (by exact ha) (by first | exact credit_f _ _ | exact credit_b _ _) (by decide +kernel) ?_; with_reducible exact hk
  exact tr_ret _

theorem run_part50 : Tr c (St c e o (T pc K c X 53))
    (k0_part50 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v5 c) (v7 c) (v115 c e X) (v140 c e X) (v1735 c))
    (Ret (v1757 c e X) (St c e o (T pc K c X 56))) := by
  rw [k0_part50_eq_skeleton]; unfold k0_part50_skel
  dsimp only
  refine ev_if pc K (n := 53) (i := 1) (s := (false, 4, 1)) (by rfl) ?_ ?_ ?_
  · clear hX hO; revert c; decide +kernel
  · intro h ha hk; refine ev_got pc K hX (n := 53) (s := (false, 4, 1)) (by rfl) (by exact ha) (by first | exact credit_f _ _ | exact credit_b _ _) (by decide +kernel) ?_; with_reducible exact hk
  refine ev_if pc K (n := 54) (i := 1) (s := (true, 4, 2)) (by rfl) ?_ ?_ ?_
  · clear hX hO; revert c; decide +kernel
  · intro h ha hk; refine ev_got pc K hX (n := 54) (s := (true, 4, 2)) (by rfl) (by exact ha) (by first | exact credit_f _ _ | exact credit_b _ _) (by decide +kernel) ?_; with_reducible exact hk
  refine ev_if pc K (n := 55) (i := 1) (s := (true, 4, 3)) (by rfl) ?_ ?_ ?_
  · clear hX hO; revert c; decide +kernel
  · intro h ha hk; refine ev_got pc K hX (n := 55) (s := (true, 4, 3)) (by rfl) (by exact ha) (by first | exact credit_f _ _ | exact credit_b _ _) (by decide +kernel) ?_; with_reducible exact hk
  exact tr_ret _

theorem run_part51 : Tr c (St c e o (T pc K c X 56))
    (k0_part51 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v1559 c e X) (v1568 c e X) (v1572 c e X) (v1581 c e X) (v1590 c e X) (v1594 c e X) (v1757 c e X))
    (Ret ⟨(v1759 c e X), (v1761 c e X), (v1779 c e X), (v1783 c e X), (v1785 c e X), (v1795 c e X), (v1801 c e X), (v1803 c e X), (cst_1176 c e X)⟩ (St c e o (T pc K c X 56))) := by
  rw [k0_part51_eq_skeleton]; unfold k0_part51_skel
  refine ld_f pc K 4 0 (by decide) (by decide) (m := 52) (Or.inr ⟨by rfl, by decide⟩) ?_
  refine ld_f pc K 4 1 (by decide) (by decide) (m := 53) (Or.inr ⟨by rfl, by decide⟩) ?_
  exact tr_ret _

theorem run_part52 : Tr c (St c e o (T pc K c X 56))
    (k0_part52 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v83 c e X) (v1603 c e X) (v1612 c e X) (v1616 c e X) (v1625 c e X) (v1634 c e X) (v1638 c e X) (v1757 c e X) (v1759 c e X) (v1761 c e X) (v1785 c e X) (v1795 c e X) (v1803 c e X) (cst_1176 c e X))
    (Ret ⟨(v1805 c e X), (v1823 c e X), (v1827 c e X), (v1845 c e X), (v1849 c e X)⟩ (St c e o (T pc K c X 56))) := by
  rw [k0_part52_eq_skeleton]; unfold k0_part52_skel
  exact tr_ret _

end

end Cert.RingProof

end
-- ==== Proof.Part6.lean ====
/-
  The run, piece by piece, in the order of the program.
-/
module

public import proofs.«01_k».proof.Proof.Values

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section
variable (pc : Dev nD → Fin 4 → Piece F) (K : Dev nD × Option Cid → ℕ) {c : Dev nD} {e : In F} {X : Slot → Piece F}
  (hX : ∀ s, (s.2.1.val = 0 ∨ rcv s c = true) → X s = dat pc s c) (hO : ∀ p, X (false, 0, p) = own c e X p) (o : S2x256x512.Idx → Elt F .f32)
include hX hO

theorem run_part53 : Tr c (St c e o (T pc K c X 56))
    (k0_part53 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v90 c e X) (v1651 c e X) (v1660 c e X) (v1664 c e X) (v1673 c e X) (v1682 c e X) (v1686 c e X) (v1757 c e X))
    (Ret ⟨(v1851 c e X), (v1853 c e X), (v1871 c e X), (v1875 c e X), (v1877 c e X), (v1887 c e X), (v1893 c e X), (v1895 c e X), (cst_1204 c e X)⟩ (St c e o (T pc K c X 56))) := by
  rw [k0_part53_eq_skeleton]; unfold k0_part53_skel
  refine ld_b pc K 3 2 (by decide) (by decide) (m := 54) ⟨by rfl, by decide⟩ ?_
  refine ld_b pc K 3 3 (by decide) (by decide) (m := 55) ⟨by rfl, by decide⟩ ?_
  exact tr_ret _

theorem run_part54 : Tr c (St c e o (T pc K c X 56))
    (k0_part54 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v90 c e X) (v1695 c e X) (v1704 c e X) (v1708 c e X) (v1717 c e X) (v1726 c e X) (v1730 c e X) (v1757 c e X) (v1851 c e X) (v1853 c e X) (v1877 c e X) (v1887 c e X) (v1895 c e X) (cst_1204 c e X))
    (Ret ⟨(v1897 c e X), (v1915 c e X), (v1919 c e X), (v1937 c e X), (v1941 c e X), (v1942 c), (v1943 c)⟩ (St c e o (T pc K c X 56))) := by
  rw [k0_part54_eq_skeleton]; unfold k0_part54_skel
  exact tr_ret _

theorem run_part55 : Tr c (St c e o (T pc K c X 56))
    (k0_part55 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v1942 c) (v1943 c))
    (Ret (v1960 c) (St c e o (T pc K c X 59))) := by
  rw [k0_part55_eq_skeleton]; unfold k0_part55_skel
  dsimp only
  refine ev_if pc K (n := 56) (i := 2) (s := (false, 0, 0)) (by rfl) ?_ ?_ ?_
  · clear hX hO; revert c; decide +kernel
  · intro h ha hk; refine ev_done pc K hX (n := 56) (s := (false, 0, 0)) (by rfl) (by decide) (by exact ha) (by first | exact credit_f _ _ | exact credit_b _ _) (by decide +kernel) ?_; with_reducible exact hk
  refine ev_if pc K (n := 57) (i := 2) (s := (false, 0, 1)) (by rfl) ?_ ?_ ?_
  · clear hX hO; revert c; decide +kernel
  · intro h ha hk; refine ev_done pc K hX (n := 57) (s := (false, 0, 1)) (by rfl) (by decide) (by exact ha) (by first | exact credit_f _ _ | exact credit_b _ _) (by decide +kernel) ?_; with_reducible exact hk
  refine ev_if pc K (n := 58) (i := 2) (s := (false, 1, 0)) (by rfl) ?_ ?_ ?_
  · clear hX hO; revert c; decide +kernel
  · intro h ha hk; refine ev_done pc K hX (n := 58) (s := (false, 1, 0)) (by rfl) (by decide) (by exact ha) (by first | exact credit_f _ _ | exact credit_b _ _) (by decide +kernel) ?_; with_reducible exact hk
  exact tr_ret _

theorem run_part56 : Tr c (St c e o (T pc K c X 59))
    (k0_part56 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v1960 c))
    (Ret (v1979 c) (St c e o (T pc K c X 63))) := by
  rw [k0_part56_eq_skeleton]; unfold k0_part56_skel
  dsimp only
  refine ev_if pc K (n := 59) (i := 2) (s := (false, 1, 1)) (by rfl) ?_ ?_ ?_
  · clear hX hO; revert c; decide +kernel
  · intro h ha hk; refine ev_done pc K hX (n := 59) (s := (false, 1, 1)) (by rfl) (by decide) (by exact ha) (by first | exact credit_f _ _ | exact credit_b _ _) (by decide +kernel) ?_; with_reducible exact hk
  refine ev_if pc K (n := 60) (i := 2) (s := (false, 2, 0)) (by rfl) ?_ ?_ ?_
  · clear hX hO; revert c; decide +kernel
  · intro h ha hk; refine ev_done pc K hX (n := 60) (s := (false, 2, 0)) (by rfl) (by decide) (by exact ha) (by first | exact credit_f _ _ | exact credit_b _ _) (by decide +kernel) ?_; with_reducible exact hk
  refine ev_if pc K (n := 61) (i := 2) (s := (false, 2, 1)) (by rfl) ?_ ?_ ?_
  · clear hX hO; revert c; decide +kernel
  · intro h ha hk; refine ev_done pc K hX (n := 61) (s := (false, 2, 1)) (by rfl) (by decide) (by exact ha) (by first | exact credit_f _ _ | exact credit_b _ _) (by decide +kernel) ?_; with_reducible exact hk
  refine ev_if pc K (n := 62) (i := 2) (s := (false, 3, 0)) (by rfl) ?_ ?_ ?_
  · clear hX hO; revert c; decide +kernel
  · intro h ha hk; refine ev_done pc K hX (n := 62) (s := (false, 3, 0)) (by rfl) (by decide) (by exact ha) (by first | exact credit_f _ _ | exact credit_b _ _) (by decide +kernel) ?_; with_reducible exact hk
  exact tr_ret _

theorem run_part57 : Tr c (St c e o (T pc K c X 63))
    (k0_part57 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v1979 c))
    (Ret (v1995 c) (St c e o (T pc K c X 66))) := by
  rw [k0_part57_eq_skeleton]; unfold k0_part57_skel
  dsimp only
  refine ev_if pc K (n := 63) (i := 2) (s := (false, 3, 1)) (by rfl) ?_ ?_ ?_
  · clear hX hO; revert c; decide +kernel
  · intro h ha hk; refine ev_done pc K hX (n := 63) (s := (false, 3, 1)) (by rfl) (by decide) (by exact ha) (by first | exact credit_f _ _ | exact credit_b _ _) (by decide +kernel) ?_; with_reducible exact hk
  refine ev_if pc K (n := 64) (i := 2) (s := (true, 0, 0)) (by rfl) ?_ ?_ ?_
  · clear hX hO; revert c; decide +kernel
  · intro h ha hk; refine ev_done pc K hX (n := 64) (s := (true, 0, 0)) (by rfl) (by decide) (by exact ha) (by first | exact credit_f _ _ | exact credit_b _ _) (by decide +kernel) ?_; with_reducible exact hk
  refine ev_if pc K (n := 65) (i := 2) (s := (true, 0, 1)) (by rfl) ?_ ?_ ?_
  · clear hX hO; revert c; decide +kernel
  · intro h ha hk; refine ev_done pc K hX (n := 65) (s := (true, 0, 1)) (by rfl) (by decide) (by exact ha) (by first | exact credit_f _ _ | exact credit_b _ _) (by decide +kernel) ?_; with_reducible exact hk
  exact tr_ret _

theorem run_part58 : Tr c (St c e o (T pc K c X 66))
    (k0_part58 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v1995 c))
    (Ret ⟨⟩ (St c e o (T pc K c X 70))) := by
  rw [k0_part58_eq_skeleton]; unfold k0_part58_skel
  dsimp only
  refine ev_if pc K (n := 66) (i := 2) (s := (true, 1, 0)) (by rfl) ?_ ?_ ?_
  · clear hX hO; revert c; decide +kernel
  · intro h ha hk; refine ev_done pc K hX (n := 66) (s := (true, 1, 0)) (by rfl) (by decide) (by exact ha) (by first | exact credit_f _ _ | exact credit_b _ _) (by decide +kernel) ?_; with_reducible exact hk
  refine ev_if pc K (n := 67) (i := 2) (s := (true, 1, 1)) (by rfl) ?_ ?_ ?_
  · clear hX hO; revert c; decide +kernel
  · intro h ha hk; refine ev_done pc K hX (n := 67) (s := (true, 1, 1)) (by rfl) (by decide) (by exact ha) (by first | exact credit_f _ _ | exact credit_b _ _) (by decide +kernel) ?_; with_reducible exact hk
  refine ev_if pc K (n := 68) (i := 2) (s := (true, 2, 0)) (by rfl) ?_ ?_ ?_
  · clear hX hO; revert c; decide +kernel
  · intro h ha hk; refine ev_done pc K hX (n := 68) (s := (true, 2, 0)) (by rfl) (by decide) (by exact ha) (by first | exact credit_f _ _ | exact credit_b _ _) (by decide +kernel) ?_; with_reducible exact hk
  refine ev_if pc K (n := 69) (i := 2) (s := (true, 2, 1)) (by rfl) ?_ ?_ ?_
  · clear hX hO; revert c; decide +kernel
  · intro h ha hk; refine ev_done pc K hX (n := 69) (s := (true, 2, 1)) (by rfl) (by decide) (by exact ha) (by first | exact credit_f _ _ | exact credit_b _ _) (by decide +kernel) ?_; with_reducible exact hk
  exact tr_ret _

theorem run_part59 : Tr c (St c e o (T pc K c X 70))
    (k0_part59 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c))
    (Ret (v2030 c) (St c e o (T pc K c X 73))) := by
  rw [k0_part59_eq_skeleton]; unfold k0_part59_skel
  dsimp only
  refine ev_if pc K (n := 70) (i := 2) (s := (false, 0, 2)) (by rfl) ?_ ?_ ?_
  · clear hX hO; revert c; decide +kernel
  · intro h ha hk; refine ev_done pc K hX (n := 70) (s := (false, 0, 2)) (by rfl) (by decide) (by exact ha) (by first | exact credit_f _ _ | exact credit_b _ _) (by decide +kernel) ?_; with_reducible exact hk
  refine ev_if pc K (n := 71) (i := 2) (s := (false, 0, 3)) (by rfl) ?_ ?_ ?_
  · clear hX hO; revert c; decide +kernel
  · intro h ha hk; refine ev_done pc K hX (n := 71) (s := (false, 0, 3)) (by rfl) (by decide) (by exact ha) (by first | exact credit_f _ _ | exact credit_b _ _) (by decide +kernel) ?_; with_reducible exact hk
  refine ev_if pc K (n := 72) (i := 2) (s := (false, 1, 2)) (by rfl) ?_ ?_ ?_
  · clear hX hO; revert c; decide +kernel
  · intro h ha hk; refine ev_done pc K hX (n := 72) (s := (false, 1, 2)) (by rfl) (by decide) (by exact ha) (by first | exact credit_f _ _ | exact credit_b _ _) (by decide +kernel) ?_; with_reducible exact hk
  exact tr_ret _

theorem run_part60 : Tr c (St c e o (T pc K c X 73))
    (k0_part60 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v2030 c))
    (Ret ⟨⟩ (St c e o (T pc K c X 77))) := by
  rw [k0_part60_eq_skeleton]; unfold k0_part60_skel
  dsimp only
  refine ev_if pc K (n := 73) (i := 2) (s := (false, 1, 3)) (by rfl) ?_ ?_ ?_
  · clear hX hO; revert c; decide +kernel
  · intro h ha hk; refine ev_done pc K hX (n := 73) (s := (false, 1, 3)) (by rfl) (by decide) (by exact ha) (by first | exact credit_f _ _ | exact credit_b _ _) (by decide +kernel) ?_; with_reducible exact hk
  refine ev_if pc K (n := 74) (i := 2) (s := (false, 2, 2)) (by rfl) ?_ ?_ ?_
  · clear hX hO; revert c; decide +kernel
  · intro h ha hk; refine ev_done pc K hX (n := 74) (s := (false, 2, 2)) (by rfl) (by decide) (by exact ha) (by first | exact credit_f _ _ | exact credit_b _ _) (by decide +kernel) ?_; with_reducible exact hk
  refine ev_if pc K (n := 75) (i := 2) (s := (false, 2, 3)) (by rfl) ?_ ?_ ?_
  · clear hX hO; revert c; decide +kernel
  · intro h ha hk; refine ev_done pc K hX (n := 75) (s := (false, 2, 3)) (by rfl) (by decide) (by exact ha) (by first | exact credit_f _ _ | exact credit_b _ _) (by decide +kernel) ?_; with_reducible exact hk
  refine ev_if pc K (n := 76) (i := 2) (s := (true, 0, 2)) (by rfl) ?_ ?_ ?_
  · clear hX hO; revert c; decide +kernel
  · intro h ha hk; refine ev_done pc K hX (n := 76) (s := (true, 0, 2)) (by rfl) (by decide) (by exact ha) (by first | exact credit_f _ _ | exact credit_b _ _) (by decide +kernel) ?_; with_reducible exact hk
  exact tr_ret _

theorem run_part61 : Tr c (St c e o (T pc K c X 77))
    (k0_part61 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c))
    (Ret (v2064 c) (St c e o (T pc K c X 80))) := by
  rw [k0_part61_eq_skeleton]; unfold k0_part61_skel
  dsimp only
  refine ev_if pc K (n := 77) (i := 2) (s := (true, 0, 3)) (by rfl) ?_ ?_ ?_
  · clear hX hO; revert c; decide +kernel
  · intro h ha hk; refine ev_done pc K hX (n := 77) (s := (true, 0, 3)) (by rfl) (by decide) (by exact ha) (by first | exact credit_f _ _ | exact credit_b _ _) (by decide +kernel) ?_; with_reducible exact hk
  refine ev_if pc K (n := 78) (i := 2) (s := (true, 1, 2)) (by rfl) ?_ ?_ ?_
  · clear hX hO; revert c; decide +kernel
  · intro h ha hk; refine ev_done pc K hX (n := 78) (s := (true, 1, 2)) (by rfl) (by decide) (by exact ha) (by first | exact credit_f _ _ | exact credit_b _ _) (by decide +kernel) ?_; with_reducible exact hk
  refine ev_if pc K (n := 79) (i := 2) (s := (true, 1, 3)) (by rfl) ?_ ?_ ?_
  · clear hX hO; revert c; decide +kernel
  · intro h ha hk; refine ev_done pc K hX (n := 79) (s := (true, 1, 3)) (by rfl) (by decide) (by exact ha) (by first | exact credit_f _ _ | exact credit_b _ _) (by decide +kernel) ?_; with_reducible exact hk
  exact tr_ret _

theorem run_part62 : Tr c (St c e o (T pc K c X 80))
    (k0_part62 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v2 c) (v2064 c))
    (Ret (v2080 c) (St c e o (T pc K c X 83))) := by
  rw [k0_part62_eq_skeleton]; unfold k0_part62_skel
  dsimp only
  refine ev_if pc K (n := 80) (i := 2) (s := (true, 2, 2)) (by rfl) ?_ ?_ ?_
  · clear hX hO; revert c; decide +kernel
  · intro h ha hk; refine ev_done pc K hX (n := 80) (s := (true, 2, 2)) (by rfl) (by decide) (by exact ha) (by first | exact credit_f _ _ | exact credit_b _ _) (by decide +kernel) ?_; with_reducible exact hk
  refine ev_if pc K (n := 81) (i := 2) (s := (true, 2, 3)) (by rfl) ?_ ?_ ?_
  · clear hX hO; revert c; decide +kernel
  · intro h ha hk; refine ev_done pc K hX (n := 81) (s := (true, 2, 3)) (by rfl) (by decide) (by exact ha) (by first | exact credit_f _ _ | exact credit_b _ _) (by decide +kernel) ?_; with_reducible exact hk
  refine ev_if pc K (n := 82) (i := 2) (s := (true, 3, 2)) (by rfl) ?_ ?_ ?_
  · clear hX hO; revert c; decide +kernel
  · intro h ha hk; refine ev_done pc K hX (n := 82) (s := (true, 3, 2)) (by rfl) (by decide) (by exact ha) (by first | exact credit_f _ _ | exact credit_b _ _) (by decide +kernel) ?_; with_reducible exact hk
  exact tr_ret _

theorem run_part63 : Tr c (St c e o (T pc K c X 83))
    (k0_part63 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5 (v1779 c e X) (v1783 c e X) (v1801 c e X) (v1805 c e X) (v1823 c e X) (v1827 c e X) (v1845 c e X) (v1849 c e X) (v1871 c e X) (v1875 c e X) (v2080 c))
    (Ret ⟨(v2110 c e X), (v2112 c e X), (v2114 c e X), (cst_1553 c e X)⟩ (St c e (out₀ c e X o) (T pc K c X 84))) := by
  rw [k0_part63_eq_skeleton]; unfold k0_part63_skel
  dsimp only
  refine ev_if pc K (n := 83) (i := 2) (s := (true, 3, 3)) (by rfl) ?_ ?_ ?_
  · clear hX hO; revert c; decide +kernel
  · intro h ha hk; refine ev_done pc K hX (n := 83) (s := (true, 3, 3)) (by rfl) (by decide) (by exact ha) (by first | exact credit_f _ _ | exact credit_b _ _) (by decide +kernel) ?_; with_reducible exact hk
  refine ld_w ?_
  refine ld_w ?_
  refine ld_w ?_
  refine ld_w ?_
  refine ld_o ?_
  refine st_o ?_
  refine ld_w ?_
  exact tr_ret _

end

end Cert.RingProof

end
-- ==== Proof.Run.lean ====
/-
  The whole run of a device, from the state at launch to the state after the last event.
-/
module

public import proofs.«01_k».proof.Proof.Part1
public import proofs.«01_k».proof.Proof.Part2
public import proofs.«01_k».proof.Proof.Part3
public import proofs.«01_k».proof.Proof.Part4
public import proofs.«01_k».proof.Proof.Part5
public import proofs.«01_k».proof.Proof.Part6

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section
variable (pc : Dev nD → Fin 4 → Piece F) (K : Dev nD × Option Cid → ℕ) {c : Dev nD} {e : In F} {X : Slot → Piece F}
  (hX : ∀ s, (s.2.1.val = 0 ∨ rcv s c = true) → X s = dat pc s c) (hO : ∀ p, X (false, 0, p) = own c e X p) (o : S2x256x512.Idx → Elt F .f32)
include hX hO

theorem run_part64 : Tr c (St c e o (TA pc K c X))
    (k0_part64 xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5)
    (Ret ⟨(v2 c), (v1779 c e X), (v1783 c e X), (v1801 c e X), (v1805 c e X), (v1823 c e X), (v1827 c e X), (v1845 c e X), (v1849 c e X), (v1871 c e X), (v1875 c e X), (v1893 c e X), (v1897 c e X), (v1915 c e X), (v1919 c e X), (v1937 c e X), (v1941 c e X)⟩ (St c e o (T pc K c X 77))) := by
  rw [k0_part64_eq_skeleton]; unfold k0_part64_skel
  try dsimp only
  with_reducible refine tr_bind (run_part1 pc K hX hO o) ?_
  try dsimp only
  with_reducible refine tr_bind (run_part2 pc K hX hO o) ?_
  try dsimp only
  with_reducible refine tr_bind (run_part3 pc K hX hO o) ?_
  try dsimp only
  with_reducible refine tr_bind (run_part4 pc K hX hO o) ?_
  try dsimp only
  with_reducible refine tr_bind (run_part5 pc K hX hO o) ?_
  try dsimp only
  with_reducible refine tr_bind (run_part6 pc K hX hO o) ?_
  try dsimp only
  with_reducible refine tr_bind (run_part7 pc K hX hO o) ?_
  try dsimp only
  with_reducible refine tr_bind (run_part8 pc K hX hO o) ?_
  try dsimp only
  with_reducible refine tr_bind (run_part9 pc K hX hO o) ?_
  try dsimp only
  with_reducible refine tr_bind (run_part10 pc K hX hO o) ?_
  try dsimp only
  with_reducible refine tr_bind (run_part11 pc K hX hO o) ?_
  try dsimp only
  with_reducible refine tr_bind (run_part12 pc K hX hO o) ?_
  try dsimp only
  with_reducible refine tr_bind (run_part13 pc K hX hO o) ?_
  try dsimp only
  with_reducible refine tr_bind (run_part14 pc K hX hO o) ?_
  try dsimp only
  with_reducible refine tr_bind (run_part15 pc K hX hO o) ?_
  try dsimp only
  with_reducible refine tr_bind (run_part16 pc K hX hO o) ?_
  try dsimp only
  with_reducible refine tr_bind (run_part17 pc K hX hO o) ?_
  try dsimp only
  with_reducible refine tr_bind (run_part18 pc K hX hO o) ?_
  try dsimp only
  with_reducible refine tr_bind (run_part19 pc K hX hO o) ?_
  try dsimp only
  with_reducible refine tr_bind (run_part20 pc K hX hO o) ?_
  try dsimp only
  with_reducible refine tr_bind (run_part21 pc K hX hO o) ?_
  try dsimp only
  with_reducible refine tr_bind (run_part22 pc K hX hO o) ?_
  try dsimp only
  with_reducible refine tr_bind (run_part23 pc K hX hO o) ?_
  try dsimp only
  with_reducible refine tr_bind (run_part24 pc K hX hO o) ?_
  try dsimp only
  with_reducible refine tr_bind (run_part25 pc K hX hO o) ?_
  try dsimp only
  with_reducible refine tr_bind (run_part26 pc K hX hO o) ?_
  try dsimp only
  with_reducible refine tr_bind (run_part27 pc K hX hO o) ?_
  try dsimp only
  with_reducible refine tr_bind (run_part28 pc K hX hO o) ?_
  try dsimp only
  with_reducible refine tr_bind (run_part29 pc K hX hO o) ?_
  try dsimp only
  with_reducible refine tr_bind (run_part30 pc K hX hO o) ?_
  try dsimp only
  with_reducible refine tr_bind (run_part31 pc K hX hO o) ?_
  try dsimp only
  with_reducible refine tr_bind (run_part32 pc K hX hO o) ?_
  try dsimp only
  with_reducible refine tr_bind (run_part33 pc K hX hO o) ?_
  try dsimp only
  with_reducible refine tr_bind (run_part34 pc K hX hO o) ?_
  try dsimp only
  with_reducible refine tr_bind (run_part35 pc K hX hO o) ?_
  try dsimp only
  with_reducible refine tr_bind (run_part36 pc K hX hO o) ?_
  try dsimp only
  with_reducible refine tr_bind (run_part37 pc K hX hO o) ?_
  try dsimp only
  with_reducible refine tr_bind (run_part38 pc K hX hO o) ?_
  try dsimp only
  with_reducible refine tr_bind (run_part39 pc K hX hO o) ?_
  try dsimp only
  with_reducible refine tr_bind (run_part40 pc K hX hO o) ?_
  try dsimp only
  with_reducible refine tr_bind (run_part41 pc K hX hO o) ?_
  try dsimp only
  with_reducible refine tr_bind (run_part42 pc K hX hO o) ?_
  try dsimp only
  with_reducible refine tr_bind (run_part43 pc K hX hO o) ?_
  try dsimp only
  with_reducible refine tr_bind (run_part44 pc K hX hO o) ?_
  try dsimp only
  with_reducible refine tr_bind (run_part45 pc K hX hO o) ?_
  try dsimp only
  with_reducible refine tr_bind (run_part46 pc K hX hO o) ?_
  try dsimp only
  with_reducible refine tr_bind (run_part47 pc K hX hO o) ?_
  try dsimp only
  with_reducible refine tr_bind (run_part48 pc K hX hO o) ?_
  try dsimp only
  with_reducible refine tr_bind (run_part49 pc K hX hO o) ?_
  try dsimp only
  with_reducible refine tr_bind (run_part50 pc K hX hO o) ?_
  try dsimp only
  with_reducible refine tr_bind (run_part51 pc K hX hO o) ?_
  try dsimp only
  with_reducible refine tr_bind (run_part52 pc K hX hO o) ?_
  try dsimp only
  with_reducible refine tr_bind (run_part53 pc K hX hO o) ?_
  try dsimp only
  with_reducible refine tr_bind (run_part54 pc K hX hO o) ?_
  try dsimp only
  with_reducible refine tr_bind (run_part55 pc K hX hO o) ?_
  try dsimp only
  with_reducible refine tr_bind (run_part56 pc K hX hO o) ?_
  try dsimp only
  with_reducible refine tr_bind (run_part57 pc K hX hO o) ?_
  try dsimp only
  with_reducible refine tr_bind (run_part58 pc K hX hO o) ?_
  try dsimp only
  with_reducible refine tr_bind (run_part59 pc K hX hO o) ?_
  try dsimp only
  with_reducible refine tr_bind (run_part60 pc K hX hO o) ?_
  try dsimp only
  with_reducible exact tr_ret _

/-- The whole run. -/
theorem run_body : Tr c (St c e o (TA pc K c X))
    (cc0_body xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5)
    (Ret ⟨⟩ (St c e (out₁ c e X o) (T pc K c X 84))) := by
  rw [cc0_body_eq_skeleton]; unfold cc0_body_skel
  try dsimp only
  with_reducible refine tr_bind (run_part64 pc K hX hO o) ?_
  try dsimp only
  with_reducible refine tr_bind (run_part61 pc K hX hO o) ?_
  try dsimp only
  with_reducible refine tr_bind (run_part62 pc K hX hO o) ?_
  try dsimp only
  with_reducible refine tr_bind (run_part63 pc K hX hO o) ?_
  try dsimp only
  refine ld_w ?_
  try dsimp only
  refine ld_w ?_
  try dsimp only
  refine ld_w ?_
  refine ld_o ?_
  refine st_o ?_
  exact tr_ret (F := F) _

end

end Cert.RingProof

end
-- ==== Proof.End.lean ====
/-
  The two ends of a device's run: how the two buffers are cut into slots before it and joined after it, and how every semaphore is
  given back at zero.
-/
module

public import proofs.«01_k».proof.Proof.Run

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Cutting a buffer into slots -/

/-- The rectangles that the slots of the two buffers are. -/
def rF (t : Fin 5 × Fin 4) : Rect S5x4x256x256 := Rect.unit (s := S5x4x256x256) ![t.1.val, t.2.val, 0, 0] S1x1x256x256.size (inbF t.1.val t.2.val t.1.isLt t.2.isLt)
def rB (t : Fin 4 × Fin 4) : Rect S4x4x256x256 := Rect.unit (s := S4x4x256x256) ![t.1.val, t.2.val, 0, 0] S1x1x256x256.size (inbB t.1.val t.2.val t.1.isLt t.2.isLt)

theorem ne_of_lt_or {a b : ℕ} (h : a ≠ b) : a + 1 ≤ b ∨ b + 1 ≤ a := by omega

theorem rF_disj (t t' : Fin 5 × Fin 4) (h : t ≠ t') : Disjoint (rF t).set (rF t').set := by
  by_cases h1 : t.1 = t'.1
  · have h2 : t.2.val ≠ t'.2.val := fun h' => h (Prod.ext h1 (Fin.ext h'))
    exact Rect.unit_disjoint (s := S5x4x256x256) 1 (ne_of_lt_or h2)
  · have h2 : t.1.val ≠ t'.1.val := fun h' => h1 (Fin.ext h')
    exact Rect.unit_disjoint (s := S5x4x256x256) 0 (ne_of_lt_or h2)
theorem rB_disj (t t' : Fin 4 × Fin 4) (h : t ≠ t') : Disjoint (rB t).set (rB t').set := by
  by_cases h1 : t.1 = t'.1
  · have h2 : t.2.val ≠ t'.2.val := fun h' => h (Prod.ext h1 (Fin.ext h'))
    exact Rect.unit_disjoint (s := S4x4x256x256) 1 (ne_of_lt_or h2)
  · have h2 : t.1.val ≠ t'.1.val := fun h' => h1 (Fin.ext h')
    exact Rect.unit_disjoint (s := S4x4x256x256) 0 (ne_of_lt_or h2)

theorem rF_cov : (Finset.univ : Finset (Fin 5 × Fin 4)).biUnion (fun t => (rF t).set) = Finset.univ := by
  refine Finset.eq_univ_iff_forall.mpr fun i => Finset.mem_biUnion.mpr ⟨((i 0 : Fin 5), (i 1 : Fin 4)), Finset.mem_univ _, Rect.mem_set_unit.mpr fun a => ?_⟩
  have h2 := (i 2).isLt
  have h3 := (i 3).isLt
  fin_cases a
  · exact ⟨le_rfl, Nat.lt_succ_self _⟩
  · exact ⟨le_rfl, Nat.lt_succ_self _⟩
  · exact ⟨Nat.zero_le _, by show (i 2).val < 0 + 256; exact lt_of_lt_of_le h2 (by decide)⟩
  · exact ⟨Nat.zero_le _, by show (i 3).val < 0 + 256; exact lt_of_lt_of_le h3 (by decide)⟩
theorem rB_cov : (Finset.univ : Finset (Fin 4 × Fin 4)).biUnion (fun t => (rB t).set) = Finset.univ := by
  refine Finset.eq_univ_iff_forall.mpr fun i => Finset.mem_biUnion.mpr ⟨((i 0 : Fin 4), (i 1 : Fin 4)), Finset.mem_univ _, Rect.mem_set_unit.mpr fun a => ?_⟩
  have h2 := (i 2).isLt
  have h3 := (i 3).isLt
  fin_cases a
  · exact ⟨le_rfl, Nat.lt_succ_self _⟩
  · exact ⟨le_rfl, Nat.lt_succ_self _⟩
  · exact ⟨Nat.zero_le _, by show (i 2).val < 0 + 256; exact lt_of_lt_of_le h2 (by decide)⟩
  · exact ⟨Nat.zero_le _, by show (i 3).val < 0 + 256; exact lt_of_lt_of_le h3 (by decide)⟩

section Cut

variable (c : Dev nD)

/-- A buffer of the device, whole, at some contents. -/
def anyBuf (b : Ref sig .tc) : sProp 𝕄 := iprop(∃ f : Buf (Elt F) ((c : Thread nD τ).loc b), ((c : Thread nD τ).loc b) ↦{fullShare} f)

theorem cut_f : anyBuf (F := F) c cc0_scratch0
    ⊢ iprop(∃ V : Fin 5 × Fin 4 → Piece F, bigSep Finset.univ fun t => owns (c : Thread nD τ) (slc (false, t)) fullShare (V t)) := by
  unfold anyBuf
  iintro ⟨%f, H⟩
  ihave H' := (show (((c : Thread nD τ).loc cc0_scratch0) ↦{fullShare} f : sProp 𝕄) ⊢ (owns (c : Thread nD τ) fM fullShare f : sProp 𝕄) from by
    rw [owns_whole_eq]; iintro H; iexists f; isplitr; · (ipureintro; rfl)
    iexact H) $$ H
  iexists (fun t j => f ((rF t).emb j))
  iapply (owns_rects (c : Thread nD τ) fM fullShare rF (fun _ _ => rfl) rF_disj rF_cov f)
  iexact H'
theorem cut_b : anyBuf (F := F) c cc0_scratch1
    ⊢ iprop(∃ V : Fin 4 × Fin 4 → Piece F, bigSep Finset.univ fun t => owns (c : Thread nD τ) (slc (true, t.1.succ, t.2)) fullShare (V t)) := by
  unfold anyBuf
  iintro ⟨%f, H⟩
  ihave H' := (show (((c : Thread nD τ).loc cc0_scratch1) ↦{fullShare} f : sProp 𝕄) ⊢ (owns (c : Thread nD τ) bM fullShare f : sProp 𝕄) from by
    rw [owns_whole_eq]; iintro H; iexists f; isplitr; · (ipureintro; rfl)
    iexact H) $$ H
  iexists (fun t j => f ((rB t).emb j))
  iapply (owns_rects (c : Thread nD τ) bM fullShare rB (fun _ _ => rfl) rB_disj rB_cov f)
  iexact H'

theorem paste_f (V : Fin 5 × Fin 4 → Piece F) :
    (bigSep Finset.univ fun t => owns (c : Thread nD τ) (slc (false, t)) fullShare (V t)) ⊢ anyBuf (F := F) c cc0_scratch0 := by
  have h : (bigSep Finset.univ fun t => owns (c : Thread nD τ) (slc (false, t)) fullShare (V t) : sProp 𝕄)
      ⊢ bigSep Finset.univ fun t => ownsSat (c : Thread nD τ) (fM.slice (rF t) (fun _ => rfl)) fullShare (fun _ => True) :=
    bigSep_mono fun t _ => ownsSat_intro (c : Thread nD τ) (fM.slice (rF t) (fun _ => rfl)) fullShare (X := V t) trivial
  refine h.trans ((ownsSat_of_rects (c : Thread nD τ) fM fullShare rF (fun _ _ => rfl) rF_disj rF_cov (fun _ _ => True)).trans
    ((ownsSat_elim (c : Thread nD τ) fM fullShare _).trans ?_))
  unfold anyBuf
  iintro ⟨%X, -, H⟩
  ihave H' := (Entails.of_eq (owns_whole_eq (c : Thread nD τ) cc0_scratch0 fullShare X)) $$ H
  icases H' with ⟨%f, -, H⟩
  iexists f; iexact H
theorem paste_b (V : Fin 4 × Fin 4 → Piece F) :
    (bigSep Finset.univ fun t => owns (c : Thread nD τ) (slc (true, t.1.succ, t.2)) fullShare (V t)) ⊢ anyBuf (F := F) c cc0_scratch1 := by
  have h : (bigSep Finset.univ fun t => owns (c : Thread nD τ) (slc (true, t.1.succ, t.2)) fullShare (V t) : sProp 𝕄)
      ⊢ bigSep Finset.univ fun t => ownsSat (c : Thread nD τ) (bM.slice (rB t) (fun _ => rfl)) fullShare (fun _ => True) :=
    bigSep_mono fun t _ => ownsSat_intro (c : Thread nD τ) (bM.slice (rB t) (fun _ => rfl)) fullShare (X := V t) trivial
  refine h.trans ((ownsSat_of_rects (c : Thread nD τ) bM fullShare rB (fun _ _ => rfl) rB_disj rB_cov (fun _ _ => True)).trans
    ((ownsSat_elim (c : Thread nD τ) bM fullShare _).trans ?_))
  unfold anyBuf
  iintro ⟨%X, -, H⟩
  ihave H' := (Entails.of_eq (owns_whole_eq (c : Thread nD τ) cc0_scratch1 fullShare X)) $$ H
  icases H' with ⟨%f, -, H⟩
  iexists f; iexact H

/-! ## The slots at launch -/

variable (pc : Dev nD → Fin 4 → Piece F)

/-- The contents of the device's slots over a run, from what the buffers hold at launch: a slot that gets a piece holds that
    piece, any other what it held. -/
def cont (VF : Fin 5 × Fin 4 → Piece F) (VB : Fin 4 × Fin 4 → Piece F) (s : Slot) : Piece F :=
  if s.2.1.val = 0 ∨ rcv s c = true then dat pc s c
  else if s.1 = true then VB (⟨(s.2.1.val - 1) % 4, Nat.mod_lt _ (by decide)⟩, s.2.2) else VF s.2

theorem cont_dat (VF : Fin 5 × Fin 4 → Piece F) (VB : Fin 4 × Fin 4 → Piece F) (s : Slot) (h : s.2.1.val = 0 ∨ rcv s c = true) :
    cont c pc VF VB s = dat pc s c := if_pos h

/-- The credit of a slot's arrival. -/
def Cr (s : Slot) : sProp 𝕄 := if rcv s c = true then cred (tallyAt (inCell c s) () N) else iprop(emp)

theorem memA_of (X : Slot → Piece F) (s : Slot) (hs : s.2.1.val ≠ 0) (Y : Piece F) (hY : rcv s c ≠ true → X s = Y) :
    iprop(Cr c s ∗ owns (c : Thread nD τ) (slc s) fullShare Y) ⊢ MemA c X s := by
  unfold Cr MemA anyS
  rw [if_neg hs]
  by_cases hr : rcv s c = true
  · rw [if_pos hr, if_pos hr]
    iintro ⟨H1, H2⟩
    isplitl [H1]; · iexact H1
    iexists Y; iexact H2
  · rw [if_neg hr, if_neg hr, hY hr]
    iintro ⟨-, H⟩; iexact H
theorem memA_own (X : Slot → Piece F) (p : Fin 4) (Y : Piece F) :
    iprop(Cr c (false, 0, p) ∗ owns (c : Thread nD τ) (slc (false, 0, p)) fullShare Y) ⊢ MemA c X (false, 0, p) := by
  unfold MemA anyS
  rw [if_pos (show (false, (0 : Fin 5), p).2.1.val = 0 from rfl), if_neg (show ¬ (false, (0 : Fin 5), p).1 = true from Bool.false_ne_true)]
  iintro ⟨-, H⟩; iexists Y; iexact H

theorem memA_f (VF : Fin 5 × Fin 4 → Piece F) (VB : Fin 4 × Fin 4 → Piece F) (t : Fin 5 × Fin 4) :
    iprop(Cr c (false, t) ∗ owns (c : Thread nD τ) (slc (false, t)) fullShare (VF t)) ⊢ MemA c (cont c pc VF VB) (false, t) := by
  by_cases h0 : t.1.val = 0
  · obtain ⟨h, p⟩ := t
    have : h = 0 := Fin.ext h0
    subst this
    exact memA_own c _ p _
  · exact memA_of c _ (false, t) h0 _ fun hr => (if_neg (by rintro (h | h); exacts [h0 h, hr h])).trans (if_neg Bool.false_ne_true)
theorem memA_b (VF : Fin 5 × Fin 4 → Piece F) (VB : Fin 4 × Fin 4 → Piece F) (t : Fin 4 × Fin 4) :
    iprop(Cr c (true, t.1.succ, t.2) ∗ owns (c : Thread nD τ) (slc (true, t.1.succ, t.2)) fullShare (VB t)) ⊢ MemA c (cont c pc VF VB) (true, t.1.succ, t.2) := by
  refine memA_of c _ (true, t.1.succ, t.2) (Nat.succ_ne_zero _) _ fun hr =>
    (if_neg (by rintro (h | h); exacts [Nat.succ_ne_zero _ h, hr h])).trans ((if_pos rfl).trans (congrArg VB (Prod.ext (Fin.ext ?_) rfl)))
  show (t.1.val + 1 - 1) % 4 = t.1.val
  have := t.1.isLt; omega

/-- A family over the backward slots: those of no hop, and the others. -/
theorem back_split (Φ : Fin 5 × Fin 4 → sProp 𝕄) :
    bigSep Finset.univ Φ = iprop((bigSep Finset.univ fun p : Fin 4 => Φ (0, p)) ∗ (bigSep Finset.univ fun t : Fin 4 × Fin 4 => Φ (t.1.succ, t.2))) := by
  rw [big_prod, big5, big_prod (fun t : Fin 4 × Fin 4 => Φ (t.1.succ, t.2)), big4 (fun h : Fin 4 => bigSep Finset.univ fun p : Fin 4 => Φ (h.succ, p))]
  rfl

theorem mem_launch (VF : Fin 5 × Fin 4 → Piece F) (VB : Fin 4 × Fin 4 → Piece F) :
    iprop(bigSep Finset.univ (Cr (F := F) c) ∗ (bigSep Finset.univ fun t => owns (c : Thread nD τ) (slc (false, t)) fullShare (VF t))
        ∗ (bigSep Finset.univ fun t : Fin 4 × Fin 4 => owns (c : Thread nD τ) (slc (true, t.1.succ, t.2)) fullShare (VB t)))
      ⊢ bigSep Finset.univ (MemA c (cont c pc VF VB)) := by
  rw [split_dir (MemA c (cont c pc VF VB)), split_dir (Cr (F := F) c), back_split (fun hp => MemA c (cont c pc VF VB) (true, hp)),
    back_split (fun hp => Cr (F := F) c (true, hp))]
  iintro ⟨⟨H1, -, H2⟩, H3, H4⟩
  isplitl [H1 H3]
  · iapply (big_mono (fun t => memA_f c pc VF VB t))
    rw [big_sep]
    isplitl [H1]; · iexact H1
    iexact H3
  isplitr
  · iapply (show iprop(emp) ⊢ (bigSep Finset.univ fun p : Fin 4 => MemA c (cont c pc VF VB) (true, 0, p) : sProp 𝕄) from by
      rw [big4]
      have h (p : Fin 4) : iprop(emp) ⊢ MemA c (cont c pc VF VB) (true, 0, p) := by
        unfold MemA; rw [if_pos (show (true, (0 : Fin 5), p).2.1.val = 0 from rfl), if_pos (show (true, (0 : Fin 5), p).1 = true from rfl)]
      iintro -
      isplitr; · iapply (h 0); iempintro
      isplitr; · iapply (h 1); iempintro
      isplitr; · iapply (h 2); iempintro
      iapply (h 3); iempintro)
    iempintro
  · iapply (big_mono (fun t => memA_b c pc VF VB t))
    rw [big_sep]
    isplitl [H2]; · iexact H2
    iexact H4

/-! ## The slots at the end -/

set_option maxRecDepth 100000 in
theorem got_end (s : Slot) (c : Dev nD) : rcv s c = true → at' (1, s) < 84 := by
  obtain ⟨d, h, p⟩ := s; revert d h p c; decide
set_option maxRecDepth 100000 in
theorem done_end (s : Slot) (c : Dev nD) : act s c = true → at' (2, s) < 84 := by
  obtain ⟨d, h, p⟩ := s; revert d h p c; decide

/-- A slot's memory when nothing is awaited. -/
def MemZ (X : Slot → Piece F) (s : Slot) : sProp 𝕄 := iprop(Lf c X s ∗ owns (c : Thread nD τ) (slc s) (qs s) (X s))

theorem P_end (X : Slot → Piece F) (s : Slot) : P c X 84 s ⊢ iprop(MemZ c X s ∗ Po c s (act s c) ∗ Pi c s (rcv s c)) := by
  have hd : done c s 84 = act s c := by
    unfold done
    by_cases ha : act s c = true
    · rw [ha, Bool.true_and]; exact decide_eq_true (done_end s c ha)
    · rw [Bool.eq_false_iff.mpr ha, Bool.false_and]
  have hg : got c s 84 = rcv s c := by
    unfold got
    by_cases ha : rcv s c = true
    · rw [ha, Bool.true_and]; exact decide_eq_true (got_end s c ha)
    · rw [Bool.eq_false_iff.mpr ha, Bool.false_and]
  have hs (h : sent c s 84 = true) : act s c = true := by
    unfold sent at h; exact (Bool.and_eq_true_iff.mp h).1
  unfold P P' Mem MemZ
  rw [hd, hg, if_neg (fun h => by rw [h.1] at h; exact absurd h.2 (by decide)), if_neg (fun h => by rw [hs h.1] at h; exact absurd h.2 (by decide))]
  iintro ⟨H1, -, H2, H3⟩
  isplitl [H1]; · iexact H1
  isplitl [H2]; · iexact H2
  iexact H3

variable (X : Slot → Piece F)

theorem memZ_one (s : Slot) (hs : s.2.1.val ≠ 0) : MemZ c X s ⊢ owns (c : Thread nD τ) (slc s) fullShare (X s) := by
  unfold MemZ Lf qs
  rw [if_neg (fun h => hs h.2), if_neg hs]
  exact (owns_halves (c : Thread nD τ) (slc s) fullShare (X s)).2

theorem memZ_own (p : Fin 4) (hX : X (true, 0, p) = X (false, 0, p)) :
    iprop(MemZ c X (false, 0, p) ∗ MemZ c X (true, 0, p)) ⊢ owns (c : Thread nD τ) (slc (false, 0, p)) fullShare (X (false, 0, p)) := by
  unfold MemZ Lf qs
  rw [if_neg (show ¬ ((false, (0 : Fin 5), p).1 = true ∧ (false, (0 : Fin 5), p).2.1.val = 0) from fun h => Bool.false_ne_true h.1), if_pos (show (true, (0 : Fin 5), p).1 = true ∧ (true, (0 : Fin 5), p).2.1.val = 0 from ⟨rfl, rfl⟩),
    if_pos (show (false, (0 : Fin 5), p).2.1.val = 0 from rfl), if_pos (show (true, (0 : Fin 5), p).2.1.val = 0 from rfl),
    if_neg (show ¬ (false, (0 : Fin 5), p).1 = true from Bool.false_ne_true), if_pos (show (true, (0 : Fin 5), p).1 = true from rfl), hX]
  iintro ⟨⟨H1, H2⟩, -, H3⟩
  iapply (owns_halves (c : Thread nD τ) (slc (false, 0, p)) fullShare (X (false, 0, p))).2
  isplitl [H1]; · iexact H1
  iapply (owns_halves (c : Thread nD τ) (slc (false, 0, p)) fullShare.right (X (false, 0, p))).2
  isplitl [H2]; · iexact H2
  iexact H3

theorem mem_end (hX : ∀ p, X (true, 0, p) = X (false, 0, p)) :
    bigSep Finset.univ (MemZ c X) ⊢ iprop(anyBuf (F := F) c cc0_scratch0 ∗ anyBuf (F := F) c cc0_scratch1) := by
  rw [split_dir (MemZ c X), back_split (fun hp => MemZ c X (false, hp)), back_split (fun hp => MemZ c X (true, hp))]
  iintro ⟨⟨H1, H2⟩, H3, H4⟩
  isplitr [H4]
  · iapply (paste_f c (fun t => X (false, t)))
    rw [back_split (fun t => owns (c : Thread nD τ) (slc (false, t)) fullShare (X (false, t)))]
    isplitl [H1 H3]
    · iapply (big_mono (fun p => memZ_own c X p (hX p)))
      rw [big_sep]
      isplitl [H1]; · iexact H1
      iexact H3
    · iapply (big_mono (fun t : Fin 4 × Fin 4 => memZ_one c X (false, t.1.succ, t.2) (Nat.succ_ne_zero _)))
      iexact H2
  · iapply (paste_b c (fun t => X (true, t.1.succ, t.2)))
    iapply (big_mono (fun t : Fin 4 × Fin 4 => memZ_one c X (true, t.1.succ, t.2) (Nat.succ_ne_zero _)))
    iexact H4

/-! ## The semaphores at the end -/

/-- A family over the slots that are sent from, and over the slots that are filled. -/
theorem out_slots (Φ : Cid → sProp 𝕄) :
    (bigSep Finset.univ fun s : Slot => if s.2.1.val < 4 then Φ (outC s) else iprop(emp)) ⊢ bigSep Finset.univ fun x : Bool × Fin 4 × Fin 4 => Φ (false, x) := by
  rw [big_prod, big_prod (fun x : Bool × Fin 4 × Fin 4 => Φ (false, x))]
  refine big_mono fun d => ?_
  rw [big_prod, big5, big_prod (fun x : Fin 4 × Fin 4 => Φ (false, d, x)), big4 (fun h : Fin 4 => bigSep Finset.univ fun p : Fin 4 => Φ (false, d, h, p))]
  iintro ⟨H0, H1, H2, H3, -⟩
  isplitl [H0]; · iexact H0
  isplitl [H1]; · iexact H1
  isplitl [H2]; · iexact H2
  iexact H3
theorem in_slots (Φ : Cid → sProp 𝕄) :
    (bigSep Finset.univ fun s : Slot => if s.2.1.val ≠ 0 then Φ (inC s) else iprop(emp)) ⊢ bigSep Finset.univ fun x : Bool × Fin 4 × Fin 4 => Φ (true, x) := by
  rw [big_prod, big_prod (fun x : Bool × Fin 4 × Fin 4 => Φ (true, x))]
  refine big_mono fun d => ?_
  rw [big_prod, big5, big_prod (fun x : Fin 4 × Fin 4 => Φ (true, d, x)), big4 (fun h : Fin 4 => bigSep Finset.univ fun p : Fin 4 => Φ (true, d, h, p))]
  iintro ⟨-, H0, H1, H2, H3⟩
  isplitl [H0]; · iexact H0
  isplitl [H1]; · iexact H1
  isplitl [H2]; · iexact H2
  iexact H3

/-- The position of a transfer cell at the end. -/
def Pz (x : Cid) : sProp 𝕄 := atPos ER (xCell c x) (if used x c then 1 else 0) ∅ 0

theorem pos_end : iprop((bigSep Finset.univ fun s => Po (F := F) c s (act s c)) ∗ (bigSep Finset.univ fun s => Pi (F := F) c s (rcv s c)))
    ⊢ bigSep Finset.univ (Pz (F := F) c) := by
  have ho (s : Slot) : Po (F := F) c s (act s c) = if s.2.1.val < 4 then Pz c (outC s) else iprop(emp) := by
    unfold Po Pz
    by_cases h : s.2.1.val < 4
    · rw [if_pos h, if_pos h, used_outC_eq s c h]
    · rw [if_neg h, if_neg h]
  have hi (s : Slot) : Pi (F := F) c s (rcv s c) = if s.2.1.val ≠ 0 then Pz c (inC s) else iprop(emp) := by
    unfold Pi Pz
    by_cases h : s.2.1.val ≠ 0
    · rw [if_pos h, if_pos h, used_inC_eq s c h]
    · rw [if_neg h, if_neg h]
  rw [show (fun s => Po (F := F) c s (act s c)) = fun s => if s.2.1.val < 4 then Pz c (outC s) else iprop(emp) from funext ho,
    show (fun s => Pi (F := F) c s (rcv s c)) = fun s => if s.2.1.val ≠ 0 then Pz c (inC s) else iprop(emp) from funext hi,
    big_prod (Pz (F := F) c), show (bigSep Finset.univ fun i : Bool => bigSep Finset.univ fun j => Pz (F := F) c (i, j))
      = iprop((bigSep Finset.univ fun j => Pz (F := F) c (false, j)) ∗ (bigSep Finset.univ fun j => Pz (F := F) c (true, j)))
      from bigSep_univ_eq_bigSepL [false, true] (by decide) (by decide) _]
  iintro ⟨H1, H2⟩
  isplitl [H1]
  · iapply (out_slots (Pz (F := F) c)); iexact H1
  · iapply (in_slots (Pz (F := F) c)); iexact H2

variable (K : Dev nD × Option Cid → ℕ)

theorem close_x (x : Cid) : iprop(Env pc K ∗ Pz c x) ⊢ iprop(|={Set.univ}=> semVal (xCell c x) 0) := by
  iintro ⟨#HE, H⟩
  ihave HI := (Env_invX pc K c x) $$ HE
  unfold Pz
  iapply (Rounds.cell_close ER (Rd pc) (Set.mem_univ (K (c, some x))) (fun h => h) (R := if used x c then 1 else 0) (by
    intro r hr
    by_cases hu : used x c = true
    · rw [if_pos hu] at hr; exact duties_later pc _ r hr
    · exact duties_unused pc c x hu r))
  isplitl [HI]; · iexact HI
  iexact H
theorem close_bar : iprop(Env pc K ∗ atPos ER (barCell c) 1 ∅ 0) ⊢ iprop(|={Set.univ}=> semVal (barCell c) 0) := by
  iintro ⟨#HE, H⟩
  ihave HI := (Env_inv pc K (c, none)) $$ HE
  iapply (Rounds.cell_close ER (Rd pc) (Set.mem_univ (K (c, none))) (fun h => h) (R := 1) (duties_later pc (barCell c)))
  isplitl [HI]; · iexact HI
  iexact H

theorem close_all : iprop(Env pc K ∗ bigSep Finset.univ (Pz (F := F) c)) ⊢ iprop(|={Set.univ}=> bigSep Finset.univ fun x => semVal (xCell c x) 0) := by
  refine BIBase.Entails.trans ?_ (bigSep_fupd Finset.univ fun x => (semVal (xCell c x) 0 : sProp 𝕄))
  refine (sep_mono_left (BI.bigSep_of_persistent (Finset.univ : Finset Cid) (Env pc K))).trans ?_
  rw [← bigSep_sep']
  exact bigSep_mono fun x _ => close_x c pc K x

/-- What a run leaves: both buffers, and every semaphore at zero. -/
def Left : sProp 𝕄 :=
  iprop((anyBuf (F := F) c cc0_scratch0 ∗ anyBuf (F := F) c cc0_scratch1) ∗ (bigSep Finset.univ fun x => semVal (xCell c x) 0) ∗ semVal (barCell c) 0)

theorem owed_end : owed c 84 = 0 := owed_last c 84 fun s h => lt_of_lt_of_le (act_early s c h) (by decide)

theorem T_end (hX : ∀ p, X (true, 0, p) = X (false, 0, p)) :
    T pc K c X 84 ⊢ iprop(|={Set.univ}=> (Left (F := F) c ∗ ∃ W, owes (c : Thread nD τ) 0 W)) := by
  unfold T
  rw [owed_end]
  iintro ⟨#HE, HB, HW, HP⟩
  ihave HP' := ((big_mono (fun s => P_end c X s)).trans (Entails.of_eq (by rw [big_sep, big_sep]))) $$ HP
  icases HP' with ⟨HM, Hpos⟩
  ihave Hpos' := (pos_end (F := F) c) $$ Hpos
  imod (close_all (F := F) c pc K) $$ [Hpos'] with HX
  · isplitr; · iexact HE
    iexact Hpos'
  imod (close_bar (F := F) c pc K) $$ [HB] with HB
  · isplitr; · iexact HE
    iexact HB
  imodintro
  isplitr [HW]
  · unfold Left
    isplitl [HM]
    · iapply (mem_end c X hX); iexact HM
    isplitl [HX]; · iexact HX
    iexact HB
  · iexact HW

end Cut

end Cert.RingProof

end
-- ==== Proof.Deal.lean ====
/-
  What the launch deals each device: the cells' records, the positions, the duties to pay with, and the credits.
-/
module

public import proofs.«01_k».proof.Proof.End
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Families over slots and over cells -/

theorem big_option {I : Type} [Fintype I] [DecidableEq I] (Φ : Option I → sProp 𝕄) :
    bigSep Finset.univ Φ = iprop(Φ none ∗ bigSep Finset.univ fun i => Φ (some i)) := by
  rw [univ_split none Φ, show (Finset.univ : Finset (Option I)).erase none = Finset.univ.map Function.Embedding.some from by
    ext x; cases x <;> simp, bigSep_map]
  rfl

theorem big_bool (Φ : Bool → sProp 𝕄) : bigSep Finset.univ Φ = iprop(Φ false ∗ Φ true) :=
  bigSep_univ_eq_bigSepL [false, true] (by decide) (by decide) _

/-- One hop of one piece in one direction, from the slot `h` to the slot `h + 1`. -/
abbrev Hop : Type := Bool × Fin 4 × Fin 4
def src (y : Hop) : Slot := (y.1, y.2.1.castSucc, y.2.2)
def dst (y : Hop) : Slot := (y.1, y.2.1.succ, y.2.2)
theorem outC_src (y : Hop) : outC (src y) = (false, y) := by obtain ⟨d, h, p⟩ := y; revert d h p; decide
theorem inC_dst (y : Hop) : inC (dst y) = (true, y) := by obtain ⟨d, h, p⟩ := y; revert d h p; decide
theorem up_src (y : Hop) : up (src y) = dst y := by obtain ⟨d, h, p⟩ := y; revert d h p; decide
theorem src_lt (y : Hop) : (src y).2.1.val < 4 := y.2.1.isLt
theorem dst_pos (y : Hop) : (dst y).2.1.val ≠ 0 := Nat.succ_ne_zero _

theorem by_src (Θ : Hop → sProp 𝕄) (Ψ : Slot → sProp 𝕄) (h : ∀ y, Θ y ⊢ Ψ (src y)) (h4 : ∀ d p, iprop(emp) ⊢ Ψ (d, 4, p)) :
    bigSep Finset.univ Θ ⊢ bigSep Finset.univ Ψ := by
  rw [big_prod, big_prod]
  refine big_mono fun d => ?_
  rw [big_prod, big_prod, big5, big4 (fun h : Fin 4 => bigSep Finset.univ fun p : Fin 4 => Θ (d, h, p))]
  iintro ⟨H0, H1, H2, H3⟩
  isplitl [H0]; · iapply (big_mono fun p => h (d, 0, p)); iexact H0
  isplitl [H1]; · iapply (big_mono fun p => h (d, 1, p)); iexact H1
  isplitl [H2]; · iapply (big_mono fun p => h (d, 2, p)); iexact H2
  isplitl [H3]; · iapply (big_mono fun p => h (d, 3, p)); iexact H3
  rw [big4]
  isplitr; · iapply (h4 d 0); iempintro
  isplitr; · iapply (h4 d 1); iempintro
  isplitr; · iapply (h4 d 2); iempintro
  iapply (h4 d 3); iempintro
theorem by_dst (Θ : Hop → sProp 𝕄) (Ψ : Slot → sProp 𝕄) (h : ∀ y, Θ y ⊢ Ψ (dst y)) (h0 : ∀ d p, iprop(emp) ⊢ Ψ (d, 0, p)) :
    bigSep Finset.univ Θ ⊢ bigSep Finset.univ Ψ := by
  rw [big_prod, big_prod]
  refine big_mono fun d => ?_
  rw [big_prod, big_prod, big5, big4 (fun h : Fin 4 => bigSep Finset.univ fun p : Fin 4 => Θ (d, h, p))]
  iintro ⟨H0, H1, H2, H3⟩
  isplitr
  · rw [big4]
    isplitr; · iapply (h0 d 0); iempintro
    isplitr; · iapply (h0 d 1); iempintro
    isplitr; · iapply (h0 d 2); iempintro
    iapply (h0 d 3); iempintro
  isplitl [H0]; · iapply (big_mono fun p => h (d, 0, p)); iexact H0
  isplitl [H1]; · iapply (big_mono fun p => h (d, 1, p)); iexact H1
  isplitl [H2]; · iapply (big_mono fun p => h (d, 2, p)); iexact H2
  iapply (big_mono fun p => h (d, 3, p)); iexact H3

/-! ## Cells and duties -/

theorem csem_injective : Function.Injective csem := fun x y h => by rw [← cdec_csem x, ← cdec_csem y, h]

/-- The transfers' semaphores. -/
def osem : Cid → SemLoc sig := fun x => .dma (csem x)
theorem osem_facts : Pipeline.OwnSemFacts cfg0.spec osem := by
  refine ⟨?_, fun x y h => csem_injective (SemLoc.dma.inj h), ?_⟩ <;> decide

theorem kcell_injective : Function.Injective (kcell : Dev nD × Option Cid → GSem nD τ sig) := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some y => cases h2
  | some x => cases k' with
    | none => cases h2
    | some y => rw [csem_injective (SemLoc.dma.inj h2)]
def ringCells : Finset (GSem nD τ sig) := Finset.univ.map ⟨kcell, kcell_injective⟩

/-- The duties minted for a device's own cells. -/
def tokOf (cj : Dev nD × Option (Option Cid)) : GSem nD τ sig × ℕ × Bool := match cj.2 with
  | none => (barCell cj.1, 0, false)
  | some none => (barCell cj.1, 0, true)
  | some (some x) => (xCell cj.1 x, 0, false)
theorem tokOf_injective : Function.Injective tokOf := by
  rintro ⟨c, k⟩ ⟨c', k'⟩ h
  have h1 : c = c' := by
    have := congrArg (fun g : GSem nD τ sig × ℕ × Bool => g.1.1.1) h
    rcases k with _ | _ | x <;> rcases k' with _ | _ | x' <;> exact this
  subst h1
  have h2 := congrArg (fun g : GSem nD τ sig × ℕ × Bool => g.1.2) h
  have h3 := congrArg (fun g : GSem nD τ sig × ℕ × Bool => g.2.2) h
  rcases k with _ | _ | x <;> rcases k' with _ | _ | x'
  · rfl
  · exact absurd h3 Bool.false_ne_true
  · cases h2
  · exact absurd h3.symm Bool.false_ne_true
  · rfl
  · cases h2
  · cases h2
  · cases h2
  · rw [csem_injective (SemLoc.dma.inj h2)]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

section Deal

variable (pc : Dev nD → Fin 4 → Piece F)

/-- The duties of a device's own cells. -/
def toks (c : Dev nD) : sProp 𝕄 :=
  iprop(dutyTok ER (barCell c) 0 false ∗ dutyTok ER (barCell c) 0 true ∗ bigSep Finset.univ fun x : Cid => dutyTok ER (xCell c x) 0 false)
/-- The duties that a device pays. -/
def payToks (c : Dev nD) : sProp 𝕄 :=
  iprop(dutyTok ER (barCell (nb true c)) 0 false ∗ dutyTok ER (barCell (nb false c)) 0 true ∗ bigSep Finset.univ (TkA (F := F) c))

def Gd (c : Dev nD) : sProp 𝕄 :=
  iprop((bigSep Finset.univ fun k : Option Cid => roundState ER (Rd pc) (kcell (c, k)) 0)
    ∗ (bigSep Finset.univ fun k : Option Cid => iprop(atPos ER (kcell (c, k)) 0 ∅ 0 ∗ reached ER (kcell (c, k)) 0)) ∗ toks (F := F) c)

/-- Every cell follows the schedule and is at round 0. -/
def recs (K : Dev nD × Option Cid → ℕ) : sProp 𝕄 :=
  iprop((bigSep Finset.univ fun ck : Dev nD × Option Cid => cellInv ER (Rd pc) (K ck) (kcell ck))
    ∗ bigSep Finset.univ fun ck : Dev nD × Option Cid => reached ER (kcell ck) 0)
instance recs_persistent (K : Dev nD × Option Cid → ℕ) : BI.Persistent (recs pc K) := by unfold recs; infer_instance

/-- What is a device's alone. -/
def Lin (c : Dev nD) : sProp 𝕄 :=
  iprop((atPos ER (barCell c) 0 ∅ 0 ∗ (bigSep Finset.univ fun s => Po (F := F) c s false) ∗ bigSep Finset.univ fun s => Pi (F := F) c s false) ∗ payToks (F := F) c)

def Gd' (c : Dev nD) : sProp 𝕄 := iprop(∃ K, recs pc K ∗ Lin (F := F) c)

theorem fund_ring : BI.own (ER (initOf ringCells ringToks)) ⊢ (|==> bigSep Finset.univ (Gd pc) : sProp 𝕄) := by
  have hX (Φ : GSem nD τ sig → sProp 𝕄) : bigSep ringCells Φ = bigSep Finset.univ fun c : Dev nD => bigSep Finset.univ fun k : Option Cid => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [big_option, big_option]; rfl
  iintro HX
  imod (Rounds.fund ER (Rd pc) ringCells ringToks) $$ HX with ⟨Hst, Hr, Hat, Htok⟩
  imodintro
  ihave Hst' := (Entails.of_eq (hX fun g => roundState ER (Rd pc) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Gd; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun x : Cid => semVal (xCell c x) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Cid => semVal (kcell (c, k)) 0 : sProp 𝕄) := by
  rw [ownSems0_eq, unscopedSems0_eq, big_option]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ Gd pc c)
      ⊢ |={Set.univ}=> iprop((bigSep Finset.univ fun k => iprop(∃ κ : ℕ, cellInv ER (Rd pc) κ (kcell (c, k))))
          ∗ (bigSep Finset.univ fun k => iprop(atPos ER (kcell (c, k)) 0 ∅ 0 ∗ reached ER (kcell (c, k)) 0)) ∗ toks (F := F) c) := by
  unfold Gd
  iintro ⟨Hos, Hus, Hst, Hat, Htok⟩
  ihave Hv := (sems0_eq (F := F) c) $$ [Hos Hus]
  · isplitl [Hos] <;> iassumption
  imod (show iprop((bigSep Finset.univ fun k : Option Cid => semVal (kcell (c, k)) 0) ∗ bigSep Finset.univ fun k : Option Cid => roundState ER (Rd pc) (kcell (c, k)) 0)
      ⊢ (|={Set.univ}=> bigSep Finset.univ fun k => iprop(∃ κ : ℕ, cellInv ER (Rd pc) κ (kcell (c, k))) : sProp 𝕄) from by
        rw [← bigSep_sep']
        exact (bigSep_mono fun k _ => (Rounds.body_intro ER (Rd pc) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Devices turned by a hop's direction. -/
def turn : Dev nD × Hop ≃ Dev nD × Hop :=
  ⟨fun a => (nb a.2.1 a.1, a.2), fun a => (nb (!a.2.1) a.1, a.2), fun a => Prod.ext (nb_nb a.2.1 a.1) rfl, fun a => Prod.ext (nb_nb' a.2.1 a.1) rfl⟩

theorem hop_tok (c : Dev nD) (y : Hop) :
    iprop(dutyTok ER (xCell c (false, y)) 0 false ∗ dutyTok ER (xCell (nb y.1 c) (true, y)) 0 false) ⊢ TkA (F := F) c (src y) := by
  unfold TkA
  split
  · rw [up_src]; unfold outCell inCell; rw [outC_src, inC_dst]; exact BI.Entails.refl _
  · iintro -; iempintro
theorem no_tok (c : Dev nD) (d : Bool) (p : Fin 4) : iprop(emp) ⊢ TkA (F := F) c (d, 4, p) := by
  unfold TkA
  rw [if_neg (fun h => absurd (act_lt (d, 4, p) c h) (Nat.lt_irrefl 4))]

theorem toks_around : (bigSep Finset.univ fun c : Dev nD => (toks (F := F) c : sProp 𝕄)) ⊢ bigSep Finset.univ fun c : Dev nD => payToks (F := F) c := by
  have hin : (bigSep Finset.univ fun c : Dev nD => bigSep Finset.univ fun y : Hop => (dutyTok ER (xCell c (true, y)) 0 false : sProp 𝕄))
      = bigSep Finset.univ fun c : Dev nD => bigSep Finset.univ fun y : Hop => dutyTok ER (xCell (nb y.1 c) (true, y)) 0 false := by
    rw [← big_prod (fun a : Dev nD × Hop => (dutyTok ER (xCell a.1 (true, a.2)) 0 false : sProp 𝕄)), bigSep_univ_equiv turn, big_prod]
    rfl
  have hx : (bigSep Finset.univ fun c : Dev nD => bigSep Finset.univ fun x : Cid => (dutyTok ER (xCell c x) 0 false : sProp 𝕄))
      ⊢ bigSep Finset.univ fun c : Dev nD => bigSep Finset.univ (TkA (F := F) c) := by
    rw [show (fun c : Dev nD => bigSep Finset.univ fun x : Cid => (dutyTok ER (xCell c x) 0 false : sProp 𝕄))
      = fun c : Dev nD => iprop((bigSep Finset.univ fun y : Hop => dutyTok ER (xCell c (false, y)) 0 false) ∗ bigSep Finset.univ fun y : Hop => dutyTok ER (xCell c (true, y)) 0 false)
      from funext fun c => by rw [big_prod, big_bool], big_sep, hin, ← big_sep]
    refine big_mono fun c => ?_
    rw [← big_sep]
    exact by_src _ _ (hop_tok c) (no_tok c)
  unfold toks payToks
  rw [bigSep_sep', bigSep_sep', bigSep_sep', bigSep_sep',
    bigSep_univ_equiv (ring true) (fun c : Dev nD => (dutyTok ER (barCell c) 0 false : sProp 𝕄)),
    bigSep_univ_equiv (ring false) (fun c : Dev nD => (dutyTok ER (barCell c) 0 true : sProp 𝕄))]
  iintro ⟨H1, H2, H3⟩
  isplitl [H1]; · iexact H1
  isplitl [H2]; · iexact H2
  iapply hx; iexact H3

theorem positions (c : Dev nD) : (bigSep Finset.univ fun k : Option Cid => (atPos ER (kcell (c, k)) 0 ∅ 0 : sProp 𝕄))
    ⊢ iprop(atPos ER (barCell c) 0 ∅ 0 ∗ (bigSep Finset.univ fun s => Po (F := F) c s false) ∗ bigSep Finset.univ fun s => Pi (F := F) c s false) := by
  have ho (y : Hop) : atPos ER (xCell c (false, y)) 0 ∅ 0 ⊢ Po (F := F) c (src y) false := by
    unfold Po outCell; rw [if_pos (src_lt y), outC_src]; exact BI.Entails.refl _
  have hi (y : Hop) : atPos ER (xCell c (true, y)) 0 ∅ 0 ⊢ Pi (F := F) c (dst y) false := by
    unfold Pi inCell; rw [if_pos (dst_pos y), inC_dst]; exact BI.Entails.refl _
  rw [big_option]
  iintro ⟨HB, HX⟩
  isplitl [HB]; · iexact HB
  ihave H := (Entails.of_eq (show (bigSep Finset.univ fun i : Cid => (atPos ER (kcell (c, some i)) 0 ∅ 0 : sProp 𝕄))
    = iprop((bigSep Finset.univ fun y : Hop => atPos ER (xCell c (false, y)) 0 ∅ 0) ∗ bigSep Finset.univ fun y : Hop => atPos ER (xCell c (true, y)) 0 ∅ 0)
    from by rw [big_prod, big_bool]; rfl)) $$ HX
  icases H with ⟨H1, H2⟩
  isplitl [H1]
  · iapply (by_src _ _ ho fun d p => by unfold Po; rw [if_neg (show ¬ (d, (4 : Fin 5), p).2.1.val < 4 from by show ¬ (4 < 4); decide)]); iexact H1
  · iapply (by_dst _ _ hi fun d p => by unfold Pi; rw [if_neg (show ¬ (d, (0 : Fin 5), p).2.1.val ≠ 0 from fun h => h rfl)]); iexact H2

theorem with_persistent {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact big_mono h)

theorem regroup :
    (bigSep Finset.univ fun c : Dev nD => iprop((bigSep Finset.univ fun k => iprop(∃ κ : ℕ, cellInv ER (Rd pc) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (Gd' pc) := by
  rw [bigSep_sep', bigSep_sep', ← bigSep_univ_prod (fun ck : Dev nD × Option Cid => iprop(∃ κ : ℕ, cellInv ER (Rd pc) κ (kcell ck))),
    bigSep_congr (s := Finset.univ) (fun (c : Dev nD) _ => bigSep_sep' Finset.univ (fun k : Option Cid => (atPos ER (kcell (c, k)) 0 ∅ 0 : sProp 𝕄)) (fun k => reached ER (kcell (c, k)) 0)),
    bigSep_sep', ← bigSep_univ_prod (fun ck : Dev nD × Option Cid => (reached ER (kcell ck) 0 : sProp 𝕄))]
  iintro ⟨HI, ⟨Hat, #HR⟩, Htok⟩
  ihave HK := (BI.bigSep_exists_pi Finset.univ (fun (ck : Dev nD × Option Cid) (κ : ℕ) => (cellInv ER (Rd pc) κ (kcell ck) : sProp 𝕄))) $$ HI
  icases HK with ⟨%K, #HI⟩
  ihave Htk := (toks_around (F := F)) $$ Htok
  iapply (with_persistent (R := recs pc K) (Φ := Lin (F := F)) fun c => show iprop(recs pc K ∗ Lin (F := F) c) ⊢ Gd' pc c from by
    unfold Gd'; iintro H; iexists K; iexact H)
  isplitr
  · unfold recs; isplitl; · iexact HI
    iexact HR
  · iapply ((Entails.of_eq (bigSep_sep' Finset.univ (fun c : Dev nD => bigSep Finset.univ fun k : Option Cid => (atPos ER (kcell (c, k)) 0 ∅ 0 : sProp 𝕄)) (payToks (F := F))).symm).trans
      (bigSep_mono fun c _ => sep_mono_left (positions (F := F) c)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ Gd pc c) : sProp 𝕄)
    ⊢ |={Set.univ}=> bigSep Finset.univ (Gd' pc) :=
  ((bigSep_mono fun c _ => core_alloc pc c).trans (bigSep_fupd _ _)).trans (BI.fupd_mono (regroup pc))

end Deal

/-! ## Credits -/

theorem bar_inj {a b : Dev nD} (h : barCell a = barCell b) : a = b := Fin.ext (congrArg (fun g : GSem nD τ sig => g.1.1.val) h)
theorem x_inj {a b : Dev nD} {x y : Cid} (h : xCell a x = xCell b y) : a = b ∧ x = y :=
  ⟨Fin.ext (congrArg (fun g : GSem nD τ sig => g.1.1.val) h), csem_injective (SemLoc.dma.inj (congrArg Prod.snd h))⟩
theorem bar_ne_x {a b : Dev nD} {x : Cid} (h : barCell a = xCell b x) : False := by cases congrArg Prod.snd h

theorem owed_bar (d c : Dev nD) : O₀ d (barCell c) () = (if d = nb true c then 1 else 0) + (if d = nb false c then 1 else 0) := by
  have h0 : owed d 0 (barCell c) () = 0 := by
    by_contra h
    obtain ⟨s, -, -, hs⟩ := owed_pos (Nat.pos_of_ne_zero h)
    exact bar_ne_x hs
  unfold O₀ O₁
  rw [Pi.add_apply, Finsupp.add_apply, Pi.add_apply, Finsupp.add_apply, h0, Nat.zero_add, tallyAt_apply, tallyAt_apply]
  have h1 : (if barCell c = barCell (nb false d) ∧ () = () then 1 else 0) = if d = nb true c then 1 else 0 := by
    by_cases h : d = nb true c
    · rw [if_pos h, if_pos ⟨by rw [h, show nb false (nb true c) = c from nb_nb' false c], rfl⟩]
    · rw [if_neg h, if_neg fun h' => h (by rw [bar_inj h'.1]; exact (nb_nb false d).symm)]
  have h2 : (if barCell c = barCell (nb true d) ∧ () = () then 1 else 0) = if d = nb false c then 1 else 0 := by
    by_cases h : d = nb false c
    · rw [if_pos h, if_pos ⟨by rw [h, show nb true (nb false c) = c from nb_nb' true c], rfl⟩]
    · rw [if_neg h, if_neg fun h' => h (by rw [bar_inj h'.1]; exact (nb_nb true d).symm)]
  rw [h1, h2]

theorem owed_in (d c : Dev nD) (s : Slot) (hs : rcv s c = true) : O₀ d (inCell c s) () = if d = nb (!s.1) c then N else 0 := by
  have hp := rcv_pos s c hs
  unfold O₀ O₁
  rw [Pi.add_apply, Finsupp.add_apply, Pi.add_apply, Finsupp.add_apply, tallyAt_apply, tallyAt_apply,
    if_neg (fun h => bar_ne_x h.1.symm), if_neg (fun h => bar_ne_x h.1.symm), add_zero, add_zero]
  by_cases h : d = nb (!s.1) c
  · rw [if_pos h]
    unfold owed
    rw [Finset.sum_apply, Finsupp.finset_sum_apply, Finset.sum_eq_single (dn s)]
    · have ha : act (dn s) d = true := by rw [h]; exact act_dn s c hs
      rw [if_pos ⟨ha, Nat.zero_le _⟩, tallyAt_apply, up_dn s hp, if_pos ⟨by rw [h]; exact congrArg (fun a => inCell a s) (nb_nb' s.1 c).symm, rfl⟩]
    · intro s' _ hne
      split
      · rename_i ha
        rw [tallyAt_apply, if_neg]
        rintro ⟨hc, -⟩
        have h1 : s = up s' := by rw [← slotOf_inC s hp, ← slotOf_inC (up s') (up_pos s'), (x_inj hc).2]
        exact hne (by rw [h1, dn_up s' (act_lt s' d ha.1)])
      · rfl
    · intro h'; exact absurd (Finset.mem_univ _) h'
  · rw [if_neg h]
    by_contra hne
    obtain ⟨s', ha, -, hc⟩ := owed_pos (Nat.pos_of_ne_zero hne)
    have h1 : s = up s' := by rw [← slotOf_inC s hp, ← slotOf_inC (up s') (up_pos s'), (x_inj hc).2]
    refine h ?_
    rw [(x_inj hc).1, h1]
    exact (nb_nb s'.1 d).symm

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => 1, Finset.sum_ite_eq' Finset.univ (nb false c) fun _ => 1, if_pos (Finset.mem_univ _), if_pos (Finset.mem_univ _)]
theorem launch_in (c : Dev nD) (s : Slot) (hs : rcv s c = true) :
    tallyOn (inCell c s) (launchCredit (Pipeline.owing O₀) 0 (inCell c s)) = (tallyAt (inCell c s) () N : CellTallies nD τ sig Unit) := by
  unfold tallyAt; refine congrArg _ (Finsupp.ext fun u => ?_); cases u
  rw [Pipeline.launchCredit_owing, Finsupp.single_eq_same, Finset.sum_congr rfl fun d _ => owed_in d c s hs,
    Finset.sum_ite_eq' Finset.univ (nb (!s.1) c) fun _ => N, if_pos (Finset.mem_univ _)]

/-- The cells that pieces arrive at. -/
def inSems : Finset (SemLoc sig) := Finset.univ.map ⟨fun y : Hop => osem (true, y), fun y y' h => congrArg Prod.snd (csem_injective (SemLoc.dma.inj h))⟩

theorem creds (c : Dev nD) :
    (Pipeline.launchCred O₀ c : sProp 𝕄) ⊢ iprop(cred (tallyAt (barCell c) () 2) ∗ bigSep Finset.univ (Cr (F := F) c)) := by
  have hy (y : Hop) : (cred (tallyOn ((c : Thread nD τ), osem (true, y)) (launchCredit (Pipeline.owing O₀) 0 ((c : Thread nD τ), osem (true, y)))) : sProp 𝕄)
      ⊢ Cr (F := F) c (dst y) := by
    unfold Cr
    split
    · rename_i hr
      rw [← launch_in c (dst y) hr]
      unfold inCell; rw [inC_dst]; exact BI.Entails.refl _
    · iintro -; iempintro
  have h0 (d : Bool) (p : Fin 4) : iprop(emp) ⊢ Cr (F := F) c (d, 0, p) := by
    unfold Cr; rw [if_neg fun h => rcv_pos (d, 0, p) c h rfl]
  unfold Pipeline.launchCred
  rw [bigSep_univ_at _ (SemLoc.reg barS), launch_bar]
  refine sep_mono_right ?_
  refine (bigSep_subset (t := inSems) fun x hx => ?_).trans ?_
  · obtain ⟨y, -, rfl⟩ := Finset.mem_map.mp hx
    exact Finset.mem_erase.mpr ⟨(fun h => by cases h), Finset.mem_univ _⟩
  · unfold inSems
    rw [bigSep_map]
    exact by_dst _ _ hy h0

end Cert.RingProof

end
-- ==== Proof.Launch.lean ====
/-
  The run of the whole program: every device ends with its operands unchanged, its semaphores at zero, and its result at the
  value that its pieces give.
-/
module

public import proofs.«01_k».proof.Proof.Deal

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Launch

variable (m : (ℓ : Loc nD τ sig) → Buf (Elt F) ℓ)

/-! ## What a device starts from and ends with -/

/-- A device's operands. -/
def ins (c : Dev nD) : In F where
  x := (win0_0.blk (0 : Fin 1)).view.read (Elt F) (m ((c : Thread nD τ).loc main_arg0))
  q := (win0_1.blk (0 : Fin 1)).view.read (Elt F) (m ((c : Thread nD τ).loc main_arg1))
  k := (win0_2.blk (0 : Fin 1)).view.read (Elt F) (m ((c : Thread nD τ).loc main_arg2))
  v := (win0_3.blk (0 : Fin 1)).view.read (Elt F) (m ((c : Thread nD τ).loc main_arg3))
  w := (win0_4.blk (0 : Fin 1)).view.read (Elt F) (m ((c : Thread nD τ).loc main_arg4))

instance piece_nonempty : Nonempty (Piece F) := ⟨fun _ => (Scalar.ofBits .f32 0 : F .f32)⟩

/-- The four pieces that a device sends around. -/
def pcs (c : Dev nD) : Fin 4 → Piece F := own c (ins m c) (fun _ => Classical.arbitrary (Piece F))

theorem own_any (c : Dev nD) (e : In F) (X X' : Slot → Piece F) (p : Fin 4) : own c e X p = own c e X' p := by
  fin_cases p <;> rfl

/-- What a device's result may be: the value that its slots give, if every slot that gets a piece holds that piece. -/
def Res (c : Dev nD) (Z : S2x256x512.Idx → Elt F .f32) : Prop :=
  ∃ (X : Slot → Piece F) (o : S2x256x512.Idx → Elt F .f32),
    (∀ s, (s.2.1.val = 0 ∨ rcv s c = true) → X s = dat (pcs m) s c) ∧ Z = out₁ c (ins m c) X o

def start (c : Dev nD) : sProp 𝕄 :=
  iprop((∃ K, recs (pcs m) K ∗ Lin (F := F) c) ∗ (cred (tallyAt (barCell c) () 2) ∗ bigSep Finset.univ (Cr (F := F) c)) ∗ levAts L lv)
def Φ₀ (c : Dev nD) : sProp 𝕄 := iprop(start m c ∗ anyBuf (F := F) c cc0_scratch0 ∗ anyBuf (F := F) c cc0_scratch1)

theorem start_state (c : Dev nD) : iprop(Φ₀ m c ∗ ∃ W, owes (c : Thread nD τ) (O₀ c) W)
    ⊢ iprop(∃ (K : Dev nD × Option Cid → ℕ) (X : Slot → Piece F), ⌜∀ s, (s.2.1.val = 0 ∨ rcv s c = true) → X s = dat (pcs m) s c⌝ ∗ TA (pcs m) K c X) := by
  unfold Φ₀ start recs Lin payToks
  iintro ⟨⟨⟨⟨%K, ⟨#HI, #HR⟩, ⟨HaB, HPo, HPi⟩, Ht1, Ht2, Htk⟩, ⟨HcB, Hcr⟩, #Hlev⟩, Hf, Hb⟩, HO⟩
  ihave Hf' := (cut_f (F := F) c) $$ Hf
  icases Hf' with ⟨%VF, Hf⟩
  ihave Hb' := (cut_b (F := F) c) $$ Hb
  icases Hb' with ⟨%VB, Hb⟩
  ihave HM := (mem_launch c (pcs m) VF VB) $$ [Hcr Hf Hb]
  · isplitl [Hcr]; · iexact Hcr
    isplitl [Hf]; · iexact Hf
    iexact Hb
  iexists K
  iexists (cont c (pcs m) VF VB)
  isplitr
  · ipureintro; exact fun s hs => cont_dat c (pcs m) VF VB s hs
  unfold TA Env
  isplitr
  · isplitr; · iexact HI
    isplitr; · iexact HR
    iexact Hlev
  isplitl [HaB HcB Ht1 Ht2]
  · isplitl [HaB]; · iexact HaB
    isplitl [HcB]; · iexact HcB
    isplitl [Ht1]; · iexact Ht1
    iexact Ht2
  isplitl [HO]; · iexact HO
  iapply (Entails.of_eq (show iprop(bigSep Finset.univ (MemA c (cont c (pcs m) VF VB)) ∗ bigSep Finset.univ (TkA (F := F) c)
      ∗ (bigSep Finset.univ fun s => Po (F := F) c s false) ∗ (bigSep Finset.univ fun s => Pi (F := F) c s false))
    = bigSep Finset.univ (ZA c (cont c (pcs m) VF VB)) from by unfold ZA; rw [big_sep, big_sep, big_sep]))
  isplitl [HM]; · iexact HM
  isplitl [Htk]; · iexact Htk
  isplitl [HPo]; · iexact HPo
  iexact HPi

/-- The body, from what the launch gives the device to what it leaves. -/
theorem body_run (c : Dev nD) (o : S2x256x512.Idx → Elt F .f32) :
    iprop((Φ₀ m c ∗ ∃ W, owes (c : Thread nD τ) (O₀ c) W) ∗ Ins c (ins m c) ∗ owns (c : Thread nD τ) oM fullShare o)
      ⊢ wp frame (wpE (defs₀ (F := F)) 𝒱₀ (c : Thread nD τ) none) Set.univ
          (cc0_body xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5)
          (fun _ => iprop((Left (F := F) c ∗ ∃ W, owes (c : Thread nD τ) 0 W) ∗ Ins c (ins m c) ∗ ∃ Z, ⌜Res m c Z⌝ ∗ owns (c : Thread nD τ) oM fullShare Z)) := by
  iintro ⟨H, HI, Ho⟩
  ihave H' := (start_state m c) $$ H
  icases H' with ⟨%K, %X, %hX, HT⟩
  have hO (p : Fin 4) : X (false, 0, p) = own c (ins m c) X p := by
    rw [hX (false, 0, p) (Or.inl rfl)]
    unfold dat
    rw [org_zero (false, 0, p) c rfl]
    exact own_any c (ins m c) _ _ p
  have h0 (p : Fin 4) : X (true, 0, p) = X (false, 0, p) := by
    rw [hX (false, 0, p) (Or.inl rfl), hX (true, 0, p) (Or.inl rfl)]
    unfold dat
    rw [org_zero (false, 0, p) c rfl, org_zero (true, 0, p) c rfl]
  have hr : Tr c (St c (ins m c) o (TA (pcs m) K c X)) _ _ := run_body (pcs m) K hX hO o
  unfold Tr at hr
  iapply (wp_fupd frame (wpE (defs₀ (F := F)) 𝒱₀ (c : Thread nD τ) none) Set.univ)
  iapply (hr.trans ((wp frame (wpE (defs₀ (F := F)) 𝒱₀ (c : Thread nD τ) none) Set.univ _).mono fun a => show
    Ret ⟨⟩ (St c (ins m c) (out₁ c (ins m c) X o) (T (pcs m) K c X 84)) a
      ⊢ iprop(|={Set.univ}=> ((Left (F := F) c ∗ ∃ W, owes (c : Thread nD τ) 0 W) ∗ Ins c (ins m c) ∗ ∃ Z, ⌜Res m c Z⌝ ∗ owns (c : Thread nD τ) oM fullShare Z)) from by
    unfold Ret
    iintro ⟨-, ⟨HI, Ho⟩, HT⟩
    imod (T_end c (pcs m) X K h0) $$ HT with HT
    imodintro
    isplitl [HT]; · iexact HT
    isplitl [HI]; · iexact HI
    iexists _
    isplitr; · (ipureintro; exact ⟨X, o, hX, rfl⟩)
    iexact Ho))
  isplitr [HT]
  · isplitl [HI]; · iexact HI
    iexact Ho
  · iexact HT

/-! ## The body as the pipeline calls it -/

def rdats (_ : Fin 1) (c : Dev nD) : Pipeline.RDat τ (Elt F) Unit ℕ UU ℕ cfg0 c where
  A w := m ((cfg0.win w).arr.view.loc (c : Thread nD τ))
  after w _ := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => Res m c X
  Φ t := match t with
    | ⟨0, _⟩ => Φ₀ m c
    | ⟨_ + 1, _⟩ => Left (F := F) c
  q _ := fullShare
  owed t := match t with
    | ⟨0, _⟩ => O₀ c
    | ⟨_ + 1, _⟩ => 0

theorem leave (c : Dev nD) (B : Set (SemLoc sig × Unit)) (hB : ∀ a, a ∈ B) :
    iprop((Left (F := F) c ∗ ∃ W, owes (c : Thread nD τ) 0 W) ∗ Ins c (ins m c) ∗ ∃ Z, ⌜Res m c Z⌝ ∗ owns (c : Thread nD τ) oM fullShare Z)
      ⊢ iprop(Left (F := F) c ∗ Pipeline.owesWithin c 0 B
        ∗ (∃ X, ⌜X = (ins m c).x⌝ ∗ owns (c : Thread nD τ) xM fullShare X) ∗ (∃ X, ⌜X = (ins m c).q⌝ ∗ owns (c : Thread nD τ) qM fullShare X)
        ∗ (∃ X, ⌜X = (ins m c).k⌝ ∗ owns (c : Thread nD τ) kM fullShare X) ∗ (∃ X, ⌜X = (ins m c).v⌝ ∗ owns (c : Thread nD τ) vM fullShare X)
        ∗ (∃ X, ⌜X = (ins m c).w⌝ ∗ owns (c : Thread nD τ) wM fullShare X) ∗ (∃ X, ⌜Res m c X⌝ ∗ owns (c : Thread nD τ) oM fullShare X)) := by
  unfold Ins Pipeline.owesWithin
  iintro ⟨⟨HL, ⟨%W, HO⟩⟩, ⟨Hx, Hq, Hk, Hv, Hw⟩, Ho⟩
  isplitl [HL]; · iexact HL
  isplitl [HO]
  · iexists W
    isplitr; · (ipureintro; exact fun a _ => hB a)
    iexact HO
  isplitl [Hx]
  · iexists _; isplitr; · (ipureintro; rfl)
    iexact Hx
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  isplitl [Hw]
  · iexists _; isplitr; · (ipureintro; rfl)
    iexact Hw
  iexact Ho

set_option maxRecDepth 8000 in
theorem body_obligation (c : Dev nD) : (rdats m 0 c).BodyObligation (defs₀ (F := F)) 𝒱₀ () Set.univ := fun t Y hY => by
  rw [fin_N0 t] at hY ⊢
  have h0 : Y 0 = (ins m c).x := by
    obtain ⟨d, hd⟩ := ((rdats m 0 c).finds_of_fetch (w := (0 : Fin 6)) (t := t0_0) (fetch0_0 _) (Y 0)).mp (hY 0)
    rw [hd]; rfl
  have h1 : Y 1 = (ins m c).q := by
    obtain ⟨d, hd⟩ := ((rdats m 0 c).finds_of_fetch (w := (1 : Fin 6)) (t := t0_0) (fetch0_1 _) (Y 1)).mp (hY 1)
    rw [hd]; rfl
  have h2 : Y 2 = (ins m c).k := by
    obtain ⟨d, hd⟩ := ((rdats m 0 c).finds_of_fetch (w := (2 : Fin 6)) (t := t0_0) (fetch0_2 _) (Y 2)).mp (hY 2)
    rw [hd]; rfl
  have h3 : Y 3 = (ins m c).v := by
    obtain ⟨d, hd⟩ := ((rdats m 0 c).finds_of_fetch (w := (3 : Fin 6)) (t := t0_0) (fetch0_3 _) (Y 3)).mp (hY 3)
    rw [hd]; rfl
  have h4 : Y 4 = (ins m c).w := by
    obtain ⟨d, hd⟩ := ((rdats m 0 c).finds_of_fetch (w := (4 : Fin 6)) (t := t0_0) (fetch0_4 _) (Y 4)).mp (hY 4)
    rw [hd]; rfl
  rw [bigSep_W0, bigSep_W0]
  show iprop(Φ₀ m c ∗ Pipeline.owesWithin c (O₀ c) ((rdats m 0 c).bound () t0_0.castSucc)
      ∗ owns (c : Thread nD τ) xM fullShare (Y 0) ∗ owns (c : Thread nD τ) qM fullShare (Y 1) ∗ owns (c : Thread nD τ) kM fullShare (Y 2)
        ∗ owns (c : Thread nD τ) vM fullShare (Y 3) ∗ owns (c : Thread nD τ) wM fullShare (Y 4) ∗ owns (c : Thread nD τ) oM fullShare (Y 5))
    ⊢ wp frame (wpE (defs₀ (F := F)) 𝒱₀ (c : Thread nD τ) none) Set.univ
      (cc0_body xM (Memref.isWhole_whole _) qM (Memref.isWhole_whole _) kM (Memref.isWhole_whole _) vM (Memref.isWhole_whole _) wM (Memref.isWhole_whole _) oM (Memref.isWhole_whole _) fM (Memref.isWhole_whole _) bM (Memref.isWhole_whole _) cc0_scratch2 cc0_scratch3 cc0_scratch4 cc0_scratch5)
      (fun _ => iprop(Left (F := F) c ∗ Pipeline.owesWithin c 0 ((rdats m 0 c).bound () t0_0.succ)
        ∗ (∃ X, ⌜X = Y 0⌝ ∗ owns (c : Thread nD τ) xM fullShare X) ∗ (∃ X, ⌜X = Y 1⌝ ∗ owns (c : Thread nD τ) qM fullShare X)
        ∗ (∃ X, ⌜X = Y 2⌝ ∗ owns (c : Thread nD τ) kM fullShare X) ∗ (∃ X, ⌜X = Y 3⌝ ∗ owns (c : Thread nD τ) vM fullShare X)
        ∗ (∃ X, ⌜X = Y 4⌝ ∗ owns (c : Thread nD τ) wM fullShare X) ∗ (∃ X, ⌜Res m c X⌝ ∗ owns (c : Thread nD τ) oM fullShare X)))
  rw [h0, h1, h2, h3, h4]
  iintro ⟨HΦ, HO, Hx, Hq, Hk, Hv, Hw, Ho⟩
  iapply ((body_run m c (Y 5)).trans ((wp frame (wpE (defs₀ (F := F)) 𝒱₀ (c : Thread nD τ) none) Set.univ _).mono fun _ => leave m c _ (fun _ => Or.inl trivial)))
  isplitl [HΦ HO]
  · isplitl [HΦ]; · iexact HΦ
    unfold Pipeline.owesWithin
    icases HO with ⟨%W, -, HO⟩
    iexists W; iexact HO
  unfold Ins
  isplitr [Ho]
  · isplitl [Hx]; · iexact Hx
    isplitl [Hq]; · iexact Hq
    isplitl [Hk]; · iexact Hk
    isplitl [Hv]; · iexact Hv
    iexact Hw
  · iexact Ho

/-! ## The launch -/

theorem share_eq (c : Dev nD) (w : Fin cfg0.W) : (rdats m 0 c).share w = fullShare := by unfold Pipeline.RDat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ Gd' (pcs m) c)
      ⊢ |={Set.univ}=> iprop(start m c ∗ emp) := by
  iintro ⟨-, Hlev, Hcr, -, HG⟩
  ihave Hc := (creds (F := F) c) $$ Hcr
  imodintro
  unfold start Gd'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (rdats m 0 c).Φ 0 := by
  rw [show (rdats m 0 c).Φ 0 = Φ₀ m c from rfl, scopedRest0_eq]
  unfold Φ₀ anyBuf
  iintro ⟨Hs, -, Hr⟩
  isplitl [Hs]; · iexact Hs
  iexact Hr

theorem phi1_exit (c : Dev nD) :
    (rdats m 0 c).Φ (Fin.last cfg0.N) ⊢ iprop(unscopedSems0 c ∗ Pipeline.ownSems0 osem c ∗ Pipeline.scopedRest cfg0.spec c) := by
  rw [show (rdats m 0 c).Φ (Fin.last cfg0.N) = Left (F := F) c from rfl, scopedRest0_eq, ownSems0_eq, unscopedSems0_eq]
  unfold Left anyBuf
  iintro ⟨Hr, HX, HB⟩
  isplitl [HB]; · iexact HB
  isplitl [HX]; · iexact HX
  iexact Hr

theorem O₀_pos {c : Dev nD} {g : GSem nD τ sig} {u : Unit} (h : 0 < O₀ c g u) :
    (∃ s : Slot, g = inCell (nb s.1 c) (up s)) ∨ ∃ d, g = barCell (nb d c) := by
  by_cases h0 : 0 < owed c 0 g u
  · obtain ⟨s, -, -, hs⟩ := owed_pos h0; exact Or.inl ⟨s, hs⟩
  unfold O₀ O₁ at h
  rw [Pi.add_apply, Finsupp.add_apply, Pi.add_apply, Finsupp.add_apply, tallyAt_apply, tallyAt_apply] at h
  by_cases h1 : g = barCell (nb false c)
  · exact Or.inr ⟨false, h1⟩
  by_cases h2 : g = barCell (nb true c)
  · exact Or.inr ⟨true, h2⟩
  rw [if_neg (fun h => h1 h.1), if_neg (fun h => h2 h.1)] at h
  omega

theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => mem_L _ _ _)
      (fun g u hg => by rcases O₀_pos hg with ⟨s, rfl⟩ | ⟨d, rfl⟩ <;> exact mem_L _ _ _)
      (fun p hp => by rw [Finset.mem_singleton.mp hp]; exact le_of_eq hq)
      (fun g u hg => by
        rcases O₀_pos hg with ⟨s, rfl⟩ | ⟨d, rfl⟩
        · show _ < lv (inCell (nb s.1 c) (up s)) ()
          rw [lv_in _ _ (up_pos s)]; have := up_pos s; omega
        · exact Nat.zero_lt_one)
  · rw [MayWait_zero]; iintro -; iempintro

theorem waits (c : Dev nD) : (levAts L lv : sProp 𝕄) ⊢ Pipeline.RDat.cellsWaits cfgs (rdats m) () 0 c :=
  Pipeline.RDat.cellsWaits_intro cfgs (rdats m) () 0 c fun w s t =>
    mayWait_stage c _ (by fin_cases w <;> fin_cases s <;> rfl) _ (by
      rcases t with ⟨_ | _, ht⟩
      · exact Or.inl rfl
      · exact Or.inr rfl)

/-- What a final memory holds: the operands as they were, and the result as `Res` says. -/
def Final (s : MemSt nD τ sig (Elt F)) : Prop :=
  ∀ c : Dev nD, (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    ∧ Res m c ((win0_5.blk (0 : Fin 1)).view.read (Elt F) (s.mem ((c : Thread nD τ).loc main_v1)))

theorem final_in (c : Dev nD) (w : Fin 6) (hw : (cfg0.win w).isOut = false) {f : Buf (Elt F) ((cfg0.win w).arr.view.loc (c : Thread nD τ))}
    (h : (rdats m 0 c).ArrAt w cfg0.N f) : f = m ((cfg0.win w).arr.view.loc (c : Thread nD τ)) := by
  rw [(rdats m 0 c).ArrAt_in w hw] at h; exact h

theorem final_out (c : Dev nD) {f : Buf (Elt F) ((cfg0.win (5 : Fin 6)).arr.view.loc (c : Thread nD τ))}
    (h : (rdats m 0 c).ArrAt (5 : Fin 6) cfg0.N f) : Res m c ((win0_5.blk (0 : Fin 1)).view.read (Elt F) f) := by
  rw [show cfg0.N = ((0 : Fin 1) : Fin cfg0.N).val + 1 from rfl, (rdats m 0 c).ArrAt_succ (5 : Fin 6) (0 : Fin 1),
    show (cfg0.win (5 : Fin 6)).flush (0 : Fin 1) = true from flush0_5 _, if_pos rfl] at h
  obtain ⟨G₀, X, -, ⟨Y, -, hX⟩, rfl⟩ := h
  have e : (win0_5.blk (0 : Fin 1)).view.read (Elt F) ((win0_5.blk (0 : Fin 1)).view.write (Elt F) G₀ X Finset.univ) = X := View.read_write_univ _ _
  exact (congrArg (Res m c) e).mpr hX

set_option maxRecDepth 8000 in
theorem run_main (ρ : Dev nD → PrngReg) :
    θ_run defs (onTc (τ := τ) (main (F := F))) ⟨m, fun _ => 0, ρ⟩ (fun r => Final m r.2 ∧ r.2.sem = fun _ => 0) :=
  Pipeline.RDat.θ_run_region_owing_glob_pf (fun p => (cfgs p).toPCfg) (fun p => (cfgs p).toPCfg_adm) (rdats m) () cellOf_inj (0 : Fin 1)
    winFacts0.to₀ osem_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := Gd (pcs m)) (G' := Gd' (pcs m)) (u₀ := u₀)
    (hu₀ := by
      unfold u₀
      iintro Hu
      ihave H := (ownU_pair _ _) $$ Hu
      icases H with ⟨HP, HX⟩
      imod (fund_ring (pcs m)) $$ HX with HG
      imodintro
      isplitl [HP] <;> iassumption)
    (hglob := glob (pcs m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c => ⟨⟨final_in m c 0 rfl ((h c).1 0), final_in m c 1 rfl ((h c).1 1), final_in m c 2 rfl ((h c).1 2),
      final_in m c 3 rfl ((h c).1 3), final_in m c 4 rfl ((h c).1 4)⟩, final_out m c ((h c).1 5)⟩, sem_eq_zero hs fun c => (h c).2.2⟩)

end Launch

end Cert.RingProof

end
-- ==== Proof.Ref.lean ====
module

public import proofs.«01_k».proof.Defs
public import proofs.«01_k».proof.Proof.Gen.ReferenceIdeal
public import Idealize.ShloMosaic.Lib.StableHlo.Run
public import Idealize.ShloMosaic.Lib.Quiescent

/-!
The run of the reference: attention over the whole arrays on one device, eighty-four operations and no kernel. Every run
of it ends, with its arguments unchanged and with its result at `refOut` of them (`run_ref`).
-/

@[expose] public section

noncomputable section

namespace Cert.RefProof

open Cert.ReferenceIdeal Cert.ReferenceIdeal.Gen
open Idealize.ShloMosaic Idealize.ShloMosaic.TcCoe Idealize.ShloMosaic.StableHlo Idealize.SL.Sem

variable {F : FTy → Type} [FloatOps F]

/-- The position of each row, divided by the length of a block of the mask and rounded down, as the reference spells it. -/
def blockOf : IVec S2048 32 :=
  let n := iotaInDim S2048 32 0
  let k : IVec S_ 32 := constantI S_ 32 64#32
  let q := Host.divsi n (broadcastInDim S2048 ![] bcast_S_S2048 k)
  select
    (andi (cmpi .ne (signi n) (broadcastInDim S2048 ![] bcast_S_S2048 (signi k)))
      (cmpi .ne (Host.remsi n (broadcastInDim S2048 ![] bcast_S_S2048 k))
        (broadcastInDim S2048 ![] bcast_S_S2048 (constantI S_ 32 0#32))))
    (subi q (broadcastInDim S2048 ![] bcast_S_S2048 (constantI S_ 32 1#32))) q

/-- Which keys each query sees: those of its own block and of the blocks before it. -/
def seen : IVec S2048x2048 1 :=
  cmpi .sle
    (broadcastInDim S2048x2048 ![0, 1] bcast_S1x2048_S2048x2048_0_1 (broadcastInDim S1x2048 ![1] bcast_S2048_S1x2048_1 blockOf))
    (broadcastInDim S2048x2048 ![0, 1] bcast_S2048x1_S2048x2048_0_1 (broadcastInDim S2048x1 ![0] bcast_S2048_S2048x1_0 blockOf))

/-- Whether a query sees any key. -/
def sees : IVec S2048 1 := Host.reduce IntOp.ori seen (constantI S_ 1 0#1) reducesTo_S2048x2048_S2048_d1 h_S_

/-- The queries, head by head. -/
def queries (x : FVec F S2x2048x512 .f32) (w : FVec F S512x256 .f32) : FVec F S2x2048x4x64 .f32 :=
  shapeCast S2x2048x4x64 (Host.dotGeneral dot_S2x2048x512_S512x256_S2x2048x256_2_0_01_1_n_n none x w)
    shapeCasts_S2x2048x256_S2x2048x4x64

/-- The scores, with the keys a query does not see at minus infinity. -/
def scores (x : FVec F S2x2048x512 .f32) (w : FVec F S512x256 .f32) (k : FVec F S2x2048x4x64 .f32) : FVec F S2x4x2048x2048 .f32 :=
  select
    (broadcastInDim S2x4x2048x2048 ![0, 1, 2, 3] bcast_S1x1x2048x2048_S2x4x2048x2048_0_1_2_3
      (broadcastInDim S1x1x2048x2048 ![2, 3] bcast_S2048x2048_S1x1x2048x2048_2_3 seen))
    (mulf (Host.dotGeneral dot_S2x2048x4x64_S2x2048x4x64_S2x4x2048x2048_3_3_1_1_02_02 none (queries x w) k)
      (broadcastInDim S2x4x2048x2048 ![] bcast_S_S2x4x2048x2048 (constant S_ .f32 0x3E000000#32)))
    (broadcastInDim S2x4x2048x2048 ![] bcast_S_S2x4x2048x2048 (constant S_ .f32 0xFF800000#32))

/-- The exponentials of the scores less their row's greatest. -/
def expo (s : FVec F S2x4x2048x2048 .f32) : FVec F S2x4x2048x2048 .f32 :=
  Host.exp (subf s (broadcastInDim S2x4x2048x2048 ![0, 1, 2, 3] bcast_S2x4x2048x1_S2x4x2048x2048_0_1_2_3
    (broadcastInDim S2x4x2048x1 ![0, 1, 2] bcast_S2x4x2048_S2x4x2048x1_0_1_2
      (Host.reduce FloatOps.maximumf s (constant S_ .f32 0xFF800000#32) reducesTo_S2x4x2048x2048_S2x4x2048_d3 h_S_))))

/-- The weights: the exponentials over their row's sum, where the row sees a key. -/
def weights (e : FVec F S2x4x2048x2048 .f32) : FVec F S2x4x2048x2048 .f32 :=
  select
    (broadcastInDim S2x4x2048x2048 ![0, 1, 2, 3] bcast_S1x1x2048x1_S2x4x2048x2048_0_1_2_3
      (broadcastInDim S1x1x2048x1 ![2] bcast_S2048_S1x1x2048x1_2 sees))
    (Host.divf e (broadcastInDim S2x4x2048x2048 ![0, 1, 2, 3] bcast_S2x4x2048x1_S2x4x2048x2048_0_1_2_3
      (select
        (broadcastInDim S2x4x2048x1 ![0, 1, 2, 3] bcast_S1x1x2048x1_S2x4x2048x1_0_1_2_3
          (broadcastInDim S1x1x2048x1 ![2] bcast_S2048_S1x1x2048x1_2 sees))
        (broadcastInDim S2x4x2048x1 ![0, 1, 2] bcast_S2x4x2048_S2x4x2048x1_0_1_2
          (Host.reduceAdd e (constant S_ .f32 0x00000000#32) reducesTo_S2x4x2048x2048_S2x4x2048_d3 h_S_))
        (broadcastInDim S2x4x2048x1 ![] bcast_S_S2x4x2048x1 (constant S_ .f32 0x3F800000#32)))))
    (broadcastInDim S2x4x2048x2048 ![] bcast_S_S2x4x2048x2048 (constant S_ .f32 0x00000000#32))

/-- The weighted sums of the values, the heads side by side. -/
def mixed (v : FVec F S2x2048x4x64 .f32) (p : FVec F S2x4x2048x2048 .f32) : FVec F S2x2048x256 .f32 :=
  shapeCast S2x2048x256
    (transpose S2x2048x4x64 [0, 3, 1, 2] (Host.dotGeneral dot_S2x2048x4x64_S2x4x2048x2048_S2x4x64x2048_1_3_3_2_02_01 none v p)
      transposes_S2x4x64x2048_S2x2048x4x64_0_3_1_2)
    shapeCasts_S2x2048x4x64_S2x2048x256

/-- The reference's result from its arguments. -/
def refOut (x : FVec F S2x2048x512 .f32) (w : FVec F S512x256 .f32) (k v : FVec F S2x2048x4x64 .f32) (o : FVec F S256x512 .f32) :
    FVec F S2x2048x512 .f32 :=
  Host.dotGeneral dot_S2x2048x256_S256x512_S2x2048x512_2_0_01_1_n_n none (mixed v (weights (expo (scores x w k)))) o

/-- The program's operations, in order. -/
abbrev ops : List (HloOp τ sig (Elt F)) :=
  [ binary main_arg0 main_arg1 main_v0 ((fun l r => Host.dotGeneral dot_S2x2048x512_S512x256_S2x2048x256_2_0_01_1_n_n none l r) : (⟨S2x2048x512, .f32⟩ : BufTy).Contents (Elt F) → (⟨S512x256, .f32⟩ : BufTy).Contents (Elt F) → (⟨S2x2048x256, .f32⟩ : BufTy).Contents (Elt F)),
    reshape main_v0 main_v1 (rfl : (.f32 : EltTy) = .f32) shapeCasts_S2x2048x256_S2x2048x4x64,
    nullary main_v2 (iotaInDim S2048 32 0),
    nullary main_c (constantI S_ 32 64#32),
    unary main_c main_call0_v0 (id : (⟨S_, .i32⟩ : BufTy).Contents (Elt F) → (⟨S_, .i32⟩ : BufTy).Contents (Elt F)),
    unary main_call0_v0 main_call0_v1 ((broadcastInDim S2048 ![] bcast_S_S2048) : (⟨S_, .i32⟩ : BufTy).Contents (Elt F) → (⟨S2048, .i32⟩ : BufTy).Contents (Elt F)),
    binary main_v2 main_call0_v1 main_call0_v2 (Host.divsi : (⟨S2048, .i32⟩ : BufTy).Contents (Elt F) → (⟨S2048, .i32⟩ : BufTy).Contents (Elt F) → (⟨S2048, .i32⟩ : BufTy).Contents (Elt F)),
    unary main_v2 main_call0_v3 (signi : (⟨S2048, .i32⟩ : BufTy).Contents (Elt F) → (⟨S2048, .i32⟩ : BufTy).Contents (Elt F)),
    unary main_call0_v0 main_call0_v4 (signi : (⟨S_, .i32⟩ : BufTy).Contents (Elt F) → (⟨S_, .i32⟩ : BufTy).Contents (Elt F)),
    unary main_call0_v4 main_call0_v5 ((broadcastInDim S2048 ![] bcast_S_S2048) : (⟨S_, .i32⟩ : BufTy).Contents (Elt F) → (⟨S2048, .i32⟩ : BufTy).Contents (Elt F)),
    binary main_call0_v3 main_call0_v5 main_call0_v6 ((cmpi .ne) : (⟨S2048, .i32⟩ : BufTy).Contents (Elt F) → (⟨S2048, .i32⟩ : BufTy).Contents (Elt F) → (⟨S2048, .i1⟩ : BufTy).Contents (Elt F)),
    unary main_call0_v0 main_call0_v7 ((broadcastInDim S2048 ![] bcast_S_S2048) : (⟨S_, .i32⟩ : BufTy).Contents (Elt F) → (⟨S2048, .i32⟩ : BufTy).Contents (Elt F)),
    binary main_v2 main_call0_v7 main_call0_v8 (Host.remsi : (⟨S2048, .i32⟩ : BufTy).Contents (Elt F) → (⟨S2048, .i32⟩ : BufTy).Contents (Elt F) → (⟨S2048, .i32⟩ : BufTy).Contents (Elt F)),
    nullary main_call0_c ((constantI S_ 32 0#32) : (⟨S_, .i32⟩ : BufTy).Contents (Elt F)),
    unary main_call0_c main_call0_v9 ((broadcastInDim S2048 ![] bcast_S_S2048) : (⟨S_, .i32⟩ : BufTy).Contents (Elt F) → (⟨S2048, .i32⟩ : BufTy).Contents (Elt F)),
    binary main_call0_v8 main_call0_v9 main_call0_v10 ((cmpi .ne) : (⟨S2048, .i32⟩ : BufTy).Contents (Elt F) → (⟨S2048, .i32⟩ : BufTy).Contents (Elt F) → (⟨S2048, .i1⟩ : BufTy).Contents (Elt F)),
    binary main_call0_v6 main_call0_v10 main_call0_v11 (andi : (⟨S2048, .i1⟩ : BufTy).Contents (Elt F) → (⟨S2048, .i1⟩ : BufTy).Contents (Elt F) → (⟨S2048, .i1⟩ : BufTy).Contents (Elt F)),
    nullary main_call0_c_0 ((constantI S_ 32 1#32) : (⟨S_, .i32⟩ : BufTy).Contents (Elt F)),
    unary main_call0_c_0 main_call0_v12 ((broadcastInDim S2048 ![] bcast_S_S2048) : (⟨S_, .i32⟩ : BufTy).Contents (Elt F) → (⟨S2048, .i32⟩ : BufTy).Contents (Elt F)),
    binary main_call0_v2 main_call0_v12 main_call0_v13 (subi : (⟨S2048, .i32⟩ : BufTy).Contents (Elt F) → (⟨S2048, .i32⟩ : BufTy).Contents (Elt F) → (⟨S2048, .i32⟩ : BufTy).Contents (Elt F)),
    ternary main_call0_v11 main_call0_v13 main_call0_v2 main_v3 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v3 main_v4 (broadcastInDim S2048x1 ![0] bcast_S2048_S2048x1_0 : (⟨S2048, .i32⟩ : BufTy).Contents (Elt F) → (⟨S2048x1, .i32⟩ : BufTy).Contents (Elt F)),
    nullary main_v5 (iotaInDim S2048 32 0),
    nullary main_c_0 (constantI S_ 32 64#32),
    unary main_c_0 main_call1_v0 (id : (⟨S_, .i32⟩ : BufTy).Contents (Elt F) → (⟨S_, .i32⟩ : BufTy).Contents (Elt F)),
    unary main_call1_v0 main_call1_v1 ((broadcastInDim S2048 ![] bcast_S_S2048) : (⟨S_, .i32⟩ : BufTy).Contents (Elt F) → (⟨S2048, .i32⟩ : BufTy).Contents (Elt F)),
    binary main_v5 main_call1_v1 main_call1_v2 (Host.divsi : (⟨S2048, .i32⟩ : BufTy).Contents (Elt F) → (⟨S2048, .i32⟩ : BufTy).Contents (Elt F) → (⟨S2048, .i32⟩ : BufTy).Contents (Elt F)),
    unary main_v5 main_call1_v3 (signi : (⟨S2048, .i32⟩ : BufTy).Contents (Elt F) → (⟨S2048, .i32⟩ : BufTy).Contents (Elt F)),
    unary main_call1_v0 main_call1_v4 (signi : (⟨S_, .i32⟩ : BufTy).Contents (Elt F) → (⟨S_, .i32⟩ : BufTy).Contents (Elt F)),
    unary main_call1_v4 main_call1_v5 ((broadcastInDim S2048 ![] bcast_S_S2048) : (⟨S_, .i32⟩ : BufTy).Contents (Elt F) → (⟨S2048, .i32⟩ : BufTy).Contents (Elt F)),
    binary main_call1_v3 main_call1_v5 main_call1_v6 ((cmpi .ne) : (⟨S2048, .i32⟩ : BufTy).Contents (Elt F) → (⟨S2048, .i32⟩ : BufTy).Contents (Elt F) → (⟨S2048, .i1⟩ : BufTy).Contents (Elt F)),
    unary main_call1_v0 main_call1_v7 ((broadcastInDim S2048 ![] bcast_S_S2048) : (⟨S_, .i32⟩ : BufTy).Contents (Elt F) → (⟨S2048, .i32⟩ : BufTy).Contents (Elt F)),
    binary main_v5 main_call1_v7 main_call1_v8 (Host.remsi : (⟨S2048, .i32⟩ : BufTy).Contents (Elt F) → (⟨S2048, .i32⟩ : BufTy).Contents (Elt F) → (⟨S2048, .i32⟩ : BufTy).Contents (Elt F)),
    nullary main_call1_c ((constantI S_ 32 0#32) : (⟨S_, .i32⟩ : BufTy).Contents (Elt F)),
    unary main_call1_c main_call1_v9 ((broadcastInDim S2048 ![] bcast_S_S2048) : (⟨S_, .i32⟩ : BufTy).Contents (Elt F) → (⟨S2048, .i32⟩ : BufTy).Contents (Elt F)),
    binary main_call1_v8 main_call1_v9 main_call1_v10 ((cmpi .ne) : (⟨S2048, .i32⟩ : BufTy).Contents (Elt F) → (⟨S2048, .i32⟩ : BufTy).Contents (Elt F) → (⟨S2048, .i1⟩ : BufTy).Contents (Elt F)),
    binary main_call1_v6 main_call1_v10 main_call1_v11 (andi : (⟨S2048, .i1⟩ : BufTy).Contents (Elt F) → (⟨S2048, .i1⟩ : BufTy).Contents (Elt F) → (⟨S2048, .i1⟩ : BufTy).Contents (Elt F)),
    nullary main_call1_c_0 ((constantI S_ 32 1#32) : (⟨S_, .i32⟩ : BufTy).Contents (Elt F)),
    unary main_call1_c_0 main_call1_v12 ((broadcastInDim S2048 ![] bcast_S_S2048) : (⟨S_, .i32⟩ : BufTy).Contents (Elt F) → (⟨S2048, .i32⟩ : BufTy).Contents (Elt F)),
    binary main_call1_v2 main_call1_v12 main_call1_v13 (subi : (⟨S2048, .i32⟩ : BufTy).Contents (Elt F) → (⟨S2048, .i32⟩ : BufTy).Contents (Elt F) → (⟨S2048, .i32⟩ : BufTy).Contents (Elt F)),
    ternary main_call1_v11 main_call1_v13 main_call1_v2 main_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v6 main_v7 (broadcastInDim S1x2048 ![1] bcast_S2048_S1x2048_1 : (⟨S2048, .i32⟩ : BufTy).Contents (Elt F) → (⟨S1x2048, .i32⟩ : BufTy).Contents (Elt F)),
    unary main_v7 main_v8 (broadcastInDim S2048x2048 ![0, 1] bcast_S1x2048_S2048x2048_0_1 : (⟨S1x2048, .i32⟩ : BufTy).Contents (Elt F) → (⟨S2048x2048, .i32⟩ : BufTy).Contents (Elt F)),
    unary main_v4 main_v9 (broadcastInDim S2048x2048 ![0, 1] bcast_S2048x1_S2048x2048_0_1 : (⟨S2048x1, .i32⟩ : BufTy).Contents (Elt F) → (⟨S2048x2048, .i32⟩ : BufTy).Contents (Elt F)),
    binary main_v8 main_v9 main_v10 (cmpi .sle : (⟨S2048x2048, .i32⟩ : BufTy).Contents (Elt F) → (⟨S2048x2048, .i32⟩ : BufTy).Contents (Elt F) → (⟨S2048x2048, .i1⟩ : BufTy).Contents (Elt F)),
    binary main_v1 main_arg2 main_v11 ((fun l r => Host.dotGeneral dot_S2x2048x4x64_S2x2048x4x64_S2x4x2048x2048_3_3_1_1_02_02 none l r) : (⟨S2x2048x4x64, .f32⟩ : BufTy).Contents (Elt F) → (⟨S2x2048x4x64, .f32⟩ : BufTy).Contents (Elt F) → (⟨S2x4x2048x2048, .f32⟩ : BufTy).Contents (Elt F)),
    nullary main_cst (constant S_ .f32 0x3E000000#32),
    unary main_cst main_v12 (broadcastInDim S2x4x2048x2048 ![] bcast_S_S2x4x2048x2048 : (⟨S_, .f32⟩ : BufTy).Contents (Elt F) → (⟨S2x4x2048x2048, .f32⟩ : BufTy).Contents (Elt F)),
    binary main_v11 main_v12 main_v13 (mulf : (⟨S2x4x2048x2048, .f32⟩ : BufTy).Contents (Elt F) → (⟨S2x4x2048x2048, .f32⟩ : BufTy).Contents (Elt F) → (⟨S2x4x2048x2048, .f32⟩ : BufTy).Contents (Elt F)),
    unary main_v10 main_v14 (broadcastInDim S1x1x2048x2048 ![2, 3] bcast_S2048x2048_S1x1x2048x2048_2_3 : (⟨S2048x2048, .i1⟩ : BufTy).Contents (Elt F) → (⟨S1x1x2048x2048, .i1⟩ : BufTy).Contents (Elt F)),
    nullary main_cst_1 (constant S_ .f32 0xFF800000#32),
    unary main_cst_1 main_call2_v0 (id : (⟨S_, .f32⟩ : BufTy).Contents (Elt F) → (⟨S_, .f32⟩ : BufTy).Contents (Elt F)),
    unary main_v14 main_call2_v1 ((broadcastInDim S2x4x2048x2048 ![0, 1, 2, 3] bcast_S1x1x2048x2048_S2x4x2048x2048_0_1_2_3) : (⟨S1x1x2048x2048, .i1⟩ : BufTy).Contents (Elt F) → (⟨S2x4x2048x2048, .i1⟩ : BufTy).Contents (Elt F)),
    unary main_call2_v0 main_call2_v2 ((broadcastInDim S2x4x2048x2048 ![] bcast_S_S2x4x2048x2048) : (⟨S_, .f32⟩ : BufTy).Contents (Elt F) → (⟨S2x4x2048x2048, .f32⟩ : BufTy).Contents (Elt F)),
    ternary main_call2_v1 main_v13 main_call2_v2 main_v15 (select : (⟨S2x4x2048x2048, .i1⟩ : BufTy).Contents (Elt F) → (⟨S2x4x2048x2048, .f32⟩ : BufTy).Contents (Elt F) → (⟨S2x4x2048x2048, .f32⟩ : BufTy).Contents (Elt F) → (⟨S2x4x2048x2048, .f32⟩ : BufTy).Contents (Elt F)),
    nullary main_cst_2 (constant S_ .f32 0xFF800000#32),
    binary main_v15 main_cst_2 main_v16 ((fun x v => Host.reduce FloatOps.maximumf x v reducesTo_S2x4x2048x2048_S2x4x2048_d3 h_S_) : (⟨S2x4x2048x2048, .f32⟩ : BufTy).Contents (Elt F) → (⟨S_, .f32⟩ : BufTy).Contents (Elt F) → (⟨S2x4x2048, .f32⟩ : BufTy).Contents (Elt F)),
    unary main_v16 main_v17 (broadcastInDim S2x4x2048x1 ![0, 1, 2] bcast_S2x4x2048_S2x4x2048x1_0_1_2 : (⟨S2x4x2048, .f32⟩ : BufTy).Contents (Elt F) → (⟨S2x4x2048x1, .f32⟩ : BufTy).Contents (Elt F)),
    unary main_v17 main_v18 (broadcastInDim S2x4x2048x2048 ![0, 1, 2, 3] bcast_S2x4x2048x1_S2x4x2048x2048_0_1_2_3 : (⟨S2x4x2048x1, .f32⟩ : BufTy).Contents (Elt F) → (⟨S2x4x2048x2048, .f32⟩ : BufTy).Contents (Elt F)),
    binary main_v15 main_v18 main_v19 (subf : (⟨S2x4x2048x2048, .f32⟩ : BufTy).Contents (Elt F) → (⟨S2x4x2048x2048, .f32⟩ : BufTy).Contents (Elt F) → (⟨S2x4x2048x2048, .f32⟩ : BufTy).Contents (Elt F)),
    unary main_v19 main_v20 (Host.exp : (⟨S2x4x2048x2048, .f32⟩ : BufTy).Contents (Elt F) → (⟨S2x4x2048x2048, .f32⟩ : BufTy).Contents (Elt F)),
    nullary main_c_3 (constantI S_ 1 0#1),
    binary main_v10 main_c_3 main_v21 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    unary main_v21 main_v22 (broadcastInDim S1x1x2048x1 ![2] bcast_S2048_S1x1x2048x1_2 : (⟨S2048, .i1⟩ : BufTy).Contents (Elt F) → (⟨S1x1x2048x1, .i1⟩ : BufTy).Contents (Elt F)),
    nullary main_cst_4 (constant S_ .f32 0x00000000#32),
    binary main_v20 main_cst_4 main_v23 ((fun x v => Host.reduceAdd x v reducesTo_S2x4x2048x2048_S2x4x2048_d3 h_S_) : (⟨S2x4x2048x2048, .f32⟩ : BufTy).Contents (Elt F) → (⟨S_, .f32⟩ : BufTy).Contents (Elt F) → (⟨S2x4x2048, .f32⟩ : BufTy).Contents (Elt F)),
    unary main_v23 main_v24 (broadcastInDim S2x4x2048x1 ![0, 1, 2] bcast_S2x4x2048_S2x4x2048x1_0_1_2 : (⟨S2x4x2048, .f32⟩ : BufTy).Contents (Elt F) → (⟨S2x4x2048x1, .f32⟩ : BufTy).Contents (Elt F)),
    nullary main_cst_5 (constant S_ .f32 0x3F800000#32),
    unary main_cst_5 main_call3_v0 (id : (⟨S_, .f32⟩ : BufTy).Contents (Elt F) → (⟨S_, .f32⟩ : BufTy).Contents (Elt F)),
    unary main_v22 main_call3_v1 ((broadcastInDim S2x4x2048x1 ![0, 1, 2, 3] bcast_S1x1x2048x1_S2x4x2048x1_0_1_2_3) : (⟨S1x1x2048x1, .i1⟩ : BufTy).Contents (Elt F) → (⟨S2x4x2048x1, .i1⟩ : BufTy).Contents (Elt F)),
    unary main_call3_v0 main_call3_v2 ((broadcastInDim S2x4x2048x1 ![] bcast_S_S2x4x2048x1) : (⟨S_, .f32⟩ : BufTy).Contents (Elt F) → (⟨S2x4x2048x1, .f32⟩ : BufTy).Contents (Elt F)),
    ternary main_call3_v1 main_v24 main_call3_v2 main_v25 (select : (⟨S2x4x2048x1, .i1⟩ : BufTy).Contents (Elt F) → (⟨S2x4x2048x1, .f32⟩ : BufTy).Contents (Elt F) → (⟨S2x4x2048x1, .f32⟩ : BufTy).Contents (Elt F) → (⟨S2x4x2048x1, .f32⟩ : BufTy).Contents (Elt F)),
    unary main_v25 main_v26 (broadcastInDim S2x4x2048x2048 ![0, 1, 2, 3] bcast_S2x4x2048x1_S2x4x2048x2048_0_1_2_3 : (⟨S2x4x2048x1, .f32⟩ : BufTy).Contents (Elt F) → (⟨S2x4x2048x2048, .f32⟩ : BufTy).Contents (Elt F)),
    binary main_v20 main_v26 main_v27 (Host.divf : (⟨S2x4x2048x2048, .f32⟩ : BufTy).Contents (Elt F) → (⟨S2x4x2048x2048, .f32⟩ : BufTy).Contents (Elt F) → (⟨S2x4x2048x2048, .f32⟩ : BufTy).Contents (Elt F)),
    unary main_v21 main_v28 (broadcastInDim S1x1x2048x1 ![2] bcast_S2048_S1x1x2048x1_2 : (⟨S2048, .i1⟩ : BufTy).Contents (Elt F) → (⟨S1x1x2048x1, .i1⟩ : BufTy).Contents (Elt F)),
    nullary main_cst_6 (constant S_ .f32 0x00000000#32),
    unary main_cst_6 main_call4_v0 (id : (⟨S_, .f32⟩ : BufTy).Contents (Elt F) → (⟨S_, .f32⟩ : BufTy).Contents (Elt F)),
    unary main_v28 main_call4_v1 ((broadcastInDim S2x4x2048x2048 ![0, 1, 2, 3] bcast_S1x1x2048x1_S2x4x2048x2048_0_1_2_3) : (⟨S1x1x2048x1, .i1⟩ : BufTy).Contents (Elt F) → (⟨S2x4x2048x2048, .i1⟩ : BufTy).Contents (Elt F)),
    unary main_call4_v0 main_call4_v2 ((broadcastInDim S2x4x2048x2048 ![] bcast_S_S2x4x2048x2048) : (⟨S_, .f32⟩ : BufTy).Contents (Elt F) → (⟨S2x4x2048x2048, .f32⟩ : BufTy).Contents (Elt F)),
    ternary main_call4_v1 main_v27 main_call4_v2 main_v29 (select : (⟨S2x4x2048x2048, .i1⟩ : BufTy).Contents (Elt F) → (⟨S2x4x2048x2048, .f32⟩ : BufTy).Contents (Elt F) → (⟨S2x4x2048x2048, .f32⟩ : BufTy).Contents (Elt F) → (⟨S2x4x2048x2048, .f32⟩ : BufTy).Contents (Elt F)),
    binary main_arg3 main_v29 main_v30 ((fun l r => Host.dotGeneral dot_S2x2048x4x64_S2x4x2048x2048_S2x4x64x2048_1_3_3_2_02_01 none l r) : (⟨S2x2048x4x64, .f32⟩ : BufTy).Contents (Elt F) → (⟨S2x4x2048x2048, .f32⟩ : BufTy).Contents (Elt F) → (⟨S2x4x64x2048, .f32⟩ : BufTy).Contents (Elt F)),
    unary main_v30 main_v31 ((transpose S2x2048x4x64 [0, 3, 1, 2] · transposes_S2x4x64x2048_S2x2048x4x64_0_3_1_2) : (⟨S2x4x64x2048, .f32⟩ : BufTy).Contents (Elt F) → (⟨S2x2048x4x64, .f32⟩ : BufTy).Contents (Elt F)),
    reshape main_v31 main_v32 (rfl : (.f32 : EltTy) = .f32) shapeCasts_S2x2048x4x64_S2x2048x256,
    binary main_v32 main_arg4 main_v33 ((fun l r => Host.dotGeneral dot_S2x2048x256_S256x512_S2x2048x512_2_0_01_1_n_n none l r) : (⟨S2x2048x256, .f32⟩ : BufTy).Contents (Elt F) → (⟨S256x512, .f32⟩ : BufTy).Contents (Elt F) → (⟨S2x2048x512, .f32⟩ : BufTy).Contents (Elt F)) ]

set_option maxRecDepth 65536 in
/-- The program is that line of operations. -/
theorem main_eq (c : Dev nD) : main (F := F) c = seq ops := rfl

/-- Nothing is scoped in this program. -/
theorem no_refs : (Finset.univ.filter fun b : Ref sig .tc => b.isScoped) = ∅ := by decide
theorem no_sems : (Finset.univ.filter fun sm : SemLoc sig => sm.isScoped .tc) = ∅ := by decide

/-- Every operation touches this thread's buffers only. -/
theorem ops_sub : (ops : List (HloOp τ sig (Elt F))).Forall fun op => op.bufs ⊆ tcRefs τ sig :=
  ⟨binary_bufs_sub .., reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., unary_bufs_sub .., binary_bufs_sub .., unary_bufs_sub .., nullary_bufs_sub .., binary_bufs_sub .., unary_bufs_sub .., nullary_bufs_sub .., binary_bufs_sub .., unary_bufs_sub .., nullary_bufs_sub .., unary_bufs_sub .., unary_bufs_sub .., unary_bufs_sub .., ternary_bufs_sub .., unary_bufs_sub .., binary_bufs_sub .., unary_bufs_sub .., nullary_bufs_sub .., unary_bufs_sub .., unary_bufs_sub .., unary_bufs_sub .., ternary_bufs_sub .., binary_bufs_sub .., unary_bufs_sub .., reshape_bufs_sub .., binary_bufs_sub ..⟩

set_option maxHeartbeats 4000000 in
set_option maxRecDepth 65536 in
/-- The result after the line, -/
theorem out_eq (V : Valuation τ sig (Elt F)) : after ops V (main_v33 : DevRef τ sig)
    = refOut (V (main_arg0 : DevRef τ sig)) (V (main_arg1 : DevRef τ sig)) (V (main_arg2 : DevRef τ sig))
        (V (main_arg3 : DevRef τ sig)) (V (main_arg4 : DevRef τ sig)) := by
  after_results
  rfl

set_option maxHeartbeats 4000000 in
set_option maxRecDepth 65536 in
theorem arg0_eq (V : Valuation τ sig (Elt F)) : after ops V (main_arg0 : DevRef τ sig) = V (main_arg0 : DevRef τ sig) := by
  after_results

set_option maxHeartbeats 4000000 in
set_option maxRecDepth 65536 in
theorem arg1_eq (V : Valuation τ sig (Elt F)) : after ops V (main_arg1 : DevRef τ sig) = V (main_arg1 : DevRef τ sig) := by
  after_results

set_option maxHeartbeats 4000000 in
set_option maxRecDepth 65536 in
theorem arg2_eq (V : Valuation τ sig (Elt F)) : after ops V (main_arg2 : DevRef τ sig) = V (main_arg2 : DevRef τ sig) := by
  after_results

set_option maxHeartbeats 4000000 in
set_option maxRecDepth 65536 in
theorem arg3_eq (V : Valuation τ sig (Elt F)) : after ops V (main_arg3 : DevRef τ sig) = V (main_arg3 : DevRef τ sig) := by
  after_results

set_option maxHeartbeats 4000000 in
set_option maxRecDepth 65536 in
theorem arg4_eq (V : Valuation τ sig (Elt F)) : after ops V (main_arg4 : DevRef τ sig) = V (main_arg4 : DevRef τ sig) := by
  after_results

/-- Every run of the reference ends, its result at `refOut` of its arguments, its arguments as they were and every counter
    at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v33)
          = refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => ⟨(h c main_v33).trans (out_eq _), (h c main_arg0).trans (arg0_eq _),
      (h c main_arg1).trans (arg1_eq _), (h c main_arg2).trans (arg2_eq _), (h c main_arg3).trans (arg3_eq _),
      (h c main_arg4).trans (arg4_eq _)⟩, sem_eq_zero_of_no_sems rfl r.2⟩)
    (run_seq no_refs no_sems defs main (fun _ => ops) main_eq (fun _ => ops_sub) m ρ)

end Cert.RefProof

end
-- ==== Proof.Frames.lean ====
module

public import proofs.«01_k».proof.Proof.Launch
public import proofs.«01_k».proof.Proof.Ref
public import proofs.«01_k».proof.Proof.Gen.Kernel

/-!
The claims other than the value: the kernel and its idealization each end with their arguments unchanged and every counter
at zero, the reference too, and the one named constant of the idealization is the printed one's.

The idealization differs from the kernel in the mask's constant only. Read the mask as the printed constant and the two
programs are one (`main_same`, `defs_same`), so the run proved at any reading of the constant (`RingProof.run_main`) is the
kernel's run too.
-/

@[expose] public section

noncomputable section

namespace Cert.Proof

open Idealize.ShloMosaic Idealize.SL.Sem

/-- The mask read as the constant that the kernel prints. -/
instance namedBits : Named Bits where
  named _ _ {φ} b := Scalar.ofBits (F := Bits) φ b

set_option maxRecDepth 65536

/-- The bodies of the two programs are one; -/
theorem defs₀_same [hK : Cert.Kernel.Facts] [hI : Cert.KernelIdeal.Facts] :
    Cert.Kernel.defs₀ (F := Bits) = Cert.KernelIdeal.defs₀ (F := Bits) := by
  unfold Cert.Kernel.defs₀ Cert.KernelIdeal.defs₀
  refine congrArg _ ?_
  funext l a
  match l, a with
  | 0, (t, s) => rfl
  | ⟨_ + 1, h⟩, _ => exact absurd h (Nat.not_lt.2 (Nat.le_add_left _ _))

/-- so are their tables of bodies, -/
theorem defs_same [hK : Cert.Kernel.Facts] [hI : Cert.KernelIdeal.Facts] :
    Cert.Kernel.defs (F := Bits) = Cert.KernelIdeal.defs (F := Bits) :=
  congrArg (Pipeline.defs (Cert.Kernel.pcfgs (F := Bits))) defs₀_same

/-- and their main functions. -/
theorem main_same [hK : Cert.Kernel.Facts] [hI : Cert.KernelIdeal.Facts] :
    Cert.Kernel.main (F := Bits) = Cert.KernelIdeal.main (F := Bits) := rfl

theorem quiet_ideal : Cert.quiescent_KernelIdeal (hKernelIdeal := Cert.KernelIdeal.Gen.facts) := fun m g _ =>
  (θ_run _ _ _).mono (fun _ h => ⟨fun c => (h.1 c).1, h.2⟩) (Cert.RingProof.run_main (F := Ideal) m g)

theorem quiet_kernel : Cert.quiescent_Kernel (hKernel := Cert.Kernel.Gen.facts) := fun m g _ => by
  rw [defs_same (hK := Cert.Kernel.Gen.facts) (hI := Cert.KernelIdeal.Gen.facts),
    main_same (hK := Cert.Kernel.Gen.facts) (hI := Cert.KernelIdeal.Gen.facts)]
  exact (θ_run _ _ _).mono (fun _ h => ⟨fun c => (h.1 c).1, h.2⟩) (Cert.RingProof.run_main (F := Bits) m g)

theorem quiet_reference : Cert.quiescent_ReferenceIdeal (hReferenceIdeal := Cert.ReferenceIdeal.Gen.facts) := fun m g _ =>
  (θ_run _ _ _).mono (fun _ h => ⟨fun c => (h.1 c).2, h.2⟩) (Cert.RefProof.run_ref (F := Ideal) m g)

theorem kept : Cert.preserves_Kernel_KernelIdeal := by
  unfold Cert.preserves_Kernel_KernelIdeal
  exact IdealRules.named_const.statement _ _ _ _ _ rfl

end Cert.Proof

end
-- ==== Proof.StepValue.lean ====
/-
  The values of a run in eight uniform steps. Each step takes in the keys and values of one device's rows, and renews, for each
  head of each batch entry, the running maximum, the running sum and the running weighted sum.
-/
module

public import proofs.«01_k».proof.Proof.Values

@[expose] public section

noncomputable section

namespace Cert.ValueProof

open Cert.KernelIdeal Cert.KernelIdeal.Gen Cert.RingProof
open Idealize.ShloMosaic
open Idealize.ShloMosaic.TcCoe

variable {F : FTy → Type} [FloatOps F] [Named F]

/-- A head's running maximum, running sum and running weighted sum. -/
@[ext] structure Head (F : FTy → Type) where
  m : FVec F S256x1 .f32
  l : FVec F S256x1 .f32
  a : FVec F S256x64 .f32

/-- The state before the first step. -/
def start : Head F := ⟨broadcast S256x1 (Scalar.ofBits .f32 0xF149F2CA#32), broadcast S256x1 (Scalar.ofBits .f32 0x00000000#32),
  broadcast S256x64 (Scalar.ofBits .f32 0x00000000#32)⟩

/-- Where head `h` begins among the columns. -/
def col (h : Fin 4) : ℕ := 64 * h.val

theorem col_slices (h : Fin 4) : S256x256.Slices ![0, col h] S256x64 := by revert h; decide

/-- The columns of head `h`. -/
def cut (h : Fin 4) (z : FVec F S256x256 .f32) : FVec F S256x64 .f32 := extractStridedSlice S256x64 ![0, col h] z (col_slices h)

/-- A piece without its two unit axes. -/
def flat (Y : Piece F) : FVec F S256x256 .f32 := shapeCast S256x256 (show FVec F S1x1x256x256 .f32 from Y) shapeCasts_S1x1x256x256_S256x256

/-- Which keys of the device numbered `w` each query of the device numbered `z` sees. -/
def vis (z w : BitVec 32) (qi ki : IVec S256x256 32) : IVec S256x256 1 :=
  cmpi .sle (addi (broadcast S256x256 (Scalar.muli w 4#32)) ki) (addi (broadcast S256x256 (Scalar.muli z 4#32)) qi)

/-- The scores of a head, masked. -/
def score (h : Fin 4) (q : FVec F S256x256 .f32) (K : Piece F) (b : IVec S256x256 1) : FVec F S256x256 .f32 :=
  select b (matmul dot_S256x64_S256x64_S256x256_1_1_0_0_n_n none (cut h q) (cut h (flat K)) (constant S256x256 .f32 0x00000000#32))
    (broadcast S256x256 (Named.named κ "mask" 0xCE6E6B28#32))

/-- The new running maximum. -/
def nextM (s : FVec F S256x256 .f32) (m : FVec F S256x1 .f32) : FVec F S256x1 .f32 :=
  maximumf m (shapeCast S256x1 (multiReduction .maximumf [1] S256 s 0xFF800000#32 reduces_S256x256_S256 (.inl rfl) rfl) shapeCasts_S256_S256x1)

/-- The exponentials of the scores less the new maximum. -/
def expS (s : FVec F S256x256 .f32) (m : FVec F S256x1 .f32) : FVec F S256x256 .f32 :=
  exp (subf s (broadcastTo S256x256 (nextM s m) broadcasts_S256x1_S256x256))

/-- The factor by which the sums so far are scaled. -/
def corr (s : FVec F S256x256 .f32) (m : FVec F S256x1 .f32) : FVec F S256x1 .f32 := exp (subf m (nextM s m))

/-- The new running sum. -/
def nextL (s : FVec F S256x256 .f32) (m l : FVec F S256x1 .f32) : FVec F S256x1 .f32 :=
  addf (mulf l (corr s m)) (shapeCast S256x1 (multiReduction .add [1] S256 (expS s m) 0x00000000#32 reduces_S256x256_S256 (.inl rfl) rfl) shapeCasts_S256_S256x1)

/-- The new running weighted sum. -/
def nextA (h : Fin 4) (s : FVec F S256x256 .f32) (V : Piece F) (m : FVec F S256x1 .f32) (a : FVec F S256x64 .f32) : FVec F S256x64 .f32 :=
  addf (mulf a (broadcastTo S256x64 (corr s m) broadcasts_S256x1_S256x64))
    (matmul dot_S256x256_S256x64_S256x64_1_0_0_1_n_n none (expS s m) (cut h (flat V)) (constant S256x64 .f32 0x00000000#32))

/-- One step of a head. -/
def step (h : Fin 4) (q : FVec F S256x256 .f32) (K V : Piece F) (b : IVec S256x256 1) (t : Head F) : Head F :=
  ⟨nextM (score h q K b) t.m, nextL (score h q K b) t.m t.l, nextA h (score h q K b) V t.m t.a⟩

/-- The number of the device whose rows each step takes in. -/
def w0 (c : Dev nD) : BitVec 32 := v2 c
def w1 (c : Dev nD) : BitVec 32 := Scalar.remsi (Scalar.addi (Scalar.subi (Scalar.subi (v2 c) 0#32) 1#32) 8#32) 8#32
def w2 (c : Dev nD) : BitVec 32 := Scalar.remsi (Scalar.addi (Scalar.addi (v2 c) 0#32) 1#32) 8#32
def w3 (c : Dev nD) : BitVec 32 := Scalar.remsi (Scalar.addi (Scalar.subi (Scalar.subi (v2 c) 1#32) 1#32) 8#32) 8#32
def w4 (c : Dev nD) : BitVec 32 := Scalar.remsi (Scalar.addi (Scalar.addi (v2 c) 1#32) 1#32) 8#32
def w5 (c : Dev nD) : BitVec 32 := Scalar.remsi (Scalar.addi (Scalar.subi (Scalar.subi (v2 c) 2#32) 1#32) 8#32) 8#32
def w6 (c : Dev nD) : BitVec 32 := Scalar.remsi (Scalar.addi (Scalar.addi (v2 c) 2#32) 1#32) 8#32
def w7 (c : Dev nD) : BitVec 32 := Scalar.remsi (Scalar.addi (v2 c) 4#32) 8#32
def wordAt (c : Dev nD) : Fin 8 → BitVec 32 := ![w0 c, w1 c, w2 c, w3 c, w4 c, w5 c, w6 c, w7 c]

/-- The block number of each query, and of each key, within a device's rows. -/
def rowBlk : IVec S256x256 32 := k0_pay10
def colBlk : IVec S256x256 32 := k0_pay13 (iota .tc S256x256 32 [1] iota_S256x256_d1_w32) 64#32 k0_pay11 k0_pay12

/-- Which keys each query sees at each step. -/
def visAt (c : Dev nD) (n : Fin 8) : IVec S256x256 1 := vis (v2 c) (wordAt c n) rowBlk colBlk

/-- The slots that each step reads for batch entry `b`: its keys (`z = 0`) or its values (`z = 1`). -/
def slotAt (n : Fin 8) (b z : Fin 2) : Slot :=
  (![![false, false, true, false, true, false, true, false], ![false, false, true, false, true, false, true, true]] b n,
   ![0, 1, 1, 2, 2, 3, 3, 4] n, ![![0, 1], ![2, 3]] b z)

/-- The queries of batch entry `b`. -/
def qAt (c : Dev nD) (e : In F) (X : Slot → Piece F) : Fin 2 → FVec F S256x256 .f32 := ![v83 c e X, v90 c e X]

/-- Step `n` of head `h` of batch entry `b`. -/
def stepAt (c : Dev nD) (e : In F) (X : Slot → Piece F) (b : Fin 2) (h : Fin 4) (n : Fin 8) (t : Head F) : Head F :=
  step h (qAt c e X b) (X (slotAt n b 0)) (X (slotAt n b 1)) (visAt c n) t

/-- A head's state before the last step, and after it. -/
def upTo6 (c : Dev nD) (e : In F) (X : Slot → Piece F) (b : Fin 2) (h : Fin 4) : Head F :=
  stepAt c e X b h 6 (stepAt c e X b h 5 (stepAt c e X b h 4 (stepAt c e X b h 3 (stepAt c e X b h 2
    (stepAt c e X b h 1 (stepAt c e X b h 0 start))))))
def last (c : Dev nD) (e : In F) (X : Slot → Piece F) (b : Fin 2) (h : Fin 4) : Head F := stepAt c e X b h 7 (upTo6 c e X b h)

variable (c : Dev nD) (e : In F) (X : Slot → Piece F)

theorem st0_00 : (⟨v184 c e X, v193 c e X, v197 c e X⟩ : Head F) = step 0 (v83 c e X) (X (false, 0, 0)) (X (false, 0, 1)) (vis (v2 c) (w0 c) rowBlk colBlk) ⟨v141 c e X, v149 c e X, v157 c e X⟩ := rfl
theorem st0_01 : (⟨v206 c e X, v215 c e X, v219 c e X⟩ : Head F) = step 1 (v83 c e X) (X (false, 0, 0)) (X (false, 0, 1)) (vis (v2 c) (w0 c) rowBlk colBlk) ⟨v142 c e X, v150 c e X, v158 c e X⟩ := rfl
theorem st0_02 : (⟨v228 c e X, v237 c e X, v241 c e X⟩ : Head F) = step 2 (v83 c e X) (X (false, 0, 0)) (X (false, 0, 1)) (vis (v2 c) (w0 c) rowBlk colBlk) ⟨v143 c e X, v151 c e X, v159 c e X⟩ := rfl
theorem st0_03 : (⟨v250 c e X, v259 c e X, v263 c e X⟩ : Head F) = step 3 (v83 c e X) (X (false, 0, 0)) (X (false, 0, 1)) (vis (v2 c) (w0 c) rowBlk colBlk) ⟨v144 c e X, v152 c e X, v160 c e X⟩ := rfl
theorem st0_10 : (⟨v276 c e X, v285 c e X, v289 c e X⟩ : Head F) = step 0 (v90 c e X) (X (false, 0, 2)) (X (false, 0, 3)) (vis (v2 c) (w0 c) rowBlk colBlk) ⟨v145 c e X, v153 c e X, v161 c e X⟩ := rfl
theorem st0_11 : (⟨v298 c e X, v307 c e X, v311 c e X⟩ : Head F) = step 1 (v90 c e X) (X (false, 0, 2)) (X (false, 0, 3)) (vis (v2 c) (w0 c) rowBlk colBlk) ⟨v146 c e X, v154 c e X, v162 c e X⟩ := rfl
theorem st0_12 : (⟨v320 c e X, v329 c e X, v333 c e X⟩ : Head F) = step 2 (v90 c e X) (X (false, 0, 2)) (X (false, 0, 3)) (vis (v2 c) (w0 c) rowBlk colBlk) ⟨v147 c e X, v155 c e X, v163 c e X⟩ := rfl
theorem st0_13 : (⟨v342 c e X, v351 c e X, v355 c e X⟩ : Head F) = step 3 (v90 c e X) (X (false, 0, 2)) (X (false, 0, 3)) (vis (v2 c) (w0 c) rowBlk colBlk) ⟨v148 c e X, v156 c e X, v164 c e X⟩ := rfl
theorem st1_00 : (⟨v455 c e X, v464 c e X, v468 c e X⟩ : Head F) = step 0 (v83 c e X) (X (false, 1, 0)) (X (false, 1, 1)) (vis (v2 c) (w1 c) rowBlk colBlk) ⟨v184 c e X, v193 c e X, v197 c e X⟩ := rfl
theorem st1_01 : (⟨v477 c e X, v486 c e X, v490 c e X⟩ : Head F) = step 1 (v83 c e X) (X (false, 1, 0)) (X (false, 1, 1)) (vis (v2 c) (w1 c) rowBlk colBlk) ⟨v206 c e X, v215 c e X, v219 c e X⟩ := rfl
theorem st1_02 : (⟨v499 c e X, v508 c e X, v512 c e X⟩ : Head F) = step 2 (v83 c e X) (X (false, 1, 0)) (X (false, 1, 1)) (vis (v2 c) (w1 c) rowBlk colBlk) ⟨v228 c e X, v237 c e X, v241 c e X⟩ := rfl
theorem st1_03 : (⟨v521 c e X, v530 c e X, v534 c e X⟩ : Head F) = step 3 (v83 c e X) (X (false, 1, 0)) (X (false, 1, 1)) (vis (v2 c) (w1 c) rowBlk colBlk) ⟨v250 c e X, v259 c e X, v263 c e X⟩ := rfl
theorem st1_10 : (⟨v547 c e X, v556 c e X, v560 c e X⟩ : Head F) = step 0 (v90 c e X) (X (false, 1, 2)) (X (false, 1, 3)) (vis (v2 c) (w1 c) rowBlk colBlk) ⟨v276 c e X, v285 c e X, v289 c e X⟩ := rfl
theorem st1_11 : (⟨v569 c e X, v578 c e X, v582 c e X⟩ : Head F) = step 1 (v90 c e X) (X (false, 1, 2)) (X (false, 1, 3)) (vis (v2 c) (w1 c) rowBlk colBlk) ⟨v298 c e X, v307 c e X, v311 c e X⟩ := rfl
theorem st1_12 : (⟨v591 c e X, v600 c e X, v604 c e X⟩ : Head F) = step 2 (v90 c e X) (X (false, 1, 2)) (X (false, 1, 3)) (vis (v2 c) (w1 c) rowBlk colBlk) ⟨v320 c e X, v329 c e X, v333 c e X⟩ := rfl
theorem st1_13 : (⟨v613 c e X, v622 c e X, v626 c e X⟩ : Head F) = step 3 (v90 c e X) (X (false, 1, 2)) (X (false, 1, 3)) (vis (v2 c) (w1 c) rowBlk colBlk) ⟨v342 c e X, v351 c e X, v355 c e X⟩ := rfl
theorem st2_00 : (⟨v649 c e X, v658 c e X, v662 c e X⟩ : Head F) = step 0 (v83 c e X) (X (true, 1, 0)) (X (true, 1, 1)) (vis (v2 c) (w2 c) rowBlk colBlk) ⟨v455 c e X, v464 c e X, v468 c e X⟩ := rfl
theorem st2_01 : (⟨v671 c e X, v680 c e X, v684 c e X⟩ : Head F) = step 1 (v83 c e X) (X (true, 1, 0)) (X (true, 1, 1)) (vis (v2 c) (w2 c) rowBlk colBlk) ⟨v477 c e X, v486 c e X, v490 c e X⟩ := rfl
theorem st2_02 : (⟨v693 c e X, v702 c e X, v706 c e X⟩ : Head F) = step 2 (v83 c e X) (X (true, 1, 0)) (X (true, 1, 1)) (vis (v2 c) (w2 c) rowBlk colBlk) ⟨v499 c e X, v508 c e X, v512 c e X⟩ := rfl
theorem st2_03 : (⟨v715 c e X, v724 c e X, v728 c e X⟩ : Head F) = step 3 (v83 c e X) (X (true, 1, 0)) (X (true, 1, 1)) (vis (v2 c) (w2 c) rowBlk colBlk) ⟨v521 c e X, v530 c e X, v534 c e X⟩ := rfl
theorem st2_10 : (⟨v741 c e X, v750 c e X, v754 c e X⟩ : Head F) = step 0 (v90 c e X) (X (true, 1, 2)) (X (true, 1, 3)) (vis (v2 c) (w2 c) rowBlk colBlk) ⟨v547 c e X, v556 c e X, v560 c e X⟩ := rfl
theorem st2_11 : (⟨v763 c e X, v772 c e X, v776 c e X⟩ : Head F) = step 1 (v90 c e X) (X (true, 1, 2)) (X (true, 1, 3)) (vis (v2 c) (w2 c) rowBlk colBlk) ⟨v569 c e X, v578 c e X, v582 c e X⟩ := rfl
theorem st2_12 : (⟨v785 c e X, v794 c e X, v798 c e X⟩ : Head F) = step 2 (v90 c e X) (X (true, 1, 2)) (X (true, 1, 3)) (vis (v2 c) (w2 c) rowBlk colBlk) ⟨v591 c e X, v600 c e X, v604 c e X⟩ := rfl
theorem st2_13 : (⟨v807 c e X, v816 c e X, v820 c e X⟩ : Head F) = step 3 (v90 c e X) (X (true, 1, 2)) (X (true, 1, 3)) (vis (v2 c) (w2 c) rowBlk colBlk) ⟨v613 c e X, v622 c e X, v626 c e X⟩ := rfl
theorem st3_00 : (⟨v920 c e X, v929 c e X, v933 c e X⟩ : Head F) = step 0 (v83 c e X) (X (false, 2, 0)) (X (false, 2, 1)) (vis (v2 c) (w3 c) rowBlk colBlk) ⟨v649 c e X, v658 c e X, v662 c e X⟩ := rfl
theorem st3_01 : (⟨v942 c e X, v951 c e X, v955 c e X⟩ : Head F) = step 1 (v83 c e X) (X (false, 2, 0)) (X (false, 2, 1)) (vis (v2 c) (w3 c) rowBlk colBlk) ⟨v671 c e X, v680 c e X, v684 c e X⟩ := rfl
theorem st3_02 : (⟨v964 c e X, v973 c e X, v977 c e X⟩ : Head F) = step 2 (v83 c e X) (X (false, 2, 0)) (X (false, 2, 1)) (vis (v2 c) (w3 c) rowBlk colBlk) ⟨v693 c e X, v702 c e X, v706 c e X⟩ := rfl
theorem st3_03 : (⟨v986 c e X, v995 c e X, v999 c e X⟩ : Head F) = step 3 (v83 c e X) (X (false, 2, 0)) (X (false, 2, 1)) (vis (v2 c) (w3 c) rowBlk colBlk) ⟨v715 c e X, v724 c e X, v728 c e X⟩ := rfl
theorem st3_10 : (⟨v1012 c e X, v1021 c e X, v1025 c e X⟩ : Head F) = step 0 (v90 c e X) (X (false, 2, 2)) (X (false, 2, 3)) (vis (v2 c) (w3 c) rowBlk colBlk) ⟨v741 c e X, v750 c e X, v754 c e X⟩ := rfl
theorem st3_11 : (⟨v1034 c e X, v1043 c e X, v1047 c e X⟩ : Head F) = step 1 (v90 c e X) (X (false, 2, 2)) (X (false, 2, 3)) (vis (v2 c) (w3 c) rowBlk colBlk) ⟨v763 c e X, v772 c e X, v776 c e X⟩ := rfl
theorem st3_12 : (⟨v1056 c e X, v1065 c e X, v1069 c e X⟩ : Head F) = step 2 (v90 c e X) (X (false, 2, 2)) (X (false, 2, 3)) (vis (v2 c) (w3 c) rowBlk colBlk) ⟨v785 c e X, v794 c e X, v798 c e X⟩ := rfl
theorem st3_13 : (⟨v1078 c e X, v1087 c e X, v1091 c e X⟩ : Head F) = step 3 (v90 c e X) (X (false, 2, 2)) (X (false, 2, 3)) (vis (v2 c) (w3 c) rowBlk colBlk) ⟨v807 c e X, v816 c e X, v820 c e X⟩ := rfl
theorem st4_00 : (⟨v1114 c e X, v1123 c e X, v1127 c e X⟩ : Head F) = step 0 (v83 c e X) (X (true, 2, 0)) (X (true, 2, 1)) (vis (v2 c) (w4 c) rowBlk colBlk) ⟨v920 c e X, v929 c e X, v933 c e X⟩ := rfl
theorem st4_01 : (⟨v1136 c e X, v1145 c e X, v1149 c e X⟩ : Head F) = step 1 (v83 c e X) (X (true, 2, 0)) (X (true, 2, 1)) (vis (v2 c) (w4 c) rowBlk colBlk) ⟨v942 c e X, v951 c e X, v955 c e X⟩ := rfl
theorem st4_02 : (⟨v1158 c e X, v1167 c e X, v1171 c e X⟩ : Head F) = step 2 (v83 c e X) (X (true, 2, 0)) (X (true, 2, 1)) (vis (v2 c) (w4 c) rowBlk colBlk) ⟨v964 c e X, v973 c e X, v977 c e X⟩ := rfl
theorem st4_03 : (⟨v1180 c e X, v1189 c e X, v1193 c e X⟩ : Head F) = step 3 (v83 c e X) (X (true, 2, 0)) (X (true, 2, 1)) (vis (v2 c) (w4 c) rowBlk colBlk) ⟨v986 c e X, v995 c e X, v999 c e X⟩ := rfl
theorem st4_10 : (⟨v1206 c e X, v1215 c e X, v1219 c e X⟩ : Head F) = step 0 (v90 c e X) (X (true, 2, 2)) (X (true, 2, 3)) (vis (v2 c) (w4 c) rowBlk colBlk) ⟨v1012 c e X, v1021 c e X, v1025 c e X⟩ := rfl
theorem st4_11 : (⟨v1228 c e X, v1237 c e X, v1241 c e X⟩ : Head F) = step 1 (v90 c e X) (X (true, 2, 2)) (X (true, 2, 3)) (vis (v2 c) (w4 c) rowBlk colBlk) ⟨v1034 c e X, v1043 c e X, v1047 c e X⟩ := rfl
theorem st4_12 : (⟨v1250 c e X, v1259 c e X, v1263 c e X⟩ : Head F) = step 2 (v90 c e X) (X (true, 2, 2)) (X (true, 2, 3)) (vis (v2 c) (w4 c) rowBlk colBlk) ⟨v1056 c e X, v1065 c e X, v1069 c e X⟩ := rfl
theorem st4_13 : (⟨v1272 c e X, v1281 c e X, v1285 c e X⟩ : Head F) = step 3 (v90 c e X) (X (true, 2, 2)) (X (true, 2, 3)) (vis (v2 c) (w4 c) rowBlk colBlk) ⟨v1078 c e X, v1087 c e X, v1091 c e X⟩ := rfl
theorem st5_00 : (⟨v1365 c e X, v1374 c e X, v1378 c e X⟩ : Head F) = step 0 (v83 c e X) (X (false, 3, 0)) (X (false, 3, 1)) (vis (v2 c) (w5 c) rowBlk colBlk) ⟨v1114 c e X, v1123 c e X, v1127 c e X⟩ := rfl
theorem st5_01 : (⟨v1387 c e X, v1396 c e X, v1400 c e X⟩ : Head F) = step 1 (v83 c e X) (X (false, 3, 0)) (X (false, 3, 1)) (vis (v2 c) (w5 c) rowBlk colBlk) ⟨v1136 c e X, v1145 c e X, v1149 c e X⟩ := rfl
theorem st5_02 : (⟨v1409 c e X, v1418 c e X, v1422 c e X⟩ : Head F) = step 2 (v83 c e X) (X (false, 3, 0)) (X (false, 3, 1)) (vis (v2 c) (w5 c) rowBlk colBlk) ⟨v1158 c e X, v1167 c e X, v1171 c e X⟩ := rfl
theorem st5_03 : (⟨v1431 c e X, v1440 c e X, v1444 c e X⟩ : Head F) = step 3 (v83 c e X) (X (false, 3, 0)) (X (false, 3, 1)) (vis (v2 c) (w5 c) rowBlk colBlk) ⟨v1180 c e X, v1189 c e X, v1193 c e X⟩ := rfl
theorem st5_10 : (⟨v1457 c e X, v1466 c e X, v1470 c e X⟩ : Head F) = step 0 (v90 c e X) (X (false, 3, 2)) (X (false, 3, 3)) (vis (v2 c) (w5 c) rowBlk colBlk) ⟨v1206 c e X, v1215 c e X, v1219 c e X⟩ := rfl
theorem st5_11 : (⟨v1479 c e X, v1488 c e X, v1492 c e X⟩ : Head F) = step 1 (v90 c e X) (X (false, 3, 2)) (X (false, 3, 3)) (vis (v2 c) (w5 c) rowBlk colBlk) ⟨v1228 c e X, v1237 c e X, v1241 c e X⟩ := rfl
theorem st5_12 : (⟨v1501 c e X, v1510 c e X, v1514 c e X⟩ : Head F) = step 2 (v90 c e X) (X (false, 3, 2)) (X (false, 3, 3)) (vis (v2 c) (w5 c) rowBlk colBlk) ⟨v1250 c e X, v1259 c e X, v1263 c e X⟩ := rfl
theorem st5_13 : (⟨v1523 c e X, v1532 c e X, v1536 c e X⟩ : Head F) = step 3 (v90 c e X) (X (false, 3, 2)) (X (false, 3, 3)) (vis (v2 c) (w5 c) rowBlk colBlk) ⟨v1272 c e X, v1281 c e X, v1285 c e X⟩ := rfl
theorem st6_00 : (⟨v1559 c e X, v1568 c e X, v1572 c e X⟩ : Head F) = step 0 (v83 c e X) (X (true, 3, 0)) (X (true, 3, 1)) (vis (v2 c) (w6 c) rowBlk colBlk) ⟨v1365 c e X, v1374 c e X, v1378 c e X⟩ := rfl
theorem st6_01 : (⟨v1581 c e X, v1590 c e X, v1594 c e X⟩ : Head F) = step 1 (v83 c e X) (X (true, 3, 0)) (X (true, 3, 1)) (vis (v2 c) (w6 c) rowBlk colBlk) ⟨v1387 c e X, v1396 c e X, v1400 c e X⟩ := rfl
theorem st6_02 : (⟨v1603 c e X, v1612 c e X, v1616 c e X⟩ : Head F) = step 2 (v83 c e X) (X (true, 3, 0)) (X (true, 3, 1)) (vis (v2 c) (w6 c) rowBlk colBlk) ⟨v1409 c e X, v1418 c e X, v1422 c e X⟩ := rfl
theorem st6_03 : (⟨v1625 c e X, v1634 c e X, v1638 c e X⟩ : Head F) = step 3 (v83 c e X) (X (true, 3, 0)) (X (true, 3, 1)) (vis (v2 c) (w6 c) rowBlk colBlk) ⟨v1431 c e X, v1440 c e X, v1444 c e X⟩ := rfl
theorem st6_10 : (⟨v1651 c e X, v1660 c e X, v1664 c e X⟩ : Head F) = step 0 (v90 c e X) (X (true, 3, 2)) (X (true, 3, 3)) (vis (v2 c) (w6 c) rowBlk colBlk) ⟨v1457 c e X, v1466 c e X, v1470 c e X⟩ := rfl
theorem st6_11 : (⟨v1673 c e X, v1682 c e X, v1686 c e X⟩ : Head F) = step 1 (v90 c e X) (X (true, 3, 2)) (X (true, 3, 3)) (vis (v2 c) (w6 c) rowBlk colBlk) ⟨v1479 c e X, v1488 c e X, v1492 c e X⟩ := rfl
theorem st6_12 : (⟨v1695 c e X, v1704 c e X, v1708 c e X⟩ : Head F) = step 2 (v90 c e X) (X (true, 3, 2)) (X (true, 3, 3)) (vis (v2 c) (w6 c) rowBlk colBlk) ⟨v1501 c e X, v1510 c e X, v1514 c e X⟩ := rfl
theorem st6_13 : (⟨v1717 c e X, v1726 c e X, v1730 c e X⟩ : Head F) = step 3 (v90 c e X) (X (true, 3, 2)) (X (true, 3, 3)) (vis (v2 c) (w6 c) rowBlk colBlk) ⟨v1523 c e X, v1532 c e X, v1536 c e X⟩ := rfl

theorem sum_00 : v1779 c e X = nextL (score 0 (v83 c e X) (X (false, 4, 0)) (vis (v2 c) (w7 c) rowBlk colBlk)) (v1559 c e X) (v1568 c e X) := rfl
theorem acc_00 : v1783 c e X = nextA 0 (score 0 (v83 c e X) (X (false, 4, 0)) (vis (v2 c) (w7 c) rowBlk colBlk)) (X (false, 4, 1)) (v1559 c e X) (v1572 c e X) := rfl
theorem sum_01 : v1801 c e X = nextL (score 1 (v83 c e X) (X (false, 4, 0)) (vis (v2 c) (w7 c) rowBlk colBlk)) (v1581 c e X) (v1590 c e X) := rfl
theorem acc_01 : v1805 c e X = nextA 1 (score 1 (v83 c e X) (X (false, 4, 0)) (vis (v2 c) (w7 c) rowBlk colBlk)) (X (false, 4, 1)) (v1581 c e X) (v1594 c e X) := rfl
theorem sum_02 : v1823 c e X = nextL (score 2 (v83 c e X) (X (false, 4, 0)) (vis (v2 c) (w7 c) rowBlk colBlk)) (v1603 c e X) (v1612 c e X) := rfl
theorem acc_02 : v1827 c e X = nextA 2 (score 2 (v83 c e X) (X (false, 4, 0)) (vis (v2 c) (w7 c) rowBlk colBlk)) (X (false, 4, 1)) (v1603 c e X) (v1616 c e X) := rfl
theorem sum_03 : v1845 c e X = nextL (score 3 (v83 c e X) (X (false, 4, 0)) (vis (v2 c) (w7 c) rowBlk colBlk)) (v1625 c e X) (v1634 c e X) := rfl
theorem acc_03 : v1849 c e X = nextA 3 (score 3 (v83 c e X) (X (false, 4, 0)) (vis (v2 c) (w7 c) rowBlk colBlk)) (X (false, 4, 1)) (v1625 c e X) (v1638 c e X) := rfl
theorem sum_10 : v1871 c e X = nextL (score 0 (v90 c e X) (X (true, 4, 2)) (vis (v2 c) (w7 c) rowBlk colBlk)) (v1651 c e X) (v1660 c e X) := rfl
theorem acc_10 : v1875 c e X = nextA 0 (score 0 (v90 c e X) (X (true, 4, 2)) (vis (v2 c) (w7 c) rowBlk colBlk)) (X (true, 4, 3)) (v1651 c e X) (v1664 c e X) := rfl
theorem sum_11 : v1893 c e X = nextL (score 1 (v90 c e X) (X (true, 4, 2)) (vis (v2 c) (w7 c) rowBlk colBlk)) (v1673 c e X) (v1682 c e X) := rfl
theorem acc_11 : v1897 c e X = nextA 1 (score 1 (v90 c e X) (X (true, 4, 2)) (vis (v2 c) (w7 c) rowBlk colBlk)) (X (true, 4, 3)) (v1673 c e X) (v1686 c e X) := rfl
theorem sum_12 : v1915 c e X = nextL (score 2 (v90 c e X) (X (true, 4, 2)) (vis (v2 c) (w7 c) rowBlk colBlk)) (v1695 c e X) (v1704 c e X) := rfl
theorem acc_12 : v1919 c e X = nextA 2 (score 2 (v90 c e X) (X (true, 4, 2)) (vis (v2 c) (w7 c) rowBlk colBlk)) (X (true, 4, 3)) (v1695 c e X) (v1708 c e X) := rfl
theorem sum_13 : v1937 c e X = nextL (score 3 (v90 c e X) (X (true, 4, 2)) (vis (v2 c) (w7 c) rowBlk colBlk)) (v1717 c e X) (v1726 c e X) := rfl
theorem acc_13 : v1941 c e X = nextA 3 (score 3 (v90 c e X) (X (true, 4, 2)) (vis (v2 c) (w7 c) rowBlk colBlk)) (X (true, 4, 3)) (v1717 c e X) (v1730 c e X) := rfl

/-- The state of head 0 of batch entry 0 before the last step. -/
theorem last_00 : (⟨v1559 c e X, v1568 c e X, v1572 c e X⟩ : Head F) = upTo6 c e X 0 0 := by
  rw [st6_00, st5_00, st4_00, st3_00, st2_00, st1_00, st0_00]
  rfl

/-- The state of head 1 of batch entry 0 before the last step. -/
theorem last_01 : (⟨v1581 c e X, v1590 c e X, v1594 c e X⟩ : Head F) = upTo6 c e X 0 1 := by
  rw [st6_01, st5_01, st4_01, st3_01, st2_01, st1_01, st0_01]
  rfl

/-- The state of head 2 of batch entry 0 before the last step. -/
theorem last_02 : (⟨v1603 c e X, v1612 c e X, v1616 c e X⟩ : Head F) = upTo6 c e X 0 2 := by
  rw [st6_02, st5_02, st4_02, st3_02, st2_02, st1_02, st0_02]
  rfl

/-- The state of head 3 of batch entry 0 before the last step. -/
theorem last_03 : (⟨v1625 c e X, v1634 c e X, v1638 c e X⟩ : Head F) = upTo6 c e X 0 3 := by
  rw [st6_03, st5_03, st4_03, st3_03, st2_03, st1_03, st0_03]
  rfl

/-- The state of head 0 of batch entry 1 before the last step. -/
theorem last_10 : (⟨v1651 c e X, v1660 c e X, v1664 c e X⟩ : Head F) = upTo6 c e X 1 0 := by
  rw [st6_10, st5_10, st4_10, st3_10, st2_10, st1_10, st0_10]
  rfl

/-- The state of head 1 of batch entry 1 before the last step. -/
theorem last_11 : (⟨v1673 c e X, v1682 c e X, v1686 c e X⟩ : Head F) = upTo6 c e X 1 1 := by
  rw [st6_11, st5_11, st4_11, st3_11, st2_11, st1_11, st0_11]
  rfl

/-- The state of head 2 of batch entry 1 before the last step. -/
theorem last_12 : (⟨v1695 c e X, v1704 c e X, v1708 c e X⟩ : Head F) = upTo6 c e X 1 2 := by
  rw [st6_12, st5_12, st4_12, st3_12, st2_12, st1_12, st0_12]
  rfl

/-- The state of head 3 of batch entry 1 before the last step. -/
theorem last_13 : (⟨v1717 c e X, v1726 c e X, v1730 c e X⟩ : Head F) = upTo6 c e X 1 3 := by
  rw [st6_13, st5_13, st4_13, st3_13, st2_13, st1_13, st0_13]
  rfl

end Cert.ValueProof

end
-- ==== Proof.Softmax.lean ====
/-
  Sums of weighted exponentials in the extended reals, taken in one block of keys at a time, and their ratio, which no longer
  depends on the number that was subtracted from the scores.
-/
module

public import Idealize.ShloMosaic.PureOps.Ideal.Laws

@[expose] public section

noncomputable section

namespace Cert.ValueProof

open Idealize.ShloMosaic
open scoped BigOperators

/-- A score that is a real number or, where it is masked, minus infinity. -/
def Low (s : EReal) : Prop := s = ⊥ ∨ ∃ r : ℝ, s = r

theorem Low.ne_top {s : EReal} (h : Low s) : s ≠ ⊤ := by
  rcases h with rfl | ⟨r, rfl⟩
  · exact bot_ne_top
  · exact EReal.coe_ne_top r

/-- The exponential of such a score less a real number. -/
theorem Low.exp_sub {s : EReal} (h : Low s) (μ : ℝ) : ∃ r : ℝ, 0 ≤ r ∧ Ideal.exp (s - (μ : EReal)) = r := by
  rcases h with rfl | ⟨r, rfl⟩
  · exact ⟨0, le_refl 0, by rw [EReal.bot_sub]; rfl⟩
  · exact ⟨Real.exp (r - μ), (Real.exp_pos _).le, by rw [← EReal.coe_sub]; rfl⟩

/-- Subtracting `ν` in place of `μ` scales the exponential by `exp (μ - ν)`. -/
theorem Low.exp_shift {s : EReal} (h : Low s) (μ ν : ℝ) :
    Ideal.exp (s - (ν : EReal)) = Ideal.exp (s - (μ : EReal)) * ((Real.exp (μ - ν) : ℝ) : EReal) := by
  rcases h with rfl | ⟨r, rfl⟩
  · rw [EReal.bot_sub, EReal.bot_sub]
    show (0 : EReal) = 0 * _
    rw [zero_mul]
  · rw [← EReal.coe_sub, ← EReal.coe_sub]
    show ((Real.exp (r - ν) : ℝ) : EReal) = ((Real.exp (r - μ) : ℝ) : EReal) * ((Real.exp (μ - ν) : ℝ) : EReal)
    rw [← EReal.coe_mul, ← Real.exp_add]
    congr 2; ring

theorem exp_bot_sub (μ : ℝ) : Ideal.exp (⊥ - (μ : EReal)) = 0 := by rw [EReal.bot_sub]; rfl

theorem exp_coe_sub (r μ : ℝ) : Ideal.exp ((r : EReal) - (μ : EReal)) = ((Real.exp (r - μ) : ℝ) : EReal) := by
  rw [← EReal.coe_sub]; rfl

/-- A nonnegative real factor comes out of a sum, whatever its terms. -/
theorem sum_mul_coe {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- A sum of nonnegative real numbers is one. -/
theorem sum_real {ι : Type*} (s : Finset ι) (f : ι → EReal) (hf : ∀ i ∈ s, ∃ r : ℝ, 0 ≤ r ∧ f i = r) :
    ∃ r : ℝ, 0 ≤ r ∧ ∑ i ∈ s, f i = r := by
  classical
  induction s using Finset.induction_on with
  | empty => exact ⟨0, le_refl 0, by simp⟩
  | insert a s ha ih =>
    obtain ⟨r, hr, er⟩ := ih fun i hi => hf i (Finset.mem_insert_of_mem hi)
    obtain ⟨q, hq, eq⟩ := hf a (Finset.mem_insert_self a s)
    exact ⟨q + r, add_nonneg hq hr, by rw [Finset.sum_insert ha, er, eq, EReal.coe_add]⟩

/-- A sum of products of real numbers is a real number. -/
theorem sum_mul_real {ι : Type*} (s : Finset ι) (f g : ι → EReal) (hf : ∀ i, ∃ r : ℝ, f i = r) (hg : ∀ i, ∃ r : ℝ, g i = r) :
    ∃ r : ℝ, ∑ i ∈ s, f i * g i = r := by
  classical
  induction s using Finset.induction_on with
  | empty => exact ⟨0, by simp⟩
  | insert a s ha ih =>
    obtain ⟨r, er⟩ := ih
    obtain ⟨p, ep⟩ := hf a
    obtain ⟨q, eq⟩ := hg a
    exact ⟨p * q + r, by rw [Finset.sum_insert ha, er, ep, eq, EReal.coe_add, EReal.coe_mul]⟩

/-- The sum of the exponentials, and their sum weighted by `v`, over a set of keys. -/
def mass {ι : Type*} (T : Finset ι) (s : ι → EReal) (μ : ℝ) : EReal := ∑ i ∈ T, Ideal.exp (s i - (μ : EReal))
def moment {ι : Type*} (T : Finset ι) (s v : ι → EReal) (μ : ℝ) : EReal := ∑ i ∈ T, Ideal.exp (s i - (μ : EReal)) * v i

theorem mass_shift {ι : Type*} (T : Finset ι) (s : ι → EReal) (hs : ∀ i, Low (s i)) (μ ν : ℝ) :
    mass T s ν = mass T s μ * ((Real.exp (μ - ν) : ℝ) : EReal) := by
  unfold mass
  rw [← sum_mul_coe T _ (Real.exp_pos _).le]
  exact Finset.sum_congr rfl fun i _ => (hs i).exp_shift μ ν

theorem moment_shift {ι : Type*} (T : Finset ι) (s v : ι → EReal) (hs : ∀ i, Low (s i)) (μ ν : ℝ) :
    moment T s v ν = moment T s v μ * ((Real.exp (μ - ν) : ℝ) : EReal) := by
  unfold moment
  rw [← sum_mul_coe T _ (Real.exp_pos _).le]
  refine Finset.sum_congr rfl fun i _ => ?_
  rw [(hs i).exp_shift μ ν, mul_assoc, mul_assoc, mul_comm (v i)]

theorem mass_real {ι : Type*} (T : Finset ι) (s : ι → EReal) (hs : ∀ i, Low (s i)) (μ : ℝ) : ∃ r : ℝ, 0 ≤ r ∧ mass T s μ = r :=
  sum_real T _ fun i _ => (hs i).exp_sub μ

/-- Where some score is real, the sum is positive. -/
theorem mass_pos {ι : Type*} (T : Finset ι) (s : ι → EReal) (hs : ∀ i, Low (s i)) (μ : ℝ) (i : ι) (hi : i ∈ T) (hr : ∃ r : ℝ, s i = r) :
    ∃ r : ℝ, 0 < r ∧ mass T s μ = r := by
  classical
  obtain ⟨r, er⟩ := hr
  obtain ⟨q, hq, eq⟩ := mass_real (T.erase i) s hs μ
  refine ⟨Real.exp (r - μ) + q, add_pos_of_pos_of_nonneg (Real.exp_pos _) hq, ?_⟩
  unfold mass at eq ⊢
  rw [← Finset.add_sum_erase T _ hi, eq, er, exp_coe_sub, EReal.coe_add]

/-- The weighted mean. -/
def mean {ι : Type*} (T : Finset ι) (s v : ι → EReal) (μ : ℝ) : EReal := Ideal.div (moment T s v μ) (mass T s μ)

theorem div_coe (x : EReal) {r : ℝ} (hr : 0 < r) : Ideal.div x (r : EReal) = x * ((r⁻¹ : ℝ) : EReal) := by
  unfold Ideal.div
  rw [if_neg (by exact_mod_cast hr.ne'), EReal.coe_inv]

/-- The weighted mean does not depend on the number subtracted. -/
theorem mean_shift {ι : Type*} (T : Finset ι) (s v : ι → EReal) (hs : ∀ i, Low (s i)) (μ ν : ℝ) (i : ι) (hi : i ∈ T)
    (hr : ∃ r : ℝ, s i = r) : mean T s v ν = mean T s v μ := by
  obtain ⟨r, hr0, er⟩ := mass_pos T s hs μ i hi hr
  have hc := Real.exp_pos (μ - ν)
  unfold mean
  rw [mass_shift T s hs μ ν, moment_shift T s v hs μ ν, er, ← EReal.coe_mul, div_coe _ (mul_pos hr0 hc), div_coe _ hr0, mul_assoc,
    ← EReal.coe_mul]
  congr 2
  field_simp

/-- The weighted mean as a sum of values times normalized weights. -/
theorem mean_eq_sum {ι : Type*} (T : Finset ι) (s v : ι → EReal) (hs : ∀ i, Low (s i)) (μ : ℝ) (i : ι) (hi : i ∈ T)
    (hr : ∃ r : ℝ, s i = r) : ∑ j ∈ T, v j * Ideal.div (Ideal.exp (s j - (μ : EReal))) (mass T s μ) = mean T s v μ := by
  obtain ⟨r, hr0, er⟩ := mass_pos T s hs μ i hi hr
  unfold mean moment
  rw [er, div_coe _ hr0, ← sum_mul_coe T _ (inv_pos.mpr hr0).le]
  refine Finset.sum_congr rfl fun j _ => ?_
  rw [div_coe _ hr0, ← mul_assoc, mul_comm (v j)]

/-- A maximum of such scores and a real number is real. -/
theorem fold_max_real {ι : Type*} (T : Finset ι) (s : ι → EReal) (hs : ∀ i, Low (s i)) :
    Low (T.fold max ⊥ s) := by
  classical
  induction T using Finset.induction_on with
  | empty => exact Or.inl rfl
  | insert a T ha ih =>
    rw [Finset.fold_insert ha]
    rcases max_choice (s a) (T.fold max ⊥ s) with h | h <;> rw [h]
    · exact hs a
    · exact ih

theorem max_real {μ : ℝ} {s : EReal} (hs : Low s) : ∃ r : ℝ, max (μ : EReal) s = r := by
  rcases hs with rfl | ⟨r, rfl⟩
  · exact ⟨μ, max_eq_left bot_le⟩
  · exact ⟨max μ r, EReal.coe_strictMono.monotone.map_max.symm⟩

theorem fold_max_ge {ι : Type*} (T : Finset ι) (s : ι → EReal) (i : ι) (hi : i ∈ T) : s i ≤ T.fold max ⊥ s :=
  (Finset.le_fold_max _).mpr (Or.inr ⟨i, hi, le_refl _⟩)

/-- So is the maximum of scores of which one is real. -/
theorem fold_max_real' {ι : Type*} (T : Finset ι) (s : ι → EReal) (hs : ∀ i, Low (s i)) (i : ι) (hi : i ∈ T) (hr : ∃ r : ℝ, s i = r) :
    ∃ r : ℝ, T.fold max ⊥ s = r := by
  rcases fold_max_real T s hs with h | h
  · obtain ⟨r, er⟩ := hr
    have := fold_max_ge T s i hi
    rw [h, er] at this
    exact absurd (le_bot_iff.mp this) (EReal.coe_ne_bot r)
  · exact h

/-- One block of keys joins those already taken in. -/
theorem mass_union {ι : Type*} [DecidableEq ι] (T U : Finset ι) (hd : Disjoint T U) (s : ι → EReal) (hs : ∀ i, Low (s i)) (μ ν : ℝ) :
    mass T s μ * Ideal.exp ((μ : EReal) - (ν : EReal)) + mass U s ν = mass (T ∪ U) s ν := by
  rw [exp_coe_sub, ← mass_shift T s hs μ ν]
  exact (Finset.sum_union hd).symm

theorem moment_union {ι : Type*} [DecidableEq ι] (T U : Finset ι) (hd : Disjoint T U) (s v : ι → EReal) (hs : ∀ i, Low (s i)) (μ ν : ℝ) :
    moment T s v μ * Ideal.exp ((μ : EReal) - (ν : EReal)) + moment U s v ν = moment (T ∪ U) s v ν := by
  rw [exp_coe_sub, ← moment_shift T s v hs μ ν]
  exact (Finset.sum_union hd).symm

end Cert.ValueProof

end
-- ==== Proof.RowValue.lean ====
/-
  The values of one step, read at a query's row, in the extended reals.
-/
module

public import proofs.«01_k».proof.Proof.StepValue
public import proofs.«01_k».proof.Proof.Softmax
public import Idealize.ShloMosaic.Lib.MatmulPlain
public import Idealize.ShloMosaic.Lib.ValueLayout
public import Idealize.ShloMosaic.Lib.ValueLayoutCasts

@[expose] public section

noncomputable section

namespace Cert.ValueProof

open Cert.KernelIdeal Cert.KernelIdeal.Gen Cert.RingProof
open Idealize.ShloMosaic Idealize.ShloMosaic.ValueIdx
open Idealize.ShloMosaic.TcCoe
open scoped BigOperators

/-- Column `d` of head `h`. -/
def hcol (h : Fin 4) (d : Fin 64) : Fin 256 := ⟨64 * h.val + d.val, by omega⟩

theorem mask_eq : (Named.named κ "mask" 0xCE6E6B28#32 : Ideal .f32) = (⊥ : EReal) := IdealRules.named_const.ideal_named_scalar _ _ _ _ rfl

theorem cut_apply (h : Fin 4) (z : FVec Ideal S256x256 .f32) (r : Fin 256) (d : Fin 64) : cut h z (ix2 r d) = z (ix2 r (hcol h d)) :=
  slice2_axis1_apply _ z _ r d (hcol h d) rfl

theorem flat_apply (Y : Piece Ideal) (k j : Fin 256) : flat Y (ix2 k j) = Y (ix4 (0 : Fin 1) (0 : Fin 1) k j) :=
  Idealize.ShloMosaic.shapeCast_apply _ _ _ _ (by
    rw [Shape.rowMajor_val_four, Shape.rowMajor_val_two]
    show ((0 * 1 + 0) * 256 + k.val) * 256 + j.val = k.val * 256 + j.val
    omega)

theorem col_apply (x : FVec Ideal S256 .f32) (r : Fin 256) : shapeCast S256x1 x shapeCasts_S256_S256x1 (ix2 r (0 : Fin 1)) = x (ix1 r) :=
  Idealize.ShloMosaic.shapeCast_apply _ _ _ _ (by
    rw [Shape.rowMajor_val_two, Shape.rowMajor_val_one]
    show r.val = r.val * 1 + 0
    omega)

theorem bcast256_apply (x : FVec Ideal S256x1 .f32) (r k : Fin 256) :
    broadcastTo S256x256 x broadcasts_S256x1_S256x256 (ix2 r k) = x (ix2 r (0 : Fin 1)) :=
  Idealize.ShloMosaic.broadcastTo_apply _ _ _ _ fun a => by
    match a with
    | ⟨0, _⟩ => rfl
    | ⟨1, _⟩ => rfl

theorem bcast64_apply (x : FVec Ideal S256x1 .f32) (r : Fin 256) (d : Fin 64) :
    broadcastTo S256x64 x broadcasts_S256x1_S256x64 (ix2 r d) = x (ix2 r (0 : Fin 1)) :=
  Idealize.ShloMosaic.broadcastTo_apply _ _ _ _ fun a => by
    match a with
    | ⟨0, _⟩ => rfl
    | ⟨1, _⟩ => rfl

theorem lift_row (r k : Fin 256) : reduces_S256x256_S256.lift (ix1 r) k = (ix2 r k : S256x256.Idx) := by
  funext a
  apply Fin.ext
  match a with
  | ⟨0, _⟩ => rfl
  | ⟨1, _⟩ => rfl

theorem score_apply (h : Fin 4) (q : FVec Ideal S256x256 .f32) (K : Piece Ideal) (b : IVec S256x256 1) (r k : Fin 256) :
    score h q K b (ix2 r k)
      = if b (ix2 r k) = 1#1 then ∑ d : Fin 64, q (ix2 r (hcol h d)) * K (ix4 (0 : Fin 1) (0 : Fin 1) k (hcol h d)) else (⊥ : EReal) := by
  have hm : matmul dot_S256x64_S256x64_S256x256_1_1_0_0_n_n none (cut h q) (cut h (flat K)) (constant S256x256 .f32 0x00000000#32) (ix2 r k)
      = ∑ d : Fin 64, q (ix2 r (hcol h d)) * K (ix4 (0 : Fin 1) (0 : Fin 1) k (hcol h d)) := by
    refine (Ideal.matmul_transposedRhs_apply (M := 256) (K := 64) (N := 256) none (cut h q) (cut h (flat K)) _ r k).trans ?_
    show Ideal.ofBits .f32 0x00000000#32 + _ = _
    rw [Ideal.ofBits_zero_f32, zero_add]
    exact Finset.sum_congr rfl fun d _ => by rw [cut_apply, cut_apply, flat_apply]
  unfold score
  rw [select_apply]
  unfold Scalar.select
  split <;> rename_i hb
  · rw [if_pos (show b (ix2 r k) = 1#1 from hb), hm]
  · rw [if_neg (show ¬b (ix2 r k) = 1#1 from hb)]
    exact mask_eq

theorem nextM_apply (s : FVec Ideal S256x256 .f32) (m : FVec Ideal S256x1 .f32) (r : Fin 256) :
    nextM s m (ix2 r (0 : Fin 1)) = max (m (ix2 r (0 : Fin 1))) ((Finset.univ : Finset (Fin 256)).fold max (⊥ : EReal) fun k => s (ix2 r k)) := by
  have e : multiReduction .maximumf [1] S256 s 0xFF800000#32 reduces_S256x256_S256 (.inl rfl) rfl (ix1 r)
      = (Finset.univ : Finset (Fin 256)).fold max (⊥ : EReal) fun k => s (ix2 r k) := by
    refine (Ideal.multiReduction_maximumf_single s _ reduces_S256x256_S256 _ _ (ix1 r)).trans ?_
    have hb : FloatOps.ofBits (F := Ideal) .f32 0xFF800000#32 = (⊥ : EReal) := by
      show Ideal.ofBits .f32 0xFF800000#32 = _
      simp [Ideal.ofBits, Ideal.ieee]
    rw [hb]
    refine Finset.fold_congr fun k _ => ?_
    exact congrArg s (lift_row r k)
  unfold nextM
  show max _ _ = _
  rw [col_apply, e]

theorem expS_apply (s : FVec Ideal S256x256 .f32) (m : FVec Ideal S256x1 .f32) (r k : Fin 256) :
    expS s m (ix2 r k) = Ideal.exp (s (ix2 r k) - nextM s m (ix2 r (0 : Fin 1))) := by
  unfold expS
  show Ideal.exp (s (ix2 r k) - broadcastTo S256x256 (nextM s m) broadcasts_S256x1_S256x256 (ix2 r k)) = _
  rw [bcast256_apply]

theorem corr_apply (s : FVec Ideal S256x256 .f32) (m : FVec Ideal S256x1 .f32) (r : Fin 256) :
    corr s m (ix2 r (0 : Fin 1)) = Ideal.exp (m (ix2 r (0 : Fin 1)) - nextM s m (ix2 r (0 : Fin 1))) := rfl

theorem nextL_apply (s : FVec Ideal S256x256 .f32) (m l : FVec Ideal S256x1 .f32) (r : Fin 256) :
    nextL s m l (ix2 r (0 : Fin 1)) = l (ix2 r (0 : Fin 1)) * Ideal.exp (m (ix2 r (0 : Fin 1)) - nextM s m (ix2 r (0 : Fin 1)))
      + ∑ k : Fin 256, Ideal.exp (s (ix2 r k) - nextM s m (ix2 r (0 : Fin 1))) := by
  have e : multiReduction .add [1] S256 (expS s m) 0x00000000#32 reduces_S256x256_S256 (.inl rfl) rfl (ix1 r)
      = ∑ k : Fin 256, Ideal.exp (s (ix2 r k) - nextM s m (ix2 r (0 : Fin 1))) := by
    refine (Ideal.multiReduction_add_single (expS s m) _ reduces_S256x256_S256 _ _ (ix1 r)).trans ?_
    refine Finset.sum_congr rfl fun k _ => ?_
    exact (congrArg (expS s m) (lift_row r k)).trans (expS_apply s m r k)
  unfold nextL
  show _ * _ + _ = _
  rw [col_apply, e, corr_apply]

theorem nextA_apply (h : Fin 4) (s : FVec Ideal S256x256 .f32) (V : Piece Ideal) (m : FVec Ideal S256x1 .f32) (a : FVec Ideal S256x64 .f32)
    (r : Fin 256) (d : Fin 64) :
    nextA h s V m a (ix2 r d) = a (ix2 r d) * Ideal.exp (m (ix2 r (0 : Fin 1)) - nextM s m (ix2 r (0 : Fin 1)))
      + ∑ k : Fin 256, Ideal.exp (s (ix2 r k) - nextM s m (ix2 r (0 : Fin 1))) * V (ix4 (0 : Fin 1) (0 : Fin 1) k (hcol h d)) := by
  have e : matmul dot_S256x256_S256x64_S256x64_1_0_0_1_n_n none (expS s m) (cut h (flat V)) (constant S256x64 .f32 0x00000000#32) (ix2 r d)
      = ∑ k : Fin 256, Ideal.exp (s (ix2 r k) - nextM s m (ix2 r (0 : Fin 1))) * V (ix4 (0 : Fin 1) (0 : Fin 1) k (hcol h d)) := by
    refine (Ideal.matmul_plain_apply (M := 256) (K := 256) (N := 64) none (expS s m) (cut h (flat V)) _ r d).trans ?_
    show Ideal.ofBits .f32 0x00000000#32 + _ = _
    rw [Ideal.ofBits_zero_f32, zero_add]
    exact Finset.sum_congr rfl fun k _ => by rw [expS_apply, cut_apply, flat_apply]
  unfold nextA
  show _ * _ + _ = _
  rw [bcast64_apply, e, corr_apply]

end Cert.ValueProof

end
-- ==== Proof.HeadValue.lean ====
/-
  The eight steps of a head at a query's row: the state is the sums of the exponentials over the keys taken in so far.
-/
module

public import proofs.«01_k».proof.Proof.RowValue

@[expose] public section

noncomputable section

namespace Cert.ValueProof

open Cert.KernelIdeal Cert.KernelIdeal.Gen Cert.RingProof
open Idealize.ShloMosaic Idealize.ShloMosaic.ValueIdx
open Idealize.ShloMosaic.TcCoe
open scoped BigOperators

/-- A key: the device that holds it and its row there. -/
abbrev Key : Type := Fin 8 × Fin 256

/-- The keys of a set of devices. -/
def keys (O : Finset (Fin 8)) : Finset Key := O ×ˢ Finset.univ

theorem keys_insert (o : Fin 8) (O : Finset (Fin 8)) : keys (insert o O) = keys O ∪ keys {o} := by
  unfold keys
  rw [← Finset.union_product, Finset.insert_eq, Finset.union_comm]

theorem keys_disjoint (o : Fin 8) (O : Finset (Fin 8)) (ho : o ∉ O) : Disjoint (keys O) (keys {o}) := by
  unfold keys
  exact Finset.disjoint_product.mpr (Or.inl (Finset.disjoint_singleton_right.mpr ho))

theorem sum_keys_one (o : Fin 8) (f : Key → EReal) : ∑ i ∈ keys {o}, f i = ∑ k : Fin 256, f (o, k) := by
  unfold keys
  rw [Finset.sum_product, Finset.sum_singleton]

/-- The state at row `r` when the keys of the devices `O` have been taken in. -/
def Inv (s : Key → EReal) (v : Fin 64 → Key → EReal) (r : Fin 256) (O : Finset (Fin 8)) (t : Head Ideal) : Prop :=
  ∃ μ : ℝ, t.m (ix2 r (0 : Fin 1)) = (μ : EReal) ∧ t.l (ix2 r (0 : Fin 1)) = mass (keys O) s μ
    ∧ ∀ d, t.a (ix2 r d) = moment (keys O) s (v d) μ

theorem first_real : ∃ μ : ℝ, Ideal.ofBits .f32 0xF149F2CA#32 = (μ : EReal) := by
  simp only [Ideal.ofBits, Ideal.ieee]
  rw [if_neg (by decide), if_neg (by decide)]
  exact ⟨_, rfl⟩

theorem inv_start (s : Key → EReal) (v : Fin 64 → Key → EReal) (r : Fin 256) : Inv s v r ∅ start := by
  obtain ⟨μ, hμ⟩ := first_real
  have hz : Ideal.ofBits .f32 0x00000000#32 = 0 := Ideal.ofBits_zero_f32
  refine ⟨μ, hμ, ?_, fun d => ?_⟩
  · exact hz.trans (by simp [mass, keys])
  · exact hz.trans (by simp [moment, keys])

theorem inv_step (s : Key → EReal) (v : Fin 64 → Key → EReal) (hs : ∀ i, Low (s i)) (r : Fin 256) (O : Finset (Fin 8)) (o : Fin 8)
    (ho : o ∉ O) (h : Fin 4) (q : FVec Ideal S256x256 .f32) (K V : Piece Ideal) (b : IVec S256x256 1) (t : Head Ideal) (ht : Inv s v r O t)
    (hsc : ∀ k, score h q K b (ix2 r k) = s (o, k))
    (hv : ∀ k d, s (o, k) = ⊥ ∨ V (ix4 (0 : Fin 1) (0 : Fin 1) k (hcol h d)) = v d (o, k)) :
    Inv s v r (insert o O) (step h q K V b t) := by
  obtain ⟨μ, hm, hl, ha⟩ := ht
  have hn : ∃ ν : ℝ, nextM (score h q K b) t.m (ix2 r (0 : Fin 1)) = (ν : EReal) := by
    rw [nextM_apply, hm]
    refine max_real (fold_max_real _ _ fun k => ?_)
    rw [hsc]; exact hs _
  obtain ⟨ν, hν⟩ := hn
  refine ⟨ν, hν, ?_, fun d => ?_⟩
  · show nextL (score h q K b) t.m t.l (ix2 r (0 : Fin 1)) = _
    rw [nextL_apply, hν, hm, hl, keys_insert, ← mass_union _ _ (keys_disjoint o O ho) s hs μ ν]
    congr 1
    unfold mass
    rw [sum_keys_one]
    exact Finset.sum_congr rfl fun k _ => by rw [hsc]
  · show nextA h (score h q K b) V t.m t.a (ix2 r d) = _
    rw [nextA_apply, hν, hm, ha, keys_insert, ← moment_union _ _ (keys_disjoint o O ho) s (v d) hs μ ν]
    congr 1
    unfold moment
    rw [sum_keys_one]
    refine Finset.sum_congr rfl fun k _ => ?_
    rw [hsc]
    rcases hv k d with hb | hb
    · rw [hb, exp_bot_sub, zero_mul, zero_mul]
    · rw [hb]

/-- The device whose rows each step takes in. -/
def orgAt (c : Dev nD) (n : Fin 8) : Fin 8 :=
  ⟨(c.val + (![0, 7, 1, 6, 2, 5, 3, 4] : Fin 8 → ℕ) n) % 8, Nat.mod_lt _ (by decide)⟩

theorem v2_eq (c : Dev nD) : v2 c = BitVec.ofNat 32 c.val := by revert c; decide
theorem wordAt_eq (c : Dev nD) (n : Fin 8) : wordAt c n = BitVec.ofNat 32 (orgAt c n).val := by revert c n; decide +kernel
theorem org_slotAt (c : Dev nD) (n : Fin 8) (b z : Fin 2) : org (slotAt n b z) c = orgAt c n := by revert c n b z; decide +kernel
theorem rcv_slotAt (c : Dev nD) (n : Fin 8) (b z : Fin 2) (h : (orgAt c n).val ≤ c.val) :
    (slotAt n b z).2.1.val = 0 ∨ rcv (slotAt n b z) c = true := by revert c n b z; decide +kernel
theorem orgAt_inj (c : Dev nD) (n n' : Fin 8) (h : orgAt c n = orgAt c n') : n = n' := by revert c n n'; decide +kernel
theorem orgAt_all (c : Dev nD) : (Finset.univ : Finset (Fin 8)) =
    insert (orgAt c 7) (insert (orgAt c 6) (insert (orgAt c 5) (insert (orgAt c 4) (insert (orgAt c 3) (insert (orgAt c 2)
      (insert (orgAt c 1) (insert (orgAt c 0) ∅))))))) := by
  revert c; decide +kernel

theorem rowBlk_apply (r k : Fin 256) : rowBlk (ix2 r k) = BitVec.ofNat 32 (r.val / 64) := by
  have h : ∀ r : Fin 256, (rowBlk (ix2 r (0 : Fin 256)) : BitVec 32) = BitVec.ofNat 32 (r.val / 64) := by decide +kernel
  exact (show rowBlk (ix2 r k) = rowBlk (ix2 r (0 : Fin 256)) from rfl).trans (h r)

theorem colBlk_apply (r k : Fin 256) : colBlk (ix2 r k) = BitVec.ofNat 32 (k.val / 64) := by
  have h : ∀ k : Fin 256, (colBlk (ix2 (0 : Fin 256) k) : BitVec 32) = BitVec.ofNat 32 (k.val / 64) := by decide +kernel
  exact (show colBlk (ix2 r k) = colBlk (ix2 (0 : Fin 256) k) from rfl).trans (h k)

theorem vis_word : ∀ (o c : Fin 8) (a b : Fin 4),
    (IntOp.cmpi .sle (IntOp.addi (Scalar.muli (BitVec.ofNat 32 o.val) 4#32) (BitVec.ofNat 32 a.val))
      (IntOp.addi (Scalar.muli (BitVec.ofNat 32 c.val) 4#32) (BitVec.ofNat 32 b.val)) = 1#1) ↔ o.val * 4 + a.val ≤ c.val * 4 + b.val := by
  decide +kernel

theorem visAt_apply (c : Dev nD) (n : Fin 8) (r k : Fin 256) :
    visAt c n (ix2 r k) = 1#1 ↔ (orgAt c n).val * 4 + k.val / 64 ≤ c.val * 4 + r.val / 64 := by
  have h := vis_word (orgAt c n) c ⟨k.val / 64, by omega⟩ ⟨r.val / 64, by omega⟩
  have e : visAt c n (ix2 r k) = IntOp.cmpi .sle (IntOp.addi (Scalar.muli (BitVec.ofNat 32 (orgAt c n).val) 4#32) (BitVec.ofNat 32 (k.val / 64)))
      (IntOp.addi (Scalar.muli (BitVec.ofNat 32 c.val) 4#32) (BitVec.ofNat 32 (r.val / 64))) := by
    rw [← wordAt_eq, ← v2_eq, ← colBlk_apply r k, ← rowBlk_apply r k]
    rfl
  rw [e]
  exact h

end Cert.ValueProof

end
-- ==== Proof.DeviceValue.lean ====
/-
  What a device stores, from the whole arrays: at each of its rows, the attention of that row over all the keys.
-/
module

public import proofs.«01_k».proof.Proof.HeadValue
public import proofs.«01_k».proof.Proof.Launch

@[expose] public section

noncomputable section

namespace Cert.ValueProof

open Cert.KernelIdeal Cert.KernelIdeal.Gen Cert.RingProof
open Idealize.ShloMosaic Idealize.ShloMosaic.ValueIdx
open Idealize.ShloMosaic.TcCoe
open scoped BigOperators

/-- The whole arrays. -/
structure Whole where
  x : (⟨3, ![2, 2048, 512]⟩ : Shape).Idx → EReal
  q : (⟨2, ![512, 256]⟩ : Shape).Idx → EReal
  k : (⟨4, ![2, 2048, 4, 64]⟩ : Shape).Idx → EReal
  v : (⟨4, ![2, 2048, 4, 64]⟩ : Shape).Idx → EReal
  w : (⟨2, ![256, 512]⟩ : Shape).Idx → EReal

/-- Row `r` of device `c` among all the rows. -/
def row (c : Fin 8) (r : Fin 256) : Fin 2048 := ⟨256 * c.val + r.val, by omega⟩

/-- All the rows, device by device. -/
def rowEquiv : Key ≃ Fin 2048 where
  toFun i := row i.1 i.2
  invFun R := (⟨R.val / 256, by omega⟩, ⟨R.val % 256, by omega⟩)
  left_inv i := by
    obtain ⟨o, k⟩ := i
    refine Prod.ext (Fin.ext ?_) (Fin.ext ?_)
    · show (256 * o.val + k.val) / 256 = o.val
      omega
    · show (256 * o.val + k.val) % 256 = k.val
      omega
  right_inv R := by
    refine Fin.ext ?_
    show 256 * (R.val / 256) + R.val % 256 = R.val
    omega

/-- The factor on the scores. -/
def eighth : EReal := Ideal.ofBits .f32 0x3E000000#32

theorem eighth_real : ∃ r : ℝ, 0 ≤ r ∧ eighth = (r : EReal) := by
  unfold eighth
  simp only [Ideal.ofBits, Ideal.ieee]
  rw [if_neg (by decide), if_neg (by decide), if_neg (by decide)]
  refine ⟨_, ?_, rfl⟩
  positivity

/-- The query of row `R` of batch entry `b`, at column `j`. -/
def query (g : Whole) (b : Fin 2) (R : Fin 2048) (j : Fin 256) : EReal := ∑ i : Fin 512, g.x (ix3 b R i) * g.q (ix2 i j)

/-- The score of key `j` for query `R`, minus infinity where the query does not see the key. -/
def sc (g : Whole) (b : Fin 2) (h : Fin 4) (R j : Fin 2048) : EReal :=
  if j.val / 64 ≤ R.val / 64 then (∑ d : Fin 64, query g b R (hcol h d) * g.k (ix4 b j h d)) * eighth else ⊥

/-- The attention of query `R`. -/
def ctx (g : Whole) (b : Fin 2) (h : Fin 4) (R : Fin 2048) (d : Fin 64) : EReal :=
  mean Finset.univ (sc g b h R) (fun j => g.v (ix4 b j h d)) 0

/-- The result. -/
def result (g : Whole) (b : Fin 2) (R : Fin 2048) (j : Fin 512) : EReal :=
  ∑ h : Fin 4, ∑ d : Fin 64, ctx g b h R d * g.w (ix2 (hcol h d) j)

/-- The arrays that make up the scores hold real numbers. -/
structure Real3 (g : Whole) : Prop where
  x : ∀ i, ∃ r : ℝ, g.x i = (r : EReal)
  q : ∀ i, ∃ r : ℝ, g.q i = (r : EReal)
  k : ∀ i, ∃ r : ℝ, g.k i = (r : EReal)

variable {g : Whole}

theorem sc_low (hg : Real3 g) (b : Fin 2) (h : Fin 4) (R j : Fin 2048) : Low (sc g b h R j) := by
  unfold sc
  split
  · right
    obtain ⟨p, ep⟩ := sum_mul_real Finset.univ (fun d : Fin 64 => query g b R (hcol h d)) (fun d => g.k (ix4 b j h d))
      (fun d => sum_mul_real Finset.univ (fun i : Fin 512 => g.x (ix3 b R i)) (fun i => g.q (ix2 i (hcol h d))) (fun i => hg.x _) (fun i => hg.q _))
      (fun d => hg.k _)
    obtain ⟨e, -, ee⟩ := eighth_real
    exact ⟨p * e, by rw [ep, ee, EReal.coe_mul]⟩
  · exact Or.inl rfl

theorem sc_self (hg : Real3 g) (b : Fin 2) (h : Fin 4) (R : Fin 2048) : ∃ r : ℝ, sc g b h R R = (r : EReal) := by
  rcases sc_low hg b h R R with e | e
  · exfalso
    obtain ⟨p, ep⟩ := sum_mul_real Finset.univ (fun d : Fin 64 => query g b R (hcol h d)) (fun d => g.k (ix4 b R h d))
      (fun d => sum_mul_real Finset.univ (fun i : Fin 512 => g.x (ix3 b R i)) (fun i => g.q (ix2 i (hcol h d))) (fun i => hg.x _) (fun i => hg.q _))
      (fun d => hg.k _)
    obtain ⟨q, -, ee⟩ := eighth_real
    unfold sc at e
    rw [if_pos (le_refl _), ep, ee, ← EReal.coe_mul] at e
    exact EReal.coe_ne_bot _ e
  · exact e

/-- The mean over the keys device by device is the mean over all the rows. -/
theorem mean_rows (hg : Real3 g) (b : Fin 2) (h : Fin 4) (R : Fin 2048) (d : Fin 64) (μ : ℝ) :
    mean Finset.univ (fun i : Key => sc g b h R (row i.1 i.2)) (fun i => g.v (ix4 b (row i.1 i.2) h d)) μ = ctx g b h R d := by
  unfold ctx
  rw [mean_shift Finset.univ (sc g b h R) (fun j => g.v (ix4 b j h d)) (sc_low hg b h R) μ 0 R (Finset.mem_univ R) (sc_self hg b h R)]
  unfold mean moment mass
  exact congrArg₂ Ideal.div (Equiv.sum_comp rowEquiv fun j => Ideal.exp (sc g b h R j - (μ : EReal)) * g.v (ix4 b j h d))
    (Equiv.sum_comp rowEquiv fun j => Ideal.exp (sc g b h R j - (μ : EReal)))

/-- Every device has its rows of the whole arrays, and the two weight arrays whole. -/
structure Deals (m : (ℓ : Loc nD τ sig) → Buf (Elt Ideal) ℓ) (g : Whole) : Prop where
  x : ∀ c b r i, (ins m c).x (ix3 b r i) = g.x (ix3 b (row c r) i)
  q : ∀ c i j, (ins m c).q (ix2 i j) = g.q (ix2 i j)
  k : ∀ c b r h d, (ins m c).k (ix4 b r h d) = g.k (ix4 b (row c r) h d)
  v : ∀ c b r h d, (ins m c).v (ix4 b r h d) = g.v (ix4 b (row c r) h d)
  w : ∀ c i j, (ins m c).w (ix2 i j) = g.w (ix2 i j)

variable {m : (ℓ : Loc nD τ sig) → Buf (Elt Ideal) ℓ} (hd : Deals m g)

/-! ## Reading the loads -/

theorem load_x0 (c : Dev nD) (e : In Ideal) (X : Slot → Piece Ideal) (r : Fin 256) (i : Fin 512) :
    v77 c e X (ix3 (0 : Fin 1) r i) = e.x (ix3 (0 : Fin 2) r i) := by
  unfold v77
  refine congrArg e.x (funext fun a => Fin.ext ?_)
  match a with
  | ⟨0, _⟩ => rfl
  | ⟨1, _⟩ => exact Nat.zero_add _ |>.trans (Nat.one_mul _)
  | ⟨2, _⟩ => exact Nat.zero_add _ |>.trans (Nat.one_mul _)

theorem load_x1 (c : Dev nD) (e : In Ideal) (X : Slot → Piece Ideal) (r : Fin 256) (i : Fin 512) :
    v84 c e X (ix3 (0 : Fin 1) r i) = e.x (ix3 (1 : Fin 2) r i) := by
  unfold v84
  refine congrArg e.x (funext fun a => Fin.ext ?_)
  match a with
  | ⟨0, _⟩ => rfl
  | ⟨1, _⟩ => exact Nat.zero_add _ |>.trans (Nat.one_mul _)
  | ⟨2, _⟩ => exact Nat.zero_add _ |>.trans (Nat.one_mul _)

theorem load_q (c : Dev nD) (e : In Ideal) (X : Slot → Piece Ideal) (i : Fin 512) (j : Fin 256) : v79 c e X (ix2 i j) = e.q (ix2 i j) := by
  unfold v79
  refine congrArg e.q (funext fun a => Fin.ext ?_)
  match a with
  | ⟨0, _⟩ => exact Nat.zero_add _ |>.trans (Nat.one_mul _)
  | ⟨1, _⟩ => exact Nat.zero_add _ |>.trans (Nat.one_mul _)

/-- A product of the rows with the query weights, scaled. -/
theorem scaled_apply (x : FVec Ideal S256x512 .f32) (w : FVec Ideal S512x256 .f32) (r j : Fin 256) :
    mulf (matmul dot_S256x512_S512x256_S256x256_1_0_0_1_n_n none x w (constant S256x256 .f32 0x00000000#32))
      (broadcast S256x256 (Scalar.ofBits .f32 0x3E000000#32)) (ix2 r j) = (∑ i : Fin 512, x (ix2 r i) * w (ix2 i j)) * eighth := by
  have e : matmul dot_S256x512_S512x256_S256x256_1_0_0_1_n_n none x w (constant S256x256 .f32 0x00000000#32) (ix2 r j)
      = ∑ i : Fin 512, x (ix2 r i) * w (ix2 i j) := by
    refine (Ideal.matmul_plain_apply (M := 256) (K := 512) (N := 256) none x w _ r j).trans ?_
    show Ideal.ofBits .f32 0x00000000#32 + _ = _
    rw [Ideal.ofBits_zero_f32, zero_add]
  show _ * _ = _
  rw [e]
  rfl

theorem same2 {a b : ℕ} (x : (⟨2, ![a, b]⟩ : Shape).Idx → EReal) (h : (⟨2, ![a, b]⟩ : Shape).ShapeCasts ⟨2, ![a, b]⟩)
    (j : (⟨2, ![a, b]⟩ : Shape).Idx) : shapeCast ⟨2, ![a, b]⟩ x h j = x j :=
  Idealize.ShloMosaic.shapeCast_apply x h j j rfl

include hd in
theorem qAt_apply (c : Dev nD) (X : Slot → Piece Ideal) (b : Fin 2) (r j : Fin 256) :
    qAt c (ins m c) X b (ix2 r j) = query g b (row c r) j * eighth := by
  unfold query
  fin_cases b
  · show v83 c (ins m c) X (ix2 r j) = _
    refine (scaled_apply (v78 c (ins m c) X) (shapeCast S512x256 (v79 c (ins m c) X) shapeCasts_S512x256_S512x256) r j).trans ?_
    congr 1
    refine Finset.sum_congr rfl fun i _ => ?_
    have e1 : v78 c (ins m c) X (ix2 r i) = g.x (ix3 (0 : Fin 2) (row c r) i) :=
      (shapeCast_1ab_ab_apply (v77 c (ins m c) X) shapeCasts_S1x256x512_S256x512 r i).trans ((load_x0 c (ins m c) X r i).trans (hd.x c 0 r i))
    have e2 : shapeCast S512x256 (v79 c (ins m c) X) shapeCasts_S512x256_S512x256 (ix2 i j) = g.q (ix2 i j) :=
      (same2 (v79 c (ins m c) X) _ _).trans ((load_q c (ins m c) X i j).trans (hd.q c i j))
    rw [e1, e2]
    rfl
  · show v90 c (ins m c) X (ix2 r j) = _
    refine (scaled_apply (shapeCast S256x512 (v84 c (ins m c) X) shapeCasts_S1x256x512_S256x512)
      (shapeCast S512x256 (v86 c (ins m c) X) shapeCasts_S512x256_S512x256) r j).trans ?_
    congr 1
    refine Finset.sum_congr rfl fun i _ => ?_
    have e1 : shapeCast S256x512 (v84 c (ins m c) X) shapeCasts_S1x256x512_S256x512 (ix2 r i) = g.x (ix3 (1 : Fin 2) (row c r) i) :=
      (shapeCast_1ab_ab_apply (v84 c (ins m c) X) shapeCasts_S1x256x512_S256x512 r i).trans ((load_x1 c (ins m c) X r i).trans (hd.x c 1 r i))
    have e2 : shapeCast S512x256 (v86 c (ins m c) X) shapeCasts_S512x256_S512x256 (ix2 i j) = g.q (ix2 i j) :=
      (same2 (v86 c (ins m c) X) _ _).trans ((load_q c (ins m c) X i j).trans (hd.q c i j))
    rw [e1, e2]
    rfl

/-- A block of keys or values with its heads side by side. -/
theorem side (y : FVec Ideal S1x256x4x64 .f32) (k : Fin 256) (h : Fin 4) (d : Fin 64) :
    shapeCast S1x1x256x256 (shapeCast S256x256 (shapeCast S256x4x64 y shapeCasts_S1x256x4x64_S256x4x64) shapeCasts_S256x4x64_S256x256)
      shapeCasts_S256x256_S1x1x256x256 (ix4 (0 : Fin 1) (0 : Fin 1) k (hcol h d)) = y (ix4 (0 : Fin 1) k h d) := by
  rw [Idealize.ShloMosaic.shapeCast_apply _ shapeCasts_S256x256_S1x1x256x256 _ (ix2 k (hcol h d)) (by
      rw [Shape.rowMajor_val_four, Shape.rowMajor_val_two]
      show k.val * 256 + (hcol h d).val = ((0 * 1 + 0) * 256 + k.val) * 256 + (hcol h d).val
      omega),
    Idealize.ShloMosaic.shapeCast_apply _ shapeCasts_S256x4x64_S256x256 _ (ix3 k h d) (by
      rw [Shape.rowMajor_val_three, Shape.rowMajor_val_two]
      show (k.val * 4 + h.val) * 64 + d.val = k.val * 256 + (64 * h.val + d.val)
      omega)]
  exact shapeCast_1abc_abc_apply y _ k h d

include hd in
theorem pieceK (o : Dev nD) (b : Fin 2) (k : Fin 256) (h : Fin 4) (d : Fin 64) :
    pcs m o (![![0, 1], ![2, 3]] b 0) (ix4 (0 : Fin 1) (0 : Fin 1) k (hcol h d)) = g.k (ix4 b (row o k) h d) := by
  rw [← hd.k o b k h d]
  fin_cases b
  · refine (side (v13 o (ins m o) (fun _ => Classical.arbitrary (Piece Ideal))) k h d).trans ?_
    unfold v13
    refine congrArg (ins m o).k (funext fun a => Fin.ext ?_)
    match a with
    | ⟨0, _⟩ => rfl
    | ⟨1, _⟩ => exact Nat.zero_add _ |>.trans (Nat.one_mul _)
    | ⟨2, _⟩ => exact Nat.zero_add _ |>.trans (Nat.one_mul _)
    | ⟨3, _⟩ => exact Nat.zero_add _ |>.trans (Nat.one_mul _)
  · refine (side (v25 o (ins m o) (fun _ => Classical.arbitrary (Piece Ideal))) k h d).trans ?_
    unfold v25
    refine congrArg (ins m o).k (funext fun a => Fin.ext ?_)
    match a with
    | ⟨0, _⟩ => rfl
    | ⟨1, _⟩ => exact Nat.zero_add _ |>.trans (Nat.one_mul _)
    | ⟨2, _⟩ => exact Nat.zero_add _ |>.trans (Nat.one_mul _)
    | ⟨3, _⟩ => exact Nat.zero_add _ |>.trans (Nat.one_mul _)

include hd in
theorem pieceV (o : Dev nD) (b : Fin 2) (k : Fin 256) (h : Fin 4) (d : Fin 64) :
    pcs m o (![![0, 1], ![2, 3]] b 1) (ix4 (0 : Fin 1) (0 : Fin 1) k (hcol h d)) = g.v (ix4 b (row o k) h d) := by
  rw [← hd.v o b k h d]
  fin_cases b
  · refine (side (v19 o (ins m o) (fun _ => Classical.arbitrary (Piece Ideal))) k h d).trans ?_
    unfold v19
    refine congrArg (ins m o).v (funext fun a => Fin.ext ?_)
    match a with
    | ⟨0, _⟩ => rfl
    | ⟨1, _⟩ => exact Nat.zero_add _ |>.trans (Nat.one_mul _)
    | ⟨2, _⟩ => exact Nat.zero_add _ |>.trans (Nat.one_mul _)
    | ⟨3, _⟩ => exact Nat.zero_add _ |>.trans (Nat.one_mul _)
  · refine (side (v31 o (ins m o) (fun _ => Classical.arbitrary (Piece Ideal))) k h d).trans ?_
    unfold v31
    refine congrArg (ins m o).v (funext fun a => Fin.ext ?_)
    match a with
    | ⟨0, _⟩ => rfl
    | ⟨1, _⟩ => exact Nat.zero_add _ |>.trans (Nat.one_mul _)
    | ⟨2, _⟩ => exact Nat.zero_add _ |>.trans (Nat.one_mul _)
    | ⟨3, _⟩ => exact Nat.zero_add _ |>.trans (Nat.one_mul _)

/-! ## The eight steps -/

variable (c : Dev nD) (X : Slot → Piece Ideal) (hX : ∀ s : Slot, (s.2.1.val = 0 ∨ rcv s c = true) → X s = dat (pcs m) s c)

include hX in
theorem slot_piece (n : Fin 8) (b z : Fin 2) (h : (orgAt c n).val ≤ c.val) : X (slotAt n b z) = pcs m (orgAt c n) (slotAt n b z).2.2 := by
  rw [hX _ (rcv_slotAt c n b z h)]
  unfold dat
  rw [org_slotAt]

include hd hX in
theorem inv_stepAt (hg : Real3 g) (b : Fin 2) (h : Fin 4) (r : Fin 256) (n : Fin 8) (O : Finset (Fin 8)) (ho : orgAt c n ∉ O) (t : Head Ideal)
    (ht : Inv (fun i => sc g b h (row c r) (row i.1 i.2)) (fun d i => g.v (ix4 b (row i.1 i.2) h d)) r O t) :
    Inv (fun i => sc g b h (row c r) (row i.1 i.2)) (fun d i => g.v (ix4 b (row i.1 i.2) h d)) r (insert (orgAt c n) O)
      (stepAt c (ins m c) X b h n t) := by
  have hvis : ∀ k : Fin 256, visAt c n (ix2 r k) = 1#1 ↔ (row (orgAt c n) k).val / 64 ≤ (row c r).val / 64 := fun k => by
    rw [visAt_apply]
    show _ ↔ (256 * (orgAt c n).val + k.val) / 64 ≤ (256 * c.val + r.val) / 64
    omega
  have hle : ∀ k : Fin 256, (row (orgAt c n) k).val / 64 ≤ (row c r).val / 64 → (orgAt c n).val ≤ c.val := fun k hk => by
    have hk' : (256 * (orgAt c n).val + k.val) / 64 ≤ (256 * c.val + r.val) / 64 := hk
    omega
  refine inv_step _ _ (fun i => sc_low hg b h _ _) r O _ ho h _ _ _ _ t ht (fun k => ?_) (fun k d => ?_)
  · rw [score_apply]
    show _ = sc g b h (row c r) (row (orgAt c n) k)
    unfold sc
    by_cases hk : (row (orgAt c n) k).val / 64 ≤ (row c r).val / 64
    · rw [if_pos ((hvis k).mpr hk), if_pos hk]
      obtain ⟨e, he, ee⟩ := eighth_real
      rw [ee, ← sum_mul_coe Finset.univ _ he]
      refine Finset.sum_congr rfl fun d _ => ?_
      rw [qAt_apply hd, slot_piece c X hX n b 0 (hle k hk), ee]
      refine (congrArg _ (pieceK hd (orgAt c n) b k h d)).trans ?_
      rw [mul_assoc, mul_assoc, mul_comm ((e : ℝ) : EReal)]
    · rw [if_neg (fun hc => hk ((hvis k).mp hc)), if_neg hk]
  · by_cases hk : (row (orgAt c n) k).val / 64 ≤ (row c r).val / 64
    · right
      rw [slot_piece c X hX n b 1 (hle k hk)]
      exact pieceV hd (orgAt c n) b k h d
    · left
      exact if_neg hk

include hd hX in
theorem inv_last (hg : Real3 g) (b : Fin 2) (h : Fin 4) (r : Fin 256) :
    Inv (fun i => sc g b h (row c r) (row i.1 i.2)) (fun d i => g.v (ix4 b (row i.1 i.2) h d)) r Finset.univ (last c (ins m c) X b h) := by
  have s := fun n O ho t ht => inv_stepAt hd c X hX hg b h r n O ho t ht
  rw [orgAt_all c]
  refine s 7 _ ?_ _ (s 6 _ ?_ _ (s 5 _ ?_ _ (s 4 _ ?_ _ (s 3 _ ?_ _ (s 2 _ ?_ _ (s 1 _ ?_ _ (s 0 ∅ ?_ _ (inv_start _ _ r))))))))
  all_goals
    clear s hX
    clear hd
    revert c
    decide +kernel

include hd hX in
/-- The attention of a row, from a head's state at the end. -/
theorem last_div (hg : Real3 g) (b : Fin 2) (h : Fin 4) (r : Fin 256) (d : Fin 64) :
    Ideal.div ((last c (ins m c) X b h).a (ix2 r d)) ((last c (ins m c) X b h).l (ix2 r (0 : Fin 1))) = ctx g b h (row c r) d := by
  obtain ⟨μ, -, hl, ha⟩ := inv_last hd c X hX hg b h r
  rw [hl, ha, ← mean_rows hg b h (row c r) d μ]
  have : keys Finset.univ = Finset.univ := Finset.univ_product_univ
  rw [this]
  rfl

end Cert.ValueProof

end
-- ==== Proof.StoreValue.lean ====
/-
  What a device stores of each batch entry, and the output buffer, read at an index.
-/
module

public import proofs.«01_k».proof.Proof.DeviceValue

@[expose] public section

noncomputable section

namespace Cert.ValueProof

open Cert.KernelIdeal Cert.KernelIdeal.Gen Cert.RingProof
open Idealize.ShloMosaic Idealize.ShloMosaic.ValueIdx
open Idealize.ShloMosaic.TcCoe
open scoped BigOperators

section Gather

variable {F : FTy → Type} [FloatOps F] [Named F]

/-- A head's part of the result: its weighted sum over its sum, times its rows of the output weights. -/
def headOut (l : FVec F S256x1 .f32) (a : FVec F S256x64 .f32) (w : FVec F S64x512 .f32) : FVec F S256x512 .f32 :=
  matmul dot_S256x64_S64x512_S256x512_1_0_0_1_n_n none (divf a (broadcastTo S256x64 l broadcasts_S256x1_S256x64))
    (shapeCast S64x512 w shapeCasts_S64x512_S64x512) (constant S256x512 .f32 0x00000000#32)

/-- The four heads' parts added. -/
def gather (l : Fin 4 → FVec F S256x1 .f32) (a : Fin 4 → FVec F S256x64 .f32) (w : Fin 4 → FVec F S64x512 .f32) : FVec F S1x256x512 .f32 :=
  shapeCast S1x256x512
    (addf (addf (addf (addf (broadcast S256x512 (Scalar.ofBits .f32 0x00000000#32)) (headOut (l 0) (a 0) (w 0))) (headOut (l 1) (a 1) (w 1)))
      (headOut (l 2) (a 2) (w 2))) (headOut (l 3) (a 3) (w 3))) shapeCasts_S256x512_S1x256x512

variable (c : Dev nD) (e : In F) (X : Slot → Piece F)

/-- The rows of the output weights that each head reads. -/
def wAt : Fin 4 → FVec F S64x512 .f32 := ![v2085 c e X, v2091 c e X, v2097 c e X, v2103 c e X]

theorem end_l00 : v1779 c e X = (last c e X 0 0).l := by
  rw [sum_00]
  show _ = (stepAt c e X 0 0 7 (upTo6 c e X 0 0)).l
  rw [← last_00]
  rfl
theorem end_a00 : v1783 c e X = (last c e X 0 0).a := by
  rw [acc_00]
  show _ = (stepAt c e X 0 0 7 (upTo6 c e X 0 0)).a
  rw [← last_00]
  rfl
theorem end_l01 : v1801 c e X = (last c e X 0 1).l := by
  rw [sum_01]
  show _ = (stepAt c e X 0 1 7 (upTo6 c e X 0 1)).l
  rw [← last_01]
  rfl
theorem end_a01 : v1805 c e X = (last c e X 0 1).a := by
  rw [acc_01]
  show _ = (stepAt c e X 0 1 7 (upTo6 c e X 0 1)).a
  rw [← last_01]
  rfl
theorem end_l02 : v1823 c e X = (last c e X 0 2).l := by
  rw [sum_02]
  show _ = (stepAt c e X 0 2 7 (upTo6 c e X 0 2)).l
  rw [← last_02]
  rfl
theorem end_a02 : v1827 c e X = (last c e X 0 2).a := by
  rw [acc_02]
  show _ = (stepAt c e X 0 2 7 (upTo6 c e X 0 2)).a
  rw [← last_02]
  rfl
theorem end_l03 : v1845 c e X = (last c e X 0 3).l := by
  rw [sum_03]
  show _ = (stepAt c e X 0 3 7 (upTo6 c e X 0 3)).l
  rw [← last_03]
  rfl
theorem end_a03 : v1849 c e X = (last c e X 0 3).a := by
  rw [acc_03]
  show _ = (stepAt c e X 0 3 7 (upTo6 c e X 0 3)).a
  rw [← last_03]
  rfl
theorem end_l10 : v1871 c e X = (last c e X 1 0).l := by
  rw [sum_10]
  show _ = (stepAt c e X 1 0 7 (upTo6 c e X 1 0)).l
  rw [← last_10]
  rfl
theorem end_a10 : v1875 c e X = (last c e X 1 0).a := by
  rw [acc_10]
  show _ = (stepAt c e X 1 0 7 (upTo6 c e X 1 0)).a
  rw [← last_10]
  rfl
theorem end_l11 : v1893 c e X = (last c e X 1 1).l := by
  rw [sum_11]
  show _ = (stepAt c e X 1 1 7 (upTo6 c e X 1 1)).l
  rw [← last_11]
  rfl
theorem end_a11 : v1897 c e X = (last c e X 1 1).a := by
  rw [acc_11]
  show _ = (stepAt c e X 1 1 7 (upTo6 c e X 1 1)).a
  rw [← last_11]
  rfl
theorem end_l12 : v1915 c e X = (last c e X 1 2).l := by
  rw [sum_12]
  show _ = (stepAt c e X 1 2 7 (upTo6 c e X 1 2)).l
  rw [← last_12]
  rfl
theorem end_a12 : v1919 c e X = (last c e X 1 2).a := by
  rw [acc_12]
  show _ = (stepAt c e X 1 2 7 (upTo6 c e X 1 2)).a
  rw [← last_12]
  rfl
theorem end_l13 : v1937 c e X = (last c e X 1 3).l := by
  rw [sum_13]
  show _ = (stepAt c e X 1 3 7 (upTo6 c e X 1 3)).l
  rw [← last_13]
  rfl
theorem end_a13 : v1941 c e X = (last c e X 1 3).a := by
  rw [acc_13]
  show _ = (stepAt c e X 1 3 7 (upTo6 c e X 1 3)).a
  rw [← last_13]
  rfl

theorem res0_named : res₀ c e X = gather ![v1779 c e X, v1801 c e X, v1823 c e X, v1845 c e X]
    ![v1783 c e X, v1805 c e X, v1827 c e X, v1849 c e X] (wAt c e X) := rfl
theorem res0_eq : res₀ c e X = gather (fun h => (last c e X 0 h).l) (fun h => (last c e X 0 h).a) (wAt c e X) := by
  rw [res0_named, end_l00, end_a00, end_l01, end_a01, end_l02, end_a02, end_l03, end_a03]
  rfl

theorem res1_named : res₁ c e X = gather ![v1871 c e X, v1893 c e X, v1915 c e X, v1937 c e X]
    ![v1875 c e X, v1897 c e X, v1919 c e X, v1941 c e X] (wAt c e X) := rfl
theorem res1_eq : res₁ c e X = gather (fun h => (last c e X 1 h).l) (fun h => (last c e X 1 h).a) (wAt c e X) := by
  rw [res1_named, end_l10, end_a10, end_l11, end_a11, end_l12, end_a12, end_l13, end_a13]
  rfl

end Gather

variable {g : Whole} {m : (ℓ : Loc nD τ sig) → Buf (Elt Ideal) ℓ} (hd : Deals m g)

theorem wAt_apply (c : Dev nD) (e : In Ideal) (X : Slot → Piece Ideal) (h : Fin 4) (d : Fin 64) (j : Fin 512) :
    wAt c e X h (ix2 d j) = e.w (ix2 (hcol h d) j) := by
  fin_cases h
  · refine congrArg e.w (funext fun a => Fin.ext ?_)
    match a with
    | ⟨0, _⟩ => exact congrArg (0 + ·) (Nat.one_mul _)
    | ⟨1, _⟩ => exact (Nat.zero_add _).trans (Nat.one_mul _)
  · refine congrArg e.w (funext fun a => Fin.ext ?_)
    match a with
    | ⟨0, _⟩ => exact congrArg (64 + ·) (Nat.one_mul _)
    | ⟨1, _⟩ => exact (Nat.zero_add _).trans (Nat.one_mul _)
  · refine congrArg e.w (funext fun a => Fin.ext ?_)
    match a with
    | ⟨0, _⟩ => exact congrArg (128 + ·) (Nat.one_mul _)
    | ⟨1, _⟩ => exact (Nat.zero_add _).trans (Nat.one_mul _)
  · refine congrArg e.w (funext fun a => Fin.ext ?_)
    match a with
    | ⟨0, _⟩ => exact congrArg (192 + ·) (Nat.one_mul _)
    | ⟨1, _⟩ => exact (Nat.zero_add _).trans (Nat.one_mul _)

theorem headOut_apply (l : FVec Ideal S256x1 .f32) (a : FVec Ideal S256x64 .f32) (w : FVec Ideal S64x512 .f32) (r : Fin 256) (j : Fin 512) :
    headOut l a w (ix2 r j) = ∑ d : Fin 64, Ideal.div (a (ix2 r d)) (l (ix2 r (0 : Fin 1))) * w (ix2 d j) := by
  unfold headOut
  refine (Ideal.matmul_plain_apply (M := 256) (K := 64) (N := 512) none _ _ _ r j).trans ?_
  show Ideal.ofBits .f32 0x00000000#32 + _ = _
  rw [Ideal.ofBits_zero_f32, zero_add]
  refine Finset.sum_congr rfl fun d _ => ?_
  rw [same2]
  show Ideal.div _ _ * _ = _
  rw [bcast64_apply]

theorem gather_apply (l : Fin 4 → FVec Ideal S256x1 .f32) (a : Fin 4 → FVec Ideal S256x64 .f32) (w : Fin 4 → FVec Ideal S64x512 .f32)
    (r : Fin 256) (j : Fin 512) :
    gather l a w (ix3 (0 : Fin 1) r j) = ∑ h : Fin 4, ∑ d : Fin 64, Ideal.div (a h (ix2 r d)) (l h (ix2 r (0 : Fin 1))) * w h (ix2 d j) := by
  unfold gather
  refine (shapeCast_ab_1ab_apply _ _ _ _ _).trans ?_
  show Ideal.ofBits .f32 0x00000000#32 + headOut (l 0) (a 0) (w 0) (ix2 r j) + headOut (l 1) (a 1) (w 1) (ix2 r j)
    + headOut (l 2) (a 2) (w 2) (ix2 r j) + headOut (l 3) (a 3) (w 3) (ix2 r j) = _
  rw [Ideal.ofBits_zero_f32, zero_add, headOut_apply, headOut_apply, headOut_apply, headOut_apply, Fin.sum_univ_four]

variable (c : Dev nD) (X : Slot → Piece Ideal) (hX : ∀ s : Slot, (s.2.1.val = 0 ∨ rcv s c = true) → X s = dat (pcs m) s c)

include hd hX in
theorem gather_last (hg : Real3 g) (b : Fin 2) (r : Fin 256) (j : Fin 512) :
    gather (fun h => (last c (ins m c) X b h).l) (fun h => (last c (ins m c) X b h).a) (wAt c (ins m c) X) (ix3 (0 : Fin 1) r j)
      = result g b (row c r) j := by
  rw [gather_apply]
  unfold result
  refine Finset.sum_congr rfl fun h _ => Finset.sum_congr rfl fun d _ => ?_
  rw [last_div hd c X hX hg, wAt_apply, hd.w]

/-! ## The output buffer -/

abbrev oR₀ : Rect S2x256x512 := Rect.unit (s := S2x256x512) ![0, 0, 0] S1x256x512.size inb_S2x256x512_S1x256x512_0_0_0
abbrev oR₁ : Rect S2x256x512 := Rect.unit (s := S2x256x512) ![1, 0, 0] S1x256x512.size inb_S2x256x512_S1x256x512_1_0_0

theorem oR₀_idx (r : Fin 256) (j : Fin 512) : (oR₀.idx (ix3 (0 : Fin 1) r j) : S2x256x512.Idx) = ix3 (0 : Fin 2) r j :=
  funext fun a => Fin.ext (by
    match a with
    | ⟨0, _⟩ => rfl
    | ⟨1, _⟩ => exact (Nat.zero_add _).trans (Nat.one_mul _)
    | ⟨2, _⟩ => exact (Nat.zero_add _).trans (Nat.one_mul _))
theorem oR₁_idx (r : Fin 256) (j : Fin 512) : (oR₁.idx (ix3 (0 : Fin 1) r j) : S2x256x512.Idx) = ix3 (1 : Fin 2) r j :=
  funext fun a => Fin.ext (by
    match a with
    | ⟨0, _⟩ => rfl
    | ⟨1, _⟩ => exact (Nat.zero_add _).trans (Nat.one_mul _)
    | ⟨2, _⟩ => exact (Nat.zero_add _).trans (Nat.one_mul _))

theorem out_one (e : In Ideal) (o : S2x256x512.Idx → EReal) (r : Fin 256) (j : Fin 512) :
    out₁ c e X o (ix3 (1 : Fin 2) r j) = res₁ c e X (ix3 (0 : Fin 1) r j) := by
  have h := congrFun (View.read_write_univ (v := oM.access oR₁) (out₀ c e X o) (res₁ c e X)) (ix3 (0 : Fin 1) r j)
  rw [← oR₁_idx r j]
  exact h

theorem out_zero (e : In Ideal) (o : S2x256x512.Idx → EReal) (r : Fin 256) (j : Fin 512) :
    out₁ c e X o (ix3 (0 : Fin 2) r j) = res₀ c e X (ix3 (0 : Fin 1) r j) := by
  have h := congrFun (View.read_write_univ (v := oM.access oR₀) o (res₀ c e X)) (ix3 (0 : Fin 1) r j)
  have h2 : out₁ c e X o (ix3 (0 : Fin 2) r j) = out₀ c e X o (ix3 (0 : Fin 2) r j) :=
    View.write_of_not_mem (v := oM.access oR₁) (out₀ c e X o) (res₁ c e X) Finset.univ (fun hm => by
      obtain ⟨x, -, hx⟩ := Finset.mem_map.mp hm
      have h0 := congrArg (fun i : S2x256x512.Idx => (i 0).val) hx
      have h1 : (1 : Nat) + 1 * (x 0).val = 0 := h0
      omega)
  rw [h2, ← oR₀_idx r j]
  exact h

include hd hX in
/-- What a device's result is. -/
theorem out_value (hg : Real3 g) (o : S2x256x512.Idx → EReal) (b : Fin 2) (r : Fin 256) (j : Fin 512) :
    out₁ c (ins m c) X o (ix3 b r j) = result g b (row c r) j := by
  fin_cases b
  · refine (out_zero c X (ins m c) o r j).trans ?_
    rw [res0_eq]
    exact gather_last hd c X hX hg 0 r j
  · refine (out_one c X (ins m c) o r j).trans ?_
    rw [res1_eq]
    exact gather_last hd c X hX hg 1 r j

end Cert.ValueProof

end
-- ==== Proof.RefValue.lean ====
/-
  The reference's result, read at an index: at each row, the attention of that row over all the keys.
-/
module

public import proofs.«01_k».proof.Proof.Ref
public import proofs.«01_k».proof.Proof.DeviceValue
public import Idealize.ShloMosaic.Lib.IdealHost

@[expose] public section

noncomputable section

namespace Cert.RefValue

open Cert.ReferenceIdeal Cert.ReferenceIdeal.Gen Cert.RefProof
open Cert.ValueProof (Whole Real3 hcol eighth query sc ctx result mean mass sc_low sc_self mean_shift mean_eq_sum fold_max_real')
open Idealize.ShloMosaic Idealize.ShloMosaic.ValueIdx
open Idealize.ShloMosaic.TcCoe
open scoped BigOperators

/-! ## The mask -/

set_option maxRecDepth 100000 in
theorem blockOf_apply : ∀ R : Fin 2048, blockOf (ix1 R) = BitVec.ofNat 32 (R.val / 64) := by decide +kernel

theorem sle_blocks : ∀ a b : Fin 32, IntOp.cmpi .sle (BitVec.ofNat 32 a.val) (BitVec.ofNat 32 b.val) = if a.val ≤ b.val then 1#1 else 0#1 := by
  decide +kernel

theorem seen_apply (R j : Fin 2048) : seen (ix2 R j) = if j.val / 64 ≤ R.val / 64 then 1#1 else 0#1 := by
  have e1 : broadcastInDim S2048x2048 ![0, 1] bcast_S1x2048_S2048x2048_0_1 (broadcastInDim S1x2048 ![1] bcast_S2048_S1x2048_1 blockOf) (ix2 R j)
      = BitVec.ofNat 32 (j.val / 64) := by
    rw [broadcastInDim_apply _ _ _ _ (ix2 (0 : Fin 1) j) (fun a => by
        match a with
        | ⟨0, _⟩ => rfl
        | ⟨1, _⟩ => rfl),
      broadcastInDim_apply _ _ _ _ (ix1 j) (fun a => by
        match a with
        | ⟨0, _⟩ => rfl), blockOf_apply]
  have e2 : broadcastInDim S2048x2048 ![0, 1] bcast_S2048x1_S2048x2048_0_1 (broadcastInDim S2048x1 ![0] bcast_S2048_S2048x1_0 blockOf) (ix2 R j)
      = BitVec.ofNat 32 (R.val / 64) := by
    rw [broadcastInDim_apply _ _ _ _ (ix2 R (0 : Fin 1)) (fun a => by
        match a with
        | ⟨0, _⟩ => rfl
        | ⟨1, _⟩ => rfl),
      broadcastInDim_apply _ _ _ _ (ix1 R) (fun a => by
        match a with
        | ⟨0, _⟩ => rfl), blockOf_apply]
  unfold seen
  show IntOp.cmpi .sle _ _ = _
  rw [e1, e2]
  exact sle_blocks ⟨j.val / 64, by omega⟩ ⟨R.val / 64, by omega⟩

theorem red_seen : S2048x2048.Reduces [1] S2048 := by decide
theorem red_scores : S2x4x2048x2048.Reduces [3] S2x4x2048 := by decide

theorem lift_seen (R j : Fin 2048) : red_seen.lift (ix1 R) j = (ix2 R j : S2048x2048.Idx) := by
  funext a
  apply Fin.ext
  match a with
  | ⟨0, _⟩ => rfl
  | ⟨1, _⟩ => rfl

theorem lift_scores (b : Fin 2) (h : Fin 4) (R j : Fin 2048) : red_scores.lift (ix3 b h R) j = (ix4 b h R j : S2x4x2048x2048.Idx) := by
  funext a
  apply Fin.ext
  match a with
  | ⟨0, _⟩ => rfl
  | ⟨1, _⟩ => rfl
  | ⟨2, _⟩ => rfl
  | ⟨3, _⟩ => rfl

/-- Once one of the bits is set, so is their disjunction. -/
theorem fold_or {ι : Type} [DecidableEq ι] (s : Finset ι) (p : ι → BitVec 1) (i : ι) (hi : i ∈ s) (h : p i = 1#1) :
    s.fold IntOp.ori 0#1 p = 1#1 := by
  rw [← Finset.insert_erase hi, Finset.fold_insert (Finset.notMem_erase i s), h]
  show 1#1 ||| _ = 1#1
  generalize Finset.fold IntOp.ori 0#1 p (s.erase i) = z
  revert z
  decide

/-- Every query sees a key: itself. -/
theorem sees_apply (R : Fin 2048) : sees (ix1 R) = 1#1 := by
  unfold sees
  rw [Host.reduce_eq_fold_single IntOp.ori seen _ reducesTo_S2048x2048_S2048_d1 red_seen h_S_ (ix1 R)]
  refine fold_or _ _ R (Finset.mem_univ _) ?_
  show seen (red_seen.lift (ix1 R) R) = 1#1
  rw [lift_seen, seen_apply, if_pos (le_refl _)]

/-! ## The products -/

theorem queries_apply (x : FVec Ideal S2x2048x512 .f32) (w : FVec Ideal S512x256 .f32) (b : Fin 2) (R : Fin 2048) (h : Fin 4) (d : Fin 64) :
    queries x w (ix4 b R h d) = ∑ i : Fin 512, x (ix3 b R i) * w (ix2 i (hcol h d)) := by
  unfold queries
  rw [Idealize.ShloMosaic.shapeCast_apply _ _ _ (ix3 b R (hcol h d)) (by
    rw [Shape.rowMajor_val_three, Shape.rowMajor_val_four]
    show (b.val * 2048 + R.val) * 256 + (64 * h.val + d.val) = ((b.val * 2048 + R.val) * 4 + h.val) * 64 + d.val
    omega)]
  simp only [Host.dotGeneral]
  rw [Ideal.dotGeneral_apply,
    ← Equiv.sum_comp (contrEquiv1 dot_S2x2048x512_S512x256_S2x2048x256_2_0_01_1_n_n 512 rfl rfl).symm]
  refine Finset.sum_congr rfl fun i _ => congrArg₂ (· * ·) (congrArg x (funext fun a => Fin.ext ?_)) (congrArg w (funext fun a => Fin.ext ?_))
  · match a with
    | ⟨0, _⟩ => rfl
    | ⟨1, _⟩ => rfl
    | ⟨2, _⟩ => rfl
  · match a with
    | ⟨0, _⟩ => rfl
    | ⟨1, _⟩ => rfl

theorem dots_apply (q k : FVec Ideal S2x2048x4x64 .f32) (b : Fin 2) (h : Fin 4) (R j : Fin 2048) :
    Host.dotGeneral dot_S2x2048x4x64_S2x2048x4x64_S2x4x2048x2048_3_3_1_1_02_02 none q k (ix4 b h R j)
      = ∑ d : Fin 64, q (ix4 b R h d) * k (ix4 b j h d) := by
  simp only [Host.dotGeneral]
  rw [Ideal.dotGeneral_apply,
    ← Equiv.sum_comp (contrEquiv1 dot_S2x2048x4x64_S2x2048x4x64_S2x4x2048x2048_3_3_1_1_02_02 64 rfl rfl).symm]
  refine Finset.sum_congr rfl fun i _ => congrArg₂ (· * ·) (congrArg q (funext fun a => Fin.ext ?_)) (congrArg k (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem mixed_apply (v : FVec Ideal S2x2048x4x64 .f32) (p : FVec Ideal S2x4x2048x2048 .f32) (b : Fin 2) (R : Fin 2048) (h : Fin 4) (d : Fin 64) :
    mixed v p (ix3 b R (hcol h d)) = ∑ j : Fin 2048, v (ix4 b j h d) * p (ix4 b h R j) := by
  unfold mixed
  rw [Idealize.ShloMosaic.shapeCast_apply _ _ _ (ix4 b R h d) (by
    rw [Shape.rowMajor_val_three, Shape.rowMajor_val_four]
    show ((b.val * 2048 + R.val) * 4 + h.val) * 64 + d.val = (b.val * 2048 + R.val) * 256 + (64 * h.val + d.val)
    omega),
    Idealize.ShloMosaic.transpose_apply _ _ _ _ (ix4 b h d R) (fun a => by
      match a with
      | ⟨0, _⟩ => rfl
      | ⟨1, _⟩ => rfl
      | ⟨2, _⟩ => rfl
      | ⟨3, _⟩ => rfl)]
  simp only [Host.dotGeneral]
  rw [Ideal.dotGeneral_apply,
    ← Equiv.sum_comp (contrEquiv1 dot_S2x2048x4x64_S2x4x2048x2048_S2x4x64x2048_1_3_3_2_02_01 2048 rfl rfl).symm]
  refine Finset.sum_congr rfl fun i _ => congrArg₂ (· * ·) (congrArg v (funext fun a => Fin.ext ?_)) (congrArg p (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- A column of the heads side by side is a head and a column of it. -/
def colEquiv : Fin 4 × Fin 64 ≃ Fin 256 where
  toFun i := hcol i.1 i.2
  invFun j := (⟨j.val / 64, by omega⟩, ⟨j.val % 64, by omega⟩)
  left_inv i := by
    obtain ⟨h, d⟩ := i
    refine Prod.ext (Fin.ext ?_) (Fin.ext ?_)
    · show (64 * h.val + d.val) / 64 = h.val
      omega
    · show (64 * h.val + d.val) % 64 = d.val
      omega
  right_inv j := by
    refine Fin.ext ?_
    show 64 * (j.val / 64) + j.val % 64 = j.val
    omega

theorem sum_cols (f : Fin 256 → EReal) : ∑ j, f j = ∑ h : Fin 4, ∑ d : Fin 64, f (hcol h d) := by
  rw [← Equiv.sum_comp colEquiv f, Fintype.sum_prod_type]
  rfl

theorem last_apply (z : FVec Ideal S2x2048x256 .f32) (o : FVec Ideal S256x512 .f32) (b : Fin 2) (R : Fin 2048) (j : Fin 512) :
    Host.dotGeneral dot_S2x2048x256_S256x512_S2x2048x512_2_0_01_1_n_n none z o (ix3 b R j)
      = ∑ h : Fin 4, ∑ d : Fin 64, z (ix3 b R (hcol h d)) * o (ix2 (hcol h d) j) := by
  rw [← sum_cols fun c => z (ix3 b R c) * o (ix2 c j)]
  simp only [Host.dotGeneral]
  rw [Ideal.dotGeneral_apply,
    ← Equiv.sum_comp (contrEquiv1 dot_S2x2048x256_S256x512_S2x2048x512_2_0_01_1_n_n 256 rfl rfl).symm]
  refine Finset.sum_congr rfl fun i _ => congrArg₂ (· * ·) (congrArg z (funext fun a => Fin.ext ?_)) (congrArg o (funext fun a => Fin.ext ?_))
  · match a with
    | ⟨0, _⟩ => rfl
    | ⟨1, _⟩ => rfl
    | ⟨2, _⟩ => rfl
  · match a with
    | ⟨0, _⟩ => rfl
    | ⟨1, _⟩ => rfl

/-! ## The scores, the exponentials and the weights -/

variable {g : Whole}

theorem scores_apply (b : Fin 2) (h : Fin 4) (R j : Fin 2048) : scores (F := Ideal) g.x g.q g.k (ix4 b h R j) = sc g b h R j := by
  have e1 : broadcastInDim S2x4x2048x2048 ![0, 1, 2, 3] bcast_S1x1x2048x2048_S2x4x2048x2048_0_1_2_3
      (broadcastInDim S1x1x2048x2048 ![2, 3] bcast_S2048x2048_S1x1x2048x2048_2_3 seen) (ix4 b h R j) = seen (ix2 R j) := by
    rw [broadcastInDim_apply _ _ _ _ (ix4 (0 : Fin 1) (0 : Fin 1) R j) (fun a => by
        match a with
        | ⟨0, _⟩ => rfl
        | ⟨1, _⟩ => rfl
        | ⟨2, _⟩ => rfl
        | ⟨3, _⟩ => rfl),
      broadcastInDim_apply _ _ _ _ (ix2 R j) (fun a => by
        match a with
        | ⟨0, _⟩ => rfl
        | ⟨1, _⟩ => rfl)]
  unfold scores sc
  rw [select_apply, e1, seen_apply, broadcastInDim_scalar_apply]
  have hb : Ideal.ofBits .f32 0xFF800000#32 = (⊥ : EReal) := by
    simp [Ideal.ofBits, Ideal.ieee]
  by_cases hj : j.val / 64 ≤ R.val / 64
  · rw [if_pos hj, if_pos hj]
    show mulf _ _ _ = _
    show _ * _ = _
    rw [dots_apply, broadcastInDim_scalar_apply]
    refine congrArg₂ (· * ·) (Finset.sum_congr rfl fun d _ => ?_) rfl
    rw [queries_apply]
    rfl
  · rw [if_neg hj, if_neg hj]
    exact hb

/-- The greatest score of a query. -/
theorem max_apply (s : FVec Ideal S2x4x2048x2048 .f32) (b : Fin 2) (h : Fin 4) (R : Fin 2048) :
    Host.reduce FloatOps.maximumf s (constant S_ .f32 0xFF800000#32) reducesTo_S2x4x2048x2048_S2x4x2048_d3 h_S_ (ix3 b h R)
      = (Finset.univ : Finset (Fin 2048)).fold max (⊥ : EReal) fun j => s (ix4 b h R j) := by
  have hb : Ideal.ofBits .f32 0xFF800000#32 = (⊥ : EReal) := by
    simp [Ideal.ofBits, Ideal.ieee]
  refine (Host.reduce_eq_fold_single FloatOps.maximumf s _ reducesTo_S2x4x2048x2048_S2x4x2048_d3 red_scores h_S_ (ix3 b h R)).trans ?_
  show Finset.fold max (Ideal.ofBits .f32 0xFF800000#32) _ _ = _
  rw [hb]
  exact Finset.fold_congr fun j _ => congrArg s (lift_scores b h R j)

theorem keep_row {α : Type} (x : S2x4x2048.Idx → α) (b : Fin 2) (h : Fin 4) (R : Fin 2048) :
    broadcastInDim S2x4x2048x1 ![0, 1, 2] bcast_S2x4x2048_S2x4x2048x1_0_1_2 x (ix4 b h R (0 : Fin 1)) = x (ix3 b h R) :=
  broadcastInDim_apply _ _ _ _ _ fun a => by
    match a with
    | ⟨0, _⟩ => rfl
    | ⟨1, _⟩ => rfl
    | ⟨2, _⟩ => rfl

theorem spread {α : Type} (x : S2x4x2048x1.Idx → α) (b : Fin 2) (h : Fin 4) (R j : Fin 2048) :
    broadcastInDim S2x4x2048x2048 ![0, 1, 2, 3] bcast_S2x4x2048x1_S2x4x2048x2048_0_1_2_3 x (ix4 b h R j) = x (ix4 b h R (0 : Fin 1)) :=
  broadcastInDim_apply _ _ _ _ _ fun a => by
    match a with
    | ⟨0, _⟩ => rfl
    | ⟨1, _⟩ => rfl
    | ⟨2, _⟩ => rfl
    | ⟨3, _⟩ => rfl

theorem expo_apply (s : FVec Ideal S2x4x2048x2048 .f32) (b : Fin 2) (h : Fin 4) (R j : Fin 2048) :
    expo s (ix4 b h R j) = Ideal.exp (s (ix4 b h R j) - (Finset.univ : Finset (Fin 2048)).fold max (⊥ : EReal) fun j => s (ix4 b h R j)) := by
  unfold expo
  show Ideal.exp (_ - _) = _
  rw [spread, keep_row, max_apply]

theorem sees_col (R : Fin 2048) : broadcastInDim S1x1x2048x1 ![2] bcast_S2048_S1x1x2048x1_2 sees (ix4 (0 : Fin 1) (0 : Fin 1) R (0 : Fin 1)) = 1#1 := by
  rw [broadcastInDim_apply _ _ _ _ (ix1 R) (fun a => by
    match a with
    | ⟨0, _⟩ => rfl), sees_apply]

theorem quotient {s : Shape} (x y : FVec Ideal s .f32) (i : s.Idx) : Host.divf x y i = Ideal.div (x i) (y i) := rfl

theorem weights_apply (e : FVec Ideal S2x4x2048x2048 .f32) (b : Fin 2) (h : Fin 4) (R j : Fin 2048) :
    weights e (ix4 b h R j) = Ideal.div (e (ix4 b h R j)) (∑ i : Fin 2048, e (ix4 b h R i)) := by
  have e1 : broadcastInDim S2x4x2048x2048 ![0, 1, 2, 3] bcast_S1x1x2048x1_S2x4x2048x2048_0_1_2_3
      (broadcastInDim S1x1x2048x1 ![2] bcast_S2048_S1x1x2048x1_2 sees) (ix4 b h R j) = 1#1 := by
    rw [broadcastInDim_apply _ _ _ _ (ix4 (0 : Fin 1) (0 : Fin 1) R (0 : Fin 1)) (fun a => by
      match a with
      | ⟨0, _⟩ => rfl
      | ⟨1, _⟩ => rfl
      | ⟨2, _⟩ => rfl
      | ⟨3, _⟩ => rfl), sees_col]
  have e2 : broadcastInDim S2x4x2048x1 ![0, 1, 2, 3] bcast_S1x1x2048x1_S2x4x2048x1_0_1_2_3
      (broadcastInDim S1x1x2048x1 ![2] bcast_S2048_S1x1x2048x1_2 sees) (ix4 b h R (0 : Fin 1)) = 1#1 := by
    rw [broadcastInDim_apply _ _ _ _ (ix4 (0 : Fin 1) (0 : Fin 1) R (0 : Fin 1)) (fun a => by
      match a with
      | ⟨0, _⟩ => rfl
      | ⟨1, _⟩ => rfl
      | ⟨2, _⟩ => rfl
      | ⟨3, _⟩ => rfl), sees_col]
  have e3 : Host.reduceAdd e (constant S_ .f32 0x00000000#32) reducesTo_S2x4x2048x2048_S2x4x2048_d3 h_S_ (ix3 b h R)
      = ∑ i : Fin 2048, e (ix4 b h R i) := by
    refine (Ideal.hostReduceAdd_single reducesTo_S2x4x2048x2048_S2x4x2048_d3 red_scores e _ (ix3 b h R)).trans ?_
    show Ideal.ofBits .f32 0x00000000#32 + _ = _
    rw [Ideal.ofBits_zero_f32, zero_add]
    exact Finset.sum_congr rfl fun i _ => congrArg e (lift_scores b h R i)
  unfold weights
  rw [select_apply, e1, select_one]
  rw [quotient, spread, select_apply, e2, select_one, keep_row, e3]

/-- What the reference's result is. -/
theorem ref_value (hg : Real3 g) (b : Fin 2) (R : Fin 2048) (j : Fin 512) :
    refOut (F := Ideal) g.x g.q g.k g.v g.w (ix3 b R j) = result g b R j := by
  unfold refOut result
  rw [last_apply]
  refine Finset.sum_congr rfl fun h _ => Finset.sum_congr rfl fun d _ => congrArg (· * _) ?_
  rw [mixed_apply]
  obtain ⟨μ, eμ⟩ := fold_max_real' Finset.univ (sc g b h R) (sc_low hg b h R) R (Finset.mem_univ R) (sc_self hg b h R)
  have he : ∀ i : Fin 2048, expo (scores (F := Ideal) g.x g.q g.k) (ix4 b h R i) = Ideal.exp (sc g b h R i - (μ : EReal)) := by
    intro i
    rw [expo_apply, scores_apply]
    refine congrArg (fun z => Ideal.exp (sc g b h R i - z)) ?_
    rw [← eμ]
    exact Finset.fold_congr fun k _ => scores_apply b h R k
  unfold ctx
  rw [mean_shift Finset.univ (sc g b h R) (fun j => g.v (ix4 b j h d)) (sc_low hg b h R) μ 0 R (Finset.mem_univ R) (sc_self hg b h R),
    ← mean_eq_sum Finset.univ (sc g b h R) (fun j => g.v (ix4 b j h d)) (sc_low hg b h R) μ R (Finset.mem_univ R) (sc_self hg b h R)]
  refine Finset.sum_congr rfl fun k _ => congrArg (_ * ·) ?_
  rw [weights_apply, he]
  refine congrArg (Ideal.div _) ?_
  unfold mass
  exact Finset.sum_congr rfl fun i _ => he i

end Cert.RefValue

end
-- ==== Proof.Value.lean ====
/-
  The value claim: over real inputs the kernel's idealization leaves on every device its rows of the reference's result.
-/
module

public import proofs.«01_k».proof.Proof.StoreValue
public import proofs.«01_k».proof.Proof.RefValue
public import Idealize.ShloMosaic.Lib.ReduceAll

@[expose] public section

noncomputable section

namespace Cert.Proof

open Cert.ValueProof
open Idealize.ShloMosaic Idealize.ShloMosaic.ValueIdx Idealize.SL.Sem
open Idealize.ShloMosaic.TcCoe

/-- The shape relations that the precondition's operations take, over a device's arrays, -/
theorem finite_facts : Cert.Pre_finite_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x4x64 := by decide
  reducesTo_S2x256x4x64_S_d0_1_2_3 := by decide

/-- and over the whole arrays. -/
theorem finite_facts_whole : Cert.Pre_finite_ReferenceIdeal.Facts where
  bcast_S_S2x2048x512 := by decide
  reducesTo_S2x2048x512_S_d0_1_2 := by decide
  h_S_ := by decide
  bcast_S_S512x256 := by decide
  reducesTo_S512x256_S_d0_1 := by decide
  bcast_S_S2x2048x4x64 := by decide
  reducesTo_S2x2048x4x64_S_d0_1_2_3 := by decide

/-! ## The precondition -/

theorem both_one {a b : BitVec 1} : IntOp.andi a b = 1#1 → a = 1#1 ∧ b = 1#1 := by
  revert a b
  decide

/-- An element whose magnitude is below infinity is a real number. -/
theorem real_of_below (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

instance : Subsingleton Cert.Pre_finite_KernelIdeal.S_.Idx := ⟨fun i j => funext fun a => a.elim0⟩

variable {m : (ℓ : Loc Cert.KernelIdeal.nD Cert.KernelIdeal.τ Cert.KernelIdeal.sig) → Buf (Elt Ideal) ℓ}

theorem real_blocks (hp : Cert.Pre_KernelIdeal_finite_KernelIdeal (hPre_finite_KernelIdeal := finite_facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h := congrFun (hp c) ix0
  dsimp only [Cert.Pre_finite_KernelIdeal.fn] at h
  obtain ⟨h1, hk⟩ := both_one h
  obtain ⟨hx, hq⟩ := both_one h1
  exact ⟨fun i => real_of_below _ (Host.reduce_andi_all _ _ _ _ _ hx i), fun i => real_of_below _ (Host.reduce_andi_all _ _ _ _ _ hq i),
    fun i => real_of_below _ (Host.reduce_andi_all _ _ _ _ _ hk i)⟩

/-! ## The arrays -/

section Arrays

open Cert.KernelIdeal Cert.RingProof

theorem read0 (f : S2x256x512.Idx → EReal) : (win0_0.blk (0 : Fin 1)).view.read (Elt Ideal) f = f :=
  Memref.read_access_unit_zero (Elt Ideal) main_arg0 (funext fun a => by fin_cases a <;> rfl) _ f
theorem read1 (f : S512x256.Idx → EReal) : (win0_1.blk (0 : Fin 1)).view.read (Elt Ideal) f = f :=
  Memref.read_access_unit_zero (Elt Ideal) main_arg1 (funext fun a => by fin_cases a <;> rfl) _ f
theorem read2 (f : S2x256x4x64.Idx → EReal) : (win0_2.blk (0 : Fin 1)).view.read (Elt Ideal) f = f :=
  Memref.read_access_unit_zero (Elt Ideal) main_arg2 (funext fun a => by fin_cases a <;> rfl) _ f
theorem read3 (f : S2x256x4x64.Idx → EReal) : (win0_3.blk (0 : Fin 1)).view.read (Elt Ideal) f = f :=
  Memref.read_access_unit_zero (Elt Ideal) main_arg3 (funext fun a => by fin_cases a <;> rfl) _ f
theorem read4 (f : S256x512.Idx → EReal) : (win0_4.blk (0 : Fin 1)).view.read (Elt Ideal) f = f :=
  Memref.read_access_unit_zero (Elt Ideal) main_arg4 (funext fun a => by fin_cases a <;> rfl) _ f
theorem read5 (f : S2x256x512.Idx → EReal) : (win0_5.blk (0 : Fin 1)).view.read (Elt Ideal) f = f :=
  Memref.read_access_unit_zero (Elt Ideal) main_v1 (funext fun a => by fin_cases a <;> rfl) _ f

theorem block3 (v : (⟨3, ![2, 2048, 512]⟩ : Shape).Idx → EReal) (c : Fin 8) (b : Fin 2) (r : Fin 256) (i : Fin 512) :
    Layout.block ⟨3, ![2, 256, 512]⟩ ⟨3, ![2, 2048, 512]⟩ 1 8 c v (by decide) (ix3 b r i) = v (ix3 b (row c r) i) := by
  rw [Layout.block_apply]
  refine congrArg v (funext fun a => Fin.ext ?_)
  match a with
  | ⟨0, _⟩ => rfl
  | ⟨1, _⟩ =>
    show c.val * 256 + r.val = 256 * c.val + r.val
    omega
  | ⟨2, _⟩ => rfl

theorem block4 (v : (⟨4, ![2, 2048, 4, 64]⟩ : Shape).Idx → EReal) (c : Fin 8) (b : Fin 2) (r : Fin 256) (h : Fin 4) (d : Fin 64) :
    Layout.block ⟨4, ![2, 256, 4, 64]⟩ ⟨4, ![2, 2048, 4, 64]⟩ 1 8 c v (by decide) (ix4 b r h d) = v (ix4 b (row c r) h d) := by
  rw [Layout.block_apply]
  refine congrArg v (funext fun a => Fin.ext ?_)
  match a with
  | ⟨0, _⟩ => rfl
  | ⟨1, _⟩ =>
    show c.val * 256 + r.val = 256 * c.val + r.val
    omega
  | ⟨2, _⟩ => rfl
  | ⟨3, _⟩ => rfl

end Arrays

/-- Every row is a row of some device. -/
theorem row_of (R : Fin 2048) : ∃ (c : Fin 8) (r : Fin 256), row c r = R :=
  ⟨(rowEquiv.symm R).1, (rowEquiv.symm R).2, rowEquiv.apply_symm_apply R⟩

/-- The value claim. -/
theorem value : Cert.algebraic_KernelIdeal_ReferenceIdeal_pre_finite_KernelIdeal (hKernelIdeal := Cert.KernelIdeal.Gen.facts)
    (hReferenceIdeal := Cert.ReferenceIdeal.Gen.facts) (hPre_finite_KernelIdeal := finite_facts) := by
  intro m ρ m' ρ' hp he
  let g : Whole := ⟨m' (((0 : Dev Cert.ReferenceIdeal.nD).tc : Thread Cert.ReferenceIdeal.nD Cert.ReferenceIdeal.τ).loc Cert.ReferenceIdeal.main_arg0),
    m' (((0 : Dev Cert.ReferenceIdeal.nD).tc : Thread Cert.ReferenceIdeal.nD Cert.ReferenceIdeal.τ).loc Cert.ReferenceIdeal.main_arg1),
    m' (((0 : Dev Cert.ReferenceIdeal.nD).tc : Thread Cert.ReferenceIdeal.nD Cert.ReferenceIdeal.τ).loc Cert.ReferenceIdeal.main_arg2),
    m' (((0 : Dev Cert.ReferenceIdeal.nD).tc : Thread Cert.ReferenceIdeal.nD Cert.ReferenceIdeal.τ).loc Cert.ReferenceIdeal.main_arg3),
    m' (((0 : Dev Cert.ReferenceIdeal.nD).tc : Thread Cert.ReferenceIdeal.nD Cert.ReferenceIdeal.τ).loc Cert.ReferenceIdeal.main_arg4)⟩
  have hx : ∀ (c : Dev Cert.KernelIdeal.nD) b r i, m ((c.tc : Thread Cert.KernelIdeal.nD Cert.KernelIdeal.τ).loc Cert.KernelIdeal.main_arg0) (ix3 b r i) = g.x (ix3 b (row c r) i) :=
    fun c b r i => (congrFun (he c).1 (ix3 b r i)).trans (block3 _ c b r i)
  have hq : ∀ (c : Dev Cert.KernelIdeal.nD) i j, m ((c.tc : Thread Cert.KernelIdeal.nD Cert.KernelIdeal.τ).loc Cert.KernelIdeal.main_arg1) (ix2 i j) = g.q (ix2 i j) :=
    fun c i j => congrFun (he c).2.1 (ix2 i j)
  have hk : ∀ (c : Dev Cert.KernelIdeal.nD) b r h d, m ((c.tc : Thread Cert.KernelIdeal.nD Cert.KernelIdeal.τ).loc Cert.KernelIdeal.main_arg2) (ix4 b r h d) = g.k (ix4 b (row c r) h d) :=
    fun c b r h d => (congrFun (he c).2.2.1 (ix4 b r h d)).trans (block4 _ c b r h d)
  have hv : ∀ (c : Dev Cert.KernelIdeal.nD) b r h d, m ((c.tc : Thread Cert.KernelIdeal.nD Cert.KernelIdeal.τ).loc Cert.KernelIdeal.main_arg3) (ix4 b r h d) = g.v (ix4 b (row c r) h d) :=
    fun c b r h d => (congrFun (he c).2.2.2.1 (ix4 b r h d)).trans (block4 _ c b r h d)
  have hw : ∀ (c : Dev Cert.KernelIdeal.nD) i j, m ((c.tc : Thread Cert.KernelIdeal.nD Cert.KernelIdeal.τ).loc Cert.KernelIdeal.main_arg4) (ix2 i j) = g.w (ix2 i j) :=
    fun c i j => congrFun (he c).2.2.2.2 (ix2 i j)
  have hd : Deals m g :=
    ⟨fun c b r i => (congrFun (read0 _) _).trans (hx c b r i), fun c i j => (congrFun (read1 _) _).trans (hq c i j),
      fun c b r h d => (congrFun (read2 _) _).trans (hk c b r h d), fun c b r h d => (congrFun (read3 _) _).trans (hv c b r h d),
      fun c i j => (congrFun (read4 _) _).trans (hw c i j)⟩
  have hg : Real3 g := by
    refine ⟨fun i => ?_, fun i => ?_, fun i => ?_⟩
    · obtain ⟨b, R, j, rfl⟩ : ∃ b R j, i = ix3 b R j := ⟨_, _, _, eq_ix3 i⟩
      obtain ⟨c, r, rfl⟩ := row_of R
      rw [← hx c b r j]
      exact (real_blocks hp c).1 _
    · obtain ⟨a, j, rfl⟩ : ∃ a j, i = ix2 a j := ⟨_, _, eq_ix2 i⟩
      rw [← hq 0 a j]
      exact (real_blocks hp 0).2.1 _
    · obtain ⟨b, R, h, d, rfl⟩ : ∃ b R h d, i = ix4 b R h d := ⟨_, _, _, _, eq_ix4 i⟩
      obtain ⟨c, r, rfl⟩ := row_of R
      rw [← hk c b r h d]
      exact (real_blocks hp c).2.2 _
  refine ⟨Cert.RefProof.refOut (F := Ideal) g.x g.q g.k g.v g.w, ?_, ?_⟩
  · refine (θ_run _ _ _).mono (fun s h c => ⟨?_, (h.1 c).1⟩) (Cert.RingProof.run_main (F := Ideal) m ρ)
    obtain ⟨X, o, hX, hZ⟩ := (h.1 c).2
    have hZ' := (read5 _).symm.trans hZ
    refine hZ'.trans ?_
    funext i
    obtain ⟨b, r, j, rfl⟩ : ∃ (b : Fin 2) (r : Fin 256) (j : Fin 512), i = ix3 b r j := ⟨_, _, _, eq_ix3 i⟩
    refine (out_value hd c X hX hg o b r j).trans ?_
    refine Eq.trans ?_ (block3 _ c b r j).symm
    exact (Cert.RefValue.ref_value hg b (row c r) j).symm
  · exact (θ_run _ _ _).mono (fun s h => h.1 0) (Cert.RefProof.run_ref (F := Ideal) m' ρ')

end Cert.Proof

end
-- ==== Proof.lean ====
module

public import proofs.«01_k».proof.Defs
public import proofs.«01_k».proof.Proof.Frames
public import proofs.«01_k».proof.Proof.Value
public import Idealize.ShloMosaic.Adequacy
public import Idealize.ShloMosaic.Init

/-!
The proof of `Cert.Claim`: the witnesses of the programs' side conditions, then each claim by its theorem.
-/

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, finite_facts, finite_facts_whole,
    quiet_kernel, quiet_ideal, fun m g _ => quiet_ideal m g trivial, quiet_reference, fun m g _ => quiet_reference m g trivial,
    kept, value⟩

end Cert.Proof

end
